-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v63) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v35_0)) (v1 : (c : Dev Cert.Kernel8Ideal.nD) → Buf (Elt Ideal) ((c.tc : Thread Cert.Kernel8Ideal.nD Cert.Kernel8Ideal.τ).loc Cert.Kernel8Ideal.main_v35_1)) (v2 : (c : Dev Cert.Kernel8Ideal.nD) → Buf (Elt Ideal) ((c.tc : Thread Cert.Kernel8Ideal.nD Cert.Kernel8Ideal.τ).loc Cert.Kernel8Ideal.main_v35_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v35_0) = v0 c
          ∧ r.2.mem ((c.tc : Thread Cert.Kernel8Ideal.nD Cert.Kernel8Ideal.τ).loc Cert.Kernel8Ideal.main_v35_1) = v1 c
          ∧ r.2.mem ((c.tc : Thread Cert.Kernel8Ideal.nD Cert.Kernel8Ideal.τ).loc Cert.Kernel8Ideal.main_v35_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v98) = v0 c
          ∧ r.2.mem ((c.tc : Thread Cert.Reference8Ideal.nD Cert.Reference8Ideal.τ).loc Cert.Reference8Ideal.main_v92) = v1 c
          ∧ r.2.mem ((c.tc : Thread Cert.Reference8Ideal.nD Cert.Reference8Ideal.τ).loc Cert.Reference8Ideal.main_v99) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S2x4096x2048 : Shape := ⟨3, ![2, 4096, 2048]⟩
abbrev S1x4x2048 : Shape := ⟨3, ![1, 4, 2048]⟩
abbrev S1x2048 : Shape := ⟨2, ![1, 2048]⟩
abbrev S1x8x256x256 : Shape := ⟨4, ![1, 8, 256, 256]⟩
abbrev S1x2048x2048 : Shape := ⟨3, ![1, 2048, 2048]⟩
abbrev S1x1x2048 : Shape := ⟨3, ![1, 1, 2048]⟩
abbrev S8192x2048 : Shape := ⟨2, ![8192, 2048]⟩
abbrev S2x8x2048 : Shape := ⟨3, ![2, 8, 2048]⟩
abbrev S256x2048 : Shape := ⟨2, ![256, 2048]⟩
abbrev S1x8x2048 : Shape := ⟨3, ![1, 8, 2048]⟩
abbrev S264x2048 : Shape := ⟨2, ![264, 2048]⟩
abbrev S8x2048 : Shape := ⟨2, ![8, 2048]⟩
abbrev S256x256 : Shape := ⟨2, ![256, 256]⟩
abbrev S1x2048x256 : Shape := ⟨3, ![1, 2048, 256]⟩
abbrev S2048x256 : Shape := ⟨2, ![2048, 256]⟩
abbrev S1x1x256 : Shape := ⟨3, ![1, 1, 256]⟩
abbrev S1x256 : Shape := ⟨2, ![1, 256]⟩
abbrev S1x1x256x256 : Shape := ⟨4, ![1, 1, 256, 256]⟩

abbrev nBuf : Space → Nat
  | .hbm => 23
  | .vmem => 23
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x4096x2048, .f32⟩
  | .hbm, ⟨3, _⟩ => ⟨S1x4x2048, .f32⟩
  | .hbm, ⟨4, _⟩ => ⟨S1x2048, .f32⟩
  | .hbm, ⟨5, _⟩ => ⟨S1x8x256x256, .f32⟩
  | .hbm, ⟨6, _⟩ => ⟨S1x2048, .f32⟩
  | .hbm, ⟨7, _⟩ => ⟨S1x8x256x256, .f32⟩
  | .hbm, ⟨8, _⟩ => ⟨S1x2048, .f32⟩
  | .hbm, ⟨9, _⟩ => ⟨S1x2048, .f32⟩
  | .hbm, ⟨10, _⟩ => ⟨S1x2048x2048, .f32⟩
  | .hbm, ⟨11, _⟩ => ⟨S1x8x256x256, .bf16⟩
  | .hbm, ⟨12, _⟩ => ⟨S1x8x256x256, .bf16⟩
  | .hbm, ⟨13, _⟩ => ⟨S1x2048x2048, .bf16⟩
  | .hbm, ⟨14, _⟩ => ⟨S1x1x2048, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S2x8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x4x2048, .f32⟩
  | .local _ .vmem, ⟨7, _⟩ => ⟨S1x1x2048, .f32⟩
  | .local _ .vmem, ⟨8, _⟩ => ⟨S1x8x256x256, .bf16⟩
  | .local _ .vmem, ⟨9, _⟩ => ⟨S1x1x2048, .f32⟩
  | .local _ .vmem, ⟨10, _⟩ => ⟨S1x8x256x256, .bf16⟩
  | .local _ .vmem, ⟨11, _⟩ => ⟨S1x1x2048, .f32⟩
  | .local _ .vmem, ⟨12, _⟩ => ⟨S1x1x2048, .f32⟩
  | .local _ .vmem, ⟨13, _⟩ => ⟨S1x2048x2048, .bf16⟩
  | .local _ .vmem, ⟨14, _⟩ => ⟨S256x2048, .f32⟩
  | .local _ .vmem, ⟨15, _⟩ => ⟨S256x2048, .f32⟩
  | .local _ .vmem, ⟨16, _⟩ => ⟨S1x8x2048, .f32⟩
  | .local _ .vmem, ⟨17, _⟩ => ⟨S1x8x2048, .f32⟩
  | .local _ .vmem, ⟨18, _⟩ => ⟨S264x2048, .f32⟩
  | .local _ .vmem, ⟨19, _⟩ => ⟨S256x2048, .f32⟩
  | .local _ .vmem, ⟨20, _⟩ => ⟨S256x2048, .f32⟩
  | .local _ .vmem, ⟨21, _⟩ => ⟨S1x2048, .f32⟩
  | .local _ .vmem, ⟨22, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_504 : BitVec 32 := 0#32
  let c256_i32 : BitVec 32 := 256#32
  let v730 : BitVec 32 := Scalar.addi c0_i32_504 c256_i32
  let c1_i32_505 : BitVec 32 := 1#32
  ⟨c0_i32_504, v730, c1_i32_505⟩
def k0_off1 (k0_t1 : Fin k0_t1_loop.trips) : Fin 2 → Nat :=
  let c0_i32_504 : BitVec 32 := 0#32
  let c1_i32_505 : BitVec 32 := 1#32
  let arg19 : BitVec 32 := Scf.iv c0_i32_504 c1_i32_505 k0_t1
  let v746 : Index := Scalar.indexCast arg19
  let c0_516 : Index := 0#32
  ![v746.toNat, 0]
def k0_cond3 (i : grid0.Coords) : BitVec 1 :=
  let arg0 : BitVec 32 := BitVec.ofNat 32 (i 0).val
  let c32_i32 : BitVec 32 := 32#32
  let v743 : BitVec 1 := Scalar.cmpi .slt arg0 c32_i32
  let v744 : BitVec 32 := Scalar.extui v743
  let c0_i32_515 : BitVec 32 := 0#32
  let v745 : BitVec 1 := Scalar.cmpi .ne v744 c0_i32_515
  v745

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x4096x2048 : Shape := ⟨3, ![2, 4096, 2048]⟩
abbrev S1x4x2048 : Shape := ⟨3, ![1, 4, 2048]⟩
abbrev S1x2048 : Shape := ⟨2, ![1, 2048]⟩
abbrev S1x8x256x256 : Shape := ⟨4, ![1, 8, 256, 256]⟩
abbrev S1x2048x2048 : Shape := ⟨3, ![1, 2048, 2048]⟩
abbrev S_ : Shape := ⟨0, ![]⟩
abbrev S2x3x2048 : Shape := ⟨3, ![2, 3, 2048]⟩
abbrev S2x4099x2048 : Shape := ⟨3, ![2, 4099, 2048]⟩
abbrev S2048 : Shape := ⟨1, ![2048]⟩
abbrev S1x1x2048 : Shape := ⟨3, ![1, 1, 2048]⟩
abbrev S2x4096x8x256 : Shape := ⟨4, ![2, 4096, 8, 256]⟩
abbrev S8x256x256 : Shape := ⟨3, ![8, 256, 256]⟩
abbrev S8x256x2x4096 : Shape := ⟨4, ![8, 256, 2, 4096]⟩
abbrev S2x2048 : Shape := ⟨2, ![2, 2048]⟩
abbrev S4096x2x2048 : Shape := ⟨3, ![4096, 2, 2048]⟩
abbrev S1x2x2048 : Shape := ⟨3, ![1, 2, 2048]⟩
abbrev S2048x2048 : Shape := ⟨2, ![2048, 2048]⟩
abbrev S8192x2048 : Shape := ⟨2, ![8192, 2048]⟩
abbrev S2x8x2048 : Shape := ⟨3, ![2, 8, 2048]⟩

abbrev nBuf : Space → Nat
  | .hbm => 138
  | .vmem => 0
  | .smem => 0
  | _ => 0

abbrev hbmTy0_0 (i : Nat) : BufTy := match i % 128 with
  | 0 => ⟨S2x4096x2048, .f32⟩
  | 1 => ⟨S2x4096x2048, .f32⟩
  | 2 => ⟨S2x4096x2048, .f32⟩
  | 3 => ⟨S1x4x2048, .f32⟩
  | 4 => ⟨S1x2048, .f32⟩
  | 5 => ⟨S1x8x256x256, .f32⟩
  | 6 => ⟨S1x2048, .f32⟩
  | 7 => ⟨S1x8x256x256, .f32⟩
  | 8 => ⟨S1x2048, .f32⟩
  | 9 => ⟨S1x2048, .f32⟩
  | 10 => ⟨S1x2048x2048, .f32⟩
  | 11 => ⟨S_, .f32⟩
  | 12 => ⟨S2x3x2048, .f32⟩
  | 13 => ⟨S2x4099x2048, .f32⟩
  | 14 => ⟨S2048, .f32⟩
  | 15 => ⟨S1x1x2048, .f32⟩
  | 16 => ⟨S2048, .f32⟩
  | 17 => ⟨S2x4096x2048, .f32⟩
  | 18 => ⟨S1x1x2048, .f32⟩
  | 19 => ⟨S2x4096x2048, .f32⟩
  | 20 => ⟨S2x4096x2048, .f32⟩
  | 21 => ⟨S_, .f32⟩
  | 22 => ⟨S2x4096x2048, .f32⟩
  | 23 => ⟨S2x4096x2048, .f32⟩
  | 24 => ⟨S1x1x2048, .f32⟩
  | 25 => ⟨S2048, .f32⟩
  | 26 => ⟨S2x4096x2048, .f32⟩
  | 27 => ⟨S1x1x2048, .f32⟩
  | 28 => ⟨S2x4096x2048, .f32⟩
  | 29 => ⟨S2x4096x2048, .f32⟩
  | 30 => ⟨S2x4096x2048, .f32⟩
  | 31 => ⟨S1x1x2048, .f32⟩
  | 32 => ⟨S2048, .f32⟩
  | 33 => ⟨S2x4096x2048, .f32⟩
  | 34 => ⟨S1x1x2048, .f32⟩
  | 35 => ⟨S2x4096x2048, .f32⟩
  | 36 => ⟨S2x4096x2048, .f32⟩
  | 37 => ⟨S2x4096x2048, .f32⟩
  | 38 => ⟨S1x1x2048, .f32⟩
  | 39 => ⟨S2048, .f32⟩
  | 40 => ⟨S2x4096x2048, .f32⟩
  | 41 => ⟨S1x1x2048, .f32⟩
  | 42 => ⟨S2x4096x2048, .f32⟩
  | 43 => ⟨S2x4096x2048, .f32⟩
  | 44 => ⟨S2x4096x2048, .f32⟩
  | 45 => ⟨S1x1x2048, .f32⟩
  | 46 => ⟨S2x4096x2048, .f32⟩
  | 47 => ⟨S2x4096x2048, .f32⟩
  | 48 => ⟨S2x4096x8x256, .f32⟩
  | 49 => ⟨S8x256x256, .f32⟩
  | 50 => ⟨S8x256x2x4096, .f32⟩
  | 51 => ⟨S2x4096x8x256, .f32⟩
  | 52 => ⟨S2x4096x2048, .f32⟩
  | 53 => ⟨S2048, .f32⟩
  | 54 => ⟨S1x1x2048, .f32⟩
  | 55 => ⟨S2x4096x2048, .f32⟩
  | 56 => ⟨S2x4096x2048, .f32⟩
  | 57 => ⟨S2x4096x2048, .f32⟩
  | 58 => ⟨S2x4096x2048, .f32⟩
  | 59 => ⟨S_, .f32⟩
  | 60 => ⟨S2x4096x2048, .f32⟩
  | 61 => ⟨S2x4096x2048, .f32⟩
  | 62 => ⟨S_, .f32⟩
  | 63 => ⟨S2x4096x2048, .f32⟩
  | 64 => ⟨S2x4096x2048, .f32⟩
  | 65 => ⟨S8x256x256, .f32⟩
  | 66 => ⟨S8x256x2x4096, .f32⟩
  | 67 => ⟨S2x4096x8x256, .f32⟩
  | 68 => ⟨S2x4096x2048, .f32⟩
  | 69 => ⟨S2048, .f32⟩
  | 70 => ⟨S1x1x2048, .f32⟩
  | 71 => ⟨S2x4096x2048, .f32⟩
  | 72 => ⟨S2x4096x2048, .f32⟩
  | 73 => ⟨S2x4096x2048, .f32⟩
  | 74 => ⟨S2x4096x2048, .f32⟩
  | 75 => ⟨S_, .f32⟩
  | 76 => ⟨S2x4096x2048, .f32⟩
  | 77 => ⟨S2x4096x2048, .f32⟩
  | 78 => ⟨S_, .f32⟩
  | 79 => ⟨S2x4096x2048, .f32⟩
  | 80 => ⟨S2x4096x2048, .f32⟩
  | 81 => ⟨S2048, .f32⟩
  | 82 => ⟨S2048, .f32⟩
  | 83 => ⟨S2048, .f32⟩
  | 84 => ⟨S2048, .f32⟩
  | 85 => ⟨S2048, .f32⟩
  | 86 => ⟨S_, .f32⟩
  | 87 => ⟨S2x4096x2048, .f32⟩
  | 88 => ⟨S2x4096x2048, .f32⟩
  | 89 => ⟨S1x1x2048, .f32⟩
  | 90 => ⟨S2x4096x2048, .f32⟩
  | 91 => ⟨S2x4096x2048, .f32⟩
  | 92 => ⟨S2x4096x2048, .f32⟩
  | 93 => ⟨S_, .f32⟩
  | 94 => ⟨S2x4096x2048, .f32⟩
  | 95 => ⟨S2x4096x2048, .f32⟩
  | 96 => ⟨S2x4096x2048, .f32⟩
  | 97 => ⟨S2x4096x2048, .f32⟩
  | 98 => ⟨S2x4096x2048, .f32⟩
  | 99 => ⟨S2x4096x2048, .f32⟩
  | 100 => ⟨S2x4096x2048, .f32⟩
  | 101 => ⟨S_, .f32⟩
  | 102 => ⟨S2x2048, .f32⟩
  | 103 => ⟨S4096x2x2048, .f32⟩
  | 104 => ⟨S4096x2x2048, .f32⟩
  | 105 => ⟨S_, .f32⟩
  | 106 => ⟨S4096x2x2048, .f32⟩
  | 107 => ⟨S_, .i32⟩
  | 108 => ⟨S4096x2x2048, .f32⟩
  | 109 => ⟨S4096x2x2048, .f32⟩
  | 110 => ⟨S_, .i32⟩
  | 111 => ⟨S2x2048, .f32⟩
  | 112 => ⟨S4096x2x2048, .f32⟩
  | 113 => ⟨S_, .i32⟩
  | 114 => ⟨S_, .i1⟩
  | 115 => ⟨S_, .i32⟩
  | 116 => ⟨S_, .i32⟩
  | 117 => ⟨S1x2x2048, .f32⟩
  | 118 => ⟨S2x2048, .f32⟩
  | 119 => ⟨S_, .i32⟩
  | 120 => ⟨S_, .i32⟩
  | 121 => ⟨S1x2x2048, .f32⟩
  | 122 => ⟨S2x2048, .f32⟩
  | 123 => ⟨S2x2048, .f32⟩
  | 124 => ⟨S2x2048, .f32⟩
  | 125 => ⟨S1x2x2048, .f32⟩
  | 126 => ⟨S_, .i32⟩
  | 127 => ⟨S_, .i32⟩
  | _ => ⟨S2x4096x2048, .f32⟩

abbrev hbmTy0_1 (i : Nat) : BufTy := match i % 128 with
  | 0 => ⟨S4096x2x2048, .f32⟩
  | 1 => ⟨S_, .i32⟩
  | 2 => ⟨S_, .i32⟩
  | 3 => ⟨S2x4096x2048, .f32⟩
  | 4 => ⟨S2x4096x2048, .f32⟩
  | 5 => ⟨S2048x2048, .f32⟩
  | 6 => ⟨S2x4096x2048, .f32⟩
  | 7 => ⟨S2x4096x2048, .f32⟩
  | 8 => ⟨S8192x2048, .f32⟩
  | 9 => ⟨S2x8x2048, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_1 : Ref sig .tc := ⟨.hbm, 59, rfl⟩
abbrev main_v46 : Ref sig .tc := ⟨.hbm, 60, rfl⟩
abbrev main_v47 : Ref sig .tc := ⟨.hbm, 61, rfl⟩
abbrev main_cst_2 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_cst_4 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_5 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_6 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_7 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_8 : Ref sig .tc := ⟨.hbm, 105, rfl⟩
abbrev main_v85 : Ref sig .tc := ⟨.hbm, 106, rfl⟩
abbrev main_c : Ref sig .tc := ⟨.hbm, 107, rfl⟩
abbrev main_v86_0 : Ref sig .tc := ⟨.hbm, 108, rfl⟩
abbrev main_v86_1 : Ref sig .tc := ⟨.hbm, 109, rfl⟩
abbrev main_v86_2 : Ref sig .tc := ⟨.hbm, 110, rfl⟩
abbrev main_v86_3 : Ref sig .tc := ⟨.hbm, 111, rfl⟩
abbrev main_v86_4 : Ref sig .tc := ⟨.hbm, 112, rfl⟩
abbrev main_while0c_c_13 : Ref sig .tc := ⟨.hbm, 113, rfl⟩
abbrev main_while0c_v94 : Ref sig .tc := ⟨.hbm, 114, rfl⟩
abbrev main_while0b_call0_c : Ref sig .tc := ⟨.hbm, 115, rfl⟩
abbrev main_while0b_call0_c_0 : Ref sig .tc := ⟨.hbm, 116, rfl⟩
abbrev main_while0b_call0_v0 : Ref sig .tc := ⟨.hbm, 117, rfl⟩
abbrev main_while0b_v94 : Ref sig .tc := ⟨.hbm, 118, rfl⟩
abbrev main_while0b_call1_c : Ref sig .tc := ⟨.hbm, 119, rfl⟩
abbrev main_while0b_call1_c_0 : Ref sig .tc := ⟨.hbm, 120, rfl⟩
abbrev main_while0b_call1_v0 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_call2_v0 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_v98 : Ref sig .tc := ⟨.hbm, 128, rfl⟩
abbrev main_while0b_c_13 : Ref sig .tc := ⟨.hbm, 129, rfl⟩
abbrev main_while0b_v99 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S2x4096x2048 : Shape := ⟨3, ![2, 4096, 2048]⟩
abbrev S32x8x2048 : Shape := ⟨3, ![32, 8, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S8192x2048 : Shape := ⟨2, ![8192, 2048]⟩
abbrev S256x2048 : Shape := ⟨2, ![256, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1x256x1024 : Shape := ⟨3, ![1, 256, 1024]⟩
abbrev S1x512x256 : Shape := ⟨3, ![1, 512, 256]⟩
abbrev S256x1024 : Shape := ⟨2, ![256, 1024]⟩
abbrev S512x256 : Shape := ⟨2, ![512, 256]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩
abbrev S256 : Shape := ⟨1, ![256]⟩
abbrev S256x1 : Shape := ⟨2, ![256, 1]⟩
abbrev S256x512 : Shape := ⟨2, ![256, 512]⟩

abbrev nBuf : Space → Nat
  | .hbm => 20
  | .vmem => 23
  | .smem => 0
  | _ => 0

abbrev bufTy : (tb : Table) → Fin (tcTables nBuf tb) → BufTy
  | .hbm, ⟨0, _⟩ => ⟨S2x4096x2048, .f32⟩
  | .hbm, ⟨1, _⟩ => ⟨S32x8x2048, .f32⟩
  | .hbm, ⟨2, _⟩ => ⟨S2x2048, .f32⟩
  | .hbm, ⟨3, _⟩ => ⟨S2x2048x11264, .f32⟩
  | .hbm, ⟨4, _⟩ => ⟨S2x5632x2048, .f32⟩
  | .hbm, ⟨5, _⟩ => ⟨S2x2048x11264, .f32⟩
  | .hbm, ⟨6, _⟩ => ⟨S2x5632x2048, .f32⟩
  | .hbm, ⟨7, _⟩ => ⟨S8192x2048, .f32⟩
  | .hbm, ⟨8, _⟩ => ⟨S256x2048, .f32⟩
  | .hbm, ⟨9, _⟩ => ⟨S1x2048x11264, .f32⟩
  | .hbm, ⟨10, _⟩ => ⟨S2048x11264, .f32⟩
  | .hbm, ⟨11, _⟩ => ⟨S2048x11264, .bf16⟩
  | .hbm, ⟨12, _⟩ => ⟨S1x5632x2048, .f32⟩
  | .hbm, ⟨13, _⟩ => ⟨S5632x2048, .f32⟩
  | .hbm, ⟨14, _⟩ => ⟨S5632x2048, .bf16⟩
  | .hbm, ⟨15, _⟩ => ⟨S2x1x2048, .f32⟩
  | .hbm, ⟨16, _⟩ => ⟨S8192x2048, .f32⟩
  | .hbm, ⟨17, _⟩ => ⟨S256x2048, .f32⟩
  | .hbm, ⟨18, _⟩ => ⟨S2048x11264, .bf16⟩
  | .hbm, ⟨19, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S256x2048, .f32⟩
  | .local _ .vmem, ⟨10, _⟩ => ⟨S1x256x1024, .f32⟩
  | .local _ .vmem, ⟨11, _⟩ => ⟨S1x256x1024, .f32⟩
  | .local _ .vmem, ⟨12, _⟩ => ⟨S1x512x256, .f32⟩
  | .local _ .vmem, ⟨13, _⟩ => ⟨S1x512x256, .f32⟩
  | .local _ .vmem, ⟨14, _⟩ => ⟨S1024x2048, .f32⟩
  | .local _ .vmem, ⟨15, _⟩ => ⟨S1024x2048, .f32⟩
  | .local _ .vmem, ⟨16, _⟩ => ⟨S256x2048, .f32⟩
  | .local _ .vmem, ⟨17, _⟩ => ⟨S256x1024, .bf16⟩
  | .local _ .vmem, ⟨18, _⟩ => ⟨S256x1024, .bf16⟩
  | .local _ .vmem, ⟨19, _⟩ => ⟨S512x256, .bf16⟩
  | .local _ .vmem, ⟨20, _⟩ => ⟨S512x256, .bf16⟩
  | .local _ .vmem, ⟨21, _⟩ => ⟨S1024x2048, .bf16⟩
  | .local _ .vmem, ⟨22, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_41 : BitVec 32 := 0#32
  let c2_i32 : BitVec 32 := 2#32
  let v53 : BitVec 32 := Scalar.addi c0_i32_41 c2_i32
  let c1_i32 : BitVec 32 := 1#32
  ⟨c0_i32_41, v53, c1_i32⟩
def k0_mult1 (k0_t1 : Fin k0_t1_loop.trips) : BitVec 32 :=
  let c0_i32_41 : BitVec 32 := 0#32
  let c1_i32 : BitVec 32 := 1#32
  let arg16 : BitVec 32 := Scf.iv c0_i32_41 c1_i32 k0_t1
  let c512_i32 : BitVec 32 := 512#32
  let v54 : BitVec 32 := Scalar.muli arg16 c512_i32
  v54
def k0_off1 (k0_t1 : Fin k0_t1_loop.trips) : Fin 2 → Nat :=
  let c0_i32_41 : BitVec 32 := 0#32
  let c1_i32 : BitVec 32 := 1#32
  let arg16 : BitVec 32 := Scf.iv c0_i32_41 c1_i32 k0_t1
  let c512_i32 : BitVec 32 := 512#32
  let v54 : BitVec 32 := Scalar.muli arg16 c512_i32
  let v55 : BitVec 32 := v54
  let v56 : Index := Scalar.indexCast v55
  let c0_43 : Index := 0#32
  ![v56.toNat, 0]
def k0_cond2 (i : grid0.Coords) : BitVec 1 :=
  let arg1 : BitVec 32 := BitVec.ofNat 32 (i 1).val
  let c10_i32 : BitVec 32 := 10#32
  let v47 : BitVec 1 := Scalar.cmpi .eq arg1 c10_i32
  let v48 : BitVec 32 := Scalar.extui v47
  let c0_i32_38 : BitVec 32 := 0#32
  let v49 : BitVec 1 := Scalar.cmpi .ne v48 c0_i32_38
  v49

@[reducible] def k0_t2_loop : Scf.Loop 32 :=
  let c0_i32_41 : BitVec 32 := 0#32
  let c2_i32 : BitVec 32 := 2#32
  let v53 : BitVec 32 := Scalar.addi c0_i32_41 c2_i32
  let c1_i32 : BitVec 32 := 1#32
  ⟨c0_i32_41, v53, c1_i32⟩
def k0_mult2 (k0_t2 : Fin k0_t2_loop.trips) : BitVec 32 :=
  let c0_i32_41 : BitVec 32 := 0#32
  let c1_i32 : BitVec 32 := 1#32
  let arg16 : BitVec 32 := Scf.iv c0_i32_41 c1_i32 k0_t2
  let c512_i32 : BitVec 32 := 512#32
  let v54 : BitVec 32 := Scalar.muli arg16 c512_i32
  v54
def k0_off2 (k0_t2 : Fin k0_t2_loop.trips) : Fin 2 → Nat :=
  let c0_i32_41 : BitVec 32 := 0#32
  let c1_i32 : BitVec 32 := 1#32
  let arg16 : BitVec 32 := Scf.iv c0_i32_41 c1_i32 k0_t2
  let c512_i32 : BitVec 32 := 512#32
  let v54 : BitVec 32 := Scalar.muli arg16 c512_i32
  let v55 : BitVec 32 := v54
  let v56 : Index := Scalar.indexCast v55
  let c0_43 : Index := 0#32
  ![v56.toNat, 0]
def k0_cond3 (i : grid0.Coords) : BitVec 1 :=
  let arg0 : BitVec 32 := BitVec.ofNat 32 (i 0).val
  let c0_i32_39 : BitVec 32 := 0#32
  let v50 : BitVec 1 := Scalar.cmpi .eq arg0 c0_i32_39
  let v51 : BitVec 32 := Scalar.extui v50
  let c0_i32_40 : BitVec 32 := 0#32
  let v52 : BitVec 1 := Scalar.cmpi .ne v51 c0_i32_40
  v52

def k0_cond4 (i : grid0.Coords) : BitVec 1 :=
  let arg1 : BitVec 32 := BitVec.ofNat 32 (i 1).val
  let c0_i32_41 : BitVec 32 := 0#32
  let v53 : BitVec 1 := Scalar.cmpi .eq arg1 c0_i32_41
  let v54 : BitVec 32 := Scalar.extui v53
  let c0_i32_42 : BitVec 32 := 0#32
  let v55 : BitVec 1 := Scalar.cmpi .ne v54 c0_i32_42
  v55

def k0_cond5 (i : grid0.Coords) : BitVec 1 :=
  let arg1 : BitVec 32 := BitVec.ofNat 32 (i 1).val
  let c10_i32_58 : BitVec 32 := 10#32
  let v74 : BitVec 1 := Scalar.cmpi .eq arg1 c10_i32_58
  let v75 : BitVec 32 := Scalar.extui v74
  let c0_i32_59 : BitVec 32 := 0#32
  let v76 : BitVec 1 := Scalar.cmpi .ne v75 c0_i32_59
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S2x4096x2048 : Shape := ⟨3, ![2, 4096, 2048]⟩
abbrev S32x8x2048 : Shape := ⟨3, ![32, 8, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S2x4096x11264 : Shape := ⟨3, ![2, 4096, 11264]⟩
abbrev S2x4096x5632 : Shape := ⟨3, ![2, 4096, 5632]⟩
abbrev S8192x2048 : Shape := ⟨2, ![8192, 2048]⟩
abbrev S32x8 : Shape := ⟨2, ![32, 8]⟩
abbrev S32x8x1 : Shape := ⟨3, ![32, 8, 1]⟩
abbrev S32x8x11264 : Shape := ⟨3, ![32, 8, 11264]⟩
abbrev S32x8x5632 : Shape := ⟨3, ![32, 8, 5632]⟩
abbrev S256x2048 : Shape := ⟨2, ![256, 2048]⟩

abbrev nBuf : Space → Nat
  | .hbm => 95
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x8x2048, .f32⟩
  | .hbm, ⟨2, _⟩ => ⟨S2x2048, .f32⟩
  | .hbm, ⟨3, _⟩ => ⟨S2x2048x11264, .f32⟩
  | .hbm, ⟨4, _⟩ => ⟨S2x5632x2048, .f32⟩
  | .hbm, ⟨5, _⟩ => ⟨S2x2048x11264, .f32⟩
  | .hbm, ⟨6, _⟩ => ⟨S2x5632x2048, .f32⟩
  | .hbm, ⟨7, _⟩ => ⟨S1x2048, .f32⟩
  | .hbm, ⟨8, _⟩ => ⟨S2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x2048, .f32⟩
  | .hbm, ⟨21, _⟩ => ⟨S2x4096x2048, .f32⟩
  | .hbm, ⟨22, _⟩ => ⟨S1x1x2048, .f32⟩
  | .hbm, ⟨23, _⟩ => ⟨S2x4096x2048, .f32⟩
  | .hbm, ⟨24, _⟩ => ⟨S2x4096x2048, .f32⟩
  | .hbm, ⟨25, _⟩ => ⟨S1x2048x11264, .f32⟩
  | .hbm, ⟨26, _⟩ => ⟨S2048x11264, .f32⟩
  | .hbm, ⟨27, _⟩ => ⟨S1x5632x2048, .f32⟩
  | .hbm, ⟨28, _⟩ => ⟨S5632x2048, .f32⟩
  | .hbm, ⟨29, _⟩ => ⟨S2x4096x11264, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S_, .f32⟩
  | .hbm, ⟨35, _⟩ => ⟨S2x4096x5632, .f32⟩
  | .hbm, ⟨36, _⟩ => ⟨S2x4096x5632, .f32⟩
  | .hbm, ⟨37, _⟩ => ⟨S_, .f32⟩
  | .hbm, ⟨38, _⟩ => ⟨S2x4096x5632, .f32⟩
  | .hbm, ⟨39, _⟩ => ⟨S2x4096x5632, .f32⟩
  | .hbm, ⟨40, _⟩ => ⟨S2x4096x5632, .f32⟩
  | .hbm, ⟨41, _⟩ => ⟨S2x4096x5632, .f32⟩
  | .hbm, ⟨42, _⟩ => ⟨S2x4096x2048, .f32⟩
  | .hbm, ⟨43, _⟩ => ⟨S_, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S8192x2048, .f32⟩
  | .hbm, ⟨48, _⟩ => ⟨S1x2048, .f32⟩
  | .hbm, ⟨49, _⟩ => ⟨S2048, .f32⟩
  | .hbm, ⟨50, _⟩ => ⟨S32x8x2048, .f32⟩
  | .hbm, ⟨51, _⟩ => ⟨S_, .f32⟩
  | .hbm, ⟨52, _⟩ => ⟨S32x8, .f32⟩
  | .hbm, ⟨53, _⟩ => ⟨S32x8x1, .f32⟩
  | .hbm, ⟨54, _⟩ => ⟨S_, .f32⟩
  | .hbm, ⟨55, _⟩ => ⟨S32x8x1, .f32⟩
  | .hbm, ⟨56, _⟩ => ⟨S32x8x1, .f32⟩
  | .hbm, ⟨57, _⟩ => ⟨S_, .f32⟩
  | .hbm, ⟨58, _⟩ => ⟨S32x8x1, .f32⟩
  | .hbm, ⟨59, _⟩ => ⟨S32x8x1, .f32⟩
  | .hbm, ⟨60, _⟩ => ⟨S32x8x1, .f32⟩
  | .hbm, ⟨61, _⟩ => ⟨S32x8x2048, .f32⟩
  | .hbm, ⟨62, _⟩ => ⟨S32x8x2048, .f32⟩
  | .hbm, ⟨63, _⟩ => ⟨S1x1x2048, .f32⟩
  | .hbm, ⟨64, _⟩ => ⟨S32x8x2048, .f32⟩
  | .hbm, ⟨65, _⟩ => ⟨S32x8x2048, .f32⟩
  | .hbm, ⟨66, _⟩ => ⟨S1x2048x11264, .f32⟩
  | .hbm, ⟨67, _⟩ => ⟨S2048x11264, .f32⟩
  | .hbm, ⟨68, _⟩ => ⟨S1x5632x2048, .f32⟩
  | .hbm, ⟨69, _⟩ => ⟨S5632x2048, .f32⟩
  | .hbm, ⟨70, _⟩ => ⟨S32x8x11264, .f32⟩
  | .hbm, ⟨71, _⟩ => ⟨S32x8x5632, .f32⟩
  | .hbm, ⟨72, _⟩ => ⟨S32x8x5632, .f32⟩
  | .hbm, ⟨73, _⟩ => ⟨S32x8x5632, .f32⟩
  | .hbm, ⟨74, _⟩ => ⟨S32x8x5632, .f32⟩
  | .hbm, ⟨75, _⟩ => ⟨S_, .f32⟩
  | .hbm, ⟨76, _⟩ => ⟨S32x8x5632, .f32⟩
  | .hbm, ⟨77, _⟩ => ⟨S32x8x5632, .f32⟩
  | .hbm, ⟨78, _⟩ => ⟨S_, .f32⟩
  | .hbm, ⟨79, _⟩ => ⟨S32x8x5632, .f32⟩
  | .hbm, ⟨80, _⟩ => ⟨S32x8x5632, .f32⟩
  | .hbm, ⟨81, _⟩ => ⟨S32x8x5632, .f32⟩
  | .hbm, ⟨82, _⟩ => ⟨S32x8x5632, .f32⟩
  | .hbm, ⟨83, _⟩ => ⟨S32x8x2048, .f32⟩
  | .hbm, ⟨84, _⟩ => ⟨S_, .f32⟩
  | .hbm, ⟨85, _⟩ => ⟨S32x8x2048, .f32⟩
  | .hbm, ⟨86, _⟩ => ⟨S32x8x2048, .f32⟩
  | .hbm, ⟨87, _⟩ => ⟨S32x8x2048, .f32⟩
  | .hbm, ⟨88, _⟩ => ⟨S256x2048, .f32⟩
  | .hbm, ⟨89, _⟩ => ⟨S1x2048x11264, .f32⟩
  | .hbm, ⟨90, _⟩ => ⟨S2048x11264, .f32⟩
  | .hbm, ⟨91, _⟩ => ⟨S2048x11264, .bf16⟩
  | .hbm, ⟨92, _⟩ => ⟨S1x5632x2048, .f32⟩
  | .hbm, ⟨93, _⟩ => ⟨S5632x2048, .f32⟩
  | .hbm, ⟨94, _⟩ => ⟨S5632x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== Kernel3.lean ====
abbrev S2x4096x2048 : Shape := ⟨3, ![2, 4096, 2048]⟩
abbrev S32x8x2048 : Shape := ⟨3, ![32, 8, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S2048 : Shape := ⟨1, ![2048]⟩
abbrev S8192x2048 : Shape := ⟨2, ![8192, 2048]⟩
abbrev S256x2048 : Shape := ⟨2, ![256, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S2x1x2048 : Shape := ⟨3, ![2, 1, 2048]⟩
abbrev S1x1x2048 : Shape := ⟨3, ![1, 1, 2048]⟩
abbrev S1024x2048 : Shape := ⟨2, ![1024, 2048]⟩
abbrev S2048x512 : Shape := ⟨2, ![2048, 512]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩
abbrev S256 : Shape := ⟨1, ![256]⟩
abbrev S256x1 : Shape := ⟨2, ![256, 1]⟩
abbrev S256x512 : Shape := ⟨2, ![256, 512]⟩

abbrev nBuf : Space → Nat
  | .hbm => 18
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S32x8x2048, .f32⟩
  | .hbm, ⟨2, _⟩ => ⟨S2x2048, .f32⟩
  | .hbm, ⟨3, _⟩ => ⟨S2x2048x11264, .f32⟩
  | .hbm, ⟨4, _⟩ => ⟨S2x5632x2048, .f32⟩
  | .hbm, ⟨5, _⟩ => ⟨S2048, .f32⟩
  | .hbm, ⟨6, _⟩ => ⟨S8192x2048, .f32⟩
  | .hbm, ⟨7, _⟩ => ⟨S256x2048, .f32⟩
  | .hbm, ⟨8, _⟩ => ⟨S1x2048x11264, .f32⟩
  | .hbm, ⟨9, _⟩ => ⟨S2048x11264, .f32⟩
  | .hbm, ⟨10, _⟩ => ⟨S2048x11264, .bf16⟩
  | .hbm, ⟨11, _⟩ => ⟨S1x5632x2048, .f32⟩
  | .hbm, ⟨12, _⟩ => ⟨S5632x2048, .f32⟩
  | .hbm, ⟨13, _⟩ => ⟨S5632x2048, .bf16⟩
  | .hbm, ⟨14, _⟩ => ⟨S2x1x2048, .f32⟩
  | .hbm, ⟨15, _⟩ => ⟨S1x1x2048, .f32⟩
  | .hbm, ⟨16, _⟩ => ⟨S8192x2048, .f32⟩
  | .hbm, ⟨17, _⟩ => ⟨S256x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S256x2048, .f32⟩
  | .local _ .vmem, ⟨10, _⟩ => ⟨S1x1x2048, .f32⟩
  | .local _ .vmem, ⟨11, _⟩ => ⟨S1024x2048, .f32⟩
  | .local _ .vmem, ⟨12, _⟩ => ⟨S1024x2048, .f32⟩
  | .local _ .vmem, ⟨13, _⟩ => ⟨S256x2048, .f32⟩
  | .local _ .vmem, ⟨14, _⟩ => ⟨S1024x2048, .bf16⟩
  | .local _ .vmem, ⟨15, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_31 : BitVec 32 := 0#32
  let c2_i32 : BitVec 32 := 2#32
  let v45 : BitVec 32 := Scalar.addi c0_i32_31 c2_i32
  let c1_i32 : BitVec 32 := 1#32
  ⟨c0_i32_31, v45, c1_i32⟩
def k0_mult1 (k0_t1 : Fin k0_t1_loop.trips) : BitVec 32 :=
  let c0_i32_31 : BitVec 32 := 0#32
  let c1_i32 : BitVec 32 := 1#32
  let arg13 : BitVec 32 := Scf.iv c0_i32_31 c1_i32 k0_t1
  let c512_i32 : BitVec 32 := 512#32
  let v46 : BitVec 32 := Scalar.muli arg13 c512_i32
  v46
def k0_off1 (k0_t1 : Fin k0_t1_loop.trips) : Fin 2 → Nat :=
  let c0_i32_31 : BitVec 32 := 0#32
  let c1_i32 : BitVec 32 := 1#32
  let arg13 : BitVec 32 := Scf.iv c0_i32_31 c1_i32 k0_t1
  let c512_i32 : BitVec 32 := 512#32
  let v46 : BitVec 32 := Scalar.muli arg13 c512_i32
  let v47 : BitVec 32 := v46
  let v48 : Index := Scalar.indexCast v47
  let c0_33 : Index := 0#32
  ![v48.toNat, 0]
def k0_cond2 (i : grid0.Coords) : BitVec 1 :=
  let arg1 : BitVec 32 := BitVec.ofNat 32 (i 1).val
  let c10_i32 : BitVec 32 := 10#32
  let v39 : BitVec 1 := Scalar.cmpi .eq arg1 c10_i32
  let v40 : BitVec 32 := Scalar.extui v39
  let c0_i32_28 : BitVec 32 := 0#32
  let v41 : BitVec 1 := Scalar.cmpi .ne v40 c0_i32_28
  v41

@[reducible] def k0_t2_loop : Scf.Loop 32 :=
  let c0_i32_31 : BitVec 32 := 0#32
  let c2_i32 : BitVec 32 := 2#32
  let v45 : BitVec 32 := Scalar.addi c0_i32_31 c2_i32
  let c1_i32 : BitVec 32 := 1#32
  ⟨c0_i32_31, v45, c1_i32⟩
def k0_mult2 (k0_t2 : Fin k0_t2_loop.trips) : BitVec 32 :=
  let c0_i32_31 : BitVec 32 := 0#32
  let c1_i32 : BitVec 32 := 1#32
  let arg13 : BitVec 32 := Scf.iv c0_i32_31 c1_i32 k0_t2
  let c512_i32 : BitVec 32 := 512#32
  let v46 : BitVec 32 := Scalar.muli arg13 c512_i32
  v46
def k0_off2 (k0_t2 : Fin k0_t2_loop.trips) : Fin 2 → Nat :=
  let c0_i32_31 : BitVec 32 := 0#32
  let c1_i32 : BitVec 32 := 1#32
  let arg13 : BitVec 32 := Scf.iv c0_i32_31 c1_i32 k0_t2
  let c512_i32 : BitVec 32 := 512#32
  let v46 : BitVec 32 := Scalar.muli arg13 c512_i32
  let v47 : BitVec 32 := v46
  let v48 : Index := Scalar.indexCast v47
  let c0_33 : Index := 0#32
  ![v48.toNat, 0]
def k0_cond3 (i : grid0.Coords) : BitVec 1 :=
  let arg0 : BitVec 32 := BitVec.ofNat 32 (i 0).val
  let c0_i32_29 : BitVec 32 := 0#32
  let v42 : BitVec 1 := Scalar.cmpi .eq arg0 c0_i32_29
  let v43 : BitVec 32 := Scalar.extui v42
  let c0_i32_30 : BitVec 32 := 0#32
  let v44 : BitVec 1 := Scalar.cmpi .ne v43 c0_i32_30
  v44

def k0_cond4 (i : grid0.Coords) : BitVec 1 :=
  let arg1 : BitVec 32 := BitVec.ofNat 32 (i 1).val
  let c0_i32_31 : BitVec 32 := 0#32
  let v45 : BitVec 1 := Scalar.cmpi .eq arg1 c0_i32_31
  let v46 : BitVec 32 := Scalar.extui v45
  let c0_i32_32 : BitVec 32 := 0#32
  let v47 : BitVec 1 := Scalar.cmpi .ne v46 c0_i32_32
  v47

def k0_cond5 (i : grid0.Coords) : BitVec 1 :=
  let arg1 : BitVec 32 := BitVec.ofNat 32 (i 1).val
  let c10_i32_48 : BitVec 32 := 10#32
  let v66 : BitVec 1 := Scalar.cmpi .eq arg1 c10_i32_48
  let v67 : BitVec 32 := Scalar.extui v66
  let c0_i32_49 : BitVec 32 := 0#32
  let v68 : BitVec 1 := Scalar.cmpi .ne v67 c0_i32_49
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S2x4096x2048 : Shape := ⟨3, ![2, 4096, 2048]⟩
abbrev S32x8x2048 : Shape := ⟨3, ![32, 8, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S2x4096x11264 : Shape := ⟨3, ![2, 4096, 11264]⟩
abbrev S2x4096x5632 : Shape := ⟨3, ![2, 4096, 5632]⟩
abbrev S8192x2048 : Shape := ⟨2, ![8192, 2048]⟩
abbrev S32x8 : Shape := ⟨2, ![32, 8]⟩
abbrev S32x8x1 : Shape := ⟨3, ![32, 8, 1]⟩
abbrev S32x8x11264 : Shape := ⟨3, ![32, 8, 11264]⟩
abbrev S32x8x5632 : Shape := ⟨3, ![32, 8, 5632]⟩
abbrev S256x2048 : Shape := ⟨2, ![256, 2048]⟩

abbrev nBuf : Space → Nat
  | .hbm => 120
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x8x2048, .f32⟩
  | .hbm, ⟨2, _⟩ => ⟨S2x2048, .f32⟩
  | .hbm, ⟨3, _⟩ => ⟨S2x2048x11264, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S1x2048x11264, .f32⟩
  | .hbm, ⟨25, _⟩ => ⟨S2048x11264, .f32⟩
  | .hbm, ⟨26, _⟩ => ⟨S1x5632x2048, .f32⟩
  | .hbm, ⟨27, _⟩ => ⟨S5632x2048, .f32⟩
  | .hbm, ⟨28, _⟩ => ⟨S2x4096x11264, .f32⟩
  | .hbm, ⟨29, _⟩ => ⟨S2x4096x5632, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S_, .f32⟩
  | .hbm, ⟨34, _⟩ => ⟨S2x4096x5632, .f32⟩
  | .hbm, ⟨35, _⟩ => ⟨S2x4096x5632, .f32⟩
  | .hbm, ⟨36, _⟩ => ⟨S_, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S2x4096x5632, .f32⟩
  | .hbm, ⟨41, _⟩ => ⟨S2x4096x2048, .f32⟩
  | .hbm, ⟨42, _⟩ => ⟨S_, .f32⟩
  | .hbm, ⟨43, _⟩ => ⟨S2x4096x2048, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S_, .f32⟩
  | .hbm, ⟨54, _⟩ => ⟨S2x4096x1, .f32⟩
  | .hbm, ⟨55, _⟩ => ⟨S2x4096x1, .f32⟩
  | .hbm, ⟨56, _⟩ => ⟨S2x4096x1, .f32⟩
  | .hbm, ⟨57, _⟩ => ⟨S2x4096x2048, .f32⟩
  | .hbm, ⟨58, _⟩ => ⟨S2x4096x2048, .f32⟩
  | .hbm, ⟨59, _⟩ => ⟨S1x1x2048, .f32⟩
  | .hbm, ⟨60, _⟩ => ⟨S2x4096x2048, .f32⟩
  | .hbm, ⟨61, _⟩ => ⟨S2x4096x2048, .f32⟩
  | .hbm, ⟨62, _⟩ => ⟨S8192x2048, .f32⟩
  | .hbm, ⟨63, _⟩ => ⟨S1x2048, .f32⟩
  | .hbm, ⟨64, _⟩ => ⟨S2048, .f32⟩
  | .hbm, ⟨65, _⟩ => ⟨S32x8x2048, .f32⟩
  | .hbm, ⟨66, _⟩ => ⟨S_, .f32⟩
  | .hbm, ⟨67, _⟩ => ⟨S32x8, .f32⟩
  | .hbm, ⟨68, _⟩ => ⟨S32x8x1, .f32⟩
  | .hbm, ⟨69, _⟩ => ⟨S_, .f32⟩
  | .hbm, ⟨70, _⟩ => ⟨S32x8x1, .f32⟩
  | .hbm, ⟨71, _⟩ => ⟨S32x8x1, .f32⟩
  | .hbm, ⟨72, _⟩ => ⟨S_, .f32⟩
  | .hbm, ⟨73, _⟩ => ⟨S32x8x1, .f32⟩
  | .hbm, ⟨74, _⟩ => ⟨S32x8x1, .f32⟩
  | .hbm, ⟨75, _⟩ => ⟨S32x8x1, .f32⟩
  | .hbm, ⟨76, _⟩ => ⟨S32x8x2048, .f32⟩
  | .hbm, ⟨77, _⟩ => ⟨S32x8x2048, .f32⟩
  | .hbm, ⟨78, _⟩ => ⟨S1x1x2048, .f32⟩
  | .hbm, ⟨79, _⟩ => ⟨S32x8x2048, .f32⟩
  | .hbm, ⟨80, _⟩ => ⟨S32x8x2048, .f32⟩
  | .hbm, ⟨81, _⟩ => ⟨S1x2048x11264, .f32⟩
  | .hbm, ⟨82, _⟩ => ⟨S2048x11264, .f32⟩
  | .hbm, ⟨83, _⟩ => ⟨S1x5632x2048, .f32⟩
  | .hbm, ⟨84, _⟩ => ⟨S5632x2048, .f32⟩
  | .hbm, ⟨85, _⟩ => ⟨S32x8x11264, .f32⟩
  | .hbm, ⟨86, _⟩ => ⟨S32x8x5632, .f32⟩
  | .hbm, ⟨87, _⟩ => ⟨S32x8x5632, .f32⟩
  | .hbm, ⟨88, _⟩ => ⟨S32x8x5632, .f32⟩
  | .hbm, ⟨89, _⟩ => ⟨S32x8x5632, .f32⟩
  | .hbm, ⟨90, _⟩ => ⟨S_, .f32⟩
  | .hbm, ⟨91, _⟩ => ⟨S32x8x5632, .f32⟩
  | .hbm, ⟨92, _⟩ => ⟨S32x8x5632, .f32⟩
  | .hbm, ⟨93, _⟩ => ⟨S_, .f32⟩
  | .hbm, ⟨94, _⟩ => ⟨S32x8x5632, .f32⟩
  | .hbm, ⟨95, _⟩ => ⟨S32x8x5632, .f32⟩
  | .hbm, ⟨96, _⟩ => ⟨S32x8x5632, .f32⟩
  | .hbm, ⟨97, _⟩ => ⟨S32x8x5632, .f32⟩
  | .hbm, ⟨98, _⟩ => ⟨S32x8x2048, .f32⟩
  | .hbm, ⟨99, _⟩ => ⟨S_, .f32⟩
  | .hbm, ⟨100, _⟩ => ⟨S32x8x2048, .f32⟩
  | .hbm, ⟨101, _⟩ => ⟨S32x8x2048, .f32⟩
  | .hbm, ⟨102, _⟩ => ⟨S32x8x2048, .f32⟩
  | .hbm, ⟨103, _⟩ => ⟨S32x8x2048, .f32⟩
  | .hbm, ⟨104, _⟩ => ⟨S_, .f32⟩
  | .hbm, ⟨105, _⟩ => ⟨S32x8, .f32⟩
  | .hbm, ⟨106, _⟩ => ⟨S32x8x1, .f32⟩
  | .hbm, ⟨107, _⟩ => ⟨S_, .f32⟩
  | .hbm, ⟨108, _⟩ => ⟨S32x8x1, .f32⟩
  | .hbm, ⟨109, _⟩ => ⟨S32x8x1, .f32⟩
  | .hbm, ⟨110, _⟩ => ⟨S_, .f32⟩
  | .hbm, ⟨111, _⟩ => ⟨S32x8x1, .f32⟩
  | .hbm, ⟨112, _⟩ => ⟨S32x8x1, .f32⟩
  | .hbm, ⟨113, _⟩ => ⟨S32x8x1, .f32⟩
  | .hbm, ⟨114, _⟩ => ⟨S32x8x2048, .f32⟩
  | .hbm, ⟨115, _⟩ => ⟨S32x8x2048, .f32⟩
  | .hbm, ⟨116, _⟩ => ⟨S1x1x2048, .f32⟩
  | .hbm, ⟨117, _⟩ => ⟨S32x8x2048, .f32⟩
  | .hbm, ⟨118, _⟩ => ⟨S32x8x2048, .f32⟩
  | .hbm, ⟨119, _⟩ => ⟨S256x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩

abbrev nD : Nat := 1
abbrev τ : Topo := Topo.v7x

variable {F : FTy → Type} [FloatOps F]
-- ==== Kernel4.lean ====
abbrev S2x256x2048 : Shape := ⟨3, ![2, 256, 2048]⟩
abbrev S2x2048 : Shape := ⟨2, ![2, 2048]⟩
abbrev S2x2048x1024 : Shape := ⟨3, ![2, 2048, 1024]⟩
abbrev S512x2048 : Shape := ⟨2, ![512, 2048]⟩
abbrev S2x1x2048 : Shape := ⟨3, ![2, 1, 2048]⟩
abbrev S512x1024 : Shape := ⟨2, ![512, 1024]⟩
abbrev S1x1x2048 : Shape := ⟨3, ![1, 1, 2048]⟩
abbrev S1x2048x512 : Shape := ⟨3, ![1, 2048, 512]⟩
abbrev S512x512 : Shape := ⟨2, ![512, 512]⟩
abbrev S1x2048 : Shape := ⟨2, ![1, 2048]⟩
abbrev S512 : Shape := ⟨1, ![512]⟩
abbrev S512x1 : Shape := ⟨2, ![512, 1]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x1024, .f32⟩
  | .hbm, ⟨3, _⟩ => ⟨S512x2048, .f32⟩
  | .hbm, ⟨4, _⟩ => ⟨S2x2048x1024, .bf16⟩
  | .hbm, ⟨5, _⟩ => ⟨S2x1x2048, .f32⟩
  | .hbm, ⟨6, _⟩ => ⟨S512x1024, .f32⟩
  | .local _ .vmem, ⟨0, _⟩ => ⟨S512x2048, .f32⟩
  | .local _ .vmem, ⟨1, _⟩ => ⟨S1x1x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x256x2048 : Shape := ⟨3, ![2, 256, 2048]⟩
abbrev S2x2048 : Shape := ⟨2, ![2, 2048]⟩
abbrev S2x2048x1024 : Shape := ⟨3, ![2, 2048, 1024]⟩
abbrev S1x2048 : Shape := ⟨2, ![1, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S2x256x1024 : Shape := ⟨3, ![2, 256, 1024]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x2048, .f32⟩
  | .hbm, ⟨2, _⟩ => ⟨S2x2048x1024, .f32⟩
  | .hbm, ⟨3, _⟩ => ⟨S1x2048, .f32⟩
  | .hbm, ⟨4, _⟩ => ⟨S2048, .f32⟩
  | .hbm, ⟨5, _⟩ => ⟨S2x256x2048, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x2048, .f32⟩
  | .hbm, ⟨17, _⟩ => ⟨S2x256x2048, .f32⟩
  | .hbm, ⟨18, _⟩ => ⟨S1x1x2048, .f32⟩
  | .hbm, ⟨19, _⟩ => ⟨S2x256x2048, .f32⟩
  | .hbm, ⟨20, _⟩ => ⟨S2x256x2048, .f32⟩
  | .hbm, ⟨21, _⟩ => ⟨S1x2048x1024, .f32⟩
  | .hbm, ⟨22, _⟩ => ⟨S2048x1024, .f32⟩
  | .hbm, ⟨23, _⟩ => ⟨S2x256x1024, .f32⟩
  | .hbm, ⟨24, _⟩ => ⟨S512x1024, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel5.lean ====
abbrev S2x4096x2048 : Shape := ⟨3, ![2, 4096, 2048]⟩
abbrev S2x2048 : Shape := ⟨2, ![2, 2048]⟩
abbrev S1x2048x4096 : Shape := ⟨3, ![1, 2048, 4096]⟩
abbrev S8192x2048 : Shape := ⟨2, ![8192, 2048]⟩
abbrev S2x1x2048 : Shape := ⟨3, ![2, 1, 2048]⟩
abbrev S512x2048 : Shape := ⟨2, ![512, 2048]⟩
abbrev S1x1x2048 : Shape := ⟨3, ![1, 1, 2048]⟩
abbrev S1x2048x2048 : Shape := ⟨3, ![1, 2048, 2048]⟩
abbrev S1x2048 : Shape := ⟨2, ![1, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 8
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x4096, .f32⟩
  | .hbm, ⟨3, _⟩ => ⟨S8192x2048, .f32⟩
  | .hbm, ⟨4, _⟩ => ⟨S1x2048x4096, .bf16⟩
  | .hbm, ⟨5, _⟩ => ⟨S2x1x2048, .f32⟩
  | .hbm, ⟨6, _⟩ => ⟨S8192x2048, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2x4096x2048 : Shape := ⟨3, ![2, 4096, 2048]⟩
abbrev S2x2048 : Shape := ⟨2, ![2, 2048]⟩
abbrev S1x2048x4096 : Shape := ⟨3, ![1, 2048, 4096]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x4096 : Shape := ⟨2, ![2048, 4096]⟩
abbrev S2x4096x4096 : Shape := ⟨3, ![2, 4096, 4096]⟩
abbrev S8192x4096 : Shape := ⟨2, ![8192, 4096]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x4096, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x4096, .f32⟩
  | .hbm, ⟨22, _⟩ => ⟨S2x4096x4096, .f32⟩
  | .hbm, ⟨23, _⟩ => ⟨S8192x4096, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel6.lean ====
abbrev S8192x2048 : Shape := ⟨2, ![8192, 2048]⟩
abbrev S1x2048x2048 : Shape := ⟨3, ![1, 2048, 2048]⟩
abbrev S2x4096x2048 : Shape := ⟨3, ![2, 4096, 2048]⟩
abbrev S512x2048 : Shape := ⟨2, ![512, 2048]⟩
abbrev S2048x2048 : Shape := ⟨2, ![2048, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S2x4096x2048, .f32⟩
  | .hbm, ⟨3, _⟩ => ⟨S8192x2048, .f32⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x2048 : Shape := ⟨2, ![8192, 2048]⟩
abbrev S1x2048x2048 : Shape := ⟨3, ![1, 2048, 2048]⟩
abbrev S2x4096x2048 : Shape := ⟨3, ![2, 4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S2x4096x2048, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S32x8x2048 : Shape := ⟨3, ![32, 8, 2048]⟩
abbrev S2x2048 : Shape := ⟨2, ![2, 2048]⟩
abbrev S1x2048x4096 : Shape := ⟨3, ![1, 2048, 4096]⟩
abbrev S256x2048 : Shape := ⟨2, ![256, 2048]⟩
abbrev S2x1x2048 : Shape := ⟨3, ![2, 1, 2048]⟩
abbrev S1x1x2048 : Shape := ⟨3, ![1, 1, 2048]⟩
abbrev S1x2048x2048 : Shape := ⟨3, ![1, 2048, 2048]⟩
abbrev S1x2048 : Shape := ⟨2, ![1, 2048]⟩
abbrev S256 : Shape := ⟨1, ![256]⟩
abbrev S256x1 : Shape := ⟨2, ![256, 1]⟩
abbrev S2048x2048 : Shape := ⟨2, ![2048, 2048]⟩

abbrev nBuf : Space → Nat
  | .hbm => 8
  | .vmem => 7
  | .smem => 0
  | _ => 0

abbrev bufTy : (tb : Table) → Fin (tcTables nBuf tb) → BufTy
  | .hbm, ⟨0, _⟩ => ⟨S32x8x2048, .f32⟩
  | .hbm, ⟨1, _⟩ => ⟨S2x2048, .f32⟩
  | .hbm, ⟨2, _⟩ => ⟨S1x2048x4096, .f32⟩
  | .hbm, ⟨3, _⟩ => ⟨S256x2048, .f32⟩
  | .hbm, ⟨4, _⟩ => ⟨S1x2048x4096, .bf16⟩
  | .hbm, ⟨5, _⟩ => ⟨S2x1x2048, .f32⟩
  | .hbm, ⟨6, _⟩ => ⟨S256x2048, .f32⟩
  | .hbm, ⟨7, _⟩ => ⟨S256x2048, .f32⟩
  | .local _ .vmem, ⟨0, _⟩ => ⟨S256x2048, .f32⟩
  | .local _ .vmem, ⟨1, _⟩ => ⟨S1x1x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== Reference7Ideal.lean ====
abbrev S32x8x2048 : Shape := ⟨3, ![32, 8, 2048]⟩
abbrev S2x2048 : Shape := ⟨2, ![2, 2048]⟩
abbrev S1x2048x4096 : Shape := ⟨3, ![1, 2048, 4096]⟩
abbrev S1x2048 : Shape := ⟨2, ![1, 2048]⟩
abbrev S2048 : Shape := ⟨1, ![2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S2048x4096 : Shape := ⟨2, ![2048, 4096]⟩
abbrev S32x8x4096 : Shape := ⟨3, ![32, 8, 4096]⟩
abbrev S256x4096 : Shape := ⟨2, ![256, 4096]⟩
abbrev S256x2048 : Shape := ⟨2, ![256, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S2x2048, .f32⟩
  | .hbm, ⟨2, _⟩ => ⟨S1x2048x4096, .f32⟩
  | .hbm, ⟨3, _⟩ => ⟨S1x2048, .f32⟩
  | .hbm, ⟨4, _⟩ => ⟨S2048, .f32⟩
  | .hbm, ⟨5, _⟩ => ⟨S32x8x2048, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x2048, .f32⟩
  | .hbm, ⟨17, _⟩ => ⟨S32x8x2048, .f32⟩
  | .hbm, ⟨18, _⟩ => ⟨S1x1x2048, .f32⟩
  | .hbm, ⟨19, _⟩ => ⟨S32x8x2048, .f32⟩
  | .hbm, ⟨20, _⟩ => ⟨S32x8x2048, .f32⟩
  | .hbm, ⟨21, _⟩ => ⟨S2048x4096, .f32⟩
  | .hbm, ⟨22, _⟩ => ⟨S32x8x4096, .f32⟩
  | .hbm, ⟨23, _⟩ => ⟨S256x4096, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel8.lean ====
abbrev S2x4096x2048 : Shape := ⟨3, ![2, 4096, 2048]⟩
abbrev S2x2048 : Shape := ⟨2, ![2, 2048]⟩
abbrev S1x2048x3072 : Shape := ⟨3, ![1, 2048, 3072]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x128 : Shape := ⟨3, ![1, 4096, 128]⟩
abbrev S2x4096x128 : Shape := ⟨3, ![2, 4096, 128]⟩
abbrev S8192x2048 : Shape := ⟨2, ![8192, 2048]⟩
abbrev S2x1x2048 : Shape := ⟨3, ![2, 1, 2048]⟩
abbrev S2x1024x1024 : Shape := ⟨3, ![2, 1024, 1024]⟩
abbrev S1024x2048 : Shape := ⟨2, ![1024, 2048]⟩
abbrev S1x1x2048 : Shape := ⟨3, ![1, 1, 2048]⟩
abbrev S1x2048x1024 : Shape := ⟨3, ![1, 2048, 1024]⟩
abbrev S1x2048x512 : Shape := ⟨3, ![1, 2048, 512]⟩
abbrev S1x1024x128 : Shape := ⟨3, ![1, 1024, 128]⟩
abbrev S1024x1024 : Shape := ⟨2, ![1024, 1024]⟩
abbrev S1x1024x512 : Shape := ⟨3, ![1, 1024, 512]⟩
abbrev S1024x128 : Shape := ⟨2, ![1024, 128]⟩
abbrev S1x2048 : Shape := ⟨2, ![1, 2048]⟩
abbrev S1024 : Shape := ⟨1, ![1024]⟩
abbrev S1024x1 : Shape := ⟨2, ![1024, 1]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 45
  | .vmem => 21
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x3072, .f32⟩
  | .hbm, ⟨3, _⟩ => ⟨S4096, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x64, .f32⟩
  | .hbm, ⟨21, _⟩ => ⟨S1x4096x1x64, .f32⟩
  | .hbm, ⟨22, _⟩ => ⟨S1x4096x2x64, .f32⟩
  | .hbm, ⟨23, _⟩ => ⟨S4096x128, .f32⟩
  | .hbm, ⟨24, _⟩ => ⟨S4096x32, .f32⟩
  | .hbm, ⟨25, _⟩ => ⟨S4096x64, .f32⟩
  | .hbm, ⟨26, _⟩ => ⟨S1x4096x1x64, .f32⟩
  | .hbm, ⟨27, _⟩ => ⟨S1x4096x2x64, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S1x4096x128, .f32⟩
  | .hbm, ⟨32, _⟩ => ⟨S1x4096x128, .f32⟩
  | .hbm, ⟨33, _⟩ => ⟨S2x4096x128, .f32⟩
  | .hbm, ⟨34, _⟩ => ⟨S_, .f32⟩
  | .hbm, ⟨35, _⟩ => ⟨S4096x128, .f32⟩
  | .hbm, ⟨36, _⟩ => ⟨S1x4096x128, .f32⟩
  | .hbm, ⟨37, _⟩ => ⟨S1x4096x128, .f32⟩
  | .hbm, ⟨38, _⟩ => ⟨S2x4096x128, .f32⟩
  | .hbm, ⟨39, _⟩ => ⟨S8192x2048, .f32⟩
  | .hbm, ⟨40, _⟩ => ⟨S1x2048x3072, .bf16⟩
  | .hbm, ⟨41, _⟩ => ⟨S2x1x2048, .f32⟩
  | .hbm, ⟨42, _⟩ => ⟨S8192x2048, .bf16⟩
  | .hbm, ⟨43, _⟩ => ⟨S2x1024x1024, .f32⟩
  | .hbm, ⟨44, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1024x1024, .bf16⟩
  | .local _ .vmem, ⟨16, _⟩ => ⟨S1024x1024, .bf16⟩
  | .local _ .vmem, ⟨17, _⟩ => ⟨S1x1024x512, .f32⟩
  | .local _ .vmem, ⟨18, _⟩ => ⟨S1x1024x512, .f32⟩
  | .local _ .vmem, ⟨19, _⟩ => ⟨S1024x1024, .bf16⟩
  | .local _ .vmem, ⟨20, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev main_v35_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S2x4096x2048 : Shape := ⟨3, ![2, 4096, 2048]⟩
abbrev S2x2048 : Shape := ⟨2, ![2, 2048]⟩
abbrev S1x2048x3072 : Shape := ⟨3, ![1, 2048, 3072]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x3072 : Shape := ⟨2, ![2048, 3072]⟩
abbrev S2x4096x3072 : Shape := ⟨3, ![2, 4096, 3072]⟩
abbrev S4096 : Shape := ⟨1, ![4096]⟩
abbrev S2x4096x32x64 : Shape := ⟨4, ![2, 4096, 32, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x32x32 : Shape := ⟨4, ![2, 4096, 32, 32]⟩
abbrev S1x4096x1x32 : Shape := ⟨4, ![1, 4096, 1, 32]⟩
abbrev S2x4096x512 : Shape := ⟨3, ![2, 4096, 512]⟩
abbrev S2x4096x8x64 : Shape := ⟨4, ![2, 4096, 8, 64]⟩
abbrev S2x4096x8x32 : Shape := ⟨4, ![2, 4096, 8, 32]⟩
abbrev S2x4096x16x64 : Shape := ⟨4, ![2, 4096, 16, 64]⟩
abbrev S2x1024x16x64 : Shape := ⟨4, ![2, 1024, 16, 64]⟩
abbrev S2x1024x1024 : Shape := ⟨3, ![2, 1024, 1024]⟩
abbrev S2x4096x16x128 : Shape := ⟨4, ![2, 4096, 16, 128]⟩
abbrev S8192x2048 : Shape := ⟨2, ![8192, 2048]⟩

abbrev nBuf : Space → Nat
  | .hbm => 111
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x3072, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x3072, .f32⟩
  | .hbm, ⟨22, _⟩ => ⟨S2x4096x3072, .f32⟩
  | .hbm, ⟨23, _⟩ => ⟨S4096, .i32⟩
  | .hbm, ⟨24, _⟩ => ⟨S2x4096x2048, .f32⟩
  | .hbm, ⟨25, _⟩ => ⟨S2x4096x32x64, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S4096, .f32⟩
  | .hbm, ⟨35, _⟩ => ⟨S4096x1, .f32⟩
  | .hbm, ⟨36, _⟩ => ⟨S1x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x1x32, .f32⟩
  | .hbm, ⟨42, _⟩ => ⟨S4096x32, .f32⟩
  | .hbm, ⟨43, _⟩ => ⟨S4096x1x32, .f32⟩
  | .hbm, ⟨44, _⟩ => ⟨S2x4096x32x32, .f32⟩
  | .hbm, ⟨45, _⟩ => ⟨S2x4096x32x32, .f32⟩
  | .hbm, ⟨46, _⟩ => ⟨S1x4096x1x32, .f32⟩
  | .hbm, ⟨47, _⟩ => ⟨S2x4096x32x32, .f32⟩
  | .hbm, ⟨48, _⟩ => ⟨S2x4096x32x32, .f32⟩
  | .hbm, ⟨49, _⟩ => ⟨S1x4096x1x32, .f32⟩
  | .hbm, ⟨50, _⟩ => ⟨S2x4096x32x32, .f32⟩
  | .hbm, ⟨51, _⟩ => ⟨S2x4096x32x32, .f32⟩
  | .hbm, ⟨52, _⟩ => ⟨S2x4096x32x32, .f32⟩
  | .hbm, ⟨53, _⟩ => ⟨S1x4096x1x32, .f32⟩
  | .hbm, ⟨54, _⟩ => ⟨S2x4096x32x32, .f32⟩
  | .hbm, ⟨55, _⟩ => ⟨S2x4096x32x32, .f32⟩
  | .hbm, ⟨56, _⟩ => ⟨S1x4096x1x32, .f32⟩
  | .hbm, ⟨57, _⟩ => ⟨S2x4096x32x32, .f32⟩
  | .hbm, ⟨58, _⟩ => ⟨S2x4096x32x32, .f32⟩
  | .hbm, ⟨59, _⟩ => ⟨S2x4096x32x32, .f32⟩
  | .hbm, ⟨60, _⟩ => ⟨S2x4096x32x64, .f32⟩
  | .hbm, ⟨61, _⟩ => ⟨S2x4096x512, .f32⟩
  | .hbm, ⟨62, _⟩ => ⟨S2x4096x8x64, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S4096, .f32⟩
  | .hbm, ⟨72, _⟩ => ⟨S4096x1, .f32⟩
  | .hbm, ⟨73, _⟩ => ⟨S1x32, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S4096x1x32, .f32⟩
  | .hbm, ⟨79, _⟩ => ⟨S4096x32, .f32⟩
  | .hbm, ⟨80, _⟩ => ⟨S4096x1x32, .f32⟩
  | .hbm, ⟨81, _⟩ => ⟨S2x4096x8x32, .f32⟩
  | .hbm, ⟨82, _⟩ => ⟨S2x4096x8x32, .f32⟩
  | .hbm, ⟨83, _⟩ => ⟨S1x4096x1x32, .f32⟩
  | .hbm, ⟨84, _⟩ => ⟨S2x4096x8x32, .f32⟩
  | .hbm, ⟨85, _⟩ => ⟨S2x4096x8x32, .f32⟩
  | .hbm, ⟨86, _⟩ => ⟨S1x4096x1x32, .f32⟩
  | .hbm, ⟨87, _⟩ => ⟨S2x4096x8x32, .f32⟩
  | .hbm, ⟨88, _⟩ => ⟨S2x4096x8x32, .f32⟩
  | .hbm, ⟨89, _⟩ => ⟨S2x4096x8x32, .f32⟩
  | .hbm, ⟨90, _⟩ => ⟨S1x4096x1x32, .f32⟩
  | .hbm, ⟨91, _⟩ => ⟨S2x4096x8x32, .f32⟩
  | .hbm, ⟨92, _⟩ => ⟨S2x4096x8x32, .f32⟩
  | .hbm, ⟨93, _⟩ => ⟨S1x4096x1x32, .f32⟩
  | .hbm, ⟨94, _⟩ => ⟨S2x4096x8x32, .f32⟩
  | .hbm, ⟨95, _⟩ => ⟨S2x4096x8x32, .f32⟩
  | .hbm, ⟨96, _⟩ => ⟨S2x4096x8x32, .f32⟩
  | .hbm, ⟨97, _⟩ => ⟨S2x4096x8x64, .f32⟩
  | .hbm, ⟨98, _⟩ => ⟨S2x4096x512, .f32⟩
  | .hbm, ⟨99, _⟩ => ⟨S2x4096x8x64, .f32⟩
  | .hbm, ⟨100, _⟩ => ⟨S2x4096x16x64, .f32⟩
  | .hbm, ⟨101, _⟩ => ⟨S2x1024x16x64, .f32⟩
  | .hbm, ⟨102, _⟩ => ⟨S2x1024x1024, .f32⟩
  | .hbm, ⟨103, _⟩ => ⟨S2x4096x16x128, .f32⟩
  | .hbm, ⟨104, _⟩ => ⟨S8192x2048, .f32⟩
  | .hbm, ⟨105, _⟩ => ⟨S_, .f32⟩
  | .hbm, ⟨106, _⟩ => ⟨S2x4096x32x64, .f32⟩
  | .hbm, ⟨107, _⟩ => ⟨S2x4096x32x64, .f32⟩
  | .hbm, ⟨108, _⟩ => ⟨S8192x2048, .f32⟩
  | .hbm, ⟨109, _⟩ => ⟨S8192x2048, .bf16⟩
  | .hbm, ⟨110, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_cst_6 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩

abbrev nD : Nat := 1
abbrev τ : Topo := Topo.v7x

variable {F : FTy → Type} [FloatOps F]
-- ==== Proof.Lru.Steps.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.ValueIdx

/-! What one point of the recurrence kernel's grid does to the buffers it keeps: the tile of branch rows with the
eight rows before it, the decay and the input term of every row, the states of the recurrence, the gated states of
the tile, and the output rows of the tile before. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section
variable {α : Type}

/-- Columns 256 n … 256 n + 255 of a tile. -/
def colW (x : S256x2048.Idx → α) (n : Fin 8) : S256x256.Idx → α :=
  VecWindow.window (s := S256x2048) x ![0, 256 * n.val] S256x256.size (Fin.forall_fin_two.mpr ⟨le_rfl, by have := n.isLt; show 256 * n.val + 256 ≤ 2048; omega⟩)
/-- Rows o … o + 255 of the extended tile, columns 256 n … 256 n + 255. -/
def extW (x : S264x2048.Idx → α) (o : Fin 9) (n : Fin 8) : S256x256.Idx → α :=
  VecWindow.window (s := S264x2048) x ![o.val, 256 * n.val] S256x256.size (Fin.forall_fin_two.mpr ⟨by have := o.isLt; show o.val + 256 ≤ 264; omega, by have := n.isLt; show 256 * n.val + 256 ≤ 2048; omega⟩)
/-- Columns 256 n … 256 n + 255 of a row of gains. -/
def rowW (x : S1x1x2048.Idx → α) (n : Fin 8) : S1x1x256.Idx → α :=
  VecWindow.window (s := S1x1x2048) x ![0, 0, 256 * n.val] S1x1x256.size (fun a => by match a with | ⟨0, _⟩ => exact le_rfl | ⟨1, _⟩ => exact le_rfl | ⟨2, _⟩ => (have := n.isLt; show 256 * n.val + 256 ≤ 2048; omega))
/-- Columns 256 n … 256 n + 255 of row k of the convolution's weights. -/
def tapW (x : S1x4x2048.Idx → α) (k : Fin 4) (n : Fin 8) : S1x1x256.Idx → α :=
  VecWindow.window (s := S1x4x2048) x ![0, k.val, 256 * n.val] S1x1x256.size (fun a => by match a with | ⟨0, _⟩ => exact le_rfl | ⟨1, _⟩ => (have := k.isLt; show k.val + 1 ≤ 4; omega) | ⟨2, _⟩ => (have := n.isLt; show 256 * n.val + 256 ≤ 2048; omega))
/-- The n-th diagonal block of a gate's weights. -/
def blockW (x : S1x8x256x256.Idx → α) (n : Fin 8) : S1x1x256x256.Idx → α :=
  VecWindow.window (s := S1x8x256x256) x ![0, n.val, 0, 0] S1x1x256x256.size (fun a => by match a with | ⟨0, _⟩ => exact le_rfl | ⟨1, _⟩ => (have := n.isLt; show n.val + 1 ≤ 8; omega) | ⟨2, _⟩ => exact le_rfl | ⟨3, _⟩ => exact le_rfl)
/-- Columns 256 n … 256 n + 255 of the output weights. -/
def outW (x : S1x2048x2048.Idx → α) (n : Fin 8) : S1x2048x256.Idx → α :=
  VecWindow.window (s := S1x2048x2048) x ![0, 0, 256 * n.val] S1x2048x256.size (fun a => by match a with | ⟨0, _⟩ => exact le_rfl | ⟨1, _⟩ => exact le_rfl | ⟨2, _⟩ => (have := n.isLt; show 256 * n.val + 256 ≤ 2048; omega))
/-- Row k of a tile. -/
def rowOf (x : S256x2048.Idx → α) (k : ℕ) : S1x2048.Idx → α := fun y => x (ix2 ⟨k % 256, Nat.mod_lt _ (by decide)⟩ (y (1 : Fin 2)))
/-- Rows 256 … 263 of the extended tile: the last eight rows of the tile. -/
def tailW (x : S264x2048.Idx → α) : S8x2048.Idx → α := VecWindow.window (s := S264x2048) x ![256, 0] S8x2048.size (by decide)
/-- The last eight rows of a tile. -/
def lastW (x : S256x2048.Idx → α) : S8x2048.Idx → α := VecWindow.window (s := S256x2048) x ![248, 0] S8x2048.size (by decide)
/-- The extended tile with its first eight rows replaced. -/
def headP (x : S264x2048.Idx → α) (w : S8x2048.Idx → α) : S264x2048.Idx → α := VecWindow.put (s := S264x2048) x ![0, 0] S8x2048.size w
/-- The extended tile with its last 256 rows replaced. -/
def tileP (x : S264x2048.Idx → α) (w : S256x2048.Idx → α) : S264x2048.Idx → α := VecWindow.put (s := S264x2048) x ![8, 0] S256x2048.size w
/-- The tile of eight blocks of 256 columns. -/
def cols8 (f : Fin 8 → S256x256.Idx → α) : S256x2048.Idx → α := fun y =>
  f ⟨(y (1 : Fin 2)).val / 256, by have h : (y (1 : Fin 2)).val < 2048 := (y (1 : Fin 2)).isLt; omega⟩
    (ix2 ⟨(y (0 : Fin 2)).val, (y (0 : Fin 2)).isLt⟩ ⟨(y (1 : Fin 2)).val % 256, Nat.mod_lt _ (by decide)⟩)

theorem put_col_of_lt (x : S256x2048.Idx → α) (o : ℕ) (w : S256x256.Idx → α) (y : S256x2048.Idx) (h : (y (1 : Fin 2)).val < o) :
    VecWindow.put (s := S256x2048) x ![0, o] S256x256.size w y = x y :=
  dif_neg fun hh => by
    have h1 : o ≤ (y (1 : Fin 2)).val := (hh (1 : Fin 2)).1
    omega

theorem put_col_of_in (x : S256x2048.Idx → α) (o : ℕ) (w : S256x256.Idx → α) (y : S256x2048.Idx) (h : o ≤ (y (1 : Fin 2)).val) (h2 : (y (1 : Fin 2)).val < o + 256) :
    VecWindow.put (s := S256x2048) x ![0, o] S256x256.size w y = w (ix2 ⟨(y (0 : Fin 2)).val, (y (0 : Fin 2)).isLt⟩ ⟨(y (1 : Fin 2)).val - o, by omega⟩) := by
  have h0 : (y (0 : Fin 2)).val < 256 := (y (0 : Fin 2)).isLt
  unfold VecWindow.put
  rw [dif_pos (show ∀ a : Fin 2, (![0, o] : Fin 2 → ℕ) a ≤ (y a).val ∧ (y a).val < (![0, o] : Fin 2 → ℕ) a + S256x256.size a from
    Fin.forall_fin_two.mpr ⟨⟨Nat.zero_le _, by show _ < 0 + 256; omega⟩, h, h2⟩)]
  exact congrArg w (funext (Fin.forall_fin_two.mpr ⟨Fin.ext rfl, Fin.ext rfl⟩))

/-- A tile of eight blocks, in one of its blocks. -/
theorem cols8_at (f : Fin 8 → S256x256.Idx → α) (n : Fin 8) (y : S256x2048.Idx) (h : 256 * n.val ≤ (y (1 : Fin 2)).val) (h2 : (y (1 : Fin 2)).val < 256 * n.val + 256) :
    cols8 f y = f n (ix2 ⟨(y (0 : Fin 2)).val, (y (0 : Fin 2)).isLt⟩ ⟨(y (1 : Fin 2)).val - 256 * n.val, by omega⟩) := by
  obtain ⟨n, hn⟩ := n
  have e : (⟨(y (1 : Fin 2)).val / 256, by have h : (y (1 : Fin 2)).val < 2048 := (y (1 : Fin 2)).isLt; omega⟩ : Fin 8) = ⟨n, hn⟩ := Fin.ext (by show _ / 256 = n; simp only at h h2; omega)
  unfold cols8
  rw [e]
  congr 1
  refine congrArg _ (Fin.ext ?_)
  show _ % 256 = _ - _
  simp only at h h2 ⊢; omega

/-- Storing the eight blocks of columns leaves their tile, whatever was there. -/
theorem puts8 (x : S256x2048.Idx → α) (f : Fin 8 → S256x256.Idx → α) :
    VecWindow.put (s := S256x2048) (VecWindow.put (s := S256x2048) (VecWindow.put (s := S256x2048) (VecWindow.put (s := S256x2048) (VecWindow.put (s := S256x2048) (VecWindow.put (s := S256x2048) (VecWindow.put (s := S256x2048) (VecWindow.put (s := S256x2048) x
      ![0, 0] S256x256.size (f 0)) ![0, 256] S256x256.size (f 1)) ![0, 512] S256x256.size (f 2)) ![0, 768] S256x256.size (f 3)) ![0, 1024] S256x256.size (f 4)) ![0, 1280] S256x256.size (f 5)) ![0, 1536] S256x256.size (f 6)) ![0, 1792] S256x256.size (f 7)
      = cols8 f := by
  funext y
  have hy : (y (1 : Fin 2)).val < 2048 := (y (1 : Fin 2)).isLt
  by_cases h7 : 1792 ≤ (y (1 : Fin 2)).val
  · rw [put_col_of_in _ _ _ _ h7 (by omega), cols8_at f 7 y h7 (by show _ < 1792 + 256; omega)]; rfl
  rw [put_col_of_lt _ _ _ _ (by omega)]
  by_cases h6 : 1536 ≤ (y (1 : Fin 2)).val
  · rw [put_col_of_in _ _ _ _ h6 (by omega), cols8_at f 6 y h6 (by show _ < 1536 + 256; omega)]; rfl
  rw [put_col_of_lt _ _ _ _ (by omega)]
  by_cases h5 : 1280 ≤ (y (1 : Fin 2)).val
  · rw [put_col_of_in _ _ _ _ h5 (by omega), cols8_at f 5 y h5 (by show _ < 1280 + 256; omega)]; rfl
  rw [put_col_of_lt _ _ _ _ (by omega)]
  by_cases h4 : 1024 ≤ (y (1 : Fin 2)).val
  · rw [put_col_of_in _ _ _ _ h4 (by omega), cols8_at f 4 y h4 (by show _ < 1024 + 256; omega)]; rfl
  rw [put_col_of_lt _ _ _ _ (by omega)]
  by_cases h3 : 768 ≤ (y (1 : Fin 2)).val
  · rw [put_col_of_in _ _ _ _ h3 (by omega), cols8_at f 3 y h3 (by show _ < 768 + 256; omega)]; rfl
  rw [put_col_of_lt _ _ _ _ (by omega)]
  by_cases h2 : 512 ≤ (y (1 : Fin 2)).val
  · rw [put_col_of_in _ _ _ _ h2 (by omega), cols8_at f 2 y h2 (by show _ < 512 + 256; omega)]; rfl
  rw [put_col_of_lt _ _ _ _ (by omega)]
  by_cases h1 : 256 ≤ (y (1 : Fin 2)).val
  · rw [put_col_of_in _ _ _ _ h1 (by omega), cols8_at f 1 y h1 (by show _ < 256 + 256; omega)]; rfl
  rw [put_col_of_lt _ _ _ _ (by omega), put_col_of_in _ _ _ _ (Nat.zero_le _) (by omega), cols8_at f 0 y (Nat.zero_le _) (by show _ < 0 + 256; omega)]; rfl

/-- A window of one row is that row. -/
theorem window_row (x : S256x2048.Idx → α) (k : ℕ) (hk : k < 256) (inb) : VecWindow.window (s := S256x2048) x ![k, 0] S1x2048.size inb = rowOf x k := by
  funext y
  refine congrArg x (funext (Fin.forall_fin_two.mpr ⟨Fin.ext ?_, Fin.ext ?_⟩))
  · have h0 : (y (0 : Fin 2)).val < 1 := (y (0 : Fin 2)).isLt
    show k + 1 * (y (0 : Fin 2)).val = k % 256
    rw [Nat.mod_eq_of_lt hk]; omega
  · show 0 + 1 * (y (1 : Fin 2)).val = (y (1 : Fin 2)).val
    omega
end

section
variable {sig' : RefSig} {κ : Kind} {sp : Space} {s : Shape} {e : EltTy} {Val : EltTy → Type}

/-- A load is a window of what the buffer reads. -/
theorem readAt_win (v : View sig' κ sp s e) (f : v.ty.Contents Val) {off size : Fin s.rank → ℕ} (inb : ∀ a, off a + size a ≤ s.size a) :
    v.readAt Val (Rect.unit off size inb).toLoadRect f = VecWindow.window (v.read Val f) off size inb := View.readAt_unit v f inb rfl inb
/-- The same of a load of what was stored before. -/
theorem readCov_win [∀ e, Nonempty (Val e)] (v : View sig' κ sp s e) (L : List (View.Piece Val s e)) {off size : Fin s.rank → ℕ} (inb : ∀ a, off a + size a ≤ s.size a) :
    v.readCov L (Rect.unit off size inb).toLoadRect = VecWindow.window (v.read Val (v.writes Val v.junk L)) off size inb := View.readAt_unit v _ inb rfl inb
/-- A store puts its payload over a window of what the buffer read. -/
theorem read_cons_put (v : View sig' κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w := View.read_writes_cons_put v f inb w L rfl
end

section
variable {α : Type}
/-- The window of the whole is the whole. -/
theorem window_all2 {n m : ℕ} (x : (⟨2, ![n, m]⟩ : Shape).Idx → α) (inb : ∀ a, (![0, 0] : Fin 2 → ℕ) a + (![n, m] : Fin 2 → ℕ) a ≤ (![n, m] : Fin 2 → ℕ) a) :
    VecWindow.window (s := ⟨2, ![n, m]⟩) x ![0, 0] ![n, m] inb = x := by
  funext y
  refine congrArg x (funext (Fin.forall_fin_two.mpr ⟨Fin.ext ?_, Fin.ext ?_⟩))
  · show 0 + 1 * (y (0 : Fin 2)).val = _; omega
  · show 0 + 1 * (y (1 : Fin 2)).val = _; omega
/-- Putting the whole leaves the payload. -/
theorem put_all2 {n m : ℕ} (x w : (⟨2, ![n, m]⟩ : Shape).Idx → α) : VecWindow.put (s := ⟨2, ![n, m]⟩) x ![0, 0] ![n, m] w = w := by
  have inb : ∀ a, (![0, 0] : Fin 2 → ℕ) a + (![n, m] : Fin 2 → ℕ) a ≤ (![n, m] : Fin 2 → ℕ) a := Fin.forall_fin_two.mpr ⟨by show 0 + n ≤ n; omega, by show 0 + m ≤ m; omega⟩
  have h := VecWindow.window_put_same (s := ⟨2, ![n, m]⟩) x ![0, 0] ![n, m] inb w
  rwa [window_all2] at h
/-- Loads inside the tile's rows do not see what was there before. -/
theorem window_tile8 (j e : S264x2048.Idx → α) (w : S256x2048.Idx → α) (o : ℕ) (inb) :
    VecWindow.window (s := S264x2048) (VecWindow.put (s := S264x2048) j ![8, 0] S256x2048.size w) ![8, o] S256x256.size inb
      = VecWindow.window (s := S264x2048) (VecWindow.put (s := S264x2048) e ![8, 0] S256x2048.size w) ![8, o] S256x256.size inb := by
  have ho : o + 256 ≤ 2048 := inb (1 : Fin 2)
  have h : ∀ a : Fin 2, (![8, 0] : Fin 2 → ℕ) a ≤ (![8, o] : Fin 2 → ℕ) a ∧ (![8, o] : Fin 2 → ℕ) a + S256x256.size a ≤ (![8, 0] : Fin 2 → ℕ) a + S256x2048.size a :=
    Fin.forall_fin_two.mpr ⟨⟨le_rfl, le_rfl⟩, Nat.zero_le _, by show o + 256 ≤ 0 + 2048; omega⟩
  rw [VecWindow.window_put_of_inside (s := S264x2048) j _ _ _ _ _ w h, VecWindow.window_put_of_inside (s := S264x2048) e _ _ _ _ _ w h]
/-- Nor do loads of the last eight rows. -/
theorem window_tile256 (j e : S264x2048.Idx → α) (w : S256x2048.Idx → α) (inb) :
    VecWindow.window (s := S264x2048) (VecWindow.put (s := S264x2048) j ![8, 0] S256x2048.size w) ![256, 0] S8x2048.size inb
      = VecWindow.window (s := S264x2048) (VecWindow.put (s := S264x2048) e ![8, 0] S256x2048.size w) ![256, 0] S8x2048.size inb := by
  have h : ∀ a : Fin 2, (![8, 0] : Fin 2 → ℕ) a ≤ (![256, 0] : Fin 2 → ℕ) a ∧ (![256, 0] : Fin 2 → ℕ) a + S8x2048.size a ≤ (![8, 0] : Fin 2 → ℕ) a + S256x2048.size a :=
    Fin.forall_fin_two.mpr ⟨by decide, by decide⟩
  rw [VecWindow.window_put_of_inside (s := S264x2048) j _ _ _ _ _ w h, VecWindow.window_put_of_inside (s := S264x2048) e _ _ _ _ _ w h]
/-- The eight rows in front and the tile's rows are the whole of the extended tile. -/
theorem put_head_tile (j e : S264x2048.Idx → α) (p : S8x2048.Idx → α) (w : S256x2048.Idx → α) :
    VecWindow.put (s := S264x2048) (VecWindow.put (s := S264x2048) j ![0, 0] S8x2048.size p) ![8, 0] S256x2048.size w
      = VecWindow.put (s := S264x2048) (VecWindow.put (s := S264x2048) e ![0, 0] S8x2048.size p) ![8, 0] S256x2048.size w := by
  funext y
  have h0 : (y (0 : Fin 2)).val < 264 := (y (0 : Fin 2)).isLt
  have h1 : (y (1 : Fin 2)).val < 2048 := (y (1 : Fin 2)).isLt
  unfold VecWindow.put
  by_cases h : 8 ≤ (y (0 : Fin 2)).val
  · have hp : ∀ a : Fin 2, (![8, 0] : Fin 2 → ℕ) a ≤ (y a).val ∧ (y a).val < (![8, 0] : Fin 2 → ℕ) a + S256x2048.size a :=
      Fin.forall_fin_two.mpr ⟨⟨h, by show _ < 8 + 256; omega⟩, Nat.zero_le _, by show _ < 0 + 2048; omega⟩
    rw [dif_pos hp, dif_pos hp]
  · have hp : ∀ a : Fin 2, (![0, 0] : Fin 2 → ℕ) a ≤ (y a).val ∧ (y a).val < (![0, 0] : Fin 2 → ℕ) a + S8x2048.size a :=
      Fin.forall_fin_two.mpr ⟨⟨Nat.zero_le _, by show _ < 0 + 8; omega⟩, Nat.zero_le _, by show _ < 0 + 2048; omega⟩
    rw [dif_pos hp, dif_pos hp]
/-- The same in the other order. -/
theorem put_tile_head (j e : S264x2048.Idx → α) (p : S8x2048.Idx → α) (w : S256x2048.Idx → α) :
    VecWindow.put (s := S264x2048) (VecWindow.put (s := S264x2048) j ![8, 0] S256x2048.size w) ![0, 0] S8x2048.size p
      = VecWindow.put (s := S264x2048) (VecWindow.put (s := S264x2048) e ![8, 0] S256x2048.size w) ![0, 0] S8x2048.size p := by
  funext y
  have h0 : (y (0 : Fin 2)).val < 264 := (y (0 : Fin 2)).isLt
  have h1 : (y (1 : Fin 2)).val < 2048 := (y (1 : Fin 2)).isLt
  unfold VecWindow.put
  by_cases h : (y (0 : Fin 2)).val < 8
  · have hp : ∀ a : Fin 2, (![0, 0] : Fin 2 → ℕ) a ≤ (y a).val ∧ (y a).val < (![0, 0] : Fin 2 → ℕ) a + S8x2048.size a :=
      Fin.forall_fin_two.mpr ⟨⟨Nat.zero_le _, by show _ < 0 + 8; omega⟩, Nat.zero_le _, by show _ < 0 + 2048; omega⟩
    rw [dif_pos hp, dif_pos hp]
  · have hn : ¬ ∀ a : Fin 2, (![0, 0] : Fin 2 → ℕ) a ≤ (y a).val ∧ (y a).val < (![0, 0] : Fin 2 → ℕ) a + S8x2048.size a := fun hh => by
      have h2 : (y (0 : Fin 2)).val < 0 + 8 := (hh (0 : Fin 2)).2
      omega
    have hp : ∀ a : Fin 2, (![8, 0] : Fin 2 → ℕ) a ≤ (y a).val ∧ (y a).val < (![8, 0] : Fin 2 → ℕ) a + S256x2048.size a :=
      Fin.forall_fin_two.mpr ⟨⟨by show 8 ≤ _; omega, by show _ < 8 + 256; omega⟩, Nat.zero_le _, by show _ < 0 + 2048; omega⟩
    rw [dif_neg hn, dif_neg hn, dif_pos hp, dif_pos hp]
end

/-- The convolution of one block of columns, with its bias. -/
def convB (e : Vec F S264x2048 .f32) (w : Vec F S1x4x2048 .f32) (b : Vec F S1x1x2048 .f32) (n : Fin 8) : FVec F S256x256 .f32 :=
  k0_pay8 (rowW b n) (tapW w 3 n) (extW e 8 n) (tapW w 2 n) (extW e 7 n) (tapW w 1 n) (extW e 6 n) (tapW w 0 n) (extW e 5 n)
/-- The same rounded for the gates' products. -/
def convRB (e : Vec F S264x2048 .f32) (w : Vec F S1x4x2048 .f32) (b : Vec F S1x1x2048 .f32) (n : Fin 8) : FVec F S256x256 .bf16 :=
  k0_pay9 (rowW b n) (tapW w 3 n) (extW e 8 n) (tapW w 2 n) (extW e 7 n) (tapW w 1 n) (extW e 6 n) (tapW w 0 n) (extW e 5 n)
/-- The recurrence gate's product with its block of weights. -/
def gateB (e : Vec F S264x2048 .f32) (w : Vec F S1x4x2048 .f32) (b : Vec F S1x1x2048 .f32) (wa : Vec F S1x8x256x256 .bf16) (n : Fin 8) : FVec F S256x256 .f32 :=
  k0_pay10 (rowW b n) (tapW w 3 n) (extW e 8 n) (tapW w 2 n) (extW e 7 n) (tapW w 1 n) (extW e 6 n) (tapW w 0 n) (extW e 5 n) (blockW wa n)
/-- The decay of one block of columns. -/
def decayB (e : Vec F S264x2048 .f32) (w : Vec F S1x4x2048 .f32) (b : Vec F S1x1x2048 .f32) (wa : Vec F S1x8x256x256 .bf16) (ba lam : Vec F S1x1x2048 .f32) (n : Fin 8) : FVec F S256x256 .f32 :=
  k0_pay15 (k0_pay12 (gateB e w b wa n) (rowW ba n) (rowW lam n))
/-- The input term of one block of columns. -/
def inputB (e : Vec F S264x2048 .f32) (w : Vec F S1x4x2048 .f32) (b : Vec F S1x1x2048 .f32) (wa : Vec F S1x8x256x256 .bf16) (ba : Vec F S1x1x2048 .f32) (wx : Vec F S1x8x256x256 .bf16) (bx lam : Vec F S1x1x2048 .f32) (n : Fin 8) : FVec F S256x256 .f32 :=
  k0_pay16 (k0_pay13 (gateB e w b wa n) (rowW ba n) (rowW lam n)) (k0_pay14 (convB e w b n) (convRB e w b n) (blockW wx n) (rowW bx n))
/-- The output rows of one block of columns. -/
def outB (x : Vec F S256x2048 .f32) (y : Vec F S256x2048 .bf16) (wo : Vec F S1x2048x2048 .bf16) (n : Fin 8) : FVec F S256x256 .f32 :=
  k0_pay7 (colW x n) y (outW wo n)

/-- The extended tile with the tile's rows in place. -/
def extT (e : Vec F S264x2048 .f32) (x : Vec F S256x2048 .f32) : Vec F S264x2048 .f32 := tileP e (k0_pay6 x)
/-- The extended tile as the next tile finds it: the last eight rows in front. -/
def extN (e : Vec F S264x2048 .f32) : Vec F S264x2048 .f32 := headP e (k0_pay95 (tailW e))
/-- The decays of a tile. -/
def decays (e : Vec F S264x2048 .f32) (w : Vec F S1x4x2048 .f32) (b : Vec F S1x1x2048 .f32) (wa : Vec F S1x8x256x256 .bf16) (ba lam : Vec F S1x1x2048 .f32) : Vec F S256x2048 .f32 := cols8 (decayB e w b wa ba lam)
/-- The input terms of a tile. -/
def inputs (e : Vec F S264x2048 .f32) (w : Vec F S1x4x2048 .f32) (b : Vec F S1x1x2048 .f32) (wa : Vec F S1x8x256x256 .bf16) (ba : Vec F S1x1x2048 .f32) (wx : Vec F S1x8x256x256 .bf16) (bx lam : Vec F S1x1x2048 .f32) : Vec F S256x2048 .f32 := cols8 (inputB e w b wa ba wx bx lam)
/-- The output rows of the tile before. -/
def outs (x : Vec F S256x2048 .f32) (y : Vec F S256x2048 .bf16) (wo : Vec F S1x2048x2048 .bf16) : Vec F S256x2048 .f32 := cols8 (outB x y wo)

/-- The state before row k of a tile, of the decays, the input terms and the state before the tile. -/
def stateAt (A U : Vec F S256x2048 .f32) (h : Vec F S1x2048 .f32) : ℕ → Vec F S1x2048 .f32
  | 0 => h
  | k + 1 => k0_pay96 (stateAt A U h k) (rowOf A k) (rowOf U k)
/-- The buffer of input terms with the states of the rows before row k stored over them. -/
def statesTo (A U : Vec F S256x2048 .f32) (h : Vec F S1x2048 .f32) (k : ℕ) : Vec F S256x2048 .f32 := fun y =>
  if (y (0 : Fin 2)).val < k then k0_pay97 (stateAt A U h (y (0 : Fin 2)).val) (rowOf A (y (0 : Fin 2)).val) (rowOf U (y (0 : Fin 2)).val) (ix2 0 (y (1 : Fin 2))) else U y

/-- Row k of that buffer is still the input term's. -/
theorem rowOf_statesTo (A U : Vec F S256x2048 .f32) (h : Vec F S1x2048 .f32) (k : ℕ) (hk : k < 256) : rowOf (statesTo A U h k) k = rowOf U k := by
  funext y
  unfold rowOf statesTo
  rw [if_neg]
  show ¬ k % 256 < k
  rw [Nat.mod_eq_of_lt hk]; omega

/-- Storing row k's state. -/
theorem put_statesTo (A U : Vec F S256x2048 .f32) (h : Vec F S1x2048 .f32) (k : ℕ) (hk : k < 256) :
    VecWindow.put (s := S256x2048) (statesTo A U h k) ![k, 0] S1x2048.size (k0_pay97 (stateAt A U h k) (rowOf A k) (rowOf U k)) = statesTo A U h (k + 1) := by
  funext y
  have h0 : (y (0 : Fin 2)).val < 256 := (y (0 : Fin 2)).isLt
  have h1 : (y (1 : Fin 2)).val < 2048 := (y (1 : Fin 2)).isLt
  by_cases e : (y (0 : Fin 2)).val = k
  · subst e
    unfold VecWindow.put
    rw [dif_pos (show ∀ a : Fin 2, (![(y (0 : Fin 2)).val, 0] : Fin 2 → ℕ) a ≤ (y a).val ∧ (y a).val < (![(y (0 : Fin 2)).val, 0] : Fin 2 → ℕ) a + S1x2048.size a from
      Fin.forall_fin_two.mpr ⟨⟨le_rfl, Nat.lt_succ_self _⟩, Nat.zero_le _, by show _ < 0 + 2048; omega⟩)]
    unfold statesTo
    rw [if_pos (Nat.lt_succ_self _)]
    refine congrArg (k0_pay97 (stateAt A U h (y (0 : Fin 2)).val) (rowOf A (y (0 : Fin 2)).val) (rowOf U (y (0 : Fin 2)).val)) (funext (Fin.forall_fin_two.mpr ⟨Fin.ext ?_, Fin.ext rfl⟩))
    exact Nat.sub_self _
  · unfold VecWindow.put
    rw [dif_neg (fun hh => by
      have a : k ≤ (y (0 : Fin 2)).val := (hh (0 : Fin 2)).1
      have b : (y (0 : Fin 2)).val < k + 1 := (hh (0 : Fin 2)).2
      omega)]
    unfold statesTo
    by_cases l : (y (0 : Fin 2)).val < k
    · rw [if_pos l, if_pos (by omega)]
    · rw [if_neg l, if_neg (by omega)]

/-- Whether the point is the first tile of a sequence. -/
abbrev cond1 (i : grid0.Coords) : BitVec 1 :=
  let arg0 : BitVec 32 := BitVec.ofNat 32 (i 0).val
  let v0 : BitVec 1 := Scalar.cmpi .eq 16#32 0#32
  let v1 : BitVec 32 := Scalar.select v0 1#32 16#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 1 := Scalar.cmpi .eq v9 0#32
  let v11 : BitVec 32 := Scalar.extui v10
  Scalar.cmpi .ne v11 0#32
/-- Whether the point is the first of the grid. -/
abbrev cond2 (i : grid0.Coords) : BitVec 1 :=
  let arg0 : BitVec 32 := BitVec.ofNat 32 (i 0).val
  let v13 : BitVec 1 := Scalar.cmpi .eq arg0 0#32
  let v14 : BitVec 32 := Scalar.extui v13
  Scalar.cmpi .ne v14 0#32

section
variable (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x4x2048 .f32) (harg4 : arg4.IsWhole) (arg5 : Memref sig .tc .vmem S1x1x2048 .f32) (harg5 : arg5.IsWhole) (arg6 : Memref sig .tc .vmem S1x8x256x256 .bf16) (harg6 : arg6.IsWhole) (arg7 : Memref sig .tc .vmem S1x1x2048 .f32) (harg7 : arg7.IsWhole) (arg8 : Memref sig .tc .vmem S1x8x256x256 .bf16) (harg8 : arg8.IsWhole) (arg9 : Memref sig .tc .vmem S1x1x2048 .f32) (harg9 : arg9.IsWhole) (arg10 : Memref sig .tc .vmem S1x1x2048 .f32) (harg10 : arg10.IsWhole) (arg11 : Memref sig .tc .vmem S1x2048x2048 .bf16) (harg11 : arg11.IsWhole) (arg12 : Memref sig .tc .vmem S256x2048 .f32) (harg12 : arg12.IsWhole) (arg13 : Memref sig .tc .vmem S1x8x2048 .f32) (harg13 : arg13.IsWhole) (arg14 : Memref sig .tc .vmem S264x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .bf16) (harg18 : arg18.IsWhole)

theorem trips256 : k0_t1_loop.trips = 256 := by decide

/-- What one trip of the loop over rows yields and stores. -/
theorem trip_eq (c : Dev nD) (i : grid0.Coords) (X : BufTy.Contents (Elt F) arg15.view.ty) (k : Fin k0_t1_loop.trips) (acc : Vec F S1x2048 .f32) (f : BufTy.Contents (Elt F) arg16.view.ty) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X k acc f
        = k0_pay96 acc (arg15.view.readAt (Elt F) (Rect.unit (s := S256x2048) (k0_off1 k) S1x2048.size (k0_off1_inb k)).toLoadRect X) (arg16.view.readAt (Elt F) (Rect.unit (s := S256x2048) (k0_off1 k) S1x2048.size (k0_off1_inb k)).toLoadRect f)
      ∧ tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X k acc f
        = [⟨Rect.unit (s := S256x2048) (k0_off1 k) S1x2048.size (k0_off1_inb k), k0_pay97 acc (arg15.view.readAt (Elt F) (Rect.unit (s := S256x2048) (k0_off1 k) S1x2048.size (k0_off1_inb k)).toLoadRect X) (arg16.view.readAt (Elt F) (Rect.unit (s := S256x2048) (k0_off1 k) S1x2048.size (k0_off1_inb k)).toLoadRect f)⟩] := by
  constructor
  · unfold tripR_k0_t1 trip_k0_t1; rfl
  · unfold tripL_k0_t1 trip_k0_t1; rfl

/-- What the loop carries and what it has stored, before row k. -/
theorem loop_at (c : Dev nD) (i : grid0.Coords) (X : BufTy.Contents (Elt F) arg15.view.ty) (G : BufTy.Contents (Elt F) arg16.view.ty) (h : Vec F S1x2048 .f32) (k : ℕ) (hk : k ≤ 256) :
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X G h k).1 = stateAt (arg15.view.read (Elt F) X) (arg16.view.read (Elt F) G) h k
      ∧ arg16.view.read (Elt F) (arg16.view.writes (Elt F) G (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X G h k).2)
        = statesTo (arg15.view.read (Elt F) X) (arg16.view.read (Elt F) G) h k := by
  induction k with
  | zero =>
    refine ⟨rfl, ?_⟩
    funext y
    unfold statesTo
    rw [if_neg (Nat.not_lt_zero _)]; rfl
  | succ k ih =>
    obtain ⟨i1, i2⟩ := ih (by omega)
    have hk' : k < 256 := by omega
    have hs := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X G h ⟨k, by rw [trips256]; exact hk'⟩
    simp only at hs
    rw [hs]
    obtain ⟨t1, t2⟩ := trip_eq arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i X ⟨k, by rw [trips256]; exact hk'⟩ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X G h k).1 (arg16.view.writes (Elt F) G (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X G h k).2)
    have inb : ∀ a, (![k, 0] : Fin 2 → ℕ) a + S1x2048.size a ≤ S256x2048.size a := Fin.forall_fin_two.mpr ⟨by show k + 1 ≤ 256; omega, le_rfl⟩
    have r15 := View.readAt_unit (Val := Elt F) arg15.view X (k0_off1_inb ⟨k, by rw [trips256]; exact hk'⟩) (k0_off1_eq ⟨k, by rw [trips256]; exact hk'⟩) inb
    have r16 := View.readAt_unit (Val := Elt F) arg16.view (arg16.view.writes (Elt F) G (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X G h k).2) (k0_off1_inb ⟨k, by rw [trips256]; exact hk'⟩) (k0_off1_eq ⟨k, by rw [trips256]; exact hk'⟩) inb
    rw [window_row _ k hk'] at r15 r16
    rw [i2, rowOf_statesTo _ _ _ k hk'] at r16
    constructor
    · refine t1.trans ?_
      rw [r15, r16, i1]; rfl
    · simp only [t2, List.cons_append, List.nil_append]
      rw [View.read_writes_cons_put _ _ _ _ _ (k0_off1_eq ⟨k, by rw [trips256]; exact hk'⟩), i2, r15, r16, i1]
      exact put_statesTo _ _ _ k hk'

/-- What the whole loop carries out and has stored. -/
theorem loop_all (c : Dev nD) (i : grid0.Coords) (X : BufTy.Contents (Elt F) arg15.view.ty) (G : BufTy.Contents (Elt F) arg16.view.ty) (h h' : Vec F S1x2048 .f32) (A U : Vec F S256x2048 .f32)
    (hA : arg15.view.read (Elt F) X = A) (hU : arg16.view.read (Elt F) G = U) (hh : h = h') :
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X G h (Scf.trips k0_t1_loop.lb k0_t1_loop.ub k0_t1_loop.st)).1 = stateAt A U h' 256
      ∧ arg16.view.read (Elt F) (arg16.view.writes (Elt F) G (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X G h (Scf.trips k0_t1_loop.lb k0_t1_loop.ub k0_t1_loop.st)).2) = statesTo A U h' 256 := by
  subst hA; subst hU; subst hh
  rw [show Scf.trips k0_t1_loop.lb k0_t1_loop.ub k0_t1_loop.st = 256 from trips256]
  exact loop_at arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i X G h 256 le_rfl
end

end Cert.KernelIdeal.Hand

end
-- ==== Proof.Lru.Math.lean ====
module

public import Idealize.ShloMosaic.Lib.ValueIdx
public import Idealize.ShloMosaic.Lib.IdealHost
public import Mathlib.Analysis.SpecialFunctions.Trigonometric.DerivHyp

/-! The recurrence's arithmetic on single numbers, over the extended reals: the kernel's forms of the log-sigmoid and of
1 - exp(2 y), and its root by the reciprocal root, against the plain ones. -/

@[expose] public section

noncomputable section

namespace Cert.Lru

open Idealize.ShloMosaic

/-- The recurrence's constant 8. -/
def eight : EReal := Ideal.ofBits .f32 0x41000000#32
/-- The constant 2. -/
def two : EReal := Ideal.ofBits .f32 0x40000000#32

theorem eight_eq : eight = ((8 : ℝ) : EReal) := by
  unfold eight; simp [Ideal.ofBits, Ideal.ieee, -EReal.coe_mul]; norm_num
theorem two_eq : two = ((2 : ℝ) : EReal) := by
  unfold two; simp [Ideal.ofBits, Ideal.ieee, -EReal.coe_mul]; norm_num

/-- The log-sigmoid as the kernel takes it. -/
def logSigK (x : EReal) : EReal := min x 0 - Ideal.log1p (Ideal.exp (0 - max x (-x)))
/-- The log-sigmoid as it is defined. -/
def logSig (x : EReal) : EReal := -Ideal.log1p (Ideal.exp (-x))

theorem log_pos (r : ℝ) (h : 0 < r) : Ideal.log (r : EReal) = ((Real.log r : ℝ) : EReal) := by
  rw [Ideal.log_coe, if_neg (not_le.mpr h)]

theorem log1p_exp (y : ℝ) : Ideal.log1p (Ideal.exp (y : EReal)) = ((Real.log (1 + Real.exp y) : ℝ) : EReal) := by
  unfold Ideal.log1p
  rw [Ideal.exp_coe, show (1 : EReal) + ((Real.exp y : ℝ) : EReal) = ((1 + Real.exp y : ℝ) : EReal) by rw [EReal.coe_add, EReal.coe_one],
    log_pos _ (by positivity)]

theorem log1p_top : Ideal.log1p ⊤ = ⊤ := by
  unfold Ideal.log1p
  rw [EReal.add_top_of_ne_bot (by rw [← EReal.coe_one]; exact EReal.coe_ne_bot 1)]
  exact Ideal.log_top

/-- The two forms of the log-sigmoid agree. -/
theorem logSigK_eq (x : EReal) : logSigK x = logSig x := by
  unfold logSigK logSig
  induction x with
  | bot =>
    rw [min_eq_left (by simp), EReal.bot_sub, EReal.neg_bot, Ideal.exp_top, log1p_top, EReal.neg_top]
  | top =>
    simp [Ideal.log1p, Ideal.log]
  | coe x =>
    rcases le_total 0 x with h | h
    · rw [min_eq_right (by exact_mod_cast h), max_eq_left (by exact_mod_cast (by linarith : -x ≤ x)), zero_sub, zero_sub]
    · rw [min_eq_left (by exact_mod_cast h), max_eq_right (by exact_mod_cast (by linarith : x ≤ -x)), zero_sub, neg_neg,
        log1p_exp, ← EReal.coe_neg, log1p_exp, ← EReal.coe_sub, ← EReal.coe_neg]
      congr 1
      rw [show (1 : ℝ) + Real.exp (-x) = Real.exp (-x) * (1 + Real.exp x) by
        rw [mul_add, mul_one, ← Real.exp_add, neg_add_cancel, Real.exp_zero, add_comm],
        Real.log_mul (Real.exp_pos _).ne' (by positivity), Real.log_exp]
      ring

/-- The log-sigmoid is not positive: it is minus infinity or a real that is not positive. -/
theorem logSig_nonpos (x : EReal) : logSig x = ⊥ ∨ ∃ q : ℝ, q ≤ 0 ∧ logSig x = (q : EReal) := by
  unfold logSig
  induction x with
  | bot => exact .inl (by rw [EReal.neg_bot, Ideal.exp_top, log1p_top, EReal.neg_top])
  | top => exact .inr ⟨0, le_rfl, by rw [EReal.neg_top, Ideal.exp_bot]; simp [Ideal.log1p, show (1 : EReal) = ((1 : ℝ) : EReal) from rfl, -EReal.coe_one]⟩
  | coe x =>
    refine .inr ⟨-Real.log (1 + Real.exp (-x)), ?_, by rw [← EReal.coe_neg, log1p_exp, EReal.coe_neg]⟩
    have := Real.log_nonneg (by have := Real.exp_pos (-x); linarith : (1 : ℝ) ≤ 1 + Real.exp (-x))
    linarith

/-- A gate is a real between zero and one. -/
theorem logistic_real (v : EReal) : ∃ p : ℝ, 0 ≤ p ∧ Ideal.logistic v = (p : EReal) := by
  induction v with
  | bot => exact ⟨0, le_rfl, by simp⟩
  | top => exact ⟨1, zero_le_one, by simp⟩
  | coe v => exact ⟨_, by positivity, Ideal.logistic_coe v⟩

/-- The logarithm of the decay. -/
def logDecay (v lam : EReal) : EReal := Ideal.logistic v * (eight * logSigK lam)

/-- The logarithm of the decay as the reference takes it. -/
theorem logDecay_eq (v lam : EReal) : logDecay v lam = eight * Ideal.logistic v * logSig lam := by
  unfold logDecay; rw [logSigK_eq, ← mul_assoc, mul_comm (Ideal.logistic v)]

theorem logDecay_nonpos (v lam : EReal) : logDecay v lam = ⊥ ∨ ∃ q : ℝ, q ≤ 0 ∧ logDecay v lam = (q : EReal) := by
  rw [logDecay_eq]
  obtain ⟨p, hp, hv⟩ := logistic_real v
  rw [hv, eight_eq, ← EReal.coe_mul]
  rcases logSig_nonpos lam with h | ⟨q, hq, h⟩
  · rw [h]
    rcases hp.eq_or_lt with rfl | hp
    · exact .inr ⟨0, le_rfl, by simp⟩
    · exact .inl (EReal.coe_mul_bot_of_pos (by positivity))
  · rw [h, ← EReal.coe_mul]
    exact .inr ⟨_, mul_nonpos_of_nonneg_of_nonpos (by positivity) hq, rfl⟩

/-- 1 - exp(2 y) as the kernel takes it. -/
def oneMinus (y : EReal) : EReal := Ideal.tanh (0 - y) * (1 + Ideal.exp y * Ideal.exp y)
/-- The root as the kernel takes it. -/
def rootK (z : EReal) : EReal := if 0 < z then z * Ideal.rsqrt z else 0

theorem tanh_neg_mul (y : ℝ) : Real.tanh (-y) * (1 + Real.exp y * Real.exp y) = 1 - Real.exp (2 * y) := by
  rw [Real.tanh_eq_sinh_div_cosh, Real.sinh_eq, Real.cosh_eq, neg_neg, two_mul, Real.exp_add, Real.exp_neg]
  have h := Real.exp_pos y
  field_simp

theorem rootK_real (z : ℝ) (h : 0 ≤ z) : rootK (z : EReal) = Ideal.sqrt (z : EReal) := by
  unfold rootK
  rw [Ideal.sqrt_coe, if_neg (not_lt.mpr h)]
  rcases h.eq_or_lt with rfl | h
  · simp
  · rw [if_pos (by exact_mod_cast h), Ideal.rsqrt_coe, if_neg (not_lt.mpr h.le), if_neg h.ne', ← EReal.coe_mul]
    congr 1
    have hs := Real.sqrt_pos.mpr h
    rw [← div_eq_mul_inv, div_eq_iff hs.ne', Real.mul_self_sqrt h.le]

/-- The factor of the input term: the kernel's root is the root of -expm1(2 y). -/
theorem factor_eq (y : EReal) (h : y = ⊥ ∨ ∃ q : ℝ, q ≤ 0 ∧ y = (q : EReal)) :
    rootK (oneMinus y) = Ideal.sqrt (-(Ideal.exp (two * y) - 1)) := by
  rcases h with rfl | ⟨q, hq, rfl⟩
  · have h1 : oneMinus ⊥ = ((1 : ℝ) : EReal) := by unfold oneMinus; simp
    rw [h1, rootK_real 1 zero_le_one, two_eq, EReal.coe_mul_bot_of_pos two_pos, Ideal.exp_bot]
    congr 1; simp
  · have h1 : oneMinus (q : EReal) = ((1 - Real.exp (2 * q) : ℝ) : EReal) := by
      unfold oneMinus
      rw [zero_sub, ← EReal.coe_neg, Ideal.tanh_coe, Ideal.exp_coe, ← tanh_neg_mul]
      push_cast; rfl
    have h2 : Real.exp (2 * q) ≤ 1 := Real.exp_le_one_iff.mpr (by linarith)
    rw [h1, rootK_real _ (by linarith), two_eq, ← EReal.coe_mul, Ideal.exp_coe]
    congr 1
    rw [← EReal.coe_one, ← EReal.coe_sub, ← EReal.coe_neg]
    congr 1; ring

/-- The convolution's sum from the newest tap down is the sum from the oldest up. -/
theorem conv_eq (b p0 p1 p2 p3 : EReal) : b + p3 + p2 + p1 + p0 = b + (0 + p0 + p1 + p2 + p3) := by
  rw [zero_add]; ac_rfl

end Cert.Lru

end
-- ==== Proof.Lru.Spec.lean ====
module

public import proofs.«01_k».proof.Proof.Lru.Math

/-! The gated linear recurrence over two sequences, one number at a time. -/

@[expose] public section

noncomputable section

namespace Cert.Lru

open Idealize.ShloMosaic

/-- What the layer is given: the branch rows, the gate's rows, the rows it adds to, the convolution's weights and bias, the
two gates' blocks and biases, the decay's parameter, the output's weights. -/
structure Given where
  x : Fin 2 → Fin 4096 → Fin 2048 → EReal
  g : Fin 2 → Fin 4096 → Fin 2048 → EReal
  p : Fin 2 → Fin 4096 → Fin 2048 → EReal
  w : Fin 4 → Fin 2048 → EReal
  b : Fin 2048 → EReal
  wa : Fin 8 → Fin 256 → Fin 256 → EReal
  ba : Fin 2048 → EReal
  wx : Fin 8 → Fin 256 → Fin 256 → EReal
  bx : Fin 2048 → EReal
  lam : Fin 2048 → EReal
  wo : Fin 2048 → Fin 2048 → EReal

/-- The block of 256 columns a column is in. -/
def blk (n : Fin 2048) : Fin 8 := ⟨n.val / 256, by omega⟩
/-- A column's place in its block. -/
def pos (n : Fin 2048) : Fin 256 := ⟨n.val % 256, by omega⟩
/-- Column k of block q. -/
def col (q : Fin 8) (k : Fin 256) : Fin 2048 := ⟨256 * q.val + k.val, by omega⟩

theorem blk_col (q : Fin 8) (k : Fin 256) : blk (col q k) = q := Fin.ext (by show (256 * q.val + k.val) / 256 = q.val; omega)
theorem pos_col (q : Fin 8) (k : Fin 256) : pos (col q k) = k := Fin.ext (by show (256 * q.val + k.val) % 256 = k.val; omega)
theorem col_blk (n : Fin 2048) : col (blk n) (pos n) = n := Fin.ext (by show 256 * (n.val / 256) + n.val % 256 = n.val; omega)

variable (d : Given)

/-- The branch rows of a sequence with three rows of zeros in front. -/
def px (s : Fin 2) (k : ℕ) (n : Fin 2048) : EReal := if h : 3 ≤ k ∧ k < 4099 then d.x s ⟨k - 3, by omega⟩ n else 0
/-- The convolution's row t. -/
def conv (s : Fin 2) (t : ℕ) (n : Fin 2048) : EReal :=
  d.b n + (0 + d.w 0 n * px d s t n + d.w 1 n * px d s (t + 1) n + d.w 2 n * px d s (t + 2) n + d.w 3 n * px d s (t + 3) n)
/-- A gate before its logistic. -/
def gate (w : Fin 8 → Fin 256 → Fin 256 → EReal) (b : Fin 2048 → EReal) (s : Fin 2) (t : ℕ) (n : Fin 2048) : EReal :=
  (∑ k : Fin 256, conv d s t (col (blk n) k) * w (blk n) k (pos n)) + b n
/-- The logarithm of row t's decay. -/
def logA (s : Fin 2) (t : ℕ) (n : Fin 2048) : EReal := logDecay (gate d d.wa d.ba s t n) (d.lam n)
/-- Row t's decay. -/
def decay (s : Fin 2) (t : ℕ) (n : Fin 2048) : EReal := Ideal.exp (logA d s t n)
/-- Row t's input term. -/
def input (s : Fin 2) (t : ℕ) (n : Fin 2048) : EReal :=
  rootK (oneMinus (logA d s t n)) * (Ideal.logistic (gate d d.wx d.bx s t n) * conv d s t n)
/-- The state before row t. -/
def state (s : Fin 2) (n : Fin 2048) : ℕ → EReal
  | 0 => 0
  | t + 1 => decay d s t n * state s n t + input d s t n
/-- Output row t. -/
def out (s : Fin 2) (t : Fin 4096) (n : Fin 2048) : EReal := d.p s t n + ∑ k : Fin 2048, state d s k (t.val + 1) * d.g s t k * d.wo k n
/-- The states after the last eight rows. -/
def last (s : Fin 2) (r : Fin 8) (n : Fin 2048) : EReal := state d s n (4088 + r.val + 1)

end Cert.Lru

end
-- ==== Proof.Lru.Payloads.lean ====
module

public import proofs.«01_k».proof.Proof.Lru.Steps
public import proofs.«01_k».proof.Proof.Lru.Spec
public import Idealize.ShloMosaic.PureOps.Ideal.Laws
public import Idealize.ShloMosaic.Lib.Pipeline.Value
public import Idealize.ShloMosaic.Lib.ValueLayoutCasts
public import Idealize.ShloMosaic.Lib.MatmulPlain
public import Idealize.ShloMosaic.Lib.ValueLayout

/-! What the steps of the recurrence kernel compute at one element, over the extended reals. -/

@[expose] public section

set_option maxRecDepth 16384

noncomputable section

namespace Cert.KernelIdeal.Hand

open Cert.KernelIdeal Cert.KernelIdeal.Gen Cert.Lru
open Idealize.ShloMosaic Idealize.ShloMosaic.TcCoe Idealize.ShloMosaic.ValueIdx

section
variable {α : Type}
theorem colW_apply (x : S256x2048.Idx → α) (n : Fin 8) (r c : Fin 256) : colW x n (ix2 r c) = x (ix2 r (col n c)) := by
  refine congrArg x (funext (Fin.forall_fin_two.mpr ⟨Fin.ext ?_, Fin.ext ?_⟩))
  · show 0 + 1 * r.val = r.val; omega
  · show 256 * n.val + 1 * c.val = 256 * n.val + c.val; omega
theorem extW_apply (x : S264x2048.Idx → α) (o : Fin 9) (n : Fin 8) (r c : Fin 256) : extW x o n (ix2 r c) = x (ix2 ⟨o.val + r.val, by omega⟩ (col n c)) := by
  refine congrArg x (funext (Fin.forall_fin_two.mpr ⟨Fin.ext ?_, Fin.ext ?_⟩))
  · show o.val + 1 * r.val = o.val + r.val; omega
  · show 256 * n.val + 1 * c.val = 256 * n.val + c.val; omega
theorem rowW_apply (x : S1x1x2048.Idx → α) (n : Fin 8) (c : Fin 256) : rowW x n (ix3 0 0 c) = x (ix3 0 0 (col n c)) := by
  refine congrArg x (funext fun a => Fin.ext ?_)
  match a with
  | ⟨0, _⟩ => rfl
  | ⟨1, _⟩ => rfl
  | ⟨2, _⟩ => show 256 * n.val + 1 * c.val = 256 * n.val + c.val; omega
theorem tapW_apply (x : S1x4x2048.Idx → α) (k : Fin 4) (n : Fin 8) (c : Fin 256) : tapW x k n (ix3 0 0 c) = x (ix3 0 k (col n c)) := by
  refine congrArg x (funext fun a => Fin.ext ?_)
  match a with
  | ⟨0, _⟩ => rfl
  | ⟨1, _⟩ => show k.val + 1 * 0 = k.val; omega
  | ⟨2, _⟩ => show 256 * n.val + 1 * c.val = 256 * n.val + c.val; omega
theorem blockW_apply (x : S1x8x256x256.Idx → α) (n : Fin 8) (r c : Fin 256) : blockW x n (ix4 0 0 r c) = x (ix4 0 n r c) := by
  refine congrArg x (funext fun a => Fin.ext ?_)
  match a with
  | ⟨0, _⟩ => rfl
  | ⟨1, _⟩ => show n.val + 1 * 0 = n.val; omega
  | ⟨2, _⟩ => show 0 + 1 * r.val = r.val; omega
  | ⟨3, _⟩ => show 0 + 1 * c.val = c.val; omega
theorem outW_apply (x : S1x2048x2048.Idx → α) (n : Fin 8) (r : Fin 2048) (c : Fin 256) : outW x n (ix3 0 r c) = x (ix3 0 r (col n c)) := by
  refine congrArg x (funext fun a => Fin.ext ?_)
  match a with
  | ⟨0, _⟩ => rfl
  | ⟨1, _⟩ => show 0 + 1 * r.val = r.val; omega
  | ⟨2, _⟩ => show 256 * n.val + 1 * c.val = 256 * n.val + c.val; omega
theorem rowOf_apply (x : S256x2048.Idx → α) (k : ℕ) (hk : k < 256) (n : Fin 2048) : rowOf x k (ix2 0 n) = x (ix2 ⟨k, hk⟩ n) := by
  unfold rowOf
  refine congrArg x (funext (Fin.forall_fin_two.mpr ⟨Fin.ext ?_, rfl⟩))
  exact Nat.mod_eq_of_lt hk
theorem tailW_apply (x : S264x2048.Idx → α) (r : Fin 8) (n : Fin 2048) : tailW x (ix2 r n) = x (ix2 ⟨256 + r.val, by omega⟩ n) := by
  refine congrArg x (funext (Fin.forall_fin_two.mpr ⟨Fin.ext ?_, Fin.ext ?_⟩))
  · show 256 + 1 * r.val = 256 + r.val; omega
  · show 0 + 1 * n.val = n.val; omega
theorem lastW_apply (x : S256x2048.Idx → α) (r : Fin 8) (n : Fin 2048) : lastW x (ix2 r n) = x (ix2 ⟨248 + r.val, by omega⟩ n) := by
  refine congrArg x (funext (Fin.forall_fin_two.mpr ⟨Fin.ext ?_, Fin.ext ?_⟩))
  · show 248 + 1 * r.val = 248 + r.val; omega
  · show 0 + 1 * n.val = n.val; omega
theorem headP_apply (x : S264x2048.Idx → α) (w : S8x2048.Idx → α) (r : Fin 8) (n : Fin 2048) : headP x w (ix2 ⟨r.val, by omega⟩ n) = w (ix2 r n) := by
  unfold headP VecWindow.put
  rw [dif_pos (Fin.forall_fin_two.mpr ⟨⟨Nat.zero_le _, by show r.val < 0 + 8; omega⟩, Nat.zero_le _, by show n.val < 0 + 2048; omega⟩)]
  exact congrArg w (funext (Fin.forall_fin_two.mpr ⟨Fin.ext rfl, Fin.ext rfl⟩))
theorem tileP_head (x : S264x2048.Idx → α) (w : S256x2048.Idx → α) (r : Fin 8) (n : Fin 2048) : tileP x w (ix2 ⟨r.val, by omega⟩ n) = x (ix2 ⟨r.val, by omega⟩ n) := by
  unfold tileP VecWindow.put
  exact dif_neg fun h => by
    have h1 : 8 ≤ r.val := (h (0 : Fin 2)).1
    omega
theorem tileP_tile (x : S264x2048.Idx → α) (w : S256x2048.Idx → α) (r : Fin 256) (n : Fin 2048) : tileP x w (ix2 ⟨8 + r.val, by omega⟩ n) = w (ix2 r n) := by
  unfold tileP VecWindow.put
  rw [dif_pos (Fin.forall_fin_two.mpr ⟨⟨by show 8 ≤ 8 + r.val; omega, by show 8 + r.val < 8 + 256; omega⟩, Nat.zero_le _, by show n.val < 0 + 2048; omega⟩)]
  exact congrArg w (funext (Fin.forall_fin_two.mpr ⟨Fin.ext (by show 8 + r.val - 8 = r.val; omega), Fin.ext rfl⟩))
theorem cols8_apply (f : Fin 8 → S256x256.Idx → α) (r : Fin 256) (n : Fin 2048) : cols8 f (ix2 r n) = f (blk n) (ix2 r (pos n)) := rfl
end

/-- A row of 256 numbers laid over every row of a tile, at an element. -/
theorem bcast_row (x : FVec Ideal S1x1x256 .f32) (h1 : S1x1x256.ShapeCasts S1x256) (h2 : S1x256.Broadcasts S256x256) (r c : Fin 256) :
    broadcastTo S256x256 (shapeCast S1x256 x h1) h2 (ix2 r c) = x (ix3 0 0 c) := by
  rw [broadcastTo_1b_ab_apply (a := 256) (b := 256)]
  exact shapeCast_1ab_ab_apply (a := 1) (b := 256) x h1 0 c

theorem cast_block (x : FVec Ideal S1x1x256x256 .bf16) (h : S1x1x256x256.ShapeCasts S256x256) (r c : Fin 256) :
    shapeCast S256x256 x h (ix2 r c) = x (ix4 0 0 r c) := by
  refine shapeCast_apply (s := S1x1x256x256) (t := S256x256) _ _ (ix2 r c) (ix4 0 0 r c) ?_
  rw [Shape.rowMajor_val_four, Shape.rowMajor_val_two]
  show ((0 * 1 + 0) * 256 + r.val) * 256 + c.val = r.val * 256 + c.val
  omega

/-- A product of 256 by 256 into zeros, at an element. -/
theorem dot256 (h w : FVec Ideal S256x256 .bf16) (r c : Fin 256) :
    matmul dot_S256x256_S256x256_S256x256_1_0_0_1_n_n none h w (constant S256x256 .f32 0x00000000#32) (ix2 r c) = ∑ k : Fin 256, h (ix2 r k) * w (ix2 k c) := by
  refine (Ideal.matmul_plain_apply (M := 256) (K := 256) (N := 256) none h w _ r c).trans ?_
  rw [constant_apply, Ideal.ofBits_zero_f32, zero_add]

/-- The output's product into zeros, at an element. -/
theorem dot2048 (h : FVec Ideal S256x2048 .bf16) (w : FVec Ideal S2048x256 .bf16) (r c : Fin 256) :
    matmul dot_S256x2048_S2048x256_S256x256_1_0_0_1_n_n none h w (constant S256x256 .f32 0x00000000#32) (ix2 r c) = ∑ k : Fin 2048, h (ix2 r k) * w (ix2 k c) := by
  refine (Ideal.matmul_plain_apply (M := 256) (K := 2048) (N := 256) none h w _ r c).trans ?_
  rw [constant_apply, Ideal.ofBits_zero_f32, zero_add]

/-- The convolution's row of the extended tile at a column, newest tap first. -/
def convE (e : FVec Ideal S264x2048 .f32) (w : FVec Ideal S1x4x2048 .f32) (b : FVec Ideal S1x1x2048 .f32) (r : Fin 256) (n : Fin 2048) : EReal :=
  b (ix3 0 0 n) + w (ix3 0 3 n) * e (ix2 ⟨8 + r.val, by omega⟩ n) + w (ix3 0 2 n) * e (ix2 ⟨7 + r.val, by omega⟩ n)
    + w (ix3 0 1 n) * e (ix2 ⟨6 + r.val, by omega⟩ n) + w (ix3 0 0 n) * e (ix2 ⟨5 + r.val, by omega⟩ n)
/-- A gate of the extended tile before its logistic. -/
def gateE (e : FVec Ideal S264x2048 .f32) (w : FVec Ideal S1x4x2048 .f32) (b : FVec Ideal S1x1x2048 .f32) (wa : FVec Ideal S1x8x256x256 .bf16) (ba : FVec Ideal S1x1x2048 .f32) (r : Fin 256) (n : Fin 2048) : EReal :=
  (∑ k : Fin 256, convE e w b r (col (blk n) k) * wa (ix4 0 (blk n) k (pos n))) + ba (ix3 0 0 n)

theorem convB_apply (e : FVec Ideal S264x2048 .f32) (w : FVec Ideal S1x4x2048 .f32) (b : FVec Ideal S1x1x2048 .f32) (q : Fin 8) (r c : Fin 256) :
    convB (F := Ideal) e w b q (ix2 r c) = convE e w b r (col q c) := by
  unfold convB k0_pay8
  simp only [addf_apply, mulf_apply, bcast_row, rowW_apply, tapW_apply, extW_apply]
  rfl

theorem convRB_apply (e : FVec Ideal S264x2048 .f32) (w : FVec Ideal S1x4x2048 .f32) (b : FVec Ideal S1x1x2048 .f32) (q : Fin 8) (r c : Fin 256) :
    convRB (F := Ideal) e w b q (ix2 r c) = convE e w b r (col q c) := convB_apply e w b q r c

theorem gateB_apply (e : FVec Ideal S264x2048 .f32) (w : FVec Ideal S1x4x2048 .f32) (b : FVec Ideal S1x1x2048 .f32) (wa : FVec Ideal S1x8x256x256 .bf16) (q : Fin 8) (r c : Fin 256) :
    gateB (F := Ideal) e w b wa q (ix2 r c) = ∑ k : Fin 256, convE e w b r (col q k) * wa (ix4 0 q k c) := by
  unfold gateB k0_pay10
  refine (dot256 _ _ r c).trans (Finset.sum_congr rfl fun k _ => congrArg₂ _ (convRB_apply e w b q r k) ?_)
  rw [cast_block, blockW_apply]

/-- The decay's logarithm at an element. -/
theorem logA_apply (v : FVec Ideal S256x256 .f32) (ba lam : FVec Ideal S1x1x256 .f32) (r c : Fin 256) :
    k0_pay11 (F := Ideal) v ba lam (ix2 r c) = logDecay (v (ix2 r c) + ba (ix3 0 0 c)) (lam (ix3 0 0 c)) := by
  unfold k0_pay11
  simp only [mulf_apply, broadcastTo_1b_ab_apply (a := 256) (b := 256)]
  refine congrArg₂ _ ?_ ?_
  · exact congrArg Ideal.logistic (congrArg₂ _ rfl (bcast_row ba _ _ r c))
  · have h := shapeCast_1ab_ab_apply (a := 1) (b := 256) lam shapeCasts_S1x1x256_S1x256 0 c
    show eight * (min (shapeCast S1x256 lam _ (ix2 0 c)) (Ideal.ofBits .f32 0#32) - Ideal.log1p (Ideal.exp (Ideal.ofBits .f32 0#32 - max (shapeCast S1x256 lam _ (ix2 0 c)) (-(shapeCast S1x256 lam _ (ix2 0 c)))))) = _
    rw [h, Ideal.ofBits_zero_f32]; rfl

theorem decayB_apply (e : FVec Ideal S264x2048 .f32) (w : FVec Ideal S1x4x2048 .f32) (b : FVec Ideal S1x1x2048 .f32) (wa : FVec Ideal S1x8x256x256 .bf16) (ba lam : FVec Ideal S1x1x2048 .f32) (r : Fin 256) (n : Fin 2048) :
    decays (F := Ideal) e w b wa ba lam (ix2 r n) = Ideal.exp (logDecay (gateE e w b wa ba r n) (lam (ix3 0 0 n))) := by
  unfold decays
  rw [cols8_apply]
  unfold decayB k0_pay15 k0_pay12
  simp only [shapeCast_self]
  refine congrArg Ideal.exp ?_
  rw [logA_apply, gateB_apply, rowW_apply, rowW_apply, col_blk]
  rfl

theorem inputs_apply (e : FVec Ideal S264x2048 .f32) (w : FVec Ideal S1x4x2048 .f32) (b : FVec Ideal S1x1x2048 .f32) (wa : FVec Ideal S1x8x256x256 .bf16) (ba : FVec Ideal S1x1x2048 .f32) (wx : FVec Ideal S1x8x256x256 .bf16) (bx lam : FVec Ideal S1x1x2048 .f32) (r : Fin 256) (n : Fin 2048) :
    inputs (F := Ideal) e w b wa ba wx bx lam (ix2 r n)
      = rootK (oneMinus (logDecay (gateE e w b wa ba r n) (lam (ix3 0 0 n)))) * (Ideal.logistic (gateE e w b wx bx r n) * convE e w b r n) := by
  unfold inputs
  rw [cols8_apply]
  unfold inputB k0_pay16
  simp only [shapeCast_self]
  rw [mulf_apply]
  refine congrArg₂ _ ?_ ?_
  · have h : k0_pay11 (F := Ideal) (gateB e w b wa (blk n)) (rowW ba (blk n)) (rowW lam (blk n)) (ix2 r (pos n)) = logDecay (gateE e w b wa ba r n) (lam (ix3 0 0 n)) := by
      rw [logA_apply, gateB_apply, rowW_apply, rowW_apply, col_blk]; rfl
    rw [← h]
    unfold k0_pay13 k0_pay12
    generalize k0_pay11 (F := Ideal) (gateB e w b wa (blk n)) (rowW ba (blk n)) (rowW lam (blk n)) = y
    have ez : mulf (tanh (subf (broadcast S256x256 (Scalar.ofBits (F := Ideal) .f32 0x00000000#32)) y)) (addf (broadcast S256x256 (Scalar.ofBits (F := Ideal) .f32 0x3F800000#32)) (mulf (exp y) (exp y))) (ix2 r (pos n)) = oneMinus (y (ix2 r (pos n))) := by
      show Ideal.tanh (Ideal.ofBits .f32 0#32 - y _) * (Ideal.ofBits .f32 0x3F800000#32 + Ideal.exp (y _) * Ideal.exp (y _)) = _
      rw [Ideal.ofBits_zero_f32, Ideal.ofBits_one_f32]; rfl
    show select _ _ _ (ix2 r (pos n)) = _
    rw [← ez]
    generalize mulf (tanh (subf (broadcast S256x256 (Scalar.ofBits (F := Ideal) .f32 0x00000000#32)) y)) (addf (broadcast S256x256 (Scalar.ofBits (F := Ideal) .f32 0x3F800000#32)) (mulf (exp y) (exp y))) = z
    show Scalar.select (BitVec.ofBool (decide (Ideal.ofBits .f32 0#32 < z (ix2 r (pos n))))) (z (ix2 r (pos n)) * Ideal.rsqrt (z (ix2 r (pos n)))) (Ideal.ofBits .f32 0#32) = _
    rw [Ideal.ofBits_zero_f32]
    unfold rootK Scalar.select
    by_cases hz : 0 < z (ix2 r (pos n)) <;> simp [hz]
  · unfold k0_pay14
    rw [mulf_apply]
    refine congrArg₂ _ (congrArg Ideal.logistic ?_) ?_
    · refine congrArg₂ _ ((dot256 _ _ r (pos n)).trans (Finset.sum_congr rfl fun k _ => congrArg₂ _ (convRB_apply e w b (blk n) r k) ?_)) ?_
      · rw [cast_block, blockW_apply]
      · rw [bcast_row, rowW_apply, col_blk]
    · rw [convB_apply, col_blk]

theorem outs_apply (x : FVec Ideal S256x2048 .f32) (y : FVec Ideal S256x2048 .bf16) (wo : FVec Ideal S1x2048x2048 .bf16) (r : Fin 256) (n : Fin 2048) :
    outs (F := Ideal) x y wo (ix2 r n) = x (ix2 r n) + ∑ k : Fin 2048, y (ix2 r k) * wo (ix3 0 k n) := by
  unfold outs
  rw [cols8_apply]
  unfold outB k0_pay7
  simp only [shapeCast_self]
  rw [addf_apply]
  refine congrArg₂ _ (by rw [colW_apply, col_blk]) ((dot2048 _ _ r (pos n)).trans (Finset.sum_congr rfl fun k _ => congrArg₂ _ rfl ?_))
  refine (shapeCast_1ab_ab_apply (a := 2048) (b := 256) _ _ k (pos n)).trans ?_
  rw [outW_apply, col_blk]

/-- The state vector one row on, at an element. -/
theorem stateAt_succ (A U : FVec Ideal S256x2048 .f32) (h : FVec Ideal S1x2048 .f32) (k : ℕ) (hk : k < 256) (n : Fin 2048) :
    stateAt (F := Ideal) A U h (k + 1) (ix2 0 n) = A (ix2 ⟨k, hk⟩ n) * stateAt (F := Ideal) A U h k (ix2 0 n) + U (ix2 ⟨k, hk⟩ n) := by
  show k0_pay96 (F := Ideal) _ _ _ (ix2 0 n) = _
  unfold k0_pay96
  simp only [addf_apply, mulf_apply]
  rw [rowOf_apply _ _ hk, rowOf_apply _ _ hk]

/-- The stored rows are the states after them. -/
theorem statesTo_apply (A U : FVec Ideal S256x2048 .f32) (h : FVec Ideal S1x2048 .f32) (r : Fin 256) (n : Fin 2048) :
    statesTo (F := Ideal) A U h 256 (ix2 r n) = stateAt (F := Ideal) A U h (r.val + 1) (ix2 0 n) := by
  unfold statesTo
  rw [if_pos (show r.val < 256 from r.isLt)]
  unfold k0_pay97
  simp only [shapeCast_self]
  rfl

end Cert.KernelIdeal.Hand

end
-- ==== Proof.Lru.Runs.lean ====
module

public import proofs.«01_k».proof.Proof.Lru.Steps

/-! One point of the recurrence kernel's grid, run, for each kind of point. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x4x2048 .f32) (harg4 : arg4.IsWhole) (arg5 : Memref sig .tc .vmem S1x1x2048 .f32) (harg5 : arg5.IsWhole) (arg6 : Memref sig .tc .vmem S1x8x256x256 .bf16) (harg6 : arg6.IsWhole) (arg7 : Memref sig .tc .vmem S1x1x2048 .f32) (harg7 : arg7.IsWhole) (arg8 : Memref sig .tc .vmem S1x8x256x256 .bf16) (harg8 : arg8.IsWhole) (arg9 : Memref sig .tc .vmem S1x1x2048 .f32) (harg9 : arg9.IsWhole) (arg10 : Memref sig .tc .vmem S1x1x2048 .f32) (harg10 : arg10.IsWhole) (arg11 : Memref sig .tc .vmem S1x2048x2048 .bf16) (harg11 : arg11.IsWhole) (arg12 : Memref sig .tc .vmem S256x2048 .f32) (harg12 : arg12.IsWhole) (arg13 : Memref sig .tc .vmem S1x8x2048 .f32) (harg13 : arg13.IsWhole) (arg14 : Memref sig .tc .vmem S264x2048 .f32) (harg14 : arg14.IsWhole) (arg15 : Memref sig .tc .vmem S256x2048 .f32) (harg15 : arg15.IsWhole) (arg16 : Memref sig .tc .vmem S256x2048 .f32) (harg16 : arg16.IsWhole) (arg17 : Memref sig .tc .vmem S1x2048 .f32) (harg17 : arg17.IsWhole) (arg18 : Memref sig .tc .vmem S256x2048 .bf16) (harg18 : arg18.IsWhole)
variable (x1 : Vec F S256x2048 .f32) (x2 : Vec F S256x2048 .f32) (x3 : Vec F S256x2048 .f32) (x4 : Vec F S1x4x2048 .f32) (x5 : Vec F S1x1x2048 .f32) (x6 : Vec F S1x8x256x256 .bf16) (x7 : Vec F S1x1x2048 .f32) (x8 : Vec F S1x8x256x256 .bf16) (x9 : Vec F S1x1x2048 .f32) (x10 : Vec F S1x1x2048 .f32) (x11 : Vec F S1x2048x2048 .bf16) (x12 : Vec F S256x2048 .f32) (x13 : Vec F S1x8x2048 .f32) (x14 : Vec F S264x2048 .f32) (x15 : Vec F S256x2048 .f32) (x16 : Vec F S256x2048 .f32) (x17 : Vec F S1x2048 .f32) (x18 : Vec F S256x2048 .bf16)

/-- The buffers, each at its contents. -/
def held : sProp 𝕄 := iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18)

/-- The buffers, each at its contents, and what is left besides. -/
def heldAnd (R : sProp 𝕄) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ R)

set_option maxHeartbeats 8000000 in
/-- The body at a point of this kind (the first tile): every buffer's contents after it, of the contents before. -/
theorem runA (E : Set ℕ) (K : PUnit → sProp 𝕄) (hc1 : cond1 i = 1#1) (hc2 : cond2 i = 1#1) (hc3 : k0_cond3 i = 1#1) :
    heldAnd c arg1 arg2 arg3 arg4 arg5 arg6 arg7 arg8 arg9 arg10 arg11 arg12 arg13 arg14 arg15 arg16 arg17 arg18 x1 x2 x3 x4 x5 x6 x7 x8 x9 x10 x11 x12 x13 x14 x15 x16 x17 x18
        iprop(held c arg1 arg2 arg3 arg4 arg5 arg6 arg7 arg8 arg9 arg10 arg11 arg12 arg13 arg14 arg15 arg16 arg17 arg18 x1 x2 x3 x4 x5 x6 x7 x8 x9 x10 x11 (outs x3 (k0_pay5 (F := F)) x11) (k0_pay2 (lastW (statesTo (decays (extT (headP x14 (k0_pay3 (F := F))) x1) x4 x5 x6 x7 x10) (inputs (extT (headP x14 (k0_pay3 (F := F))) x1) x4 x5 x6 x7 x8 x9 x10) (k0_pay4 (F := F)) 256))) (extN (extT (headP x14 (k0_pay3 (F := F))) x1)) (decays (extT (headP x14 (k0_pay3 (F := F))) x1) x4 x5 x6 x7 x10) (statesTo (decays (extT (headP x14 (k0_pay3 (F := F))) x1) x4 x5 x6 x7 x10) (inputs (extT (headP x14 (k0_pay3 (F := F))) x1) x4 x5 x6 x7 x8 x9 x10) (k0_pay4 (F := F)) 256) (k0_pay98 (stateAt (decays (extT (headP x14 (k0_pay3 (F := F))) x1) x4 x5 x6 x7 x10) (inputs (extT (headP x14 (k0_pay3 (F := F))) x1) x4 x5 x6 x7 x8 x9 x10) (k0_pay4 (F := F)) 256)) (k0_pay1 (statesTo (decays (extT (headP x14 (k0_pay3 (F := F))) x1) x4 x5 x6 x7 x10) (inputs (extT (headP x14 (k0_pay3 (F := F))) x1) x4 x5 x6 x7 x8 x9 x10) (k0_pay4 (F := F)) 256) x2) -∗ K ⟨⟩)
      ⊢ wp frame (wpE (defs₀ (F := F)) Variants.none c none) E (cc0_lru_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_lru_prompt_eq_skeleton]; unfold cc0_lru_prompt_skel
  simp only [k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold heldAnd held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc1 | sl_exact hc2 | sl_exact hc3)
  sl_step
  have hj := fun w => put_head_tile (arg14.view.read (Elt F) arg14.view.junk) x14 (k0_pay3 (F := F)) w
  have h15 : arg15.view.read (Elt F) (arg15.view.writes (Elt F) arg15.view.junk (runA.sl.H15_8 c arg1 harg1 arg4 harg4 arg5 harg5 arg6 harg6 arg7 harg7 arg10 harg10 arg14 x1 x4 x5 x6 x7 x10)) = (decays (extT (headP x14 (k0_pay3 (F := F))) x1) x4 x5 x6 x7 x10) := by
    sl_unfold_run_names
    refine Eq.trans ?_ (puts8 (arg15.view.read (Elt F) arg15.view.junk) (decayB (extT (headP x14 (k0_pay3 (F := F))) x1) x4 x5 x6 x7 x10))
    simp only [readAt_win, readCov_win, read_cons_put, View.writes_nil, Memref.IsWhole.read_unread, window_all2, put_all2, hj]
    rfl
  have h16 : arg16.view.read (Elt F) (arg16.view.writes (Elt F) arg16.view.junk (runA.sl.H16_8 c arg1 harg1 arg4 harg4 arg5 harg5 arg6 harg6 arg7 harg7 arg8 harg8 arg9 harg9 arg10 harg10 arg14 x1 x4 x5 x6 x7 x8 x9 x10)) = (inputs (extT (headP x14 (k0_pay3 (F := F))) x1) x4 x5 x6 x7 x8 x9 x10) := by
    sl_unfold_run_names
    refine Eq.trans ?_ (puts8 (arg16.view.read (Elt F) arg16.view.junk) (inputB (extT (headP x14 (k0_pay3 (F := F))) x1) x4 x5 x6 x7 x8 x9 x10))
    simp only [readAt_win, readCov_win, read_cons_put, View.writes_nil, Memref.IsWhole.read_unread, window_all2, put_all2, hj]
    rfl
  have h17 : (arg17.view.readCov (Val := Elt F) [⟨Rect.unit (s := S1x2048) ![0, 0] S1x2048.size inb_S1x2048_S1x2048_0_0, k0_pay4 (F := F)⟩] (Rect.unit (s := S1x2048) ![0, 0] S1x2048.size inb_S1x2048_S1x2048_0_0).toLoadRect) = (k0_pay4 (F := F)) := View.readCov_full _ _ _ _ _
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    sl_unfold_run_names
    refine Eq.trans ?_ (puts8 (arg12.view.read (Elt F) arg12.view.junk) (outB x3 (k0_pay5 (F := F)) x11))
    simp only [readAt_win, readCov_win, read_cons_put, View.writes_nil, Memref.IsWhole.read_unread, window_all2, put_all2, hj]
    rfl
  isplitl [H13]
  · iexists _; isplitr; swap; · iexact H13
    ipureintro
    sl_unfold_run_names
    refine (View.read_writes_full _ _ _ _ _).trans ?_
    refine congrArg k0_pay2 ?_
    refine (readCov_win _ _ _).trans ?_
    exact congrArg lastW ((congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2)
  isplitl [H14]
  · iexists _; isplitr; swap; · iexact H14
    ipureintro
    sl_unfold_run_names
    simp only [readAt_win, readCov_win, read_cons_put, View.writes_nil, Memref.IsWhole.read_unread, window_all2, put_all2, hj]
    exact put_tile_head _ _ _ _
  isplitl [H15]
  · iexists _; isplitr; swap; · iexact H15
    ipureintro
    exact h15
  isplitl [H16]
  · iexists _; isplitr; swap; · iexact H16
    ipureintro
    sl_unfold_run_names
    exact (congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2
  isplitl [H17]
  · iexists _; isplitr; swap; · iexact H17
    ipureintro
    sl_unfold_run_names
    refine (View.read_writes_full _ _ _ _ _).trans ?_
    exact congrArg k0_pay98 (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).1
  iexists _; isplitr; swap; · iexact H18
  ipureintro
  sl_unfold_run_names
  refine (View.read_writes_full _ _ _ _ _).trans ?_
  refine congrArg₂ k0_pay1 ?_ ?_
  · refine (readCov_win _ _ _).trans ((window_all2 _ _).trans ?_)
    exact (congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2
  · exact (readAt_win _ _ _).trans ((window_all2 _ _).trans (harg2.read_unread _))

set_option maxHeartbeats 8000000 in
/-- The body at a point of this kind (the first tile of the second sequence): every buffer's contents after it, of the contents before. -/
theorem runB (E : Set ℕ) (K : PUnit → sProp 𝕄) (hc1 : cond1 i = 1#1) (hc2 : ¬ (cond2 i = 1#1)) (hc3 : k0_cond3 i = 1#1) :
    heldAnd c arg1 arg2 arg3 arg4 arg5 arg6 arg7 arg8 arg9 arg10 arg11 arg12 arg13 arg14 arg15 arg16 arg17 arg18 x1 x2 x3 x4 x5 x6 x7 x8 x9 x10 x11 x12 x13 x14 x15 x16 x17 x18
        iprop(held c arg1 arg2 arg3 arg4 arg5 arg6 arg7 arg8 arg9 arg10 arg11 arg12 arg13 arg14 arg15 arg16 arg17 arg18 x1 x2 x3 x4 x5 x6 x7 x8 x9 x10 x11 (outs x3 x18 x11) (k0_pay2 (lastW (statesTo (decays (extT (headP x14 (k0_pay3 (F := F))) x1) x4 x5 x6 x7 x10) (inputs (extT (headP x14 (k0_pay3 (F := F))) x1) x4 x5 x6 x7 x8 x9 x10) (k0_pay4 (F := F)) 256))) (extN (extT (headP x14 (k0_pay3 (F := F))) x1)) (decays (extT (headP x14 (k0_pay3 (F := F))) x1) x4 x5 x6 x7 x10) (statesTo (decays (extT (headP x14 (k0_pay3 (F := F))) x1) x4 x5 x6 x7 x10) (inputs (extT (headP x14 (k0_pay3 (F := F))) x1) x4 x5 x6 x7 x8 x9 x10) (k0_pay4 (F := F)) 256) (k0_pay98 (stateAt (decays (extT (headP x14 (k0_pay3 (F := F))) x1) x4 x5 x6 x7 x10) (inputs (extT (headP x14 (k0_pay3 (F := F))) x1) x4 x5 x6 x7 x8 x9 x10) (k0_pay4 (F := F)) 256)) (k0_pay1 (statesTo (decays (extT (headP x14 (k0_pay3 (F := F))) x1) x4 x5 x6 x7 x10) (inputs (extT (headP x14 (k0_pay3 (F := F))) x1) x4 x5 x6 x7 x8 x9 x10) (k0_pay4 (F := F)) 256) x2) -∗ K ⟨⟩)
      ⊢ wp frame (wpE (defs₀ (F := F)) Variants.none c none) E (cc0_lru_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_lru_prompt_eq_skeleton]; unfold cc0_lru_prompt_skel
  simp only [k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold heldAnd held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc1 | sl_exact hc2 | sl_exact hc3)
  sl_step
  have hj := fun w => put_head_tile (arg14.view.read (Elt F) arg14.view.junk) x14 (k0_pay3 (F := F)) w
  have h15 : arg15.view.read (Elt F) (arg15.view.writes (Elt F) arg15.view.junk (runB.sl.H15_8 c arg1 harg1 arg4 harg4 arg5 harg5 arg6 harg6 arg7 harg7 arg10 harg10 arg14 x1 x4 x5 x6 x7 x10)) = (decays (extT (headP x14 (k0_pay3 (F := F))) x1) x4 x5 x6 x7 x10) := by
    sl_unfold_run_names
    refine Eq.trans ?_ (puts8 (arg15.view.read (Elt F) arg15.view.junk) (decayB (extT (headP x14 (k0_pay3 (F := F))) x1) x4 x5 x6 x7 x10))
    simp only [readAt_win, readCov_win, read_cons_put, View.writes_nil, Memref.IsWhole.read_unread, window_all2, put_all2, hj]
    rfl
  have h16 : arg16.view.read (Elt F) (arg16.view.writes (Elt F) arg16.view.junk (runB.sl.H16_8 c arg1 harg1 arg4 harg4 arg5 harg5 arg6 harg6 arg7 harg7 arg8 harg8 arg9 harg9 arg10 harg10 arg14 x1 x4 x5 x6 x7 x8 x9 x10)) = (inputs (extT (headP x14 (k0_pay3 (F := F))) x1) x4 x5 x6 x7 x8 x9 x10) := by
    sl_unfold_run_names
    refine Eq.trans ?_ (puts8 (arg16.view.read (Elt F) arg16.view.junk) (inputB (extT (headP x14 (k0_pay3 (F := F))) x1) x4 x5 x6 x7 x8 x9 x10))
    simp only [readAt_win, readCov_win, read_cons_put, View.writes_nil, Memref.IsWhole.read_unread, window_all2, put_all2, hj]
    rfl
  have h17 : (arg17.view.readCov (Val := Elt F) [⟨Rect.unit (s := S1x2048) ![0, 0] S1x2048.size inb_S1x2048_S1x2048_0_0, k0_pay4 (F := F)⟩] (Rect.unit (s := S1x2048) ![0, 0] S1x2048.size inb_S1x2048_S1x2048_0_0).toLoadRect) = (k0_pay4 (F := F)) := View.readCov_full _ _ _ _ _
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    sl_unfold_run_names
    refine Eq.trans ?_ (puts8 (arg12.view.read (Elt F) arg12.view.junk) (outB x3 x18 x11))
    simp only [readAt_win, readCov_win, read_cons_put, View.writes_nil, Memref.IsWhole.read_unread, window_all2, put_all2, hj]
    rfl
  isplitl [H13]
  · iexists _; isplitr; swap; · iexact H13
    ipureintro
    sl_unfold_run_names
    refine (View.read_writes_full _ _ _ _ _).trans ?_
    refine congrArg k0_pay2 ?_
    refine (readCov_win _ _ _).trans ?_
    exact congrArg lastW ((congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2)
  isplitl [H14]
  · iexists _; isplitr; swap; · iexact H14
    ipureintro
    sl_unfold_run_names
    simp only [readAt_win, readCov_win, read_cons_put, View.writes_nil, Memref.IsWhole.read_unread, window_all2, put_all2, hj]
    exact put_tile_head _ _ _ _
  isplitl [H15]
  · iexists _; isplitr; swap; · iexact H15
    ipureintro
    exact h15
  isplitl [H16]
  · iexists _; isplitr; swap; · iexact H16
    ipureintro
    sl_unfold_run_names
    exact (congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2
  isplitl [H17]
  · iexists _; isplitr; swap; · iexact H17
    ipureintro
    sl_unfold_run_names
    refine (View.read_writes_full _ _ _ _ _).trans ?_
    exact congrArg k0_pay98 (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).1
  iexists _; isplitr; swap; · iexact H18
  ipureintro
  sl_unfold_run_names
  refine (View.read_writes_full _ _ _ _ _).trans ?_
  refine congrArg₂ k0_pay1 ?_ ?_
  · refine (readCov_win _ _ _).trans ((window_all2 _ _).trans ?_)
    exact (congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2
  · exact (readAt_win _ _ _).trans ((window_all2 _ _).trans (harg2.read_unread _))

set_option maxHeartbeats 8000000 in
/-- The body at a point of this kind (the point after the last tile): every buffer's contents after it, of the contents before. -/
theorem runC (E : Set ℕ) (K : PUnit → sProp 𝕄) (hc1 : cond1 i = 1#1) (hc2 : ¬ (cond2 i = 1#1)) (hc3 : ¬ (k0_cond3 i = 1#1)) :
    heldAnd c arg1 arg2 arg3 arg4 arg5 arg6 arg7 arg8 arg9 arg10 arg11 arg12 arg13 arg14 arg15 arg16 arg17 arg18 x1 x2 x3 x4 x5 x6 x7 x8 x9 x10 x11 x12 x13 x14 x15 x16 x17 x18
        iprop(held c arg1 arg2 arg3 arg4 arg5 arg6 arg7 arg8 arg9 arg10 arg11 arg12 arg13 arg14 arg15 arg16 arg17 arg18 x1 x2 x3 x4 x5 x6 x7 x8 x9 x10 x11 (outs x3 x18 x11) x13 (extN (extT (headP x14 (k0_pay3 (F := F))) x1)) (decays (extT (headP x14 (k0_pay3 (F := F))) x1) x4 x5 x6 x7 x10) (statesTo (decays (extT (headP x14 (k0_pay3 (F := F))) x1) x4 x5 x6 x7 x10) (inputs (extT (headP x14 (k0_pay3 (F := F))) x1) x4 x5 x6 x7 x8 x9 x10) (k0_pay4 (F := F)) 256) (k0_pay98 (stateAt (decays (extT (headP x14 (k0_pay3 (F := F))) x1) x4 x5 x6 x7 x10) (inputs (extT (headP x14 (k0_pay3 (F := F))) x1) x4 x5 x6 x7 x8 x9 x10) (k0_pay4 (F := F)) 256)) (k0_pay1 (statesTo (decays (extT (headP x14 (k0_pay3 (F := F))) x1) x4 x5 x6 x7 x10) (inputs (extT (headP x14 (k0_pay3 (F := F))) x1) x4 x5 x6 x7 x8 x9 x10) (k0_pay4 (F := F)) 256) x2) -∗ K ⟨⟩)
      ⊢ wp frame (wpE (defs₀ (F := F)) Variants.none c none) E (cc0_lru_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_lru_prompt_eq_skeleton]; unfold cc0_lru_prompt_skel
  simp only [k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold heldAnd held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc1 | sl_exact hc2 | sl_exact hc3)
  sl_step
  have hj := fun w => put_head_tile (arg14.view.read (Elt F) arg14.view.junk) x14 (k0_pay3 (F := F)) w
  have h15 : arg15.view.read (Elt F) (arg15.view.writes (Elt F) arg15.view.junk (runC.sl.H15_8 c arg1 harg1 arg4 harg4 arg5 harg5 arg6 harg6 arg7 harg7 arg10 harg10 arg14 x1 x4 x5 x6 x7 x10)) = (decays (extT (headP x14 (k0_pay3 (F := F))) x1) x4 x5 x6 x7 x10) := by
    sl_unfold_run_names
    refine Eq.trans ?_ (puts8 (arg15.view.read (Elt F) arg15.view.junk) (decayB (extT (headP x14 (k0_pay3 (F := F))) x1) x4 x5 x6 x7 x10))
    simp only [readAt_win, readCov_win, read_cons_put, View.writes_nil, Memref.IsWhole.read_unread, window_all2, put_all2, hj]
    rfl
  have h16 : arg16.view.read (Elt F) (arg16.view.writes (Elt F) arg16.view.junk (runC.sl.H16_8 c arg1 harg1 arg4 harg4 arg5 harg5 arg6 harg6 arg7 harg7 arg8 harg8 arg9 harg9 arg10 harg10 arg14 x1 x4 x5 x6 x7 x8 x9 x10)) = (inputs (extT (headP x14 (k0_pay3 (F := F))) x1) x4 x5 x6 x7 x8 x9 x10) := by
    sl_unfold_run_names
    refine Eq.trans ?_ (puts8 (arg16.view.read (Elt F) arg16.view.junk) (inputB (extT (headP x14 (k0_pay3 (F := F))) x1) x4 x5 x6 x7 x8 x9 x10))
    simp only [readAt_win, readCov_win, read_cons_put, View.writes_nil, Memref.IsWhole.read_unread, window_all2, put_all2, hj]
    rfl
  have h17 : (arg17.view.readCov (Val := Elt F) [⟨Rect.unit (s := S1x2048) ![0, 0] S1x2048.size inb_S1x2048_S1x2048_0_0, k0_pay4 (F := F)⟩] (Rect.unit (s := S1x2048) ![0, 0] S1x2048.size inb_S1x2048_S1x2048_0_0).toLoadRect) = (k0_pay4 (F := F)) := View.readCov_full _ _ _ _ _
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    sl_unfold_run_names
    refine Eq.trans ?_ (puts8 (arg12.view.read (Elt F) arg12.view.junk) (outB x3 x18 x11))
    simp only [readAt_win, readCov_win, read_cons_put, View.writes_nil, Memref.IsWhole.read_unread, window_all2, put_all2, hj]
    rfl
  isplitl [H13]
  · iexists _; isplitr; · ipureintro; exact harg13.read_unread _
    iexact H13
  isplitl [H14]
  · iexists _; isplitr; swap; · iexact H14
    ipureintro
    sl_unfold_run_names
    simp only [readAt_win, readCov_win, read_cons_put, View.writes_nil, Memref.IsWhole.read_unread, window_all2, put_all2, hj]
    exact put_tile_head _ _ _ _
  isplitl [H15]
  · iexists _; isplitr; swap; · iexact H15
    ipureintro
    exact h15
  isplitl [H16]
  · iexists _; isplitr; swap; · iexact H16
    ipureintro
    sl_unfold_run_names
    exact (congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2
  isplitl [H17]
  · iexists _; isplitr; swap; · iexact H17
    ipureintro
    sl_unfold_run_names
    refine (View.read_writes_full _ _ _ _ _).trans ?_
    exact congrArg k0_pay98 (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).1
  iexists _; isplitr; swap; · iexact H18
  ipureintro
  sl_unfold_run_names
  refine (View.read_writes_full _ _ _ _ _).trans ?_
  refine congrArg₂ k0_pay1 ?_ ?_
  · refine (readCov_win _ _ _).trans ((window_all2 _ _).trans ?_)
    exact (congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2
  · exact (readAt_win _ _ _).trans ((window_all2 _ _).trans (harg2.read_unread _))

set_option maxHeartbeats 8000000 in
/-- The body at a point of this kind (a tile inside a sequence): every buffer's contents after it, of the contents before. -/
theorem runD (E : Set ℕ) (K : PUnit → sProp 𝕄) (hc1 : ¬ (cond1 i = 1#1)) (hc2 : ¬ (cond2 i = 1#1)) (hc3 : k0_cond3 i = 1#1) :
    heldAnd c arg1 arg2 arg3 arg4 arg5 arg6 arg7 arg8 arg9 arg10 arg11 arg12 arg13 arg14 arg15 arg16 arg17 arg18 x1 x2 x3 x4 x5 x6 x7 x8 x9 x10 x11 x12 x13 x14 x15 x16 x17 x18
        iprop(held c arg1 arg2 arg3 arg4 arg5 arg6 arg7 arg8 arg9 arg10 arg11 arg12 arg13 arg14 arg15 arg16 arg17 arg18 x1 x2 x3 x4 x5 x6 x7 x8 x9 x10 x11 (outs x3 x18 x11) (k0_pay2 (lastW (statesTo (decays (extT x14 x1) x4 x5 x6 x7 x10) (inputs (extT x14 x1) x4 x5 x6 x7 x8 x9 x10) x17 256))) (extN (extT x14 x1)) (decays (extT x14 x1) x4 x5 x6 x7 x10) (statesTo (decays (extT x14 x1) x4 x5 x6 x7 x10) (inputs (extT x14 x1) x4 x5 x6 x7 x8 x9 x10) x17 256) (k0_pay98 (stateAt (decays (extT x14 x1) x4 x5 x6 x7 x10) (inputs (extT x14 x1) x4 x5 x6 x7 x8 x9 x10) x17 256)) (k0_pay1 (statesTo (decays (extT x14 x1) x4 x5 x6 x7 x10) (inputs (extT x14 x1) x4 x5 x6 x7 x8 x9 x10) x17 256) x2) -∗ K ⟨⟩)
      ⊢ wp frame (wpE (defs₀ (F := F)) Variants.none c none) E (cc0_lru_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_lru_prompt_eq_skeleton]; unfold cc0_lru_prompt_skel
  simp only [k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold heldAnd held owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc1 | sl_exact hc2 | sl_exact hc3)
  sl_step
  have hj := fun w o inb => window_tile8 (arg14.view.read (Elt F) arg14.view.junk) x14 w o inb
  have hj2 := fun w inb => window_tile256 (arg14.view.read (Elt F) arg14.view.junk) x14 w inb
  have h15 : arg15.view.read (Elt F) (arg15.view.writes (Elt F) arg15.view.junk (runD.sl.H15_8 c arg1 harg1 arg4 harg4 arg5 harg5 arg6 harg6 arg7 harg7 arg10 harg10 arg14 harg14 x1 x4 x5 x6 x7 x10 x14)) = (decays (extT x14 x1) x4 x5 x6 x7 x10) := by
    sl_unfold_run_names
    refine Eq.trans ?_ (puts8 (arg15.view.read (Elt F) arg15.view.junk) (decayB (extT x14 x1) x4 x5 x6 x7 x10))
    simp only [readAt_win, readCov_win, read_cons_put, View.writes_nil, Memref.IsWhole.read_unread, window_all2, put_all2, hj, hj2]
    rfl
  have h16 : arg16.view.read (Elt F) (arg16.view.writes (Elt F) arg16.view.junk (runD.sl.H16_8 c arg1 harg1 arg4 harg4 arg5 harg5 arg6 harg6 arg7 harg7 arg8 harg8 arg9 harg9 arg10 harg10 arg14 harg14 x1 x4 x5 x6 x7 x8 x9 x10 x14)) = (inputs (extT x14 x1) x4 x5 x6 x7 x8 x9 x10) := by
    sl_unfold_run_names
    refine Eq.trans ?_ (puts8 (arg16.view.read (Elt F) arg16.view.junk) (inputB (extT x14 x1) x4 x5 x6 x7 x8 x9 x10))
    simp only [readAt_win, readCov_win, read_cons_put, View.writes_nil, Memref.IsWhole.read_unread, window_all2, put_all2, hj, hj2]
    rfl
  have h17 : (arg17.view.readAt (Elt F) (Rect.unit (s := S1x2048) ![0, 0] S1x2048.size inb_S1x2048_S1x2048_0_0).toLoadRect (harg17.unread x17)) = x17 := (readAt_win _ _ _).trans ((window_all2 _ _).trans (harg17.read_unread _))
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    sl_unfold_run_names
    refine Eq.trans ?_ (puts8 (arg12.view.read (Elt F) arg12.view.junk) (outB x3 x18 x11))
    simp only [readAt_win, readCov_win, read_cons_put, View.writes_nil, Memref.IsWhole.read_unread, window_all2, put_all2, hj, hj2]
    rfl
  isplitl [H13]
  · iexists _; isplitr; swap; · iexact H13
    ipureintro
    sl_unfold_run_names
    refine (View.read_writes_full _ _ _ _ _).trans ?_
    refine congrArg k0_pay2 ?_
    refine (readCov_win _ _ _).trans ?_
    exact congrArg lastW ((congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2)
  isplitl [H14]
  · iexists _; isplitr; swap; · iexact H14
    ipureintro
    sl_unfold_run_names
    simp only [readAt_win, readCov_win, read_cons_put, View.writes_nil, Memref.IsWhole.read_unread, window_all2, put_all2, hj, hj2]
    exact put_tile_head _ _ _ _
  isplitl [H15]
  · iexists _; isplitr; swap; · iexact H15
    ipureintro
    exact h15
  isplitl [H16]
  · iexists _; isplitr; swap; · iexact H16
    ipureintro
    sl_unfold_run_names
    exact (congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2
  isplitl [H17]
  · iexists _; isplitr; swap; · iexact H17
    ipureintro
    sl_unfold_run_names
    refine (View.read_writes_full _ _ _ _ _).trans ?_
    exact congrArg k0_pay98 (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).1
  iexists _; isplitr; swap; · iexact H18
  ipureintro
  sl_unfold_run_names
  refine (View.read_writes_full _ _ _ _ _).trans ?_
  refine congrArg₂ k0_pay1 ?_ ?_
  · refine (readCov_win _ _ _).trans ((window_all2 _ _).trans ?_)
    exact (congrArg (arg16.view.read (Elt F)) (View.writes_append _ _ _ _)).trans (loop_all arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c i _ _ _ _ _ _ h15 h16 h17).2
  · exact (readAt_win _ _ _).trans ((window_all2 _ _).trans (harg2.read_unread _))

end Cert.KernelIdeal.Hand

end
-- ==== Proof.Lru.Frame.lean ====
module

public import proofs.«01_k».proof.Proof.Lru.Runs
public import Idealize.ShloMosaic.Lib.Claim
public import Idealize.ShloMosaic.Lib.Pipeline.TableIdle

/-! What the recurrence kernel keeps from one point of its grid to the next, its body at any point, and the run of
the whole program. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- Condition 1 of the body holds at the first tile of each sequence. -/
theorem cond1_iff : ∀ t : Fin grid0.N, (cond1 (grid0.coords t) = 1#1) ↔ t.val % 16 = 0 := by
  decide +kernel
/-- Condition 2 of the body holds at the first point. -/
theorem cond2_iff : ∀ t : Fin grid0.N, (cond2 (grid0.coords t) = 1#1) ↔ t.val = 0 := by
  decide +kernel
/-- Condition 3 of the body holds at every tile. -/
theorem cond3_iff : ∀ t : Fin grid0.N, (k0_cond3 (grid0.coords t) = 1#1) ↔ t.val < 32 := by
  decide +kernel

/-! ## The state the kernel carries -/

/-- What the kernel's buffers hold between points: the output rows, the last states, the extended tile, the decays, the states, the
state after the tile, the gated states. -/
structure St (F : FTy → Type) where
  o : Vec F S256x2048 .f32
  l : Vec F S1x8x2048 .f32
  e : Vec F S264x2048 .f32
  a : Vec F S256x2048 .f32
  u : Vec F S256x2048 .f32
  h : Vec F S1x2048 .f32
  y : Vec F S256x2048 .bf16

/-- The extended tile a point works on: at the first tile of a sequence there are zeros in front. -/
def stepE (n : ℕ) (x1 : Vec F S256x2048 .f32) (e : Vec F S264x2048 .f32) : Vec F S264x2048 .f32 := extT (if n % 16 = 0 then headP e (k0_pay3 (F := F)) else e) x1
/-- The decays of a point's tile. -/
def stepA (n : ℕ) (x1 : Vec F S256x2048 .f32) (x4 : Vec F S1x4x2048 .f32) (x5 : Vec F S1x1x2048 .f32) (x6 : Vec F S1x8x256x256 .bf16) (x7 x10 : Vec F S1x1x2048 .f32) (e : Vec F S264x2048 .f32) : Vec F S256x2048 .f32 :=
  decays (stepE n x1 e) x4 x5 x6 x7 x10
/-- The input terms of a point's tile. -/
def stepU (n : ℕ) (x1 : Vec F S256x2048 .f32) (x4 : Vec F S1x4x2048 .f32) (x5 : Vec F S1x1x2048 .f32) (x6 : Vec F S1x8x256x256 .bf16) (x7 : Vec F S1x1x2048 .f32) (x8 : Vec F S1x8x256x256 .bf16) (x9 x10 : Vec F S1x1x2048 .f32) (e : Vec F S264x2048 .f32) : Vec F S256x2048 .f32 :=
  inputs (stepE n x1 e) x4 x5 x6 x7 x8 x9 x10
/-- The state before a point's tile: zero at the first tile of a sequence. -/
def stepH (n : ℕ) (h : Vec F S1x2048 .f32) : Vec F S1x2048 .f32 := if n % 16 = 0 then k0_pay4 (F := F) else h
/-- The gated states the output rows are made of: zero at the first point. -/
def stepY (n : ℕ) (y : Vec F S256x2048 .bf16) : Vec F S256x2048 .bf16 := if n = 0 then k0_pay5 (F := F) else y

/-- One point: the output rows of the tile before, the decays and input terms of this tile, its states row by row, and the gated states;
the last states are stored except at the point after the last tile. -/
def step (n : ℕ) (x1 : Vec F S256x2048 .f32) (x2 : Vec F S256x2048 .f32) (x3 : Vec F S256x2048 .f32) (x4 : Vec F S1x4x2048 .f32) (x5 : Vec F S1x1x2048 .f32) (x6 : Vec F S1x8x256x256 .bf16) (x7 : Vec F S1x1x2048 .f32) (x8 : Vec F S1x8x256x256 .bf16) (x9 : Vec F S1x1x2048 .f32) (x10 : Vec F S1x1x2048 .f32) (x11 : Vec F S1x2048x2048 .bf16) (s : St F) : St F :=
  ⟨outs x3 (stepY n s.y) x11,
    if n < 32 then k0_pay2 (lastW (statesTo (stepA n x1 x4 x5 x6 x7 x10 s.e) (stepU n x1 x4 x5 x6 x7 x8 x9 x10 s.e) (stepH n s.h) 256)) else s.l,
    extN (stepE n x1 s.e),
    stepA n x1 x4 x5 x6 x7 x10 s.e,
    statesTo (stepA n x1 x4 x5 x6 x7 x10 s.e) (stepU n x1 x4 x5 x6 x7 x8 x9 x10 s.e) (stepH n s.h) 256,
    k0_pay98 (stateAt (stepA n x1 x4 x5 x6 x7 x10 s.e) (stepU n x1 x4 x5 x6 x7 x8 x9 x10 s.e) (stepH n s.h) 256),
    k0_pay1 (statesTo (stepA n x1 x4 x5 x6 x7 x10 s.e) (stepU n x1 x4 x5 x6 x7 x8 x9 x10 s.e) (stepH n s.h) 256) x2⟩

variable (m : (ℓ : Loc nD τ sig) → Buf (Elt F) ℓ) (ρ : Dev nD → PrngReg)

/-- One point on the blocks the windows bring there. -/
def stepAt (c : Dev nD) (t : Fin cfg0.N) (s : St F) : St F :=
  step t.val (iblk m c 0 t) (iblk m c 1 t) (iblk m c 2 t) (iblk m c 3 t) (iblk m c 4 t) (iblk m c 5 t) (iblk m c 6 t) (iblk m c 7 t) (iblk m c 8 t) (iblk m c 9 t) (iblk m c 10 t) s

/-- A state to start from; nothing of it is read. -/
def stInit : St F := ⟨fun _ => Scalar.ofBits .f32 0#32, fun _ => Scalar.ofBits .f32 0#32, fun _ => Scalar.ofBits .f32 0#32, fun _ => Scalar.ofBits .f32 0#32, fun _ => Scalar.ofBits .f32 0#32, k0_pay4 (F := F), k0_pay5 (F := F)⟩

/-- The state after point `n`. -/
def stAt (c : Dev nD) : (n : ℕ) → n < cfg0.N → St F
  | 0, h => stepAt m c ⟨0, h⟩ stInit
  | n + 1, h => stepAt m c ⟨n + 1, h⟩ (stAt c n (Nat.lt_of_succ_lt h))

/-- The state before point `n`. -/
def stBefore (c : Dev nD) : (n : ℕ) → n ≤ cfg0.N → St F
  | 0, _ => stInit
  | n + 1, h => stAt m c n h

theorem stAt_eq (c : Dev nD) (t : Fin cfg0.N) : stAt m c t.val t.isLt = stepAt m c t (stBefore m c t.val (Nat.le_of_lt t.isLt)) := by
  obtain ⟨n, hn⟩ := t
  cases n with
  | zero => rfl
  | succ n => rfl

theorem stBefore_pos (c : Dev nD) (n : ℕ) (h : n ≤ cfg0.N) (hn : n ≠ 0) : stBefore m c n h = stAt m c (n - 1) (by omega) := by
  cases n with
  | zero => exact absurd rfl hn
  | succ n => rfl

/-- Window 0's staging buffer at a point. -/
abbrev ms0 (t : Fin cfg0.N) : Memref sig .tc .vmem S256x2048 .f32 := win0_0.stage (cfg0.slots t 0)
/-- Window 1's staging buffer at a point. -/
abbrev ms1 (t : Fin cfg0.N) : Memref sig .tc .vmem S256x2048 .f32 := win0_1.stage (cfg0.slots t 1)
/-- Window 2's staging buffer at a point. -/
abbrev ms2 (t : Fin cfg0.N) : Memref sig .tc .vmem S256x2048 .f32 := win0_2.stage (cfg0.slots t 2)
/-- Window 3's staging buffer at a point. -/
abbrev ms3 (t : Fin cfg0.N) : Memref sig .tc .vmem S1x4x2048 .f32 := win0_3.stage (cfg0.slots t 3)
/-- Window 4's staging buffer at a point. -/
abbrev ms4 (t : Fin cfg0.N) : Memref sig .tc .vmem S1x1x2048 .f32 := win0_4.stage (cfg0.slots t 4)
/-- Window 5's staging buffer at a point. -/
abbrev ms5 (t : Fin cfg0.N) : Memref sig .tc .vmem S1x8x256x256 .bf16 := win0_5.stage (cfg0.slots t 5)
/-- Window 6's staging buffer at a point. -/
abbrev ms6 (t : Fin cfg0.N) : Memref sig .tc .vmem S1x1x2048 .f32 := win0_6.stage (cfg0.slots t 6)
/-- Window 7's staging buffer at a point. -/
abbrev ms7 (t : Fin cfg0.N) : Memref sig .tc .vmem S1x8x256x256 .bf16 := win0_7.stage (cfg0.slots t 7)
/-- Window 8's staging buffer at a point. -/
abbrev ms8 (t : Fin cfg0.N) : Memref sig .tc .vmem S1x1x2048 .f32 := win0_8.stage (cfg0.slots t 8)
/-- Window 9's staging buffer at a point. -/
abbrev ms9 (t : Fin cfg0.N) : Memref sig .tc .vmem S1x1x2048 .f32 := win0_9.stage (cfg0.slots t 9)
/-- Window 10's staging buffer at a point. -/
abbrev ms10 (t : Fin cfg0.N) : Memref sig .tc .vmem S1x2048x2048 .bf16 := win0_10.stage (cfg0.slots t 10)
/-- Window 11's staging buffer at a point. -/
abbrev ms11 (t : Fin cfg0.N) : Memref sig .tc .vmem S256x2048 .f32 := win0_11.stage (cfg0.slots t 11)
/-- Window 12's staging buffer at a point. -/
abbrev ms12 (t : Fin cfg0.N) : Memref sig .tc .vmem S1x8x2048 .f32 := win0_12.stage (cfg0.slots t 12)
/-- The buffer of the extended tile. -/
abbrev scE : Memref sig .tc .vmem S264x2048 .f32 := Memref.whole cc0_scratch0
/-- The buffer of the decays. -/
abbrev scA : Memref sig .tc .vmem S256x2048 .f32 := Memref.whole cc0_scratch1
/-- The buffer of the input terms and the states. -/
abbrev scU : Memref sig .tc .vmem S256x2048 .f32 := Memref.whole cc0_scratch2
/-- The buffer of the state after the tile. -/
abbrev scH : Memref sig .tc .vmem S1x2048 .f32 := Memref.whole cc0_scratch3
/-- The buffer of the gated states. -/
abbrev scY : Memref sig .tc .vmem S256x2048 .bf16 := Memref.whole cc0_scratch4

/-- With zeros in front the extended tile does not depend on what was there. -/
theorem extT_head (e e' : Vec F S264x2048 .f32) (p : Vec F S8x2048 .f32) (x1 : Vec F S256x2048 .f32) : extT (headP e p) x1 = extT (headP e' p) x1 :=
  put_head_tile e e' p (k0_pay6 x1)

set_option maxHeartbeats 4000000 in
/-- The body at any point: it takes the kept buffers from their state before the point to their state after it. Nothing is asked of
what a buffer holds where the point does not read it. -/
theorem run_point (c : Dev nD) (t : Fin cfg0.N) (s : St F) (y12 : Vec F S256x2048 .f32) (y13 : Vec F S1x8x2048 .f32) (y14 : Vec F S264x2048 .f32) (y15 y16 : Vec F S256x2048 .f32) (y17 : Vec F S1x2048 .f32) (y18 : Vec F S256x2048 .bf16)
    (h13 : ¬ t.val < 32 → y13 = s.l) (h14 : t.val ≠ 0 → y14 = s.e) (h17 : t.val ≠ 0 → y17 = s.h) (h18 : t.val ≠ 0 → y18 = s.y) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare y12 ∗ owns (c : Thread nD τ) (ms12 t) fullShare y13 ∗ owns (c : Thread nD τ) scE fullShare y14 ∗ owns (c : Thread nD τ) scA fullShare y15 ∗ owns (c : Thread nD τ) scU fullShare y16 ∗ owns (c : Thread nD τ) scH fullShare y17 ∗ owns (c : Thread nD τ) scY fullShare y18 ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (stepAt m c t s).o ∗ owns (c : Thread nD τ) (ms12 t) fullShare (stepAt m c t s).l ∗ owns (c : Thread nD τ) scE fullShare (stepAt m c t s).e ∗ owns (c : Thread nD τ) scA fullShare (stepAt m c t s).a ∗ owns (c : Thread nD τ) scU fullShare (stepAt m c t s).u ∗ owns (c : Thread nD τ) scH fullShare (stepAt m c t s).h ∗ owns (c : Thread nD τ) scY fullShare (stepAt m c t s).y) -∗ K ⟨⟩))
      ⊢ wp frame (wpE (defs₀ (F := F)) Variants.none c none) Set.univ (bodyAt0 t) K := by
  have hN : t.val < 33 := lt_of_lt_of_eq t.isLt (show cfg0.N = 33 from N_0)
  by_cases h0 : t.val = 0
  · have h1 : t.val % 16 = 0 := by omega
    have h2 : t.val < 32 := by omega
    unfold stepAt step stepA stepU stepE stepH stepY
    simp only [if_pos h0, if_pos h1, if_pos h2]
    rw [extT_head s.e y14]
    exact runA c (grid0.coords t) _ _ _ _ _ _ _ _ _ _ _ _ _ _ _ _ _ _ _ _ _ _ _ _ _ _ _ _ _ _ _ _ _ _ _ _ _ _ _ _ _ _ _ _ _ _ _ _ _ _ _ _ _ _ Set.univ K ((cond1_iff t).mpr h1) ((cond2_iff t).mpr h0) ((cond3_iff t).mpr h2)
  · obtain rfl := h14 h0
    obtain rfl := h17 h0
    obtain rfl := h18 h0
    by_cases h1 : t.val % 16 = 0
    · by_cases h2 : t.val < 32
      · unfold stepAt step stepA stepU stepE stepH stepY
        simp only [if_neg h0, if_pos h1, if_pos h2]
        exact runB c (grid0.coords t) _ _ _ _ _ _ _ _ _ _ _ _ _ _ _ _ _ _ _ _ _ _ _ _ _ _ _ _ _ _ _ _ _ _ _ _ _ _ _ _ _ _ _ _ _ _ _ _ _ _ _ _ _ _ Set.univ K ((cond1_iff t).mpr h1) (fun h => h0 ((cond2_iff t).mp h)) ((cond3_iff t).mpr h2)
      · obtain rfl := h13 h2
        unfold stepAt step stepA stepU stepE stepH stepY
        simp only [if_neg h0, if_pos h1, if_neg h2]
        exact runC c (grid0.coords t) _ _ _ _ _ _ _ _ _ _ _ _ _ _ _ _ _ _ _ _ _ _ _ _ _ _ _ _ _ _ _ _ _ _ _ _ _ _ _ _ _ _ _ _ _ _ _ _ _ _ _ _ _ _ Set.univ K ((cond1_iff t).mpr h1) (fun h => h0 ((cond2_iff t).mp h)) (fun h => h2 ((cond3_iff t).mp h))
    · have h2 : t.val < 32 := by omega
      unfold stepAt step stepA stepU stepE stepH stepY
      simp only [if_neg h0, if_neg h1, if_pos h2]
      exact runD c (grid0.coords t) _ _ _ _ _ _ _ _ _ _ _ _ _ _ _ _ _ _ _ _ _ _ _ _ _ _ _ _ _ _ _ _ _ _ _ _ _ _ _ _ _ _ _ _ _ _ _ _ _ _ _ _ _ _ Set.univ K (fun h => h1 ((cond1_iff t).mp h)) (fun h => h0 ((cond2_iff t).mp h)) ((cond3_iff t).mpr h2)

/-! ## What the buffers hold between points -/

/-- The kernel's own scoped buffers, each held at some contents, with the generator's register: what it is given at the first point. -/
theorem given_eq (c : Dev nD) :
    (Pipeline.ΦA spec0 c : sProp 𝕄)
      = iprop(iprop((∃ d, owns (c : Thread nD τ) scE fullShare d) ∗ (∃ d, owns (c : Thread nD τ) scA fullShare d) ∗ (∃ d, owns (c : Thread nD τ) scU fullShare d) ∗ (∃ d, owns (c : Thread nD τ) scH fullShare d) ∗ (∃ d, owns (c : Thread nD τ) scY fullShare d)) ∗ (∃ r, prngReg c r)) := by
  unfold Pipeline.ΦA; rw [scopedRest0_eq]; simp only [scE, scA, scU, scH, scY, owns_whole]; try rfl

/-- What is known before point `n`: nothing at the first, afterwards that the kept buffers are the state's. -/
def keep (c : Dev nD) : (n : ℕ) → n ≤ cfg0.N → sProp 𝕄
  | 0, _ => Pipeline.ΦA spec0 c
  | n + 1, h => iprop(iprop(owns (c : Thread nD τ) scE fullShare (stAt m c n h).e ∗ owns (c : Thread nD τ) scA fullShare (stAt m c n h).a ∗ owns (c : Thread nD τ) scU fullShare (stAt m c n h).u ∗ owns (c : Thread nD τ) scH fullShare (stAt m c n h).h ∗ owns (c : Thread nD τ) scY fullShare (stAt m c n h).y) ∗ (∃ r, prngReg c r))

theorem keep_zero (c : Dev nD) (n : ℕ) (h : n ≤ cfg0.N) (hz : n = 0) : keep m c n h = Pipeline.ΦA spec0 c := by
  subst hz; rfl

theorem keep_succ (c : Dev nD) (n : ℕ) (h : n < cfg0.N) :
    keep m c (n + 1) h = iprop(iprop(owns (c : Thread nD τ) scE fullShare (stAt m c n h).e ∗ owns (c : Thread nD τ) scA fullShare (stAt m c n h).a ∗ owns (c : Thread nD τ) scU fullShare (stAt m c n h).u ∗ owns (c : Thread nD τ) scH fullShare (stAt m c n h).h ∗ owns (c : Thread nD τ) scY fullShare (stAt m c n h).y) ∗ (∃ r, prngReg c r)) := rfl

theorem keep_pos (c : Dev nD) (n : ℕ) (h : n ≤ cfg0.N) (hz : n ≠ 0) :
    keep m c n h = iprop(iprop(owns (c : Thread nD τ) scE fullShare (stBefore m c n h).e ∗ owns (c : Thread nD τ) scA fullShare (stBefore m c n h).a ∗ owns (c : Thread nD τ) scU fullShare (stBefore m c n h).u ∗ owns (c : Thread nD τ) scH fullShare (stBefore m c n h).h ∗ owns (c : Thread nD τ) scY fullShare (stBefore m c n h).y) ∗ (∃ r, prngReg c r)) := by
  cases n with
  | zero => exact absurd rfl hz
  | succ n => rfl

/-- The pipeline's proof data: what each window's buffer holds after the body at each point, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (stAt m c t.val t.isLt).o
    | ⟨12, _⟩ => (stAt m c t.val t.isLt).l
  Φ t := keep m c t.val (Nat.le_of_lt_succ t.isLt)
  q _ := fullShare
  owed _ := 0

theorem A_eq (c : Dev nD) (w : Fin cfg0.W) : (dats m 0 c).A w = V m c (Pipeline.arrRef spec0 w) := by
  dsimp only [dats]

theorem keep_castSucc (c : Dev nD) (t : Fin cfg0.N) : (dats m 0 c).Φ t.castSucc = keep m c t.val (Nat.le_of_lt t.isLt) := by
  dsimp only [dats]; exact Pipeline.Dat.Φ_castSucc (keep m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = (stAt m c t.val t.isLt).o := by dsimp only [dats]
theorem after12 (c : Dev nD) (t : Fin cfg0.N) : (dats m 0 c).after 12 t = (stAt m c t.val t.isLt).l := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- The buffer of last states is stored at every tile. -/
theorem live12 (t : Fin cfg0.N) (h : t.val < 32) : cfg0.idle 12 (grid0.coords t) = false := by
  have h3 := (cond3_iff t).mpr h
  show (!(k0_cond3 (grid0.coords t) == 1#1)) = false
  rw [h3]; simp

/-- At the point after the last tile it is not stored. -/
theorem idle12 (t : Fin cfg0.N) (h : ¬ t.val < 32) : cfg0.idle 12 (grid0.coords t) = true := by
  have h3 : (k0_cond3 (grid0.coords t) == 1#1) = false := by
    rw [beq_eq_false_iff_ne]; exact fun e => h ((cond3_iff t).mp e)
  show (!(k0_cond3 (grid0.coords t) == 1#1)) = true
  rw [h3]; simp

/-- It is not written back after the last tile but one point later. -/
theorem noflush12 : ∀ t : Fin cfg0.N, t.val = 31 → (cfg0.win 12).flush t = false :=
  (by decide +kernel : ∀ t : Fin grid0.N, t.val = 31 → win0_12.flush t = false)
theorem flush12 : ∀ t : Fin cfg0.N, t.val = 32 → (cfg0.win 12).flush t = true :=
  (by decide +kernel : ∀ t : Fin grid0.N, t.val = 32 → win0_12.flush t = true)

/-- At the point after the last tile the buffer of last states holds what the last tile stored there. -/
theorem fresh12 (h : 32 < cfg0.N) : cfg0.fresh 12 32 = false := by
  have h31 : 31 < cfg0.N := Nat.lt_of_succ_lt h
  rw [cfg0.fresh_succ 12 31 h31, noflush12 ⟨31, h31⟩ rfl,
    show cfg0.idle 12 (cfg0.grid.coords ⟨31, h31⟩) = false from live12 ⟨31, h31⟩ (by dsimp only; omega)]
  simp

theorem stAt_l (c : Dev nD) (t : Fin cfg0.N) (h : ¬ t.val < 32) : (stAt m c t.val t.isLt).l = (stBefore m c t.val (Nat.le_of_lt t.isLt)).l := by
  rw [stAt_eq]; unfold stepAt step; simp only [h, if_false]

theorem before12 (c : Dev nD) (t : Fin cfg0.N) (h : ¬ t.val < 32) (d) :
    (dats m 0 c).before 12 t d = (stBefore m c t.val (Nat.le_of_lt t.isLt)).l := by
  have hN : cfg0.N = 33 := N_0
  have ht := t.isLt
  rw [(dats m 0 c).before_out_traj 12 rfl (fun _ _ => rfl) (fun t ht hi _ => by
      have hn : ¬ t.val < 32 := fun hl => by
        have := live12 t hl
        rw [show cfg0.idle 12 (cfg0.grid.coords t) = cfg0.idle 12 (grid0.coords t) from rfl, this] at hi
        exact Bool.false_ne_true hi
      rw [after12, after12, stAt_l m c t hn, stBefore_pos m c t.val _ ht]) t.val t rfl d,
    show cfg0.fresh 12 t.val = false from by
      rw [show t.val = 32 from by omega]; exact fresh12 (by omega),
    if_neg Bool.false_ne_true, after12, stBefore_pos m c t.val _ (by omega)]

/-- What the body owes for that buffer at any point, from the buffer at the state's last states. -/
theorem leaves12 (c : Dev nD) (t : Fin cfg0.N) :
    (owns (c : Thread nD τ) (ms12 t) fullShare (stAt m c t.val t.isLt).l : sProp 𝕄) ⊢ (dats m 0 c).leavesExact 12 t := by
  have hN : t.val < 33 := lt_of_lt_of_eq t.isLt (show cfg0.N = 33 from N_0)
  by_cases h : t.val < 32
  · rw [show (dats m 0 c).leavesExact 12 t = owns (c : Thread nD τ) (ms12 t) fullShare ((dats m 0 c).after 12 t) from by
      unfold Dat.leavesExact; rw [show cfg0.idle 12 (cfg0.grid.coords t) = false from live12 t h], after12]
  · rw [show (dats m 0 c).leavesExact 12 t = owns (c : Thread nD τ) (ms12 t) fullShare ((dats m 0 c).after 12 t) from by
        unfold Dat.leavesExact; rw [show cfg0.idle 12 (cfg0.grid.coords t) = true from idle12 t h, flush12 t (by omega)], after12]

/-- The body's precondition at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and its postcondition. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (cfg0.grid.coords t) = false from rfl]
theorem leaves7 (c : Dev nD) (t : Fin cfg0.N) : (dats m 0 c).leavesExact 7 t = owns (c : Thread nD τ) (ms7 t) fullShare ((dats m 0 c).after 7 t) := by
  unfold Dat.leavesExact; rw [show cfg0.idle 7 (cfg0.grid.coords t) = false from rfl]
theorem leaves8 (c : Dev nD) (t : Fin cfg0.N) : (dats m 0 c).leavesExact 8 t = owns (c : Thread nD τ) (ms8 t) fullShare ((dats m 0 c).after 8 t) := by
  unfold Dat.leavesExact; rw [show cfg0.idle 8 (cfg0.grid.coords t) = false from rfl]
theorem leaves9 (c : Dev nD) (t : Fin cfg0.N) : (dats m 0 c).leavesExact 9 t = owns (c : Thread nD τ) (ms9 t) fullShare ((dats m 0 c).after 9 t) := by
  unfold Dat.leavesExact; rw [show cfg0.idle 9 (cfg0.grid.coords t) = false from rfl]
theorem leaves10 (c : Dev nD) (t : Fin cfg0.N) : (dats m 0 c).leavesExact 10 t = owns (c : Thread nD τ) (ms10 t) fullShare ((dats m 0 c).after 10 t) := by
  unfold Dat.leavesExact; rw [show cfg0.idle 10 (cfg0.grid.coords t) = false from rfl]
theorem leaves11 (c : Dev nD) (t : Fin cfg0.N) : (dats m 0 c).leavesExact 11 t = owns (c : Thread nD τ) (ms11 t) fullShare ((dats m 0 c).after 11 t) := by
  unfold Dat.leavesExact; rw [show cfg0.idle 11 (cfg0.grid.coords t) = false from rfl]

set_option maxHeartbeats 4800000 in
/-- The body at any point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, before10]
  rw [show (dats m 0 c).owesAt () t.succ = (dats m 0 c).owesAt () t.castSucc from rfl]
  rw [leaves0, leaves1, leaves2, leaves3, leaves4, leaves5, leaves6, leaves7, leaves8, leaves9, leaves10, leaves11]
  rw [after0, after1, after2, after3, after4, after5, after6, after7, after8, after9, after10, after11]
  rw [show (dats m 0 c).Φ t.succ = keep m c (t.val + 1) t.isLt from rfl, keep_succ, keep_castSucc m c t, stAt_eq m c t]
  by_cases hz : t.val = 0
  · rw [keep_zero m c _ _ hz, given_eq]
    iintro ⟨⟨⟨⟨%e0, HS0⟩, ⟨%e1, HS1⟩, ⟨%e2, HS2⟩, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_point m c t (stBefore m c t.val (Nat.le_of_lt t.isLt)) _ _ _ _ _ _ _ (fun h => before12 m c t h d12) (fun h => absurd hz h) (fun h => absurd hz h) (fun h => absurd hz h) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iapply (leaves12 m c t); rw [stAt_eq]; iexact H12
  · rw [keep_pos m c _ _ hz]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_point m c t (stBefore m c t.val (Nat.le_of_lt t.isLt)) _ _ _ _ _ _ _ (fun h => before12 m c t h d12) (fun _ => rfl) (fun _ => rfl) (fun _ => rfl) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iapply (leaves12 m c t); rw [stAt_eq]; iexact H12

theorem defs₀_row (t : Fin cfg0.N) :
    defs₀ (F := F) .tc cfg0.body (cfg0.bodyArgs t (cfg0.slots t)) = bodyAt0 t := by
  unfold defs₀; rw [Defs.onTc_tc]

/-- The body does at every point what the pipeline needs of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = keep m c 0 (Nat.zero_le _) from rfl, keep_zero m c 0 _ rfl]

theorem hout (c : Dev nD) : (dats m 0 c).Φ (Fin.last cfg0.N) ⊢ Pipeline.ΦA spec0 c := by
  have hN : cfg0.N = 33 := N_0
  rw [show (dats m 0 c).Φ (Fin.last cfg0.N) = keep m c (Fin.last cfg0.N).val (Nat.le_of_lt_succ (Fin.last cfg0.N).isLt) from rfl,
    keep_pos m c _ _ (by rw [Fin.val_last]; omega), given_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run -/

set_option backward.isDefEq.respectTransparency.types false in
/-- Every run of the program ends with each array at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_quiescent m ρ))

end Cert.KernelIdeal.Hand

end
-- ==== Proof.Lru.Blocks.lean ====
module

public import proofs.«01_k».proof.Proof.Lru.Payloads
public import proofs.«01_k».proof.Proof.Lru.Frame
public import Idealize.ShloMosaic.Lib.Pipeline.ValueKit

/-! The blocks the recurrence kernel's windows bring at a point of its grid, element by element, as elements of the
program's arguments. -/

@[expose] public section

set_option maxRecDepth 16384

noncomputable section

namespace Cert.KernelIdeal.Hand

open Cert.KernelIdeal Cert.KernelIdeal.Gen Cert.Lru
open Idealize.ShloMosaic hiding ix1 ix2 ix3 ix4
open Idealize.ShloMosaic.TcCoe Idealize.ShloMosaic.ValueIdx
open Idealize.ShloMosaic.Pipeline (Dat)

variable (m : (ℓ : Loc nD τ sig) → Buf (Elt Ideal) ℓ)

/-- What the layer is given, of the program's arguments. -/
def given (c : Dev nD) : Given where
  x s t n := m ((c.tc : Thread nD τ).loc main_arg0) (ix3 s t n)
  g s t n := m ((c.tc : Thread nD τ).loc main_arg1) (ix3 s t n)
  p s t n := m ((c.tc : Thread nD τ).loc main_arg2) (ix3 s t n)
  w k n := m ((c.tc : Thread nD τ).loc main_arg3) (ix3 0 k n)
  b n := m ((c.tc : Thread nD τ).loc main_arg4) (ix2 0 n)
  wa q k n := m ((c.tc : Thread nD τ).loc main_arg5) (ix4 0 q k n)
  ba n := m ((c.tc : Thread nD τ).loc main_arg6) (ix2 0 n)
  wx q k n := m ((c.tc : Thread nD τ).loc main_arg7) (ix4 0 q k n)
  bx n := m ((c.tc : Thread nD τ).loc main_arg8) (ix2 0 n)
  lam n := m ((c.tc : Thread nD τ).loc main_arg9) (ix2 0 n)
  wo k n := m ((c.tc : Thread nD τ).loc main_arg10) (ix3 0 k n)

theorem V_x_apply (c : Dev nD) (n : Fin 8192) (j : Fin 2048) : (V m c main_v7 : Vec Ideal S8192x2048 .f32) (ix2 n j) = (given m c).x ⟨n.val / 4096, by omega⟩ ⟨n.val % 4096, by omega⟩ j := by
  entry_read
  refine shapeCast_apply (s := S2x4096x2048) (t := S8192x2048) _ _ (ix2 n j) (ix3 ⟨n.val / 4096, by omega⟩ ⟨n.val % 4096, by omega⟩ j) ?_
  rw [Shape.rowMajor_val_three, Shape.rowMajor_val_two]
  show (n.val / 4096 * 4096 + n.val % 4096) * 2048 + j.val = n.val * 2048 + j.val
  omega

theorem V_g_apply (c : Dev nD) (n : Fin 8192) (j : Fin 2048) : (V m c main_v8 : Vec Ideal S8192x2048 .f32) (ix2 n j) = (given m c).g ⟨n.val / 4096, by omega⟩ ⟨n.val % 4096, by omega⟩ j := by
  entry_read
  refine shapeCast_apply (s := S2x4096x2048) (t := S8192x2048) _ _ (ix2 n j) (ix3 ⟨n.val / 4096, by omega⟩ ⟨n.val % 4096, by omega⟩ j) ?_
  rw [Shape.rowMajor_val_three, Shape.rowMajor_val_two]
  show (n.val / 4096 * 4096 + n.val % 4096) * 2048 + j.val = n.val * 2048 + j.val
  omega

theorem V_p_apply (c : Dev nD) (n : Fin 8192) (j : Fin 2048) : (V m c main_v9 : Vec Ideal S8192x2048 .f32) (ix2 n j) = (given m c).p ⟨n.val / 4096, by omega⟩ ⟨n.val % 4096, by omega⟩ j := by
  entry_read
  refine shapeCast_apply (s := S2x4096x2048) (t := S8192x2048) _ _ (ix2 n j) (ix3 ⟨n.val / 4096, by omega⟩ ⟨n.val % 4096, by omega⟩ j) ?_
  rw [Shape.rowMajor_val_three, Shape.rowMajor_val_two]
  show (n.val / 4096 * 4096 + n.val % 4096) * 2048 + j.val = n.val * 2048 + j.val
  omega

theorem V_b_apply (c : Dev nD) (j : Fin 2048) : (V m c main_v3 : Vec Ideal S1x1x2048 .f32) (ix3 0 0 j) = (given m c).b j := by
  entry_read
  refine shapeCast_apply (s := S1x2048) (t := S1x1x2048) _ _ (ix3 0 0 j) (ix2 0 j) ?_
  rw [Shape.rowMajor_val_three, Shape.rowMajor_val_two]
  rfl
theorem V_ba_apply (c : Dev nD) (j : Fin 2048) : (V m c main_v4 : Vec Ideal S1x1x2048 .f32) (ix3 0 0 j) = (given m c).ba j := by
  entry_read
  refine shapeCast_apply (s := S1x2048) (t := S1x1x2048) _ _ (ix3 0 0 j) (ix2 0 j) ?_
  rw [Shape.rowMajor_val_three, Shape.rowMajor_val_two]
  rfl
theorem V_bx_apply (c : Dev nD) (j : Fin 2048) : (V m c main_v5 : Vec Ideal S1x1x2048 .f32) (ix3 0 0 j) = (given m c).bx j := by
  entry_read
  refine shapeCast_apply (s := S1x2048) (t := S1x1x2048) _ _ (ix3 0 0 j) (ix2 0 j) ?_
  rw [Shape.rowMajor_val_three, Shape.rowMajor_val_two]
  rfl
theorem V_lam_apply (c : Dev nD) (j : Fin 2048) : (V m c main_v6 : Vec Ideal S1x1x2048 .f32) (ix3 0 0 j) = (given m c).lam j := by
  entry_read
  refine shapeCast_apply (s := S1x2048) (t := S1x1x2048) _ _ (ix3 0 0 j) (ix2 0 j) ?_
  rw [Shape.rowMajor_val_three, Shape.rowMajor_val_two]
  rfl
theorem V_wa_apply (c : Dev nD) (q : Fin 8) (k n : Fin 256) : (V m c main_v0 : Vec Ideal S1x8x256x256 .bf16) (ix4 0 q k n) = (given m c).wa q k n := by
  entry_read
  rfl
theorem V_wx_apply (c : Dev nD) (q : Fin 8) (k n : Fin 256) : (V m c main_v1 : Vec Ideal S1x8x256x256 .bf16) (ix4 0 q k n) = (given m c).wx q k n := by
  entry_read
  rfl
theorem V_wo_apply (c : Dev nD) (k n : Fin 2048) : (V m c main_v2 : Vec Ideal S1x2048x2048 .bf16) (ix3 0 k n) = (given m c).wo k n := by
  entry_read
  rfl
theorem V_w_apply (c : Dev nD) (k : Fin 4) (n : Fin 2048) : (V m c main_arg3 : Vec Ideal S1x4x2048 .f32) (ix3 0 k n) = (given m c).w k n := by
  entry_read
  rfl

/-- Which block each window brings at a point. -/
theorem idx_facts : ∀ t : Fin cfg0.N, win0_0.index t = ![min t.val 31, 0] ∧ win0_1.index t = ![min t.val 31, 0] ∧ win0_2.index t = ![t.val - 1, 0]
    ∧ win0_3.index t = ![0, 0, 0] ∧ win0_4.index t = ![0, 0, 0] ∧ win0_5.index t = ![0, 0, 0, 0] ∧ win0_6.index t = ![0, 0, 0]
    ∧ win0_7.index t = ![0, 0, 0, 0] ∧ win0_8.index t = ![0, 0, 0] ∧ win0_9.index t = ![0, 0, 0] ∧ win0_10.index t = ![0, 0, 0]
    ∧ win0_11.index t = ![t.val - 1, 0] ∧ win0_12.index t = ![min t.val 31 / 16, 0, 0] :=
  (by decide +kernel : ∀ t : Fin grid0.N, _)

theorem lt33 (t : Fin cfg0.N) : t.val < 33 := lt_of_lt_of_eq t.isLt (show cfg0.N = 33 from N_0)

/-- The sequence of tile n. -/
def seq (n : ℕ) : Fin 2 := ⟨n / 16 % 2, by omega⟩
/-- Row r of tile n in its sequence. -/
def row (n : ℕ) (r : Fin 256) : Fin 4096 := ⟨256 * (n % 16) + r.val, by omega⟩

theorem iblk0_apply (c : Dev nD) (t : Fin cfg0.N) (h : t.val < 32) (r : Fin 256) (j : Fin 2048) :
    (iblk m c 0 t : Vec Ideal S256x2048 .f32) (ix2 r j) = (given m c).x (seq t.val) (row t.val r) j := by
  refine Eq.trans ?_ ((V_x_apply m c ⟨256 * t.val + r.val, by omega⟩ j).trans ?_)
  · unfold iblk
    refine congrArg (V m c main_v7) (Shape.idx_ext₂ ?_ ?_) <;> blk_simp [idx_facts t]
    show min t.val 31 * 256 + r.val = 256 * t.val + r.val
    omega
  · refine congrArg₂ (fun a b => (given m c).x a b j) (Fin.ext ?_) (Fin.ext ?_)
    · show (256 * t.val + r.val) / 4096 = t.val / 16 % 2; omega
    · show (256 * t.val + r.val) % 4096 = 256 * (t.val % 16) + r.val; omega

theorem iblk1_apply (c : Dev nD) (t : Fin cfg0.N) (h : t.val < 32) (r : Fin 256) (j : Fin 2048) :
    (iblk m c 1 t : Vec Ideal S256x2048 .f32) (ix2 r j) = (given m c).g (seq t.val) (row t.val r) j := by
  refine Eq.trans ?_ ((V_g_apply m c ⟨256 * t.val + r.val, by omega⟩ j).trans ?_)
  · unfold iblk
    refine congrArg (V m c main_v8) (Shape.idx_ext₂ ?_ ?_) <;> blk_simp [idx_facts t]
    show min t.val 31 * 256 + r.val = 256 * t.val + r.val
    omega
  · refine congrArg₂ (fun a b => (given m c).g a b j) (Fin.ext ?_) (Fin.ext ?_)
    · show (256 * t.val + r.val) / 4096 = t.val / 16 % 2; omega
    · show (256 * t.val + r.val) % 4096 = 256 * (t.val % 16) + r.val; omega

theorem iblk2_apply (c : Dev nD) (t : Fin cfg0.N) (r : Fin 256) (j : Fin 2048) :
    (iblk m c 2 t : Vec Ideal S256x2048 .f32) (ix2 r j) = (given m c).p (seq (t.val - 1)) (row (t.val - 1) r) j := by
  have ht := lt33 t
  refine Eq.trans ?_ ((V_p_apply m c ⟨256 * (t.val - 1) + r.val, by omega⟩ j).trans ?_)
  · unfold iblk
    refine congrArg (V m c main_v9) (Shape.idx_ext₂ ?_ ?_) <;> blk_simp [idx_facts t]
    show (t.val - 1) * 256 + r.val = 256 * (t.val - 1) + r.val
    omega
  · refine congrArg₂ (fun a b => (given m c).p a b j) (Fin.ext ?_) (Fin.ext ?_)
    · show (256 * (t.val - 1) + r.val) / 4096 = (t.val - 1) / 16 % 2; omega
    · show (256 * (t.val - 1) + r.val) % 4096 = 256 * ((t.val - 1) % 16) + r.val; omega

theorem iblk3_apply (c : Dev nD) (t : Fin cfg0.N) (k : Fin 4) (j : Fin 2048) :
    (iblk m c 3 t : Vec Ideal S1x4x2048 .f32) (ix3 0 k j) = (given m c).w k j := by
  refine Eq.trans ?_ (V_w_apply m c k j)
  unfold iblk
  refine congrArg (V m c main_arg3) (funext fun a => Fin.ext ?_)
  match a with
  | ⟨0, _⟩ => blk_simp [idx_facts t]
  | ⟨1, _⟩ => blk_simp [idx_facts t]
  | ⟨2, _⟩ => blk_simp [idx_facts t]
theorem iblk4_apply (c : Dev nD) (t : Fin cfg0.N) (j : Fin 2048) :
    (iblk m c 4 t : Vec Ideal S1x1x2048 .f32) (ix3 0 0 j) = (given m c).b j := by
  refine Eq.trans ?_ (V_b_apply m c j)
  unfold iblk
  refine congrArg (V m c main_v3) (funext fun a => Fin.ext ?_)
  match a with
  | ⟨0, _⟩ => blk_simp [idx_facts t]
  | ⟨1, _⟩ => blk_simp [idx_facts t]
  | ⟨2, _⟩ => blk_simp [idx_facts t]
theorem iblk6_apply (c : Dev nD) (t : Fin cfg0.N) (j : Fin 2048) :
    (iblk m c 6 t : Vec Ideal S1x1x2048 .f32) (ix3 0 0 j) = (given m c).ba j := by
  refine Eq.trans ?_ (V_ba_apply m c j)
  unfold iblk
  refine congrArg (V m c main_v4) (funext fun a => Fin.ext ?_)
  match a with
  | ⟨0, _⟩ => blk_simp [idx_facts t]
  | ⟨1, _⟩ => blk_simp [idx_facts t]
  | ⟨2, _⟩ => blk_simp [idx_facts t]
theorem iblk8_apply (c : Dev nD) (t : Fin cfg0.N) (j : Fin 2048) :
    (iblk m c 8 t : Vec Ideal S1x1x2048 .f32) (ix3 0 0 j) = (given m c).bx j := by
  refine Eq.trans ?_ (V_bx_apply m c j)
  unfold iblk
  refine congrArg (V m c main_v5) (funext fun a => Fin.ext ?_)
  match a with
  | ⟨0, _⟩ => blk_simp [idx_facts t]
  | ⟨1, _⟩ => blk_simp [idx_facts t]
  | ⟨2, _⟩ => blk_simp [idx_facts t]
theorem iblk9_apply (c : Dev nD) (t : Fin cfg0.N) (j : Fin 2048) :
    (iblk m c 9 t : Vec Ideal S1x1x2048 .f32) (ix3 0 0 j) = (given m c).lam j := by
  refine Eq.trans ?_ (V_lam_apply m c j)
  unfold iblk
  refine congrArg (V m c main_v6) (funext fun a => Fin.ext ?_)
  match a with
  | ⟨0, _⟩ => blk_simp [idx_facts t]
  | ⟨1, _⟩ => blk_simp [idx_facts t]
  | ⟨2, _⟩ => blk_simp [idx_facts t]
theorem iblk5_apply (c : Dev nD) (t : Fin cfg0.N) (q : Fin 8) (k j : Fin 256) :
    (iblk m c 5 t : Vec Ideal S1x8x256x256 .bf16) (ix4 0 q k j) = (given m c).wa q k j := by
  refine Eq.trans ?_ (V_wa_apply m c q k j)
  unfold iblk
  refine congrArg (V m c main_v0) (funext fun a => Fin.ext ?_)
  match a with
  | ⟨0, _⟩ => blk_simp [idx_facts t]
  | ⟨1, _⟩ => blk_simp [idx_facts t]
  | ⟨2, _⟩ => blk_simp [idx_facts t]
  | ⟨3, _⟩ => blk_simp [idx_facts t]
theorem iblk7_apply (c : Dev nD) (t : Fin cfg0.N) (q : Fin 8) (k j : Fin 256) :
    (iblk m c 7 t : Vec Ideal S1x8x256x256 .bf16) (ix4 0 q k j) = (given m c).wx q k j := by
  refine Eq.trans ?_ (V_wx_apply m c q k j)
  unfold iblk
  refine congrArg (V m c main_v1) (funext fun a => Fin.ext ?_)
  match a with
  | ⟨0, _⟩ => blk_simp [idx_facts t]
  | ⟨1, _⟩ => blk_simp [idx_facts t]
  | ⟨2, _⟩ => blk_simp [idx_facts t]
  | ⟨3, _⟩ => blk_simp [idx_facts t]
theorem iblk10_apply (c : Dev nD) (t : Fin cfg0.N) (k j : Fin 2048) :
    (iblk m c 10 t : Vec Ideal S1x2048x2048 .bf16) (ix3 0 k j) = (given m c).wo k j := by
  refine Eq.trans ?_ (V_wo_apply m c k j)
  unfold iblk
  refine congrArg (V m c main_v2) (funext fun a => Fin.ext ?_)
  match a with
  | ⟨0, _⟩ => blk_simp [idx_facts t]
  | ⟨1, _⟩ => blk_simp [idx_facts t]
  | ⟨2, _⟩ => blk_simp [idx_facts t]

end Cert.KernelIdeal.Hand

end
-- ==== Proof.Lru.States.lean ====
module

public import proofs.«01_k».proof.Proof.Lru.Blocks

/-! What the recurrence kernel's buffers hold after each point of its grid: the states of the recurrence. -/

@[expose] public section

set_option maxRecDepth 16384

noncomputable section

namespace Cert.KernelIdeal.Hand

open Cert.KernelIdeal Cert.KernelIdeal.Gen Cert.Lru
open Idealize.ShloMosaic hiding ix1 ix2 ix3 ix4
open Idealize.ShloMosaic.TcCoe Idealize.ShloMosaic.ValueIdx
open Idealize.ShloMosaic.Pipeline (Dat)

variable (m : (ℓ : Loc nD τ sig) → Buf (Elt Ideal) ℓ)

/-- The state before a point. -/
abbrev pre (c : Dev nD) (t : Fin cfg0.N) : St Ideal := stBefore m c t.val (Nat.le_of_lt t.isLt)
/-- The extended tile of a point. -/
def tileE (c : Dev nD) (t : Fin cfg0.N) : FVec Ideal S264x2048 .f32 := stepE (F := Ideal) t.val (iblk m c 0 t) (pre m c t).e
/-- The decays of a point's tile. -/
def tileA (c : Dev nD) (t : Fin cfg0.N) : FVec Ideal S256x2048 .f32 := decays (F := Ideal) (tileE m c t) (iblk m c 3 t) (iblk m c 4 t) (iblk m c 5 t) (iblk m c 6 t) (iblk m c 9 t)
/-- The input terms of a point's tile. -/
def tileU (c : Dev nD) (t : Fin cfg0.N) : FVec Ideal S256x2048 .f32 := inputs (F := Ideal) (tileE m c t) (iblk m c 3 t) (iblk m c 4 t) (iblk m c 5 t) (iblk m c 6 t) (iblk m c 7 t) (iblk m c 8 t) (iblk m c 9 t)
/-- The state before a point's tile. -/
def tileH (c : Dev nD) (t : Fin cfg0.N) : FVec Ideal S1x2048 .f32 := stepH (F := Ideal) t.val (pre m c t).h
/-- The states of a point's tile. -/
def tileS (c : Dev nD) (t : Fin cfg0.N) : FVec Ideal S256x2048 .f32 := statesTo (F := Ideal) (tileA m c t) (tileU m c t) (tileH m c t) 256

theorem at_e (c : Dev nD) (t : Fin cfg0.N) : (stAt m c t.val t.isLt).e = extN (F := Ideal) (tileE m c t) := by rw [stAt_eq]; rfl
theorem at_h (c : Dev nD) (t : Fin cfg0.N) : (stAt m c t.val t.isLt).h = stateAt (F := Ideal) (tileA m c t) (tileU m c t) (tileH m c t) 256 := by
  rw [stAt_eq]
  show k0_pay98 (F := Ideal) (stateAt (F := Ideal) (tileA m c t) (tileU m c t) (tileH m c t) 256) = _
  unfold k0_pay98
  simp only [shapeCast_self]
theorem at_y (c : Dev nD) (t : Fin cfg0.N) : (stAt m c t.val t.isLt).y = k0_pay1 (F := Ideal) (tileS m c t) (iblk m c 1 t) := by rw [stAt_eq]; rfl
theorem at_o (c : Dev nD) (t : Fin cfg0.N) : (stAt m c t.val t.isLt).o = outs (F := Ideal) (iblk m c 2 t) (stepY (F := Ideal) t.val (pre m c t).y) (iblk m c 10 t) := by rw [stAt_eq]; rfl
theorem at_l (c : Dev nD) (t : Fin cfg0.N) (h : t.val < 32) : (stAt m c t.val t.isLt).l = k0_pay2 (F := Ideal) (lastW (tileS m c t)) := by
  rw [stAt_eq]; exact if_pos h

/-- A row of the tile proper. -/
theorem tileE_tile (c : Dev nD) (t : Fin cfg0.N) (h : t.val < 32) (r : Fin 256) (j : Fin 2048) :
    tileE m c t (ix2 ⟨8 + r.val, by omega⟩ j) = (given m c).x (seq t.val) (row t.val r) j := by
  unfold tileE stepE extT
  rw [tileP_tile, ← iblk0_apply m c t h r j]
  unfold k0_pay6
  simp only [shapeCast_self]

/-- Rows 5 and on of the extended tile are the sequence's rows with three rows of zeros in front. -/
theorem tileE_apply (c : Dev nD) (t : Fin cfg0.N) (h : t.val < 32) (q : ℕ) (hq : q < 259) (j : Fin 2048) :
    tileE m c t (ix2 ⟨q + 5, by omega⟩ j) = px (given m c) (seq t.val) (256 * (t.val % 16) + q) j := by
  by_cases h3 : 3 ≤ q
  · have e := tileE_tile m c t h ⟨q - 3, by omega⟩ j
    rw [show (⟨q + 5, by omega⟩ : Fin 264) = ⟨8 + (q - 3), by omega⟩ from Fin.ext (by show q + 5 = 8 + (q - 3); omega), e]
    unfold px
    rw [dif_pos ⟨by omega, by omega⟩]
    exact congrArg (fun a => (given m c).x (seq t.val) a j) (Fin.ext (by show 256 * (t.val % 16) + (q - 3) = 256 * (t.val % 16) + q - 3; omega))
  · unfold tileE stepE extT
    refine (tileP_head _ _ (⟨q + 5, by omega⟩ : Fin 8) j).trans ?_
    by_cases h0 : t.val % 16 = 0
    · rw [if_pos h0]
      refine (headP_apply _ _ (⟨q + 5, by omega⟩ : Fin 8) j).trans ?_
      unfold px
      rw [dif_neg (by omega)]
      exact Ideal.ofBits_zero_f32
    · rw [if_neg h0]
      have hz : t.val ≠ 0 := fun hz => h0 (by rw [hz])
      have hN := t.isLt
      have e := tileE_tile m c ⟨t.val - 1, by omega⟩ (by show t.val - 1 < 32; omega) ⟨253 + q, by omega⟩ j
      show (stBefore m c t.val _).e _ = _
      rw [stBefore_pos m c t.val _ hz, at_e m c ⟨t.val - 1, by omega⟩]
      refine (headP_apply _ _ (⟨q + 5, by omega⟩ : Fin 8) j).trans ?_
      unfold k0_pay95
      simp only [shapeCast_self]
      rw [tailW_apply]
      refine Eq.trans (congrArg (fun a => tileE m c ⟨t.val - 1, by omega⟩ (ix2 a j)) (Fin.ext ?_)) (e.trans ?_)
      · show 256 + (q + 5) = 8 + (253 + q); omega
      · unfold px
        rw [dif_pos ⟨by omega, by omega⟩]
        refine congrArg₂ (fun a b => (given m c).x a b j) (Fin.ext ?_) (Fin.ext ?_)
        · show (t.val - 1) / 16 % 2 = t.val / 16 % 2; omega
        · show 256 * ((t.val - 1) % 16) + (253 + q) = 256 * (t.val % 16) + q - 3; omega

/-- The convolution of a tile's row. -/
theorem conv_tile (c : Dev nD) (t : Fin cfg0.N) (h : t.val < 32) (r : Fin 256) (j : Fin 2048) :
    convE (tileE m c t) (iblk m c 3 t) (iblk m c 4 t) r j = conv (given m c) (seq t.val) (256 * (t.val % 16) + r.val) j := by
  have e : ∀ (o k : ℕ) (ho : o + r.val < 264) (hk : k + r.val < 259) (_ : o = k + 5), tileE m c t (ix2 ⟨o + r.val, ho⟩ j) = px (given m c) (seq t.val) (256 * (t.val % 16) + r.val + k) j := by
    intro o k ho hk hok
    subst hok
    refine Eq.trans (congrArg (fun a => tileE m c t (ix2 a j)) (Fin.ext (by show k + 5 + r.val = k + r.val + 5; omega))) ((tileE_apply m c t h (k + r.val) hk j).trans ?_)
    rw [show 256 * (t.val % 16) + (k + r.val) = 256 * (t.val % 16) + r.val + k by omega]
  unfold convE conv
  rw [e 8 3 _ (by omega) rfl, e 7 2 _ (by omega) rfl, e 6 1 _ (by omega) rfl, e 5 0 _ (by omega) rfl, iblk3_apply, iblk3_apply, iblk3_apply, iblk3_apply, iblk4_apply]
  exact conv_eq _ _ _ _ _

theorem gateA_tile (c : Dev nD) (t : Fin cfg0.N) (h : t.val < 32) (r : Fin 256) (j : Fin 2048) :
    gateE (tileE m c t) (iblk m c 3 t) (iblk m c 4 t) (iblk m c 5 t) (iblk m c 6 t) r j = gate (given m c) (given m c).wa (given m c).ba (seq t.val) (256 * (t.val % 16) + r.val) j := by
  unfold gateE gate
  refine congrArg₂ _ (Finset.sum_congr rfl fun k _ => congrArg₂ _ (conv_tile m c t h r _) (iblk5_apply m c t _ k _)) (iblk6_apply m c t j)

theorem gateX_tile (c : Dev nD) (t : Fin cfg0.N) (h : t.val < 32) (r : Fin 256) (j : Fin 2048) :
    gateE (tileE m c t) (iblk m c 3 t) (iblk m c 4 t) (iblk m c 7 t) (iblk m c 8 t) r j = gate (given m c) (given m c).wx (given m c).bx (seq t.val) (256 * (t.val % 16) + r.val) j := by
  unfold gateE gate
  refine congrArg₂ _ (Finset.sum_congr rfl fun k _ => congrArg₂ _ (conv_tile m c t h r _) (iblk7_apply m c t _ k _)) (iblk8_apply m c t j)

theorem tileA_apply (c : Dev nD) (t : Fin cfg0.N) (h : t.val < 32) (r : Fin 256) (j : Fin 2048) :
    tileA m c t (ix2 r j) = decay (given m c) (seq t.val) (256 * (t.val % 16) + r.val) j := by
  refine (decayB_apply _ _ _ _ _ _ r j).trans ?_
  rw [gateA_tile m c t h, iblk9_apply]
  rfl

theorem tileU_apply (c : Dev nD) (t : Fin cfg0.N) (h : t.val < 32) (r : Fin 256) (j : Fin 2048) :
    tileU m c t (ix2 r j) = input (given m c) (seq t.val) (256 * (t.val % 16) + r.val) j := by
  refine (inputs_apply _ _ _ _ _ _ _ _ r j).trans ?_
  rw [gateA_tile m c t h, gateX_tile m c t h, conv_tile m c t h, iblk9_apply]
  rfl

/-- The states inside a tile, of the state before it. -/
theorem stateAt_tile (c : Dev nD) (t : Fin cfg0.N) (h : t.val < 32) (j : Fin 2048)
    (h0 : tileH m c t (ix2 0 j) = state (given m c) (seq t.val) j (256 * (t.val % 16))) : ∀ k : ℕ, k ≤ 256 →
    stateAt (F := Ideal) (tileA m c t) (tileU m c t) (tileH m c t) k (ix2 0 j) = state (given m c) (seq t.val) j (256 * (t.val % 16) + k)
  | 0, _ => h0
  | k + 1, hk => by
    rw [stateAt_succ _ _ _ k (by omega) j, stateAt_tile c t h j h0 k (by omega), tileA_apply m c t h, tileU_apply m c t h]
    rfl

/-- The state before a tile. -/
theorem tileH_apply (c : Dev nD) (j : Fin 2048) : ∀ (n : ℕ) (hN : n < cfg0.N) (_ : n < 32),
    tileH m c ⟨n, hN⟩ (ix2 0 j) = state (given m c) (seq n) j (256 * (n % 16))
  | 0, hN, _ => Ideal.ofBits_zero_f32
  | n + 1, hN, h => by
    unfold tileH stepH
    by_cases h0 : (n + 1) % 16 = 0
    · rw [if_pos h0, h0]
      exact Ideal.ofBits_zero_f32
    · rw [if_neg h0]
      have hn : n < cfg0.N := Nat.lt_of_succ_lt hN
      show (stAt m c n hn).h (ix2 0 j) = _
      rw [at_h m c ⟨n, hn⟩, stateAt_tile m c ⟨n, hn⟩ (by show n < 32; omega) j (tileH_apply c j n hn (by omega)) 256 le_rfl]
      refine congrArg₂ (fun a b => state (given m c) a j b) (Fin.ext ?_) ?_
      · show n / 16 % 2 = (n + 1) / 16 % 2; omega
      · show 256 * (n % 16) + 256 = 256 * ((n + 1) % 16); omega

/-- The rows of states of a tile. -/
theorem tileS_apply (c : Dev nD) (t : Fin cfg0.N) (h : t.val < 32) (r : Fin 256) (j : Fin 2048) :
    tileS m c t (ix2 r j) = state (given m c) (seq t.val) j ((row t.val r).val + 1) := by
  unfold tileS
  rw [statesTo_apply, stateAt_tile m c t h j (tileH_apply m c j t.val t.isLt h) _ (by omega)]
  rfl

/-- The last states stored at a tile. -/
theorem l_apply (c : Dev nD) (t : Fin cfg0.N) (h : t.val < 32) (r : Fin 8) (j : Fin 2048) :
    (stAt m c t.val t.isLt).l (ix3 0 r j) = state (given m c) (seq t.val) j (256 * (t.val % 16) + 248 + r.val + 1) := by
  rw [at_l m c t h]
  unfold k0_pay2
  refine (shapeCast_ab_1ab_apply (a := 8) (b := 2048) _ _ 0 r j).trans ?_
  rw [lastW_apply, tileS_apply m c t h]
  refine congrArg (state (given m c) (seq t.val) j) ?_
  show 256 * (t.val % 16) + (248 + r.val) + 1 = _
  omega

/-- The output rows stored at a point: those of the tile before. -/
theorem o_apply (c : Dev nD) (t : Fin cfg0.N) (h : t.val ≠ 0) (r : Fin 256) (j : Fin 2048) :
    (stAt m c t.val t.isLt).o (ix2 r j) = out (given m c) (seq (t.val - 1)) (row (t.val - 1) r) j := by
  have ht := lt33 t
  have hN := t.isLt
  rw [at_o]
  refine (outs_apply _ _ _ r j).trans ?_
  unfold out
  refine congrArg₂ _ (iblk2_apply m c t r j) (Finset.sum_congr rfl fun k _ => congrArg₂ _ ?_ (iblk10_apply m c t k j))
  unfold stepY
  rw [if_neg h]
  show (stBefore m c t.val _).y _ = _
  rw [stBefore_pos m c t.val _ h, at_y m c ⟨t.val - 1, by omega⟩]
  unfold k0_pay1
  simp only [shapeCast_self]
  rw [truncf_apply, mulf_apply]
  exact congrArg₂ _ (tileS_apply m c ⟨t.val - 1, by omega⟩ (by show t.val - 1 < 32; omega) r k) (iblk1_apply m c ⟨t.val - 1, by omega⟩ (by show t.val - 1 < 32; omega) r k)

end Cert.KernelIdeal.Hand

end
-- ==== Proof.Lru.RefLayout.lean ====
module

public import proofs.«01_k».proof.Proof.Gen.ReferenceIdeal.Step
public import proofs.«01_k».proof.Proof.Lru.Spec
public import Idealize.ShloMosaic.PureOps.Ideal.Laws
public import Idealize.ShloMosaic.Lib.Pipeline.Value
public import Idealize.ShloMosaic.Lib.ValueLayoutCasts
public import Idealize.ShloMosaic.Lib.ValueLayout
public import Idealize.ShloMosaic.Lib.WordCmp

/-! What the recurrence's reference does to a layout, and its two products, at one element. -/

@[expose] public section

set_option maxRecDepth 16384

noncomputable section

namespace Cert.ReferenceIdeal.Hand

open Cert.ReferenceIdeal Cert.ReferenceIdeal.Gen Cert.Lru
open Idealize.ShloMosaic Idealize.ShloMosaic.TcCoe Idealize.ShloMosaic.ValueIdx

section
variable {α : Type}

/-- A vector laid over every row of both sequences. -/
theorem row_apply (x : S2048.Idx → α) (h1 : S2048.BroadcastsInDim S1x1x2048 ![2]) (h2 : S1x1x2048.BroadcastsInDim S2x4096x2048 ![0, 1, 2]) (s : Fin 2) (t : Fin 4096) (n : Fin 2048) :
    broadcastInDim S2x4096x2048 ![0, 1, 2] h2 (broadcastInDim S1x1x2048 ![2] h1 x) (ix3 s t n) = x (ix1 n) :=
  congrArg x (funext fun a => by match a with | ⟨0, _⟩ => rfl)

/-- A row of one as a vector. -/
theorem flat_apply (x : S1x2048.Idx → α) (h : S1x2048.ShapeCasts S2048) (n : Fin 2048) : shapeCast S2048 x h (ix1 n) = x (ix2 0 n) := by
  refine shapeCast_apply (s := S1x2048) (t := S2048) _ _ (ix1 n) (ix2 0 n) ?_
  rw [Shape.rowMajor_val_two, Shape.rowMajor_val_one]
  show 0 * 2048 + n.val = n.val; omega

/-- A tap of the convolution's weights as a vector. -/
theorem tap_apply (x : S1x4x2048.Idx → α) (k : Fin 4) (h : S1x4x2048.Slices ![0, k.val, 0] S1x1x2048) (h' : S1x1x2048.ShapeCasts S2048) (n : Fin 2048) :
    shapeCast S2048 (extractStridedSlice S1x1x2048 ![0, k.val, 0] x h) h' (ix1 n) = x (ix3 0 k n) := by
  refine (shapeCast_apply (s := S1x1x2048) (t := S2048) _ _ (ix1 n) (ix3 0 0 n) ?_).trans ?_
  · rw [Shape.rowMajor_val_three, Shape.rowMajor_val_one]
    show (0 * 1 + 0) * 2048 + n.val = n.val; omega
  · refine congrArg x (funext fun a => Fin.ext ?_)
    match a with
    | ⟨0, _⟩ => rfl
    | ⟨1, _⟩ => rfl
    | ⟨2, _⟩ => show 0 + n.val = n.val; omega

/-- The rows of both sequences from row k on. -/
theorem shift_apply (x : S2x4099x2048.Idx → α) (k : Fin 4) (h : S2x4099x2048.Slices ![0, k.val, 0] S2x4096x2048) (s : Fin 2) (t : Fin 4096) (n : Fin 2048) :
    extractStridedSlice S2x4096x2048 ![0, k.val, 0] x h (ix3 s t n) = x (ix3 s ⟨t.val + k.val, by omega⟩ n) := by
  refine congrArg x (funext fun a => Fin.ext ?_)
  match a with
  | ⟨0, _⟩ => show 0 + s.val = s.val; omega
  | ⟨1, _⟩ => show k.val + t.val = t.val + k.val; omega
  | ⟨2, _⟩ => show 0 + n.val = n.val; omega

/-- Rows in blocks of 256 columns. -/
theorem split_apply (x : S2x4096x2048.Idx → α) (h : S2x4096x2048.ShapeCasts S2x4096x8x256) (s : Fin 2) (t : Fin 4096) (q : Fin 8) (k : Fin 256) :
    shapeCast S2x4096x8x256 x h (ix4 s t q k) = x (ix3 s t (col q k)) := by
  refine shapeCast_apply (s := S2x4096x2048) (t := S2x4096x8x256) _ _ (ix4 s t q k) (ix3 s t (col q k)) ?_
  rw [Shape.rowMajor_val_three, Shape.rowMajor_val_four]
  show (s.val * 4096 + t.val) * 2048 + (256 * q.val + k.val) = ((s.val * 4096 + t.val) * 8 + q.val) * 256 + k.val
  omega

/-- Blocks of 256 columns put side by side. -/
theorem join_apply (x : S2x4096x8x256.Idx → α) (h : S2x4096x8x256.ShapeCasts S2x4096x2048) (s : Fin 2) (t : Fin 4096) (n : Fin 2048) :
    shapeCast S2x4096x2048 x h (ix3 s t n) = x (ix4 s t (blk n) (pos n)) := by
  refine shapeCast_apply (s := S2x4096x8x256) (t := S2x4096x2048) _ _ (ix3 s t n) (ix4 s t (blk n) (pos n)) ?_
  rw [Shape.rowMajor_val_three, Shape.rowMajor_val_four]
  show ((s.val * 4096 + t.val) * 8 + n.val / 256) * 256 + n.val % 256 = (s.val * 4096 + t.val) * 2048 + n.val
  omega

/-- A stack of weight blocks without its leading axis. -/
theorem blocks_apply (x : S1x8x256x256.Idx → α) (h : S1x8x256x256.ShapeCasts S8x256x256) (q : Fin 8) (k n : Fin 256) :
    shapeCast S8x256x256 x h (ix3 q k n) = x (ix4 0 q k n) := by
  refine shapeCast_apply (s := S1x8x256x256) (t := S8x256x256) _ _ (ix3 q k n) (ix4 0 q k n) ?_
  rw [Shape.rowMajor_val_three, Shape.rowMajor_val_four]
  show ((0 * 8 + q.val) * 256 + k.val) * 256 + n.val = (q.val * 256 + k.val) * 256 + n.val
  omega

/-- The output's weights without their leading axis. -/
theorem outw_apply (x : S1x2048x2048.Idx → α) (h : S1x2048x2048.ShapeCasts S2048x2048) (k n : Fin 2048) :
    shapeCast S2048x2048 x h (ix2 k n) = x (ix3 0 k n) := by
  refine shapeCast_apply (s := S1x2048x2048) (t := S2048x2048) _ _ (ix2 k n) (ix3 0 k n) ?_
  rw [Shape.rowMajor_val_three, Shape.rowMajor_val_two]
  show (0 * 2048 + k.val) * 2048 + n.val = k.val * 2048 + n.val
  omega

/-- The two sequences' rows one below the other. -/
theorem rows_apply (x : S2x4096x2048.Idx → α) (h : S2x4096x2048.ShapeCasts S8192x2048) (r : Fin 8192) (n : Fin 2048) :
    shapeCast S8192x2048 x h (ix2 r n) = x (ix3 ⟨r.val / 4096, by omega⟩ ⟨r.val % 4096, by omega⟩ n) := by
  refine shapeCast_apply (s := S2x4096x2048) (t := S8192x2048) _ _ (ix2 r n) (ix3 ⟨r.val / 4096, by omega⟩ ⟨r.val % 4096, by omega⟩ n) ?_
  rw [Shape.rowMajor_val_three, Shape.rowMajor_val_two]
  show (r.val / 4096 * 4096 + r.val % 4096) * 2048 + n.val = r.val * 2048 + n.val
  omega

/-- The products' axes in the rows' order. -/
theorem turn_apply (x : S8x256x2x4096.Idx → α) (h : S8x256x2x4096.Transposes [2, 3, 0, 1] S2x4096x8x256) (s : Fin 2) (t : Fin 4096) (q : Fin 8) (k : Fin 256) :
    transpose S2x4096x8x256 [2, 3, 0, 1] x h (ix4 s t q k) = x (ix4 q k s t) :=
  transpose_apply _ _ _ _ _ fun b => by fin_cases b <;> rfl

/-- Rows first. -/
theorem first_apply (x : S2x4096x2048.Idx → α) (h : S2x4096x2048.Transposes [1, 0, 2] S4096x2x2048) (t : Fin 4096) (s : Fin 2) (n : Fin 2048) :
    transpose S4096x2x2048 [1, 0, 2] x h (ix3 t s n) = x (ix3 s t n) :=
  transpose_apply _ _ _ _ _ fun b => by fin_cases b <;> rfl

/-- Sequences first. -/
theorem back_apply (x : S4096x2x2048.Idx → α) (h : S4096x2x2048.Transposes [1, 0, 2] S2x4096x2048) (s : Fin 2) (t : Fin 4096) (n : Fin 2048) :
    transpose S2x4096x2048 [1, 0, 2] x h (ix3 s t n) = x (ix3 t s n) :=
  transpose_apply _ _ _ _ _ fun b => by fin_cases b <;> rfl

/-- The last eight rows. -/
theorem tail_apply (x : S2x4096x2048.Idx → α) (h : S2x4096x2048.Slices ![0, 4088, 0] S2x8x2048) (s : Fin 2) (r : Fin 8) (n : Fin 2048) :
    extractStridedSlice S2x8x2048 ![0, 4088, 0] x h (ix3 s r n) = x (ix3 s ⟨4088 + r.val, by omega⟩ n) := by
  refine congrArg x (funext fun a => Fin.ext ?_)
  match a with
  | ⟨0, _⟩ => show 0 + s.val = s.val; omega
  | ⟨1, _⟩ => rfl
  | ⟨2, _⟩ => show 0 + n.val = n.val; omega

/-- Row j of the rows-first array. -/
theorem trip_apply (x : S4096x2x2048.Idx → α) (st : Fin 3 → Int) (j : Fin 4096) (e : ∀ a, st a = ((![j.val, 0, 0] : Fin 3 → ℕ) a : Int)) (h : S4096x2x2048.Slices (fun _ => 0) S1x2x2048) (h' : S1x2x2048.ShapeCasts S2x2048) (s : Fin 2) (n : Fin 2048) :
    shapeCast S2x2048 (Host.dynamicSlice S1x2x2048 x st h) h' (ix2 s n) = x (ix3 j s n) := by
  have hk : S4096x2x2048.Slices ![j.val, 0, 0] S1x2x2048 := ⟨rfl, fun a => by
    match a with
    | ⟨0, _⟩ => show j.val + 1 ≤ 4096; omega
    | ⟨1, _⟩ => show 0 + 2 ≤ 2; omega
    | ⟨2, _⟩ => show 0 + 2048 ≤ 2048; omega⟩
  rw [WordCmp.dynamicSlice_eq_extract (s := S4096x2x2048) S1x2x2048 x st h ![j.val, 0, 0] hk e]
  refine (shapeCast_apply (s := S1x2x2048) (t := S2x2048) _ _ (ix2 s n) (ix3 0 s n) ?_).trans ?_
  · rw [Shape.rowMajor_val_three, Shape.rowMajor_val_two]
    show (0 * 2 + s.val) * 2048 + n.val = s.val * 2048 + n.val; omega
  · refine congrArg x (funext fun a => Fin.ext ?_)
    match a with
    | ⟨0, _⟩ => rfl
    | ⟨1, _⟩ => show 0 + s.val = s.val; omega
    | ⟨2, _⟩ => show 0 + n.val = n.val; omega

/-- The rows-first array with row j put in, at an element. -/
theorem put_apply (x : S4096x2x2048.Idx → α) (y : S2x2048.Idx → α) (st : Fin 3 → Int) (j : Fin 4096) (e : ∀ a, st a = ((![j.val, 0, 0] : Fin 3 → ℕ) a : Int)) (h : S4096x2x2048.Slices (fun _ => 0) S1x2x2048) (h' : S2x2048.BroadcastsInDim S1x2x2048 ![1, 2]) (t : Fin 4096) (s : Fin 2) (n : Fin 2048) :
    Host.dynamicUpdateSlice x (broadcastInDim S1x2x2048 ![1, 2] h' y) st h (ix3 t s n) = if t = j then y (ix2 s n) else x (ix3 t s n) := by
  have hk : S4096x2x2048.Slices ![j.val, 0, 0] S1x2x2048 := ⟨rfl, fun a => by
    match a with
    | ⟨0, _⟩ => show j.val + 1 ≤ 4096; omega
    | ⟨1, _⟩ => show 0 + 2 ≤ 2; omega
    | ⟨2, _⟩ => show 0 + 2048 ≤ 2048; omega⟩
  rw [WordCmp.dynamicUpdateSlice_eq_update (s := S4096x2x2048) x _ st h ![j.val, 0, 0] hk e]
  unfold updateSlice
  by_cases q : t = j
  · subst q
    rw [if_pos rfl, dif_pos (fun a => by
      match a with
      | ⟨0, _⟩ => exact ⟨Nat.le_refl _, Nat.lt_succ_self _⟩
      | ⟨1, _⟩ => exact ⟨Nat.zero_le _, by show s.val < 0 + 2; omega⟩
      | ⟨2, _⟩ => exact ⟨Nat.zero_le _, by show n.val < 0 + 2048; omega⟩)]
    refine congrArg y (funext fun a => Fin.ext ?_)
    match a with
    | ⟨0, _⟩ => rfl
    | ⟨1, _⟩ => rfl
  · rw [if_neg q]
    refine dif_neg fun hin => q (Fin.ext ?_)
    have h0 := hin (0 : Fin 3)
    have h1 : j.val ≤ t.val := h0.1
    have h2 : t.val < j.val + 1 := h0.2
    omega
end

/-- A gate's product: block q of the rows by block q of the weights. -/
theorem gate_dot (w : FVec Ideal S8x256x256 .f32) (x : FVec Ideal S2x4096x8x256 .f32) (q : Fin 8) (k : Fin 256) (s : Fin 2) (t : Fin 4096) :
    Host.dotGeneral dot_S8x256x256_S2x4096x8x256_S8x256x2x4096_1_3_2_01_0_2 none w x (ix4 q k s t)
      = ∑ i : Fin 256, x (ix4 s t q i) * w (ix3 q i k) := by
  simp only [Host.dotGeneral]
  rw [Ideal.dotGeneral_apply, ← Equiv.sum_comp (contrEquiv1 dot_S8x256x256_S2x4096x8x256_S8x256x2x4096_1_3_2_01_0_2 256 rfl rfl).symm]
  refine Finset.sum_congr rfl fun i _ => ?_
  have h0 := contrEquiv1_symm_val dot_S8x256x256_S2x4096x8x256_S8x256x2x4096_1_3_2_01_0_2 256 rfl rfl i
  refine (mul_comm _ _).trans (congrArg₂ _ (congrArg x (funext fun a => Fin.ext ?_)) (congrArg w (funext fun a => Fin.ext ?_)))
  · match a with
    | ⟨0, _⟩ => rfl
    | ⟨1, _⟩ => rfl
    | ⟨2, _⟩ => rfl
    | ⟨3, _⟩ => exact h0
  · match a with
    | ⟨0, _⟩ => rfl
    | ⟨1, _⟩ => exact h0
    | ⟨2, _⟩ => rfl

/-- The output's product. -/
theorem out_dot (x : FVec Ideal S2x4096x2048 .f32) (w : FVec Ideal S2048x2048 .f32) (s : Fin 2) (t : Fin 4096) (n : Fin 2048) :
    Host.dotGeneral dot_S2x4096x2048_S2048x2048_S2x4096x2048_2_0_01_1_n_n none x w (ix3 s t n)
      = ∑ i : Fin 2048, x (ix3 s t i) * w (ix2 i n) := by
  simp only [Host.dotGeneral]
  rw [Ideal.dotGeneral_apply, ← Equiv.sum_comp (contrEquiv1 dot_S2x4096x2048_S2048x2048_S2x4096x2048_2_0_01_1_n_n 2048 rfl rfl).symm]
  refine Finset.sum_congr rfl fun i _ => ?_
  have h0 := contrEquiv1_symm_val dot_S2x4096x2048_S2048x2048_S2x4096x2048_2_0_01_1_n_n 2048 rfl rfl i
  refine congrArg₂ _ (congrArg x (funext fun a => Fin.ext ?_)) (congrArg w (funext fun a => Fin.ext ?_))
  · match a with
    | ⟨0, _⟩ => rfl
    | ⟨1, _⟩ => rfl
    | ⟨2, _⟩ => exact h0
  · match a with
    | ⟨0, _⟩ => exact h0
    | ⟨1, _⟩ => rfl

/-- Three rows of zeros in front of a sequence's rows. -/
theorem pad_apply (d : Given) (z : FVec Ideal S2x3x2048 .f32) (hz : ∀ i, z i = 0) (x : FVec Ideal S2x4096x2048 .f32) (hx : ∀ s t n, x (ix3 s t n) = d.x s t n)
    (h : Shape.Concatenates [S2x3x2048, S2x4096x2048] S2x4099x2048 1) (s : Fin 2) (k : Fin 4099) (n : Fin 2048) :
    concatenate S2x4099x2048 1 [⟨S2x3x2048, z⟩, ⟨S2x4096x2048, x⟩] h (ix3 s k n) = px d s k.val n := by
  unfold px
  by_cases q : 3 ≤ k.val
  · rw [dif_pos ⟨q, k.isLt⟩, ← hx]
    refine concatenate_pair_apply_right (s₁ := S2x3x2048) (s₂ := S2x4096x2048) 1 z x h (ix3 s k n) rfl rfl _ (fun b hb => ?_) ?_
    · match b with
      | ⟨0, _⟩ => rfl
      | ⟨1, _⟩ => exact absurd rfl hb
      | ⟨2, _⟩ => rfl
    · show k.val - 3 + 3 = k.val; omega
  · rw [dif_neg fun h => q h.1]
    refine (concatenate_pair_apply_left (s₁ := S2x3x2048) (s₂ := S2x4096x2048) 1 z x h (ix3 s k n) rfl (ix3 s ⟨k.val, by omega⟩ n) fun b => ?_).trans (hz _)
    match b with
    | ⟨0, _⟩ => rfl
    | ⟨1, _⟩ => rfl
    | ⟨2, _⟩ => rfl

end Cert.ReferenceIdeal.Hand

end
-- ==== Proof.Lru.RefRun.lean ====
module

public import proofs.«01_k».proof.Proof.Gen.ReferenceIdeal.Run
public import proofs.«01_k».proof.Proof.Gen.ReferenceIdeal.Step

/-! The reference's loop as a sequence of states: before each trip the run's memory holds the state of that number. -/

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The memory holds the state `s` of trip `j` at the carried buffers. -/
structure At (V : Valuation τ sig (Elt F)) (s : State F) (j : ℕ) : Prop where
  last : V (Proc.devRef .tc main_v86_3) = s.main_v86_3
  seen : V (Proc.devRef .tc main_v86_4) = s.main_v86_4
  decay : V (Proc.devRef .tc main_v86_0) = s.main_v86_0
  input : V (Proc.devRef .tc main_v86_1) = s.main_v86_1
  trip : V (Proc.devRef .tc main_v86_2) = constantI S_ 32 (BitVec.ofNat 32 j)

variable {V : Valuation τ sig (Elt F)} {s : State F} {j : ℕ}

set_option maxRecDepth 8192 in
/-- The new state vector of a trip. -/
theorem new_eq (h : At V s j) : res_main_while0b_v97 V = Step.b9 j s := by
  unfold res_main_while0b_v97 Step.b9 Step.b8 Step.b7 Step.b6 Step.b3 Step.b2
  rw [h.decay, h.input, h.last, h.trip]
  rfl

set_option maxRecDepth 8192 in
/-- The states so far, with a trip's own put in. -/
theorem seen_eq (h : At V s j) : step_main_v86_4 V = Step.b13 j s := by
  unfold step_main_v86_4 Step.b13 Step.b10 Step.b11 Step.b12
  rw [← new_eq h, h.seen, h.trip]
  rfl

set_option maxRecDepth 8192 in
/-- One trip takes the state on. -/
theorem At.next (h : At V s j) : At (STEP V) (step j s) (j + 1) where
  last := (STEP_main_v86_3 V).trans (new_eq h)
  seen := (STEP_main_v86_4 V).trans (seen_eq h)
  decay := (STEP_main_v86_0 V).trans h.decay
  input := (STEP_main_v86_1 V).trans h.input
  trip := (STEP_main_v86_2 V).trans (by
    unfold step_main_v86_2
    rw [h.trip]
    funext i
    show BitVec.ofNat 32 j + 1#32 = BitVec.ofNat 32 (j + 1)
    simp only [BitVec.ofNat_add])

/-- The state before the first trip. -/
abbrev start (m : (ℓ : Loc nD τ sig) → Buf (Elt F) ℓ) (c : Dev nD) : State F :=
  init (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The state before trip `j`. -/
def refAt (m : (ℓ : Loc nD τ sig) → Buf (Elt F) ℓ) (c : Dev nD) : ℕ → State F
  | 0 => start m c
  | j + 1 => step j (refAt m c j)

variable (m : (ℓ : Loc nD τ sig) → Buf (Elt F) ℓ) (c : Dev nD)

set_option maxRecDepth 65536 in
set_option maxHeartbeats 500000 in
theorem at_start : At (entryContents preI m c) (start m c) 0 := by
  constructor <;> (simp only [entryContents, afterL_cons, afterL_nil]; after_reads_simp) <;> rfl

theorem at_trip : ∀ k, At (STEP^[k] (entryContents preI m c)) (refAt m c k) k
  | 0 => at_start m c
  | k + 1 => by
    rw [Function.iterate_succ_apply']
    exact (at_trip k).next

set_option maxRecDepth 8192 in
/-- The reference's run: its two results are functions of the last state, its arguments unchanged. -/
theorem run_ref (ρ : Dev nD → PrngReg) :
    θ_run (defs (F := F)) (onTc (τ := τ) (main (F := F))) ⟨m, fun _ => 0, ρ⟩ fun r => ∀ c : Dev nD,
      r.2.mem ((c.tc : Thread nD τ).loc main_v92) = Step.R_main_v92 (refAt m c 4096) (m ((c.tc : Thread nD τ).loc main_arg1)) (m ((c.tc : Thread nD τ).loc main_arg2)) (m ((c.tc : Thread nD τ).loc main_arg10))
      ∧ r.2.mem ((c.tc : Thread nD τ).loc main_v93) = Step.R_main_v93 (refAt m c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := at_trip m c 4096
    ⟨(h c).1.trans (by
        unfold out_main_v92 Step.R_main_v92
        rw [hk.seen, iter_main_arg1 m c 4096, iter_main_arg2 m c 4096, iter_main_arg10 m c 4096]
        rfl),
      (h c).2.1.trans (by
        unfold out_main_v93 Step.R_main_v93
        rw [hk.seen]), (h c).2.2⟩) (Value.run m ρ)

end Cert.ReferenceIdeal.Hand

end
-- ==== Proof.Lru.RefValue.lean ====
module

public import proofs.«01_k».proof.Proof.Lru.RefLayout
public import proofs.«01_k».proof.Proof.Lru.RefRun
public import Idealize.ShloMosaic.Lib.IdealHost

/-! The recurrence's reference, one element at a time: its decays and inputs, its states, its two results. -/

@[expose] public section

set_option maxRecDepth 16384

noncomputable section

namespace Cert.ReferenceIdeal.Hand

open Cert.ReferenceIdeal Cert.ReferenceIdeal.Gen Cert.ReferenceIdeal.Step Cert.Lru
open Idealize.ShloMosaic Idealize.ShloMosaic.TcCoe Idealize.ShloMosaic.ValueIdx

/-- What the layer is given, of a program's arguments. -/
def ofArgs (a0 a1 a2 : FVec Ideal S2x4096x2048 .f32) (a3 : FVec Ideal S1x4x2048 .f32) (a4 : FVec Ideal S1x2048 .f32) (a5 : FVec Ideal S1x8x256x256 .f32) (a6 : FVec Ideal S1x2048 .f32) (a7 : FVec Ideal S1x8x256x256 .f32) (a8 a9 : FVec Ideal S1x2048 .f32) (a10 : FVec Ideal S1x2048x2048 .f32) : Given where
  x s t n := a0 (ix3 s t n)
  g s t n := a1 (ix3 s t n)
  p s t n := a2 (ix3 s t n)
  w k n := a3 (ix3 0 k n)
  b n := a4 (ix2 0 n)
  wa q k n := a5 (ix4 0 q k n)
  ba n := a6 (ix2 0 n)
  wx q k n := a7 (ix4 0 q k n)
  bx n := a8 (ix2 0 n)
  lam n := a9 (ix2 0 n)
  wo k n := a10 (ix3 0 k n)

section
variable {S : Shape}
theorem neg_at (x : FVec Ideal S .f32) (i : S.Idx) : Host.negf x i = -x i := rfl
theorem exp_at (x : FVec Ideal S .f32) (i : S.Idx) : Host.exp x i = Ideal.exp (x i) := rfl
theorem expm1_at (x : FVec Ideal S .f32) (i : S.Idx) : Host.expm1 x i = Ideal.exp (x i) - 1 := rfl
theorem log1p_at (x : FVec Ideal S .f32) (i : S.Idx) : Host.log1p x i = Ideal.log1p (x i) := rfl
theorem sqrt_at (x : FVec Ideal S .f32) (i : S.Idx) : Host.sqrt x i = Ideal.sqrt (x i) := rfl
theorem div_at (x y : FVec Ideal S .f32) (i : S.Idx) : Host.divf x y i = Ideal.div (x i) (y i) := rfl
end

theorem one_eq : Ideal.ofBits .f32 0x3F800000#32 = 1 := by
  simp [Ideal.ofBits, Ideal.ieee, -EReal.coe_mul]; norm_num

theorem K_v0_at (i : S2x3x2048.Idx) : K_main_v0 (F := Ideal) i = (0 : EReal) := Ideal.ofBits_zero_f32
theorem K_v9_at (i : S2x4096x2048.Idx) : K_main_v9 (F := Ideal) i = (0 : EReal) := Ideal.ofBits_zero_f32
theorem K_v82_at (i : S2x2048.Idx) : K_main_v82 (F := Ideal) i = (0 : EReal) := Ideal.ofBits_zero_f32
theorem K_v46_at (i : S2x4096x2048.Idx) : K_main_v46 (F := Ideal) i = (1 : EReal) := one_eq
theorem K_v48_at (i : S2x4096x2048.Idx) : K_main_v48 (F := Ideal) i = (1 : EReal) := one_eq
theorem K_v60_at (i : S2x4096x2048.Idx) : K_main_v60 (F := Ideal) i = (1 : EReal) := one_eq
theorem K_v62_at (i : S2x4096x2048.Idx) : K_main_v62 (F := Ideal) i = (1 : EReal) := one_eq
theorem K_v69_at (i : S2x4096x2048.Idx) : K_main_v69 (F := Ideal) i = eight := rfl
theorem K_v75_at (i : S2x4096x2048.Idx) : K_main_v75 (F := Ideal) i = two := rfl

section
variable (a0 a1 a2 : FVec Ideal S2x4096x2048 .f32) (a3 : FVec Ideal S1x4x2048 .f32) (a4 : FVec Ideal S1x2048 .f32) (a5 : FVec Ideal S1x8x256x256 .f32) (a6 : FVec Ideal S1x2048 .f32) (a7 : FVec Ideal S1x8x256x256 .f32) (a8 a9 : FVec Ideal S1x2048 .f32) (a10 : FVec Ideal S1x2048x2048 .f32)
variable (s : Fin 2) (t : Fin 4096) (n : Fin 2048)

/-- A row of the padded branch. -/
theorem v1_at (k : Fin 4099) : (A_main_v1 (F := Ideal) a0 a3 a4 a5 a6 a7 a8 a9 : FVec Ideal S2x4099x2048 .f32) (ix3 s k n) = px (ofArgs a0 a1 a2 a3 a4 a5 a6 a7 a8 a9 a10) s k.val n := by
  unfold A_main_v1
  exact pad_apply _ _ K_v0_at _ (fun _ _ _ => rfl) _ s k n

/-- Tap 0 of the convolution. -/
theorem tap0_at : (A_main_v8 (F := Ideal) a0 a3 a4 a5 a6 a7 a8 a9 : FVec Ideal S2x4096x2048 .f32) (ix3 s t n) = (ofArgs a0 a1 a2 a3 a4 a5 a6 a7 a8 a9 a10).w 0 n * px (ofArgs a0 a1 a2 a3 a4 a5 a6 a7 a8 a9 a10) s (t.val + 0) n := by
  unfold A_main_v8 A_main_v7 A_main_v6 A_main_v4 A_main_v3 A_main_v5
  rw [mulf_apply]
  refine congrArg₂ _ ((row_apply _ _ _ s t n).trans (tap_apply a3 0 _ _ n)) ((shift_apply _ 0 _ s t n).trans (v1_at a0 a1 a2 a3 a4 a5 a6 a7 a8 a9 a10 s n _))

/-- Tap 1 of the convolution. -/
theorem tap1_at : (A_main_v16 (F := Ideal) a0 a3 a4 a5 a6 a7 a8 a9 : FVec Ideal S2x4096x2048 .f32) (ix3 s t n) = (ofArgs a0 a1 a2 a3 a4 a5 a6 a7 a8 a9 a10).w 1 n * px (ofArgs a0 a1 a2 a3 a4 a5 a6 a7 a8 a9 a10) s (t.val + 1) n := by
  unfold A_main_v16 A_main_v15 A_main_v14 A_main_v12 A_main_v11 A_main_v13
  rw [mulf_apply]
  refine congrArg₂ _ ((row_apply _ _ _ s t n).trans (tap_apply a3 1 _ _ n)) ((shift_apply _ 1 _ s t n).trans (v1_at a0 a1 a2 a3 a4 a5 a6 a7 a8 a9 a10 s n _))

/-- Tap 2 of the convolution. -/
theorem tap2_at : (A_main_v23 (F := Ideal) a0 a3 a4 a5 a6 a7 a8 a9 : FVec Ideal S2x4096x2048 .f32) (ix3 s t n) = (ofArgs a0 a1 a2 a3 a4 a5 a6 a7 a8 a9 a10).w 2 n * px (ofArgs a0 a1 a2 a3 a4 a5 a6 a7 a8 a9 a10) s (t.val + 2) n := by
  unfold A_main_v23 A_main_v22 A_main_v21 A_main_v19 A_main_v18 A_main_v20
  rw [mulf_apply]
  refine congrArg₂ _ ((row_apply _ _ _ s t n).trans (tap_apply a3 2 _ _ n)) ((shift_apply _ 2 _ s t n).trans (v1_at a0 a1 a2 a3 a4 a5 a6 a7 a8 a9 a10 s n _))

/-- Tap 3 of the convolution. -/
theorem tap3_at : (A_main_v30 (F := Ideal) a0 a3 a4 a5 a6 a7 a8 a9 : FVec Ideal S2x4096x2048 .f32) (ix3 s t n) = (ofArgs a0 a1 a2 a3 a4 a5 a6 a7 a8 a9 a10).w 3 n * px (ofArgs a0 a1 a2 a3 a4 a5 a6 a7 a8 a9 a10) s (t.val + 3) n := by
  unfold A_main_v30 A_main_v29 A_main_v28 A_main_v26 A_main_v25 A_main_v27
  rw [mulf_apply]
  refine congrArg₂ _ ((row_apply _ _ _ s t n).trans (tap_apply a3 3 _ _ n)) ((shift_apply _ 3 _ s t n).trans (v1_at a0 a1 a2 a3 a4 a5 a6 a7 a8 a9 a10 s n _))

/-- The convolution. -/
theorem v34_at : (A_main_v34 (F := Ideal) a0 a3 a4 a5 a6 a7 a8 a9 : FVec Ideal S2x4096x2048 .f32) (ix3 s t n) = conv (ofArgs a0 a1 a2 a3 a4 a5 a6 a7 a8 a9 a10) s t.val n := by
  unfold A_main_v34 A_main_v33 A_main_v32 A_main_v2 A_main_v31 A_main_v24 A_main_v17 A_main_v10
  simp only [addf_apply]
  rw [tap0_at a0 a1 a2 a3 a4 a5 a6 a7 a8 a9 a10 s t n, tap1_at a0 a1 a2 a3 a4 a5 a6 a7 a8 a9 a10 s t n, tap2_at a0 a1 a2 a3 a4 a5 a6 a7 a8 a9 a10 s t n, tap3_at a0 a1 a2 a3 a4 a5 a6 a7 a8 a9 a10 s t n, K_v9_at]
  refine congrArg₂ _ ((row_apply _ _ _ s t n).trans (flat_apply a4 _ n)) rfl

/-- A gate before its logistic. -/
theorem gatea_at : (A_main_v43 (F := Ideal) a0 a3 a4 a5 a6 a7 a8 a9 : FVec Ideal S2x4096x2048 .f32) (ix3 s t n) = gate (ofArgs a0 a1 a2 a3 a4 a5 a6 a7 a8 a9 a10) (ofArgs a0 a1 a2 a3 a4 a5 a6 a7 a8 a9 a10).wa (ofArgs a0 a1 a2 a3 a4 a5 a6 a7 a8 a9 a10).ba s t.val n := by
  unfold A_main_v43 A_main_v39 A_main_v38 A_main_v37 A_main_v42 A_main_v41 A_main_v40 A_main_v36 A_main_v35
  rw [addf_apply]
  refine congrArg₂ _ ?_ ((row_apply _ _ _ s t n).trans (flat_apply a6 _ n))
  refine (join_apply _ _ s t n).trans ((turn_apply _ _ s t _ _).trans ((gate_dot _ _ _ _ s t).trans (Finset.sum_congr rfl fun k _ => congrArg₂ _ ?_ ?_)))
  · exact (split_apply _ _ s t _ k).trans (v34_at a0 a1 a2 a3 a4 a5 a6 a7 a8 a9 a10 s t _)
  · exact blocks_apply a5 _ _ k _

/-- A gate. -/
theorem logistica_at : (A_main_v49 (F := Ideal) a0 a3 a4 a5 a6 a7 a8 a9 : FVec Ideal S2x4096x2048 .f32) (ix3 s t n) = Ideal.logistic (gate (ofArgs a0 a1 a2 a3 a4 a5 a6 a7 a8 a9 a10) (ofArgs a0 a1 a2 a3 a4 a5 a6 a7 a8 a9 a10).wa (ofArgs a0 a1 a2 a3 a4 a5 a6 a7 a8 a9 a10).ba s t.val n) := by
  unfold A_main_v49 A_main_v47 A_main_v45 A_main_v44
  rw [div_at, addf_apply, exp_at, neg_at, gatea_at a0 a1 a2 a3 a4 a5 a6 a7 a8 a9 a10 s t n, K_v46_at, K_v48_at]
  rfl

/-- A gate before its logistic. -/
theorem gatex_at : (A_main_v57 (F := Ideal) a0 a3 a4 a5 a6 a7 a8 a9 : FVec Ideal S2x4096x2048 .f32) (ix3 s t n) = gate (ofArgs a0 a1 a2 a3 a4 a5 a6 a7 a8 a9 a10) (ofArgs a0 a1 a2 a3 a4 a5 a6 a7 a8 a9 a10).wx (ofArgs a0 a1 a2 a3 a4 a5 a6 a7 a8 a9 a10).bx s t.val n := by
  unfold A_main_v57 A_main_v53 A_main_v52 A_main_v51 A_main_v56 A_main_v55 A_main_v54 A_main_v50 A_main_v35
  rw [addf_apply]
  refine congrArg₂ _ ?_ ((row_apply _ _ _ s t n).trans (flat_apply a8 _ n))
  refine (join_apply _ _ s t n).trans ((turn_apply _ _ s t _ _).trans ((gate_dot _ _ _ _ s t).trans (Finset.sum_congr rfl fun k _ => congrArg₂ _ ?_ ?_)))
  · exact (split_apply _ _ s t _ k).trans (v34_at a0 a1 a2 a3 a4 a5 a6 a7 a8 a9 a10 s t _)
  · exact blocks_apply a7 _ _ k _

/-- A gate. -/
theorem logisticx_at : (A_main_v63 (F := Ideal) a0 a3 a4 a5 a6 a7 a8 a9 : FVec Ideal S2x4096x2048 .f32) (ix3 s t n) = Ideal.logistic (gate (ofArgs a0 a1 a2 a3 a4 a5 a6 a7 a8 a9 a10) (ofArgs a0 a1 a2 a3 a4 a5 a6 a7 a8 a9 a10).wx (ofArgs a0 a1 a2 a3 a4 a5 a6 a7 a8 a9 a10).bx s t.val n) := by
  unfold A_main_v63 A_main_v61 A_main_v59 A_main_v58
  rw [div_at, addf_apply, exp_at, neg_at, gatex_at a0 a1 a2 a3 a4 a5 a6 a7 a8 a9 a10 s t n, K_v60_at, K_v62_at]
  rfl

/-- The logarithm of a decay. -/
theorem v73_at : (A_main_v73 (F := Ideal) a0 a3 a4 a5 a6 a7 a8 a9 : FVec Ideal S2x4096x2048 .f32) (ix3 s t n) = logA (ofArgs a0 a1 a2 a3 a4 a5 a6 a7 a8 a9 a10) s t.val n := by
  unfold A_main_v73 A_main_v70 A_main_v72 A_main_v71 A_main_v68 A_main_v67 A_main_v66 A_main_v65 A_main_v64
  rw [mulf_apply, mulf_apply, K_v69_at, logistica_at a0 a1 a2 a3 a4 a5 a6 a7 a8 a9 a10 s t n]
  refine Eq.trans ?_ (logDecay_eq _ _).symm
  refine congrArg₂ _ rfl ((row_apply _ _ _ s t n).trans ?_)
  rw [neg_at, log1p_at, exp_at, neg_at]
  exact congrArg logSig (flat_apply a9 _ n)

/-- A decay. -/
theorem v74_at : (A_main_v74 (F := Ideal) a0 a3 a4 a5 a6 a7 a8 a9 : FVec Ideal S2x4096x2048 .f32) (ix3 s t n) = decay (ofArgs a0 a1 a2 a3 a4 a5 a6 a7 a8 a9 a10) s t.val n := by
  unfold A_main_v74
  rw [exp_at, v73_at a0 a1 a2 a3 a4 a5 a6 a7 a8 a9 a10 s t n]
  rfl

/-- An input term. -/
theorem v81_at : (A_main_v81 (F := Ideal) a0 a3 a4 a5 a6 a7 a8 a9 : FVec Ideal S2x4096x2048 .f32) (ix3 s t n) = input (ofArgs a0 a1 a2 a3 a4 a5 a6 a7 a8 a9 a10) s t.val n := by
  unfold A_main_v81 A_main_v80 A_main_v79 A_main_v78 A_main_v77 A_main_v76
  rw [mulf_apply, mulf_apply, sqrt_at, neg_at, expm1_at, mulf_apply, K_v75_at, v73_at a0 a1 a2 a3 a4 a5 a6 a7 a8 a9 a10 s t n, logisticx_at a0 a1 a2 a3 a4 a5 a6 a7 a8 a9 a10 s t n, v34_at a0 a1 a2 a3 a4 a5 a6 a7 a8 a9 a10 s t n]
  exact congrArg₂ _ (factor_eq _ (logDecay_nonpos _ _)).symm rfl

end

/-- A trip's number as the slices' start. -/
theorem start_eq (j : Fin 4096) (a : Fin 3) :
    ((![(constantI S_ 32 (BitVec.ofNat 32 j.val) : (⟨S_, .i32⟩ : BufTy).Contents (Elt Ideal)), (constantI S_ 32 0#32), (constantI S_ 32 0#32)] : Fin 3 → (⟨S_, .i32⟩ : BufTy).Contents (Elt Ideal)) a (Shape.Idx.first h_S_)).toInt
      = ((![j.val, 0, 0] : Fin 3 → ℕ) a : Int) := by
  match a with
  | ⟨0, _⟩ => exact WordCmp.toInt_ofNat_of_lt (by have := j.isLt; omega)
  | ⟨1, _⟩ => rfl
  | ⟨2, _⟩ => rfl

/-- A trip's new state vector, at an element. -/
theorem b9_at (j : Fin 4096) (S : State Ideal) (s : Fin 2) (n : Fin 2048) :
    (b9 j.val S : FVec Ideal S2x2048 .f32) (ix2 s n)
      = (S.main_v86_0 : FVec Ideal S4096x2x2048 .f32) (ix3 j s n) * (S.main_v86_3 : FVec Ideal S2x2048 .f32) (ix2 s n) + (S.main_v86_1 : FVec Ideal S4096x2x2048 .f32) (ix3 j s n) := by
  unfold b9 b8 b7 b6 b3 b2
  rw [addf_apply, mulf_apply]
  exact congrArg₂ _ (congrArg₂ _ (trip_apply _ _ j (start_eq j) _ _ s n) rfl) (trip_apply _ _ j (start_eq j) _ _ s n)

/-- The states so far after a trip, at an element. -/
theorem b13_at (j : Fin 4096) (S : State Ideal) (t : Fin 4096) (s : Fin 2) (n : Fin 2048) :
    (b13 j.val S : FVec Ideal S4096x2x2048 .f32) (ix3 t s n)
      = if t = j then (b9 j.val S : FVec Ideal S2x2048 .f32) (ix2 s n) else (S.main_v86_4 : FVec Ideal S4096x2x2048 .f32) (ix3 t s n) := by
  unfold b13 b10
  exact put_apply _ _ _ j (start_eq j) _ _ t s n

section
variable (m : (ℓ : Loc nD τ sig) → Buf (Elt Ideal) ℓ) (c : Dev nD)

/-- What the layer is given, of the reference's arguments. -/
def given : Given := ofArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The decays are those of the layer at every trip. -/
theorem decays_at (j : ℕ) (t : Fin 4096) (s : Fin 2) (n : Fin 2048) :
    ((refAt m c j).main_v86_0 : FVec Ideal S4096x2x2048 .f32) (ix3 t s n) = decay (given m c) s t.val n := by
  induction j with
  | zero =>
    show A_main_v83 _ _ _ _ _ _ _ _ _ = _
    unfold A_main_v83
    exact (first_apply _ _ t s n).trans (v74_at _ _ _ _ _ _ _ _ _ _ _ s t n)
  | succ j ih => exact ih

/-- The input terms are those of the layer at every trip. -/
theorem inputs_at (j : ℕ) (t : Fin 4096) (s : Fin 2) (n : Fin 2048) :
    ((refAt m c j).main_v86_1 : FVec Ideal S4096x2x2048 .f32) (ix3 t s n) = input (given m c) s t.val n := by
  induction j with
  | zero =>
    show A_main_v84 _ _ _ _ _ _ _ _ _ = _
    unfold A_main_v84
    exact (first_apply _ _ t s n).trans (v81_at _ _ _ _ _ _ _ _ _ _ _ s t n)
  | succ j ih => exact ih

/-- The state vector before a trip. -/
theorem last_at (j : ℕ) (hj : j ≤ 4096) (s : Fin 2) (n : Fin 2048) :
    ((refAt m c j).main_v86_3 : FVec Ideal S2x2048 .f32) (ix2 s n) = state (given m c) s n j := by
  induction j with
  | zero => exact K_v82_at (ix2 s n)
  | succ j ih =>
    refine (b9_at ⟨j, hj⟩ (refAt m c j) s n).trans ?_
    rw [ih (by omega), decays_at, inputs_at]
    rfl

/-- The states so far before a trip. -/
theorem seen_at (j : ℕ) (hj : j ≤ 4096) (t : Fin 4096) (ht : t.val < j) (s : Fin 2) (n : Fin 2048) :
    ((refAt m c j).main_v86_4 : FVec Ideal S4096x2x2048 .f32) (ix3 t s n) = state (given m c) s n (t.val + 1) := by
  induction j with
  | zero => exact absurd ht (Nat.not_lt_zero _)
  | succ j ih =>
    refine (b13_at ⟨j, hj⟩ (refAt m c j) t s n).trans ?_
    by_cases q : t = ⟨j, hj⟩
    · rw [if_pos q]
      subst q
      exact last_at m c (j + 1) hj s n
    · rw [if_neg q]
      exact ih (by omega) (by
        have : t.val ≠ j := fun h => q (Fin.ext h)
        omega)

/-- The reference's output rows. -/
theorem v92_at (r : Fin 8192) (n : Fin 2048) :
    (R_main_v92 (refAt m c 4096) (m ((c.tc : Thread nD τ).loc main_arg1)) (m ((c.tc : Thread nD τ).loc main_arg2)) (m ((c.tc : Thread nD τ).loc main_arg10)) : FVec Ideal S8192x2048 .f32) (ix2 r n)
      = out (given m c) ⟨r.val / 4096, by omega⟩ ⟨r.val % 4096, by omega⟩ n := by
  unfold R_main_v92
  refine (rows_apply _ _ r n).trans ?_
  rw [addf_apply]
  refine congrArg₂ _ rfl ((out_dot _ _ _ _ n).trans (Finset.sum_congr rfl fun k _ => congrArg₂ _ ?_ (outw_apply _ _ k n)))
  rw [mulf_apply]
  exact congrArg₂ _ ((back_apply _ _ _ _ k).trans (seen_at m c 4096 le_rfl _ (Fin.isLt _) _ k)) rfl

/-- The reference's last states. -/
theorem v93_at (s : Fin 2) (r : Fin 8) (n : Fin 2048) :
    (R_main_v93 (refAt m c 4096) : FVec Ideal S2x8x2048 .f32) (ix3 s r n) = last (given m c) s r n := by
  unfold R_main_v93
  exact (tail_apply _ _ s r n).trans ((back_apply _ _ s _ n).trans (seen_at m c 4096 le_rfl _ (Fin.isLt _) s n))

end

end Cert.ReferenceIdeal.Hand

end
-- ==== Proof.Lru.Value.lean ====
module

public import proofs.«01_k».proof.Proof.Lru.States
public import proofs.«01_k».proof.Proof.Lru.RefValue
public import proofs.«01_k».proof.Defs
public import proofs.«01_k».proof.Proof.Gen.Kernel

/-! What the recurrence's arrays hold when the kernel ends, and that the reference's results are the same. -/

@[expose] public section

set_option maxRecDepth 16384

noncomputable section

namespace Cert.KernelIdeal.Hand

open Cert.KernelIdeal Cert.KernelIdeal.Gen Cert.Lru
open Idealize.ShloMosaic hiding ix1 ix2 ix3 ix4
open Idealize.SL.Sem Idealize.ShloMosaic.TcCoe Idealize.ShloMosaic.ValueIdx
open Idealize.ShloMosaic.Pipeline (Dat)

variable (m : (ℓ : Loc nD τ sig) → Buf (Elt Ideal) ℓ)

/-- The output rows of both sequences, one below the other. -/
def outRows (c : Dev nD) : Vec Ideal S8192x2048 .f32 := fun i => out (given m c) ⟨(i 0).val / 4096, by have : (i 0).val < 8192 := (i 0).isLt; omega⟩ ⟨(i 0).val % 4096, by omega⟩ (i 1)
/-- The states after the last eight rows of each sequence. -/
def lastRows (c : Dev nD) : Vec Ideal S2x8x2048 .f32 := fun i => last (given m c) (i 0) (i 1) (i 2)

theorem idx2 {a b : ℕ} (y : (⟨2, ![a, b]⟩ : Shape).Idx) : y = ix2 (y 0) (y 1) := funext fun i => match i with
  | ⟨0, _⟩ => rfl
  | ⟨1, _⟩ => rfl

theorem idx3 {a b k : ℕ} (y : (⟨3, ![a, b, k]⟩ : Shape).Idx) : y = ix3 (y 0) (y 1) (y 2) := funext fun i => match i with
  | ⟨0, _⟩ => rfl
  | ⟨1, _⟩ => rfl
  | ⟨2, _⟩ => rfl

/-- A block of output rows is written back at a point after the first. -/
theorem flush11_pos : ∀ t : Fin cfg0.N, (cfg0.win 11).flush t = true → t.val ≠ 0 :=
  (by decide +kernel : ∀ t : Fin grid0.N, win0_11.flush t = true → t.val ≠ 0)

/-- The last states are written back after each sequence. -/
theorem flush12_cases : ∀ t : Fin cfg0.N, (cfg0.win 12).flush t = true → t.val = 15 ∨ t.val = 32 :=
  (by decide +kernel : ∀ t : Fin grid0.N, win0_12.flush t = true → t.val = 15 ∨ t.val = 32)

/-- The output rows' array at the end. -/
theorem rows_array (c : Dev nD) : (dats m 0 c).arrAt 11 cfg0.N = outRows m c := by
  refine (dats m 0 c).arrAt_eq_of_covers 11 _ (by decide +kernel) fun t hf y => ?_
  have h0 := flush11_pos t hf
  have ht := lt33 t
  have y0 : (y 0).val < 256 := (y 0).isLt
  blk_simp
  rw [after11]
  refine (congrArg (stAt m c t.val t.isLt).o (idx2 y)).trans ((o_apply m c t h0 (y 0) (y 1)).trans ?_)
  unfold outRows
  refine congr (congrArg₂ (out (given m c)) (Fin.ext ?_) (Fin.ext ?_)) (Fin.ext ?_)
  · blk_simp [idx_facts t]
    show (t.val - 1) / 16 % 2 = ((t.val - 1) * 256 + (y 0).val) / 4096
    omega
  · blk_simp [idx_facts t]
    show 256 * ((t.val - 1) % 16) + (y 0).val = ((t.val - 1) * 256 + (y 0).val) % 4096
    omega
  · blk_simp [idx_facts t]

/-- What the buffer of last states holds where it is written back. -/
theorem last_block (c : Dev nD) (t : Fin cfg0.N) (h : t.val = 15 ∨ t.val = 32) (r : Fin 8) (j : Fin 2048) :
    (stAt m c t.val t.isLt).l (ix3 0 r j) = last (given m c) (seq (min t.val 31)) r j := by
  rcases h with h | h
  · rw [l_apply m c t (by omega) r j]
    unfold last
    rw [h]
    refine congrArg (state (given m c) (seq 15) j) ?_
    omega
  · have hN : cfg0.N = 33 := N_0
    rw [stAt_l m c t (by omega), stBefore_pos m c t.val _ (by omega)]
    have e : ∀ (n : ℕ) (hn : n < cfg0.N), n = 31 → (stAt m c n hn).l (ix3 0 r j) = last (given m c) (seq (min t.val 31)) r j := fun n hn q => by
      refine (l_apply m c ⟨n, hn⟩ (by show n < 32; omega) r j).trans ?_
      unfold last
      rw [h]
      subst q
      refine congrArg (state (given m c) (seq 31) j) ?_
      show 256 * (31 % 16) + 248 + r.val + 1 = 4088 + r.val + 1
      omega
    exact e _ _ (by omega)

/-- The last states' array at the end. -/
theorem last_array (c : Dev nD) : (dats m 0 c).arrAt 12 cfg0.N = lastRows m c := by
  refine (dats m 0 c).arrAt_eq_of_covers 12 _ (by decide +kernel) fun t hf y => ?_
  have h0 := flush12_cases t hf
  have y0 : (y 0).val < 1 := (y 0).isLt
  blk_simp
  rw [after12]
  refine (congrArg (stAt m c t.val t.isLt).l ((idx3 y).trans (congrArg (fun q => ix3 q (y 1) (y 2)) (Fin.ext (by show (y 0).val = 0; omega))))).trans ((last_block m c t h0 (y 1) (y 2)).trans ?_)
  unfold lastRows
  refine congr (congrArg₂ (last (given m c)) (Fin.ext ?_) (Fin.ext ?_)) (Fin.ext ?_)
  · blk_simp [idx_facts t]
    show min t.val 31 / 16 % 2 = min t.val 31 / 16
    omega
  · blk_simp [idx_facts t]
  · blk_simp [idx_facts t]

/-- Every run of the kernel ends with the layer's rows and last states in its results and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v10_0) = outRows m c
      ∧ r.2.mem ((c.tc : Thread nD τ).loc main_v10_1) = lastRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.2.out_eq c 11).trans (rows_array m c), (h.2.out_eq c 12).trans (last_array m c), h.1.1 c⟩)
    (Idealize.ShloMosaic.θ_run_and (frame_all m ρ) (run_main m ρ))

/-- With equal arguments both programs are given the same layer. -/
theorem given_same (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    Cert.ReferenceIdeal.Hand.given m' c = given m c := by
  unfold Cert.ReferenceIdeal.Hand.given
  rw [h0, h1, h2, h3, h4, h5, h6, h7, h8, h9, h10]
  rfl

/-- The reference's output rows. -/
theorem ref_rows (m' : (ℓ : Loc Cert.ReferenceIdeal.nD Cert.ReferenceIdeal.τ Cert.ReferenceIdeal.sig) → Buf (Elt Ideal) ℓ) (c : Dev nD)
    (hg : Cert.ReferenceIdeal.Hand.given m' c = given m c) :
    Cert.ReferenceIdeal.Step.R_main_v92 (F := Ideal) (Cert.ReferenceIdeal.Hand.refAt m' c 4096) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg10)) = outRows m c := by
  funext i
  refine (congrArg _ (idx2 i)).trans ((Cert.ReferenceIdeal.Hand.v92_at m' c (i 0) (i 1)).trans ?_)
  rw [hg]
  rfl

/-- The reference's last states. -/
theorem ref_last (m' : (ℓ : Loc Cert.ReferenceIdeal.nD Cert.ReferenceIdeal.τ Cert.ReferenceIdeal.sig) → Buf (Elt Ideal) ℓ) (c : Dev nD)
    (hg : Cert.ReferenceIdeal.Hand.given m' c = given m c) :
    Cert.ReferenceIdeal.Step.R_main_v93 (F := Ideal) (Cert.ReferenceIdeal.Hand.refAt m' c 4096) = lastRows m c := by
  funext i
  refine (congrArg _ (idx3 i)).trans ((Cert.ReferenceIdeal.Hand.v93_at m' c (i 0) (i 1) (i 2)).trans ?_)
  rw [hg]
  rfl

/-- Kernel and reference end with equal results. -/
theorem algebraic_all : Cert.algebraic_KernelIdeal_ReferenceIdeal := fun m g m' g' _ hagree =>
  have hg := fun c : Dev nD => given_same m m' c ((hagree c).1) ((hagree c).2.1) ((hagree c).2.2.1) ((hagree c).2.2.2.1) ((hagree c).2.2.2.2.1) ((hagree c).2.2.2.2.2.1) ((hagree c).2.2.2.2.2.2.1) ((hagree c).2.2.2.2.2.2.2.1) ((hagree c).2.2.2.2.2.2.2.2.1) ((hagree c).2.2.2.2.2.2.2.2.2.1) ((hagree c).2.2.2.2.2.2.2.2.2.2)
  ⟨outRows m, lastRows m, run_value m g, (θ_run Cert.ReferenceIdeal.defs _ _).mono (fun _ h c =>
    ⟨(h c).1.trans (ref_rows m m' c (hg c)), (h c).2.1.trans (ref_last m m' c (hg c)), (h c).2.2⟩) (Cert.ReferenceIdeal.Hand.run_ref m' g')⟩

/-- The kernel as compiled and the kernel over exact numbers run one body. -/
theorem body_same : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => rfl

theorem defs_same : Cert.Kernel.defs (F := Bits) = Cert.KernelIdeal.defs := by
  unfold Cert.Kernel.defs Cert.KernelIdeal.defs
  rw [body_same]
  rfl

/-- The frame of the kernel as compiled. -/
theorem frame_kernel : Cert.quiescent_Kernel := fun m ρ _ => by
  rw [defs_same]
  exact (θ_run Cert.KernelIdeal.defs _ _).mono (fun _ h => h) (frame_all (F := Bits) m ρ)

/-- The frame of the kernel over exact numbers. -/
theorem frame_kernel_ideal : Cert.quiescent_KernelIdeal := fun m ρ _ => frame_all (F := Ideal) m ρ

end Cert.KernelIdeal.Hand

end
-- ==== Proof.Ffn3.Halves.lean ====
module

public import Idealize.ShloMosaic.Lib.VecWindow
public import Idealize.ShloMosaic.Lib.Pipeline.FrameBody
public import Idealize.ShloMosaic.Lib.ValueIdx

/-! A block of 1024 rows handled as two halves of 512 rows: its halves, the block two halves make, and
what a buffer holds after the two halves were stored into it. -/

@[expose] public section

set_option maxRecDepth 16384

noncomputable section

namespace Cert.Halves

open Idealize.ShloMosaic Idealize.ShloMosaic.ValueIdx

variable {α : Type}

/-- The shape of a block of 1024 rows. -/
abbrev Full : Shape := ⟨2, ![1024, 2048]⟩
/-- The shape of one of its halves. -/
abbrev Half : Shape := ⟨2, ![512, 2048]⟩

theorem inb0 : ∀ a, (![0, 0] : Fin 2 → ℕ) a + Half.size a ≤ Full.size a := by decide
theorem inb1 : ∀ a, (![512, 0] : Fin 2 → ℕ) a + Half.size a ≤ Full.size a := by decide

/-- The upper 512 rows. -/
def top (x : Full.Idx → α) : Half.Idx → α := VecWindow.window (s := Full) x ![0, 0] Half.size inb0
/-- The lower 512 rows. -/
def bot (x : Full.Idx → α) : Half.Idx → α := VecWindow.window (s := Full) x ![512, 0] Half.size inb1

/-- The block of two halves, the upper and the lower. -/
def stack (a b : Half.Idx → α) : Full.Idx → α := fun y =>
  if h : (y (0 : Fin 2)).val < 512 then a (ix2 ⟨(y (0 : Fin 2)).val, h⟩ ⟨(y (1 : Fin 2)).val, (y (1 : Fin 2)).isLt⟩)
  else b (ix2 ⟨(y (0 : Fin 2)).val - 512, by have h2 : (y (0 : Fin 2)).val < 1024 := (y (0 : Fin 2)).isLt; show _ < 512; omega⟩ ⟨(y (1 : Fin 2)).val, (y (1 : Fin 2)).isLt⟩)

/-- Storing both halves leaves their block, whatever was there. -/
theorem put_put (x : Full.Idx → α) (a b : Half.Idx → α) :
    VecWindow.put (s := Full) (VecWindow.put (s := Full) x ![0, 0] Half.size a) ![512, 0] Half.size b = stack a b := by
  funext y
  have h0 : (y (0 : Fin 2)).val < 1024 := (y (0 : Fin 2)).isLt
  have h1 : (y (1 : Fin 2)).val < 2048 := (y (1 : Fin 2)).isLt
  unfold VecWindow.put stack
  by_cases h : (y (0 : Fin 2)).val < 512
  · have hn : ¬ ∀ a : Fin 2, (![512, 0] : Fin 2 → ℕ) a ≤ (y a).val ∧ (y a).val < (![512, 0] : Fin 2 → ℕ) a + Half.size a := fun hh => by
      have : 512 ≤ (y (0 : Fin 2)).val := (hh 0).1
      omega
    have hp : ∀ a : Fin 2, (![0, 0] : Fin 2 → ℕ) a ≤ (y a).val ∧ (y a).val < (![0, 0] : Fin 2 → ℕ) a + Half.size a :=
      Fin.forall_fin_two.mpr ⟨⟨Nat.zero_le _, by show _ < 0 + 512; omega⟩, Nat.zero_le _, by show _ < 0 + 2048; omega⟩
    rw [dif_neg hn, dif_pos hp, dif_pos h]
    exact congrArg a (funext (Fin.forall_fin_two.mpr ⟨Fin.ext rfl, Fin.ext rfl⟩))
  · have hp : ∀ a : Fin 2, (![512, 0] : Fin 2 → ℕ) a ≤ (y a).val ∧ (y a).val < (![512, 0] : Fin 2 → ℕ) a + Half.size a :=
      Fin.forall_fin_two.mpr ⟨⟨by show 512 ≤ _; omega, by show _ < 512 + 512; omega⟩, Nat.zero_le _, by show _ < 0 + 2048; omega⟩
    rw [dif_pos hp, dif_neg h]
    exact congrArg b (funext (Fin.forall_fin_two.mpr ⟨Fin.ext rfl, Fin.ext rfl⟩))

/-- The upper half of a block of two halves. -/
theorem top_stack (a b : Half.Idx → α) : top (stack a b) = a := by
  rw [← put_put (stack a b)]; unfold top
  rw [VecWindow.window_put_of_disjoint (s := Full) _ _ _ _ _ _ _ (0 : Fin 2) (.inl (by decide)), VecWindow.window_put_same]

/-- The lower half of a block of two halves. -/
theorem bot_stack (a b : Half.Idx → α) : bot (stack a b) = b := by
  rw [← put_put (stack a b)]; unfold bot
  rw [VecWindow.window_put_same]

/-- Storing the upper half leaves the lower one. -/
theorem bot_put (x : Full.Idx → α) (a : Half.Idx → α) : bot (VecWindow.put (s := Full) x ![0, 0] Half.size a) = bot x :=
  VecWindow.window_put_of_disjoint (s := Full) _ _ _ _ _ _ _ (0 : Fin 2) (.inr (by decide))

section
variable {sig : RefSig} {κ : Kind} {sp : Space} {e : EltTy} {Val : EltTy → Type}

/-- A load of the upper half of a buffer. -/
theorem readAt_top (v : View sig κ sp Full e) (f : v.ty.Contents Val) {off : Fin 2 → ℕ} (inb : ∀ a, off a + Half.size a ≤ Full.size a) (h : off = ![0, 0]) :
    v.readAt Val (Rect.unit (s := Full) off Half.size inb).toLoadRect f = top (v.read Val f) := View.readAt_unit v f inb h inb0
/-- A load of the lower half of a buffer. -/
theorem readAt_bot (v : View sig κ sp Full e) (f : v.ty.Contents Val) {off : Fin 2 → ℕ} (inb : ∀ a, off a + Half.size a ≤ Full.size a) (h : off = ![512, 0]) :
    v.readAt Val (Rect.unit (s := Full) off Half.size inb).toLoadRect f = bot (v.read Val f) := View.readAt_unit v f inb h inb1
/-- What a buffer holds after its two halves were stored. -/
theorem read_stack (v : View sig κ sp Full e) (f : v.ty.Contents Val) {off0 off1 : Fin 2 → ℕ} (i0 : ∀ a, off0 a + Half.size a ≤ Full.size a) (i1 : ∀ a, off1 a + Half.size a ≤ Full.size a)
    (a : (Rect.unit (s := Full) off0 Half.size i0).shape.Idx → Val e) (b : (Rect.unit (s := Full) off1 Half.size i1).shape.Idx → Val e) (L : List (View.Piece Val Full e)) (h0 : off0 = ![0, 0]) (h1 : off1 = ![512, 0]) :
    v.read Val (v.writes Val f (⟨Rect.unit off1 Half.size i1, b⟩ :: ⟨Rect.unit off0 Half.size i0, a⟩ :: L)) = stack a b := by
  rw [View.read_writes_cons_put v f i1 b _ h1, View.read_writes_cons_put v f i0 a _ h0]; exact put_put _ _ _
/-- The lower half of a buffer after its upper half was stored. -/
theorem bot_read_cons (v : View sig κ sp Full e) (f : v.ty.Contents Val) {off0 : Fin 2 → ℕ} (i0 : ∀ a, off0 a + Half.size a ≤ Full.size a)
    (a : (Rect.unit (s := Full) off0 Half.size i0).shape.Idx → Val e) (L : List (View.Piece Val Full e)) (h0 : off0 = ![0, 0]) :
    bot (v.read Val (v.writes Val f (⟨Rect.unit off0 Half.size i0, a⟩ :: L))) = bot (v.read Val (v.writes Val f L)) := by
  rw [View.read_writes_cons_put v f i0 a _ h0]; exact bot_put _ _

/-- A load of a whole rank-2 buffer. -/
theorem readAt_all2 {n m : ℕ} (v : View sig κ sp ⟨2, ![n, m]⟩ e) (f : v.ty.Contents Val) {off : Fin 2 → ℕ} (inb : ∀ a, off a + (![n, m] : Fin 2 → ℕ) a ≤ (![n, m] : Fin 2 → ℕ) a) :
    v.readAt Val (Rect.unit (s := ⟨2, ![n, m]⟩) off ![n, m] inb).toLoadRect f = v.read Val f := View.readAt_full v f inb
/-- A load of a whole rank-3 buffer. -/
theorem readAt_all3 {l n m : ℕ} (v : View sig κ sp ⟨3, ![l, n, m]⟩ e) (f : v.ty.Contents Val) {off : Fin 3 → ℕ} (inb : ∀ a, off a + (![l, n, m] : Fin 3 → ℕ) a ≤ (![l, n, m] : Fin 3 → ℕ) a) :
    v.readAt Val (Rect.unit (s := ⟨3, ![l, n, m]⟩) off ![l, n, m] inb).toLoadRect f = v.read Val f := View.readAt_full v f inb
/-- A load of a whole rank-2 buffer after a store of the whole of it. -/
theorem readCov_all2 [∀ e, Nonempty (Val e)] {n m : ℕ} (v : View sig κ sp ⟨2, ![n, m]⟩ e) {off off' : Fin 2 → ℕ} (inb : ∀ a, off a + (![n, m] : Fin 2 → ℕ) a ≤ (![n, m] : Fin 2 → ℕ) a)
    (inb' : ∀ a, off' a + (![n, m] : Fin 2 → ℕ) a ≤ (![n, m] : Fin 2 → ℕ) a) (w : (Rect.unit (s := ⟨2, ![n, m]⟩) off' ![n, m] inb').shape.Idx → Val e) (L : List (View.Piece Val ⟨2, ![n, m]⟩ e)) :
    v.readCov (⟨Rect.unit (s := ⟨2, ![n, m]⟩) off' ![n, m] inb', w⟩ :: L) (Rect.unit (s := ⟨2, ![n, m]⟩) off ![n, m] inb).toLoadRect = w := View.readCov_full v inb inb' w L
end

end Cert.Halves

end
-- ==== Proof.Ffn2.Steps.lean ====
module

public import proofs.«01_k».proof.Proof.Gen.Kernel2Ideal.Frame
public import proofs.«01_k».proof.Proof.Gen.Kernel2Ideal.Loops
public import proofs.«01_k».proof.Proof.Ffn3.Halves
public import Idealize.ShloMosaic.Lib.Pipeline.FrameBody
public import Idealize.ShloMosaic.Lib.Tactic
public import Idealize.ShloMosaic.Lib.WordCmp

/-! What one point of the feed-forward kernel's grid does to the buffers it keeps: the normalised rows, the
sum over the blocks of hidden columns, and the rows it leaves, for the prompt's block of 1024 rows (`rows…`) and for
the sample's 256 rows (`side…`); and what its two loops over halves of 512 rows store. -/

@[expose] public section

set_option maxRecDepth 16384

noncomputable section

namespace Cert.Kernel2Ideal.Hand

open Cert.Kernel2Ideal Cert.Kernel2Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The prompt's rows normalised and scaled by the gain. -/
def rowsH (x : Vec F S1024x2048 .f32) (g : Vec F S1x1x2048 .f32) : Vec F S1024x2048 .bf16 := stack (k0_pay9 (top x) g) (k0_pay9 (bot x) g)
/-- The sum at its start. -/
def rowsZ : Vec F S1024x2048 .f32 := stack (k0_pay10 (F := F)) (k0_pay10 (F := F))
/-- The sum with one block of hidden columns added. -/
def rowsO (h : Vec F S1024x2048 .bf16) (wg wu : Vec F S2048x512 .bf16) (wo : Vec F S512x2048 .bf16) (o : Vec F S1024x2048 .f32) : Vec F S1024x2048 .f32 :=
  stack (k0_pay12 (top h) wg wu (top o) wo) (k0_pay1 (k0_pay11 (bot h) wg wu) (bot o) wo)
/-- The rows the last block leaves. -/
def rowsE (x : Vec F S1024x2048 .f32) (o : Vec F S1024x2048 .f32) : Vec F S1024x2048 .f32 := stack (k0_pay4 (top x) (top o)) (k0_pay4 (bot x) (bot o))
/-- The sample's rows normalised and scaled by the gain. -/
def sideH (x : Vec F S256x2048 .f32) (g : Vec F S1x1x2048 .f32) : Vec F S256x2048 .bf16 := k0_pay5 x g
/-- The sample's sum at its start. -/
def sideZ : Vec F S256x2048 .f32 := k0_pay6 (F := F)
/-- The sample's sum with one block of hidden columns added. -/
def sideO (h : Vec F S256x2048 .bf16) (wg wu : Vec F S2048x512 .bf16) (wo : Vec F S512x2048 .bf16) (o : Vec F S256x2048 .f32) : Vec F S256x2048 .f32 := k0_pay7 h wg wu o wo
/-- The sample's rows the last block leaves. -/
def sideE (x : Vec F S256x2048 .f32) (o : Vec F S256x2048 .f32) : Vec F S256x2048 .f32 := k0_pay8 x o
/-- A block of the next layer's weights, cast. -/
def cast12 (w : Vec F S1x256x1024 .f32) : Vec F S256x1024 .bf16 := k0_pay2 w
/-- A block of the next layer's weights, cast. -/
def cast13 (w : Vec F S1x512x256 .f32) : Vec F S512x256 .bf16 := k0_pay3 w

section
variable (arg2 : Memref sig .tc .vmem S1024x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S256x2048 .f32) (harg7 : arg7.IsWhole) (arg8 : Memref sig .tc .vmem S1x256x1024 .f32) (harg8 : arg8.IsWhole) (arg9 : Memref sig .tc .vmem S1x512x256 .f32) (harg9 : arg9.IsWhole) (arg10 : Memref sig .tc .vmem S1024x2048 .f32) (harg10 : arg10.IsWhole) (arg11 : Memref sig .tc .vmem S256x2048 .f32) (harg11 : arg11.IsWhole) (arg12 : Memref sig .tc .vmem S256x1024 .bf16) (harg12 : arg12.IsWhole) (arg13 : Memref sig .tc .vmem S512x256 .bf16) (harg13 : arg13.IsWhole) (arg14 : Memref sig .tc .vmem S1024x2048 .bf16) (harg14 : arg14.IsWhole) (arg15 : Memref sig .tc .vmem S256x2048 .bf16) (harg15 : arg15.IsWhole)

theorem trips1 : Scf.trips k0_t1_loop.lb k0_t1_loop.ub k0_t1_loop.st = 2 := by decide
theorem trips2 : Scf.trips k0_t2_loop.lb k0_t2_loop.ub k0_t2_loop.st = 2 := by decide
theorem off1_0 : k0_off1 ⟨0, by decide⟩ = ![0, 0] := by decide
theorem off1_1 : k0_off1 ⟨1, by decide⟩ = ![512, 0] := by decide
theorem off2_0 : k0_off2 ⟨0, by decide⟩ = ![0, 0] := by decide
theorem off2_1 : k0_off2 ⟨1, by decide⟩ = ![512, 0] := by decide

/-- What one trip of the first loop stores: a half of the sum at its start, and a half of the normalised rows. -/
theorem trip1 (c : Dev nD) (i : grid0.Coords) (hc1 : k0_cond1 i = 1#1) (X2 : BufTy.Contents (Elt F) arg2.view.ty) (X3 : BufTy.Contents (Elt F) arg3.view.ty) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 k
      = ([⟨(Rect.unit (s := S1024x2048) (k0_off1 k) S512x2048.size (k0_off1_inb i k hc1)), k0_pay10⟩],
         [⟨(Rect.unit (s := S1024x2048) (k0_off1 k) S512x2048.size (k0_off1_inb i k hc1)), k0_pay9 (View.readAt (Elt F) arg2.view (Rect.unit (s := S1024x2048) (k0_off1 k) S512x2048.size (k0_off1_inb i k hc1)).toLoadRect X2) (View.readAt (Elt F) arg3.view (Rect.unit (s := S1x1x2048) ![0, 0, 0] S1x1x2048.size inb_S1x1x2048_S1x1x2048_0_0_0).toLoadRect X3)⟩]) := by
  unfold tripL_k0_t1 trip_k0_t1; rfl

/-- The first loop's stores are its two trips'. -/
theorem pb1 (c : Dev nD) (i : grid0.Coords) (hc1 : k0_cond1 i = 1#1) (X2 : BufTy.Contents (Elt F) arg2.view.ty) (X3 : BufTy.Contents (Elt F) arg3.view.ty) :
    pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 (Scf.trips k0_t1_loop.lb k0_t1_loop.ub k0_t1_loop.st)
      = ((tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 ⟨1, by decide⟩).1 ++ (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 ⟨0, by decide⟩).1, (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 ⟨1, by decide⟩).2 ++ (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 ⟨0, by decide⟩).2) := by
  rw [trips1]
  have h1 := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 ⟨1, by decide⟩
  have h0 := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 ⟨0, by decide⟩
  exact h1.trans (by rw [show ((⟨1, by decide⟩ : Fin k0_t1_loop.trips)).val = (⟨0, by decide⟩ : Fin k0_t1_loop.trips).val + 1 from rfl, h0]; simp [pb_k0_t1])

/-- What the first loop leaves in the buffer of the normalised rows. -/
theorem read_pb1_h (c : Dev nD) (i : grid0.Coords) (hc1 : k0_cond1 i = 1#1) (X2 : BufTy.Contents (Elt F) arg2.view.ty) (X3 : BufTy.Contents (Elt F) arg3.view.ty) (f : BufTy.Contents (Elt F) arg14.view.ty) :
    arg14.view.read (Elt F) (arg14.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 (Scf.trips k0_t1_loop.lb k0_t1_loop.ub k0_t1_loop.st)).2)
      = rowsH (arg2.view.read (Elt F) X2) (arg3.view.read (Elt F) X3) := by
  rw [pb1, trip1, trip1]
  refine (read_stack _ _ _ _ _ _ _ off1_0 off1_1).trans ?_
  unfold rowsH
  rw [readAt_top _ _ _ off1_0, readAt_bot _ _ _ off1_1, View.readAt_full]

/-- What the first loop leaves in the buffer of the sum. -/
theorem read_pb1_o (c : Dev nD) (i : grid0.Coords) (hc1 : k0_cond1 i = 1#1) (X2 : BufTy.Contents (Elt F) arg2.view.ty) (X3 : BufTy.Contents (Elt F) arg3.view.ty) (f : BufTy.Contents (Elt F) arg10.view.ty) :
    arg10.view.read (Elt F) (arg10.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 (Scf.trips k0_t1_loop.lb k0_t1_loop.ub k0_t1_loop.st)).1) = rowsZ := by
  rw [pb1, trip1, trip1]
  exact read_stack _ _ _ _ _ _ _ off1_0 off1_1

/-- The same, the number of trips written out. -/
theorem read_pb1_h' (c : Dev nD) (i : grid0.Coords) (hc1 : k0_cond1 i = 1#1) (X2 : BufTy.Contents (Elt F) arg2.view.ty) (X3 : BufTy.Contents (Elt F) arg3.view.ty) (f : BufTy.Contents (Elt F) arg14.view.ty) (n : ℕ) (hn : n = 2) :
    arg14.view.read (Elt F) (arg14.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 n).2)
      = rowsH (arg2.view.read (Elt F) X2) (arg3.view.read (Elt F) X3) := by
  subst hn; exact read_pb1_h arg2 harg2 arg3 harg3 arg4 harg4 arg5 harg5 arg6 harg6 arg7 harg7 arg8 harg8 arg9 harg9 arg10 harg10 arg11 harg11 arg12 harg12 arg13 harg13 arg14 harg14 arg15 harg15 c i hc1 X2 X3 f

/-- The same, the number of trips written out. -/
theorem read_pb1_o' (c : Dev nD) (i : grid0.Coords) (hc1 : k0_cond1 i = 1#1) (X2 : BufTy.Contents (Elt F) arg2.view.ty) (X3 : BufTy.Contents (Elt F) arg3.view.ty) (f : BufTy.Contents (Elt F) arg10.view.ty) (n : ℕ) (hn : n = 2) :
    arg10.view.read (Elt F) (arg10.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc1 X2 X3 n).1)
      = rowsZ := by
  subst hn; exact read_pb1_o arg2 harg2 arg3 harg3 arg4 harg4 arg5 harg5 arg6 harg6 arg7 harg7 arg8 harg8 arg9 harg9 arg10 harg10 arg11 harg11 arg12 harg12 arg13 harg13 arg14 harg14 arg15 harg15 c i hc1 X2 X3 f

/-- What one trip of the second loop stores, of the contents it finds: a half of the rows left. -/
theorem trip2 (c : Dev nD) (i : grid0.Coords) (hc2 : k0_cond2 i = 1#1) (X2 : BufTy.Contents (Elt F) arg2.view.ty) (k : Fin k0_t2_loop.trips) (f : BufTy.Contents (Elt F) arg10.view.ty) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc2 X2 k f
      = [⟨(Rect.unit (s := S1024x2048) (k0_off2 k) S512x2048.size (k0_off2_inb i k hc2)), k0_pay4 (View.readAt (Elt F) arg2.view (Rect.unit (s := S1024x2048) (k0_off2 k) S512x2048.size (k0_off2_inb i k hc2)).toLoadRect X2) (View.readAt (Elt F) arg10.view (Rect.unit (s := S1024x2048) (k0_off2 k) S512x2048.size (k0_off2_inb i k hc2)).toLoadRect f)⟩] := by
  unfold tripL_k0_t2 trip_k0_t2; rfl

/-- What the second loop leaves in the buffer of the sum it finds. -/
theorem read_pb2 (c : Dev nD) (i : grid0.Coords) (hc2 : k0_cond2 i = 1#1) (X2 : BufTy.Contents (Elt F) arg2.view.ty) (f : BufTy.Contents (Elt F) arg10.view.ty) :
    arg10.view.read (Elt F) (arg10.view.writes (Elt F) f (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc2 X2 f (Scf.trips k0_t2_loop.lb k0_t2_loop.ub k0_t2_loop.st)))
      = rowsE (arg2.view.read (Elt F) X2) (arg10.view.read (Elt F) f) := by
  have h1 := pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc2 X2 f ⟨1, by decide⟩
  have h0 := pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc2 X2 f ⟨0, by decide⟩
  rw [trips2, show (2 : ℕ) = (⟨1, by decide⟩ : Fin k0_t2_loop.trips).val + 1 from rfl, h1,
    show ((⟨1, by decide⟩ : Fin k0_t2_loop.trips)).val = (⟨0, by decide⟩ : Fin k0_t2_loop.trips).val + 1 from rfl, h0, trip2, trip2]
  simp only [pb_k0_t2, View.writes_nil, List.append_nil, List.singleton_append]
  refine (read_stack _ _ _ _ _ _ _ off2_0 off2_1).trans ?_
  unfold rowsE
  rw [readAt_top _ _ _ off2_0, readAt_bot _ _ _ off2_1, readAt_top _ _ _ off2_0, readAt_bot _ _ _ off2_1, bot_read_cons _ _ _ _ _ off2_0, View.writes_nil]
end

end Cert.Kernel2Ideal.Hand

end
-- ==== Proof.Ffn3.RowMath.lean ====
module

public import proofs.«01_k».proof.Proof.Ffn3.Halves
public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.PureOps.Ideal.Laws

/-! The mathematics of one row of a feed-forward layer over the extended reals, and the vector operations of the
kernels read at one element as that mathematics. -/

@[expose] public section

set_option maxRecDepth 16384

noncomputable section

namespace Cert.Rows

open Idealize.ShloMosaic Idealize.ShloMosaic.ValueIdx Cert.Halves

/-! ## One row -/

/-- The model width, 2048, as the word the programs write. -/
def width : EReal := Ideal.ofBits .f32 0x45000000#32
/-- The small number added under the root, as the word the programs write. -/
def eps : EReal := Ideal.ofBits .f32 0x358637BD#32
/-- One half, as the word the programs write. -/
def half : EReal := Ideal.ofBits .f32 0x3F000000#32

/-- A row over the root of its mean square, times a gain. -/
def nrm (x γ : Fin 2048 → EReal) (j : Fin 2048) : EReal :=
  x j * Ideal.rsqrt (Ideal.div (∑ k, x k * x k) width + eps) * γ j

/-- One hidden unit: the gate's product through the gate function, times the other product. -/
def act (h wg wu : Fin 2048 → EReal) : EReal :=
  (∑ k, h k * wg k) * Ideal.logistic (∑ k, h k * wg k) * (∑ k, h k * wu k)

/-- The contribution of hidden units `k` of a block to output `j`. -/
def block (h : Fin 2048 → EReal) (wg wu : Fin 2048 → Fin 512 → EReal) (wo : Fin 512 → EReal) : EReal :=
  ∑ k, act h (fun i => wg i k) (fun i => wu i k) * wo k

/-- The feed-forward of a normalised row at output `j`: the sum over all 5632 hidden units. -/
def hidden (h : Fin 2048 → EReal) (wi : Fin 2048 → Fin 11264 → EReal) (wo : Fin 5632 → EReal) : EReal :=
  ∑ n : Fin 5632, act h (fun i => wi i ⟨n.val, by omega⟩) (fun i => wi i ⟨n.val + 5632, by omega⟩) * wo n

/-- A row with half of its feed-forward added. -/
def layer (x γ : Fin 2048 → EReal) (wi : Fin 2048 → Fin 11264 → EReal) (wo : Fin 5632 → Fin 2048 → EReal) (j : Fin 2048) : EReal :=
  x j + half * hidden (nrm x γ) wi (fun n => wo n j)

/-- The sum over 5632 hidden units is the sum over 11 blocks of 512. -/
theorem hidden_blocks (h : Fin 2048 → EReal) (wi : Fin 2048 → Fin 11264 → EReal) (wo : Fin 5632 → EReal) :
    hidden h wi wo = ∑ f : Fin 11, block h (fun i k => wi i ⟨512 * f.val + k.val, by omega⟩)
      (fun i k => wi i ⟨512 * (f.val + 11) + k.val, by omega⟩) (fun k => wo ⟨512 * f.val + k.val, by omega⟩) := by
  unfold hidden block
  rw [← Fintype.sum_prod_type', ← Equiv.sum_comp (finProdFinEquiv (m := 11) (n := 512))]
  refine Finset.sum_congr rfl fun p _ => ?_
  have e : (finProdFinEquiv p).val = 512 * p.1.val + p.2.val := by simp [finProdFinEquiv]; omega
  congr 1
  · congr 1
    · funext i; exact congrArg (wi i) (Fin.ext e)
    · funext i; exact congrArg (wi i) (Fin.ext (by show (finProdFinEquiv p).val + 5632 = _; rw [e]; dsimp only; omega))
  · exact congrArg wo (Fin.ext e)

/-! ## The vector operations at one element -/

section
variable {M : ℕ}

/-- Rows over the root of their mean square times a gain, at an element. -/
theorem norm_apply (x : FVec Ideal ⟨2, ![M, 2048]⟩ .f32) (g : FVec Ideal ⟨3, ![1, 1, 2048]⟩ .f32)
    (hr : (⟨2, ![M, 2048]⟩ : Shape).Reduces [1] ⟨1, ![M]⟩) (hφ : FKind.Formats .f32) (hacc) (h1 : (⟨1, ![M]⟩ : Shape).ShapeCasts ⟨2, ![M, 1]⟩)
    (h2 : (⟨2, ![M, 1]⟩ : Shape).Broadcasts ⟨2, ![M, 2048]⟩) (h3 : (⟨3, ![1, 1, 2048]⟩ : Shape).ShapeCasts ⟨2, ![1, 2048]⟩) (h4 : (⟨2, ![1, 2048]⟩ : Shape).Broadcasts ⟨2, ![M, 2048]⟩)
    (r : Fin M) (j : Fin 2048) :
    mulf (mulf x (broadcastTo ⟨2, ![M, 2048]⟩ (rsqrt (addf (divf (shapeCast ⟨2, ![M, 1]⟩ (multiReduction .add [1] ⟨1, ![M]⟩ (mulf x x) 0x00000000#32 hr hφ hacc) h1)
      (broadcast ⟨2, ![M, 1]⟩ (Scalar.ofBits .f32 0x45000000#32))) (broadcast ⟨2, ![M, 1]⟩ (Scalar.ofBits .f32 0x358637BD#32)))) h2))
      (broadcastTo ⟨2, ![M, 2048]⟩ (shapeCast ⟨2, ![1, 2048]⟩ g h3) h4) (ix2 r j)
      = nrm (fun k => x (ix2 r k)) (fun k => g (ix3 0 0 k)) j := by
  rw [mulf_apply, mulf_apply, broadcastTo_1b_ab_apply, shapeCast_1ab_ab_apply]
  rw [broadcastTo_apply _ h2 (ix2 r j) (ix2 r (0 : Fin 1)) (Fin.forall_fin_two.mpr ⟨by
      show r.val = if M = 1 then 0 else r.val
      split <;> omega, rfl⟩)]
  unfold nrm
  refine congrArg₂ _ (congrArg₂ _ rfl ?_) rfl
  show Ideal.rsqrt (Ideal.div (shapeCast _ _ _ _) width + eps) = _
  rw [shapeCast_a_a1_apply, Ideal.multiReduction_add_single]
  congr 3
  refine Finset.sum_congr rfl fun k _ => ?_
  have e : hr.lift (ix1 r) k = ix2 r (⟨k.val, k.isLt⟩ : Fin 2048) := by
    funext a; apply Fin.ext
    match a with
    | ⟨0, _⟩ => rfl
    | ⟨1, _⟩ => rfl
  rw [e]; rfl

/-- A product into zeros, at an element: the sum of the operands' products. -/
theorem dot_apply {K N : ℕ} {φ₁ φ₂ : FTy} (h : FVec Ideal ⟨2, ![M, K]⟩ φ₁) (w : FVec Ideal ⟨2, ![K, N]⟩ φ₂) (r : Fin M) (k : Fin N) :
    matmul (DotDims.plain M K N) none h w (constant ⟨2, ![M, N]⟩ .f32 0x00000000#32) (ix2 r k) = ∑ i : Fin K, h (ix2 r i) * w (ix2 i k) := by
  refine (Ideal.matmul_plain_apply (M := M) none h w _ r k).trans ?_
  rw [constant_apply, Ideal.ofBits_zero_f32, zero_add]

/-- The hidden units of a block at an element. -/
theorem act_apply (h : FVec Ideal ⟨2, ![M, 2048]⟩ .bf16) (wg wu : FVec Ideal ⟨2, ![2048, 512]⟩ .bf16) (p q : FVec Ideal ⟨2, ![M, 512]⟩ .f32)
    (hp : p = matmul (DotDims.plain M 2048 512) none h wg (constant ⟨2, ![M, 512]⟩ .f32 0x00000000#32))
    (hq : q = matmul (DotDims.plain M 2048 512) none h wu (constant ⟨2, ![M, 512]⟩ .f32 0x00000000#32)) (r : Fin M) (k : Fin 512) :
    mulf (mulf p (logistic p)) q (ix2 r k) = act (fun i => h (ix2 r i)) (fun i => wg (ix2 i k)) (fun i => wu (ix2 i k)) := by
  have e1 : p (ix2 r k) = _ := (congrFun hp _).trans (dot_apply h wg r k)
  have e2 : q (ix2 r k) = _ := (congrFun hq _).trans (dot_apply h wu r k)
  rw [mulf_apply, mulf_apply, show logistic p (ix2 r k) = Ideal.logistic (p (ix2 r k)) from rfl, e1, e2]
  rfl

/-- One block of hidden columns, at an element of the sum: the sum so far plus the block's contribution. -/
theorem block_apply (h : FVec Ideal ⟨2, ![M, 2048]⟩ .bf16) (wg wu : FVec Ideal ⟨2, ![2048, 512]⟩ .bf16) (a : FVec Ideal ⟨2, ![M, 512]⟩ .bf16) (wo : FVec Ideal ⟨2, ![512, 2048]⟩ .bf16)
    (o : FVec Ideal ⟨2, ![M, 2048]⟩ .f32) (r : Fin M) (j : Fin 2048)
    (ha : ∀ k : Fin 512, a (ix2 r k) = act (fun i => h (ix2 r i)) (fun i => wg (ix2 i k)) (fun i => wu (ix2 i k))) :
    addf o (matmul (DotDims.plain M 512 2048) none a wo (constant ⟨2, ![M, 2048]⟩ .f32 0x00000000#32)) (ix2 r j)
      = o (ix2 r j) + block (fun i => h (ix2 r i)) (fun i k => wg (ix2 i k)) (fun i k => wu (ix2 i k)) (fun k => wo (ix2 k j)) := by
  rw [addf_apply, dot_apply]
  unfold block
  exact congrArg (o (ix2 r j) + ·) (Finset.sum_congr rfl fun k _ => by rw [ha k])

/-- A row with half of another added, at an element. -/
theorem add_half_apply (x o : FVec Ideal ⟨2, ![M, 2048]⟩ .f32) (i) :
    addf x (mulf (broadcast ⟨2, ![M, 2048]⟩ (Scalar.ofBits .f32 0x3F000000#32)) o) i = x i + half * o i := rfl

end

/-! ## Blocks of two halves at one element -/

theorem top_apply {α : Type} (x : Full.Idx → α) (r : Fin 512) (j : Fin 2048) : top x (ix2 r j) = x (ix2 ⟨r.val, by omega⟩ j) := by
  unfold top VecWindow.window
  refine congrArg x ?_
  funext a; apply Fin.ext
  match a with
  | ⟨0, _⟩ => show 0 + 1 * r.val = r.val; omega
  | ⟨1, _⟩ => show 0 + 1 * j.val = j.val; omega

theorem bot_apply {α : Type} (x : Full.Idx → α) (r : Fin 512) (j : Fin 2048) : bot x (ix2 r j) = x (ix2 ⟨512 + r.val, by omega⟩ j) := by
  unfold bot VecWindow.window
  refine congrArg x ?_
  funext a; apply Fin.ext
  match a with
  | ⟨0, _⟩ => show 512 + 1 * r.val = 512 + r.val; omega
  | ⟨1, _⟩ => show 0 + 1 * j.val = j.val; omega

/-- What holds of every element of two halves holds of the block they make. -/
theorem stack_apply {α : Type} (a b : Half.Idx → α) (P : Fin 1024 → Fin 2048 → α) (ha : ∀ r j, a (ix2 r j) = P ⟨r.val, by omega⟩ j)
    (hb : ∀ r j, b (ix2 r j) = P ⟨512 + r.val, by omega⟩ j) (r : Fin 1024) (j : Fin 2048) : stack a b (ix2 r j) = P r j := by
  unfold stack
  by_cases h : r.val < 512
  · rw [dif_pos (show ((ix2 r j : Full.Idx) (0 : Fin 2)).val < 512 from h)]
    exact ha ⟨r.val, h⟩ j
  · rw [dif_neg (show ¬ ((ix2 r j : Full.Idx) (0 : Fin 2)).val < 512 from h)]
    refine (hb ⟨r.val - 512, by omega⟩ j).trans (congrArg (P · j) (Fin.ext ?_))
    show 512 + (r.val - 512) = r.val
    omega

/-- What block `f` of hidden columns adds to an element; nothing beyond the eleven blocks there are. -/
def part (h : Fin 2048 → EReal) (wi : Fin 2048 → Fin 11264 → EReal) (wo : Fin 5632 → EReal) (f : ℕ) : EReal :=
  if hf : f < 11 then
    block h (fun i k => wi i ⟨512 * f + k.val, by omega⟩) (fun i k => wi i ⟨512 * (f + 11) + k.val, by omega⟩) (fun k => wo ⟨512 * f + k.val, by omega⟩)
  else 0

/-- The sum over all hidden columns is the sum of the eleven blocks. -/
theorem hidden_parts (h : Fin 2048 → EReal) (wi : Fin 2048 → Fin 11264 → EReal) (wo : Fin 5632 → EReal) :
    hidden h wi wo = ∑ f ∈ Finset.range 11, part h wi wo f := by
  rw [hidden_blocks, Finset.sum_range]
  refine Finset.sum_congr rfl fun f _ => ?_
  unfold part; rw [dif_pos f.isLt]

end Cert.Rows

end
-- ==== Proof.Ffn2.Payloads.lean ====
module

public import proofs.«01_k».proof.Proof.Ffn2.Steps
public import proofs.«01_k».proof.Proof.Ffn3.RowMath

/-! What the steps of the feed-forward kernel compute at one element, over the extended reals. -/

@[expose] public section

set_option maxRecDepth 16384

noncomputable section

namespace Cert.Kernel2Ideal.Hand

open Cert.Kernel2Ideal Cert.Kernel2Ideal.Gen Cert.Halves Cert.Rows
open Idealize.ShloMosaic Idealize.ShloMosaic.TcCoe Idealize.ShloMosaic.ValueIdx

/-- 512 rows normalised, at an element. -/
theorem norm_pay_apply (x : FVec Ideal S512x2048 .f32) (g : FVec Ideal S1x1x2048 .f32) (r : Fin 512) (j : Fin 2048) :
    k0_pay9 (F := Ideal) x g (ix2 r j) = nrm (fun k => x (ix2 r k)) (fun k => g (ix3 0 0 k)) j := by
  unfold k0_pay9; simp only [shapeCast_self]
  rw [truncf_apply]; exact norm_apply (M := 512) x g _ _ _ _ _ _ _ r j

/-- 256 rows normalised, at an element. -/
theorem snorm_pay_apply (x : FVec Ideal S256x2048 .f32) (g : FVec Ideal S1x1x2048 .f32) (r : Fin 256) (j : Fin 2048) :
    k0_pay5 (F := Ideal) x g (ix2 r j) = nrm (fun k => x (ix2 r k)) (fun k => g (ix3 0 0 k)) j := by
  unfold k0_pay5; simp only [shapeCast_self]
  rw [truncf_apply]; exact norm_apply (M := 256) x g _ _ _ _ _ _ _ r j

/-- The rows the last block leaves, 512 of them, at an element. -/
theorem epi_pay_apply (x o : FVec Ideal S512x2048 .f32) (r : Fin 512) (j : Fin 2048) :
    k0_pay4 (F := Ideal) x o (ix2 r j) = x (ix2 r j) + half * o (ix2 r j) := by
  unfold k0_pay4; simp only [shapeCast_self]
  exact add_half_apply (M := 512) x o (ix2 r j)

/-- The rows the last block leaves, 256 of them, at an element. -/
theorem sepi_pay_apply (x o : FVec Ideal S256x2048 .f32) (r : Fin 256) (j : Fin 2048) :
    k0_pay8 (F := Ideal) x o (ix2 r j) = x (ix2 r j) + half * o (ix2 r j) := by
  unfold k0_pay8; simp only [shapeCast_self]
  exact add_half_apply (M := 256) x o (ix2 r j)

/-- 512 rows of the sum with one block added, at an element. -/
theorem main_pay_apply (h : FVec Ideal S512x2048 .bf16) (wg wu : FVec Ideal S2048x512 .bf16) (o : FVec Ideal S512x2048 .f32) (wo : FVec Ideal S512x2048 .bf16) (r : Fin 512) (j : Fin 2048) :
    k0_pay12 (F := Ideal) h wg wu o wo (ix2 r j) = o (ix2 r j) + block (fun i => h (ix2 r i)) (fun i k => wg (ix2 i k)) (fun i k => wu (ix2 i k)) (fun k => wo (ix2 k j)) := by
  unfold k0_pay12; simp only [shapeCast_self]
  exact block_apply (M := 512) h wg wu _ wo o r j fun k => by rw [truncf_apply]; exact act_apply (M := 512) h wg wu _ _ rfl rfl r k

/-- 256 rows of the sum with one block added, at an element. -/
theorem smain_pay_apply (h : FVec Ideal S256x2048 .bf16) (wg wu : FVec Ideal S2048x512 .bf16) (o : FVec Ideal S256x2048 .f32) (wo : FVec Ideal S512x2048 .bf16) (r : Fin 256) (j : Fin 2048) :
    k0_pay7 (F := Ideal) h wg wu o wo (ix2 r j) = o (ix2 r j) + block (fun i => h (ix2 r i)) (fun i k => wg (ix2 i k)) (fun i k => wu (ix2 i k)) (fun k => wo (ix2 k j)) := by
  unfold k0_pay7; simp only [shapeCast_self]
  exact block_apply (M := 256) h wg wu _ wo o r j fun k => by rw [truncf_apply]; exact act_apply (M := 256) h wg wu _ _ rfl rfl r k

/-- The lower 512 rows of the sum with one block added, at an element. -/
theorem low_pay_apply (h : FVec Ideal S512x2048 .bf16) (wg wu : FVec Ideal S2048x512 .bf16) (o : FVec Ideal S512x2048 .f32) (wo : FVec Ideal S512x2048 .bf16) (r : Fin 512) (j : Fin 2048) :
    k0_pay1 (F := Ideal) (k0_pay11 (F := Ideal) h wg wu) o wo (ix2 r j) = o (ix2 r j) + block (fun i => h (ix2 r i)) (fun i k => wg (ix2 i k)) (fun i k => wu (ix2 i k)) (fun k => wo (ix2 k j)) := by
  unfold k0_pay1 k0_pay11; simp only [shapeCast_self]
  exact block_apply (M := 512) h wg wu _ wo o r j fun k => by rw [truncf_apply]; exact act_apply (M := 512) h wg wu _ _ rfl rfl r k

/-- The normalised rows, at an element. -/
theorem rowsH_apply (x : FVec Ideal S1024x2048 .f32) (g : FVec Ideal S1x1x2048 .f32) (r : Fin 1024) (j : Fin 2048) :
    rowsH (F := Ideal) x g (ix2 r j) = nrm (fun k => x (ix2 r k)) (fun k => g (ix3 0 0 k)) j := by
  unfold rowsH
  refine stack_apply _ _ (fun r j => nrm (fun k => x (ix2 r k)) (fun k => g (ix3 0 0 k)) j) (fun r j => ?_) (fun r j => ?_) r j
  · rw [norm_pay_apply]; simp only [top_apply]
  · rw [norm_pay_apply]; simp only [bot_apply]

/-- The sum at its start, at an element. -/
theorem rowsZ_apply (r : Fin 1024) (j : Fin 2048) : rowsZ (F := Ideal) (ix2 r j) = 0 := by
  unfold rowsZ
  exact stack_apply _ _ (fun _ _ => (0 : EReal)) (fun r j => Ideal.ofBits_zero_f32) (fun r j => Ideal.ofBits_zero_f32) r j

/-- The sum with one block added, at an element. -/
theorem rowsO_apply (h : FVec Ideal S1024x2048 .bf16) (wg wu : FVec Ideal S2048x512 .bf16) (wo : FVec Ideal S512x2048 .bf16) (o : FVec Ideal S1024x2048 .f32) (r : Fin 1024) (j : Fin 2048) :
    rowsO (F := Ideal) h wg wu wo o (ix2 r j) = o (ix2 r j) + block (fun i => h (ix2 r i)) (fun i k => wg (ix2 i k)) (fun i k => wu (ix2 i k)) (fun k => wo (ix2 k j)) := by
  unfold rowsO
  refine stack_apply _ _ (fun r j => o (ix2 r j) + block (fun i => h (ix2 r i)) (fun i k => wg (ix2 i k)) (fun i k => wu (ix2 i k)) (fun k => wo (ix2 k j))) (fun r j => ?_) (fun r j => ?_) r j
  · rw [main_pay_apply]; simp only [top_apply]
  · rw [low_pay_apply]; simp only [bot_apply]

/-- The rows the last block leaves, at an element. -/
theorem rowsE_apply (x : FVec Ideal S1024x2048 .f32) (o : FVec Ideal S1024x2048 .f32) (r : Fin 1024) (j : Fin 2048) :
    rowsE (F := Ideal) x o (ix2 r j) = x (ix2 r j) + half * o (ix2 r j) := by
  unfold rowsE
  refine stack_apply _ _ (fun r j => x (ix2 r j) + half * o (ix2 r j)) (fun r j => ?_) (fun r j => ?_) r j
  · rw [epi_pay_apply]; simp only [top_apply]
  · rw [epi_pay_apply]; simp only [bot_apply]

/-- The sample's sum at its start, at an element. -/
theorem sideZ_apply (r : Fin 256) (j : Fin 2048) : sideZ (F := Ideal) (ix2 r j) = 0 := Ideal.ofBits_zero_f32

end Cert.Kernel2Ideal.Hand

end
-- ==== Proof.Ffn2.Runs.lean ====
module

public import proofs.«01_k».proof.Proof.Ffn2.Steps

/-! One point of the feed-forward kernel's grid, run, for each kind of point. -/

@[expose] public section

set_option maxRecDepth 16384

noncomputable section

namespace Cert.Kernel2Ideal.Hand

open Cert.Kernel2Ideal Cert.Kernel2Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S256x2048 .f32) (harg7 : arg7.IsWhole) (arg8 : Memref sig .tc .vmem S1x256x1024 .f32) (harg8 : arg8.IsWhole) (arg9 : Memref sig .tc .vmem S1x512x256 .f32) (harg9 : arg9.IsWhole) (arg10 : Memref sig .tc .vmem S1024x2048 .f32) (harg10 : arg10.IsWhole) (arg11 : Memref sig .tc .vmem S256x2048 .f32) (harg11 : arg11.IsWhole) (arg12 : Memref sig .tc .vmem S256x1024 .bf16) (harg12 : arg12.IsWhole) (arg13 : Memref sig .tc .vmem S512x256 .bf16) (harg13 : arg13.IsWhole) (arg14 : Memref sig .tc .vmem S1024x2048 .bf16) (harg14 : arg14.IsWhole) (arg15 : Memref sig .tc .vmem S256x2048 .bf16) (harg15 : arg15.IsWhole)
variable (x2 : Vec F S1024x2048 .f32) (x3 : Vec F S1x1x2048 .f32) (x4 : Vec F S2048x512 .bf16) (x5 : Vec F S2048x512 .bf16) (x6 : Vec F S512x2048 .bf16) (x7 : Vec F S256x2048 .f32) (x8 : Vec F S1x256x1024 .f32) (x9 : Vec F S1x512x256 .f32) (x10 : Vec F S1024x2048 .f32) (x11 : Vec F S256x2048 .f32) (x12 : Vec F S256x1024 .bf16) (x13 : Vec F S512x256 .bf16) (x14 : Vec F S1024x2048 .bf16) (x15 : Vec F S256x2048 .bf16)

/-- The buffers, each at its contents. -/
def held : sProp 𝕄 := iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15)

/-- The buffers, each at its contents, and what is left besides. -/
def heldAnd (R : sProp 𝕄) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ R)

set_option maxHeartbeats 2000000 in
/-- The body at a point of this kind (first block of columns, first block of rows): every buffer's contents after it, of the contents before. -/
theorem runA (E : Set ℕ) (K : PUnit → sProp 𝕄) (hc1 : (k0_cond1 i = 1#1)) (hc2 : ¬ (k0_cond2 i = 1#1)) (hc3 : (k0_cond3 i = 1#1)) (hc4 : (k0_cond4 i = 1#1)) (hc5 : ¬ (k0_cond5 i = 1#1)) :
    heldAnd c arg2 arg3 arg4 arg5 arg6 arg7 arg8 arg9 arg10 arg11 arg12 arg13 arg14 arg15 x2 x3 x4 x5 x6 x7 x8 x9 x10 x11 x12 x13 x14 x15
        iprop(held c arg2 arg3 arg4 arg5 arg6 arg7 arg8 arg9 arg10 arg11 arg12 arg13 arg14 arg15 x2 x3 x4 x5 x6 x7 x8 x9 (rowsO (rowsH x2 x3) x4 x5 x6 rowsZ) (sideO (sideH x7 x3) x4 x5 x6 sideZ) (cast12 x8) (cast13 x9) (rowsH x2 x3) (sideH x7 x3) -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc2 | sl_exact hc3 | sl_exact hc4 | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    try sl_unfold_run_names
    refine (read_stack _ _ _ _ _ _ _ rfl rfl).trans ?_
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
    rw [read_pb1_h', read_pb1_o']
    all_goals first | simp only [Memref.IsWhole.read_unread] | rfl
  isplitl [H11]
  · iexists _; isplitr; swap; · iexact H11
    ipureintro
    try sl_unfold_run_names
    refine (View.read_writes_full _ _ _ _ _).trans ?_
    unfold sideO sideH sideZ
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H12]
  · iexists _; isplitr; swap; · iexact H12
    ipureintro
    try sl_unfold_run_names
    refine (View.read_writes_full _ _ _ _ _).trans ?_
    unfold cast12
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H13]
  · iexists _; isplitr; swap; · iexact H13
    ipureintro
    try sl_unfold_run_names
    refine (View.read_writes_full _ _ _ _ _).trans ?_
    unfold cast13
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H14]
  · iexists _; isplitr; swap; · iexact H14
    ipureintro
    try sl_unfold_run_names
    rw [read_pb1_h, Memref.IsWhole.read_unread, Memref.IsWhole.read_unread]
  iexists _; isplitr; swap; · iexact H15
  ipureintro
  try sl_unfold_run_names
  refine (View.read_writes_full _ _ _ _ _).trans ?_
  unfold sideH
  simp only [readAt_top _ _ _ rfl, readAt_bot _ _ _ rfl, bot_read_cons _ _ _ _ _ rfl, read_pb1_o, read_pb1_h, readAt_all2, readAt_all3, readCov_all2, View.writes_nil, Memref.IsWhole.read_unread]

set_option maxHeartbeats 2000000 in
/-- The body at a point of this kind (a middle block of columns, first block of rows): every buffer's contents after it, of the contents before. -/
theorem runB (E : Set ℕ) (K : PUnit → sProp 𝕄) (hc1 : ¬ (k0_cond1 i = 1#1)) (hc2 : ¬ (k0_cond2 i = 1#1)) (hc3 : (k0_cond3 i = 1#1)) (hc4 : ¬ (k0_cond4 i = 1#1)) (hc5 : ¬ (k0_cond5 i = 1#1)) :
    heldAnd c arg2 arg3 arg4 arg5 arg6 arg7 arg8 arg9 arg10 arg11 arg12 arg13 arg14 arg15 x2 x3 x4 x5 x6 x7 x8 x9 x10 x11 x12 x13 x14 x15
        iprop(held c arg2 arg3 arg4 arg5 arg6 arg7 arg8 arg9 arg10 arg11 arg12 arg13 arg14 arg15 x2 x3 x4 x5 x6 x7 x8 x9 (rowsO x14 x4 x5 x6 x10) (sideO x15 x4 x5 x6 x11) (cast12 x8) (cast13 x9) x14 x15 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc2 | sl_exact hc3 | sl_exact hc4 | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    try sl_unfold_run_names
    refine (read_stack _ _ _ _ _ _ _ rfl rfl).trans ?_
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H11]
  · iexists _; isplitr; swap; · iexact H11
    ipureintro
    try sl_unfold_run_names
    refine (View.read_writes_full _ _ _ _ _).trans ?_
    unfold sideO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H12]
  · iexists _; isplitr; swap; · iexact H12
    ipureintro
    try sl_unfold_run_names
    refine (View.read_writes_full _ _ _ _ _).trans ?_
    unfold cast12
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H13]
  · iexists _; isplitr; swap; · iexact H13
    ipureintro
    try sl_unfold_run_names
    refine (View.read_writes_full _ _ _ _ _).trans ?_
    unfold cast13
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H14]
  · iexists _; isplitr; · ipureintro; exact harg14.read_unread _
    iexact H14
  iexists _; isplitr; · ipureintro; exact harg15.read_unread _
  iexact H15

set_option maxHeartbeats 2000000 in
/-- The body at a point of this kind (last block of columns, first block of rows): every buffer's contents after it, of the contents before. -/
theorem runC (E : Set ℕ) (K : PUnit → sProp 𝕄) (hc1 : ¬ (k0_cond1 i = 1#1)) (hc2 : (k0_cond2 i = 1#1)) (hc3 : (k0_cond3 i = 1#1)) (hc4 : ¬ (k0_cond4 i = 1#1)) (hc5 : (k0_cond5 i = 1#1)) :
    heldAnd c arg2 arg3 arg4 arg5 arg6 arg7 arg8 arg9 arg10 arg11 arg12 arg13 arg14 arg15 x2 x3 x4 x5 x6 x7 x8 x9 x10 x11 x12 x13 x14 x15
        iprop(held c arg2 arg3 arg4 arg5 arg6 arg7 arg8 arg9 arg10 arg11 arg12 arg13 arg14 arg15 x2 x3 x4 x5 x6 x7 x8 x9 (rowsE x2 (rowsO x14 x4 x5 x6 x10)) (sideE x7 (sideO x15 x4 x5 x6 x11)) (cast12 x8) (cast13 x9) x14 x15 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc2 | sl_exact hc3 | sl_exact hc4 | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    try sl_unfold_run_names
    rw [View.writes_append, read_pb2, read_stack _ _ _ _ _ _ _ rfl rfl]
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H11]
  · iexists _; isplitr; swap; · iexact H11
    ipureintro
    try sl_unfold_run_names
    refine (View.read_writes_full _ _ _ _ _).trans ?_
    unfold sideO sideE
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H12]
  · iexists _; isplitr; swap; · iexact H12
    ipureintro
    try sl_unfold_run_names
    refine (View.read_writes_full _ _ _ _ _).trans ?_
    unfold cast12
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H13]
  · iexists _; isplitr; swap; · iexact H13
    ipureintro
    try sl_unfold_run_names
    refine (View.read_writes_full _ _ _ _ _).trans ?_
    unfold cast13
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H14]
  · iexists _; isplitr; · ipureintro; exact harg14.read_unread _
    iexact H14
  iexists _; isplitr; · ipureintro; exact harg15.read_unread _
  iexact H15

set_option maxHeartbeats 2000000 in
/-- The body at a point of this kind (first block of columns, a later block of rows): every buffer's contents after it, of the contents before. -/
theorem runD (E : Set ℕ) (K : PUnit → sProp 𝕄) (hc1 : (k0_cond1 i = 1#1)) (hc2 : ¬ (k0_cond2 i = 1#1)) (hc3 : ¬ (k0_cond3 i = 1#1)) :
    heldAnd c arg2 arg3 arg4 arg5 arg6 arg7 arg8 arg9 arg10 arg11 arg12 arg13 arg14 arg15 x2 x3 x4 x5 x6 x7 x8 x9 x10 x11 x12 x13 x14 x15
        iprop(held c arg2 arg3 arg4 arg5 arg6 arg7 arg8 arg9 arg10 arg11 arg12 arg13 arg14 arg15 x2 x3 x4 x5 x6 x7 x8 x9 (rowsO (rowsH x2 x3) x4 x5 x6 rowsZ) x11 (cast12 x8) (cast13 x9) (rowsH x2 x3) x15 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    try sl_unfold_run_names
    refine (read_stack _ _ _ _ _ _ _ rfl rfl).trans ?_
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
    rw [read_pb1_h', read_pb1_o']
    all_goals first | simp only [Memref.IsWhole.read_unread] | rfl
  isplitl [H11]
  · iexists _; isplitr; · ipureintro; exact harg11.read_unread _
    iexact H11
  isplitl [H12]
  · iexists _; isplitr; swap; · iexact H12
    ipureintro
    try sl_unfold_run_names
    refine (View.read_writes_full _ _ _ _ _).trans ?_
    unfold cast12
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H13]
  · iexists _; isplitr; swap; · iexact H13
    ipureintro
    try sl_unfold_run_names
    refine (View.read_writes_full _ _ _ _ _).trans ?_
    unfold cast13
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H14]
  · iexists _; isplitr; swap; · iexact H14
    ipureintro
    try sl_unfold_run_names
    rw [read_pb1_h, Memref.IsWhole.read_unread, Memref.IsWhole.read_unread]
  iexists _; isplitr; · ipureintro; exact harg15.read_unread _
  iexact H15

set_option maxHeartbeats 2000000 in
/-- The body at a point of this kind (a middle block of columns, a later block of rows): every buffer's contents after it, of the contents before. -/
theorem runE (E : Set ℕ) (K : PUnit → sProp 𝕄) (hc1 : ¬ (k0_cond1 i = 1#1)) (hc2 : ¬ (k0_cond2 i = 1#1)) (hc3 : ¬ (k0_cond3 i = 1#1)) :
    heldAnd c arg2 arg3 arg4 arg5 arg6 arg7 arg8 arg9 arg10 arg11 arg12 arg13 arg14 arg15 x2 x3 x4 x5 x6 x7 x8 x9 x10 x11 x12 x13 x14 x15
        iprop(held c arg2 arg3 arg4 arg5 arg6 arg7 arg8 arg9 arg10 arg11 arg12 arg13 arg14 arg15 x2 x3 x4 x5 x6 x7 x8 x9 (rowsO x14 x4 x5 x6 x10) x11 (cast12 x8) (cast13 x9) x14 x15 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    try sl_unfold_run_names
    refine (read_stack _ _ _ _ _ _ _ rfl rfl).trans ?_
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H11]
  · iexists _; isplitr; · ipureintro; exact harg11.read_unread _
    iexact H11
  isplitl [H12]
  · iexists _; isplitr; swap; · iexact H12
    ipureintro
    try sl_unfold_run_names
    refine (View.read_writes_full _ _ _ _ _).trans ?_
    unfold cast12
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H13]
  · iexists _; isplitr; swap; · iexact H13
    ipureintro
    try sl_unfold_run_names
    refine (View.read_writes_full _ _ _ _ _).trans ?_
    unfold cast13
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H14]
  · iexists _; isplitr; · ipureintro; exact harg14.read_unread _
    iexact H14
  iexists _; isplitr; · ipureintro; exact harg15.read_unread _
  iexact H15

set_option maxHeartbeats 2000000 in
/-- The body at a point of this kind (last block of columns, a later block of rows): every buffer's contents after it, of the contents before. -/
theorem runF (E : Set ℕ) (K : PUnit → sProp 𝕄) (hc1 : ¬ (k0_cond1 i = 1#1)) (hc2 : (k0_cond2 i = 1#1)) (hc3 : ¬ (k0_cond3 i = 1#1)) :
    heldAnd c arg2 arg3 arg4 arg5 arg6 arg7 arg8 arg9 arg10 arg11 arg12 arg13 arg14 arg15 x2 x3 x4 x5 x6 x7 x8 x9 x10 x11 x12 x13 x14 x15
        iprop(held c arg2 arg3 arg4 arg5 arg6 arg7 arg8 arg9 arg10 arg11 arg12 arg13 arg14 arg15 x2 x3 x4 x5 x6 x7 x8 x9 (rowsE x2 (rowsO x14 x4 x5 x6 x10)) x11 (cast12 x8) (cast13 x9) x14 x15 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    try sl_unfold_run_names
    rw [View.writes_append, read_pb2, read_stack _ _ _ _ _ _ _ rfl rfl]
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H11]
  · iexists _; isplitr; · ipureintro; exact harg11.read_unread _
    iexact H11
  isplitl [H12]
  · iexists _; isplitr; swap; · iexact H12
    ipureintro
    try sl_unfold_run_names
    refine (View.read_writes_full _ _ _ _ _).trans ?_
    unfold cast12
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H13]
  · iexists _; isplitr; swap; · iexact H13
    ipureintro
    try sl_unfold_run_names
    refine (View.read_writes_full _ _ _ _ _).trans ?_
    unfold cast13
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H14]
  · iexists _; isplitr; · ipureintro; exact harg14.read_unread _
    iexact H14
  iexists _; isplitr; · ipureintro; exact harg15.read_unread _
  iexact H15

end Cert.Kernel2Ideal.Hand

end
-- ==== Proof.Ffn2.Frame.lean ====
module

public import proofs.«01_k».proof.Proof.Ffn2.Runs
public import Idealize.ShloMosaic.Lib.Claim
public import Idealize.ShloMosaic.Lib.Pipeline.TableIdle

/-! What the feed-forward kernel keeps from one point of its grid to the next, its body at any point, and the run of
the whole program. -/

@[expose] public section

set_option maxRecDepth 16384

noncomputable section

namespace Cert.Kernel2Ideal.Hand

open Cert.Kernel2Ideal Cert.Kernel2Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- Condition 1 of the body holds at the first block of hidden columns. -/
theorem cond1_iff : ∀ t : Fin grid0.N, (k0_cond1 (grid0.coords t) = 1#1) ↔ t.val % 11 = 0 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond1, e0, e1]
  word_cmp
/-- Condition 2 of the body holds at the last block of hidden columns. -/
theorem cond2_iff : ∀ t : Fin grid0.N, (k0_cond2 (grid0.coords t) = 1#1) ↔ t.val % 11 = 10 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond2, e0, e1]
  word_cmp
/-- Condition 3 of the body holds at the first block of rows. -/
theorem cond3_iff : ∀ t : Fin grid0.N, (k0_cond3 (grid0.coords t) = 1#1) ↔ t.val < 11 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond3, e0, e1]
  word_cmp
/-- Condition 4 of the body holds at the first block of hidden columns. -/
theorem cond4_iff : ∀ t : Fin grid0.N, (k0_cond4 (grid0.coords t) = 1#1) ↔ t.val % 11 = 0 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond4, e0, e1]
  word_cmp
/-- Condition 5 of the body holds at the last block of hidden columns. -/
theorem cond5_iff : ∀ t : Fin grid0.N, (k0_cond5 (grid0.coords t) = 1#1) ↔ t.val % 11 = 10 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond5, e0, e1]
  word_cmp

/-! ## The state the kernel carries -/

/-- What the kernel keeps between points: the prompt's sum, the sample's sum, the prompt's normalised rows and the sample's. -/
structure St (F : FTy → Type) where
  o : Vec F S1024x2048 .f32
  e : Vec F S256x2048 .f32
  h : Vec F S1024x2048 .bf16
  g : Vec F S256x2048 .bf16

/-- One point: on the first block of hidden columns the rows are normalised and the sum starts at zero, the block's product is
added, and on the last block the sum becomes the result; the sample's rows likewise, during the first block of the prompt's rows only. -/
def step (n : ℕ) (x2 : Vec F S1024x2048 .f32) (x3 : Vec F S1x1x2048 .f32) (x4 x5 : Vec F S2048x512 .bf16) (x6 : Vec F S512x2048 .bf16) (x7 : Vec F S256x2048 .f32) (s : St F) : St F :=
  let h := if n % 11 = 0 then rowsH x2 x3 else s.h
  let o := rowsO h x4 x5 x6 (if n % 11 = 0 then rowsZ else s.o)
  let g := if n < 11 then (if n % 11 = 0 then sideH x7 x3 else s.g) else s.g
  let e := if n < 11 then
      (if n % 11 = 10 then sideE x7 (sideO g x4 x5 x6 (if n % 11 = 0 then sideZ else s.e)) else sideO g x4 x5 x6 (if n % 11 = 0 then sideZ else s.e))
    else s.e
  ⟨if n % 11 = 10 then rowsE x2 o else o, e, h, g⟩

variable (m : (ℓ : Loc nD τ sig) → Buf (Elt F) ℓ) (ρ : Dev nD → PrngReg)

/-- One point on the blocks the windows bring there. -/
def stepAt (c : Dev nD) (t : Fin cfg0.N) (s : St F) : St F :=
  step t.val (iblk m c 0 t) (iblk m c 1 t) (iblk m c 2 t) (iblk m c 3 t) (iblk m c 4 t) (iblk m c 5 t) s

/-- A state to start from; nothing of it is read. -/
def stInit (c : Dev nD) (t : Fin cfg0.N) : St F := ⟨rowsZ, sideZ, rowsH (iblk m c 0 t) (iblk m c 1 t), sideH (iblk m c 5 t) (iblk m c 1 t)⟩

/-- The state after point `n`. -/
def stAt (c : Dev nD) : (n : ℕ) → n < cfg0.N → St F
  | 0, h => stepAt m c ⟨0, h⟩ (stInit m c ⟨0, h⟩)
  | n + 1, h => stepAt m c ⟨n + 1, h⟩ (stAt c n (Nat.lt_of_succ_lt h))

/-- The state before point `n`. -/
def stBefore (c : Dev nD) : (n : ℕ) → n ≤ cfg0.N → St F
  | 0, _ => stInit m c ⟨0, by rw [show cfg0.N = 88 from N_0]; decide⟩
  | n + 1, h => stAt m c n h

theorem stAt_eq (c : Dev nD) (t : Fin cfg0.N) : stAt m c t.val t.isLt = stepAt m c t (stBefore m c t.val (Nat.le_of_lt t.isLt)) := by
  obtain ⟨n, hn⟩ := t
  cases n with
  | zero => rfl
  | succ n => rfl

theorem stBefore_pos (c : Dev nD) (n : ℕ) (h : n ≤ cfg0.N) (hn : n ≠ 0) : stBefore m c n h = stAt m c (n - 1) (by omega) := by
  cases n with
  | zero => exact absurd rfl hn
  | succ n => rfl

/-- Window 0's staging buffer at a point. -/
abbrev ms0 (t : Fin cfg0.N) : Memref sig .tc .vmem S1024x2048 .f32 := win0_0.stage (cfg0.slots t 0)
/-- Window 1's staging buffer at a point. -/
abbrev ms1 (t : Fin cfg0.N) : Memref sig .tc .vmem S1x1x2048 .f32 := win0_1.stage (cfg0.slots t 1)
/-- Window 2's staging buffer at a point. -/
abbrev ms2 (t : Fin cfg0.N) : Memref sig .tc .vmem S2048x512 .bf16 := win0_2.stage (cfg0.slots t 2)
/-- Window 3's staging buffer at a point. -/
abbrev ms3 (t : Fin cfg0.N) : Memref sig .tc .vmem S2048x512 .bf16 := win0_3.stage (cfg0.slots t 3)
/-- Window 4's staging buffer at a point. -/
abbrev ms4 (t : Fin cfg0.N) : Memref sig .tc .vmem S512x2048 .bf16 := win0_4.stage (cfg0.slots t 4)
/-- Window 5's staging buffer at a point. -/
abbrev ms5 (t : Fin cfg0.N) : Memref sig .tc .vmem S256x2048 .f32 := win0_5.stage (cfg0.slots t 5)
/-- Window 6's staging buffer at a point. -/
abbrev ms6 (t : Fin cfg0.N) : Memref sig .tc .vmem S1x256x1024 .f32 := win0_6.stage (cfg0.slots t 6)
/-- Window 7's staging buffer at a point. -/
abbrev ms7 (t : Fin cfg0.N) : Memref sig .tc .vmem S1x512x256 .f32 := win0_7.stage (cfg0.slots t 7)
/-- Window 8's staging buffer at a point. -/
abbrev ms8 (t : Fin cfg0.N) : Memref sig .tc .vmem S1024x2048 .f32 := win0_8.stage (cfg0.slots t 8)
/-- Window 9's staging buffer at a point. -/
abbrev ms9 (t : Fin cfg0.N) : Memref sig .tc .vmem S256x2048 .f32 := win0_9.stage (cfg0.slots t 9)
/-- Window 10's staging buffer at a point. -/
abbrev ms10 (t : Fin cfg0.N) : Memref sig .tc .vmem S256x1024 .bf16 := win0_10.stage (cfg0.slots t 10)
/-- Window 11's staging buffer at a point. -/
abbrev ms11 (t : Fin cfg0.N) : Memref sig .tc .vmem S512x256 .bf16 := win0_11.stage (cfg0.slots t 11)
/-- The buffer of the prompt's normalised rows. -/
abbrev scH : Memref sig .tc .vmem S1024x2048 .bf16 := Memref.whole cc0_scratch0
/-- The buffer of the sample's normalised rows. -/
abbrev scG : Memref sig .tc .vmem S256x2048 .bf16 := Memref.whole cc0_scratch1

set_option maxHeartbeats 2000000 in
/-- The body at any point: it takes the kept buffers from their state before the point to their state after it. Nothing is asked of
what a buffer holds where the point does not read it. -/
theorem run_point (c : Dev nD) (t : Fin cfg0.N) (s : St F) (y9 : Vec F S1024x2048 .f32) (y10 : Vec F S256x2048 .f32) (y11 : Vec F S1024x2048 .bf16) (y12 : Vec F S256x2048 .bf16) (z10 : Vec F S256x1024 .bf16) (z11 : Vec F S512x256 .bf16)
    (h9 : t.val % 11 ≠ 0 → y9 = s.o) (h10 : t.val ≠ 0 → y10 = s.e) (h11 : t.val ≠ 0 → y11 = s.h) (h12 : t.val ≠ 0 → y12 = s.g) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare y9 ∗ owns (c : Thread nD τ) (ms9 t) fullShare y10 ∗ owns (c : Thread nD τ) (ms10 t) fullShare z10 ∗ owns (c : Thread nD τ) (ms11 t) fullShare z11 ∗ owns (c : Thread nD τ) scH fullShare y11 ∗ owns (c : Thread nD τ) scG fullShare y12 ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (stepAt m c t s).o ∗ owns (c : Thread nD τ) (ms9 t) fullShare (stepAt m c t s).e ∗ owns (c : Thread nD τ) (ms10 t) fullShare (cast12 (iblk m c 6 t)) ∗ owns (c : Thread nD τ) (ms11 t) fullShare (cast13 (iblk m c 7 t)) ∗ owns (c : Thread nD τ) scH fullShare (stepAt m c t s).h ∗ owns (c : Thread nD τ) scG fullShare (stepAt m c t s).g) -∗ K ⟨⟩))
      ⊢ wp frame (wpE (defs₀ (F := F)) Variants.none c none) Set.univ (bodyAt0 t) K := by
  have hN : t.val < 88 := lt_of_lt_of_eq t.isLt (show cfg0.N = 88 from N_0)
  by_cases h0 : t.val % 11 = 0
  · have h1 : ¬ t.val % 11 = 10 := by omega
    by_cases h2 : t.val < 11
    · rw [show stepAt m c t s = ⟨rowsO (rowsH (iblk m c 0 t) (iblk m c 1 t)) (iblk m c 2 t) (iblk m c 3 t) (iblk m c 4 t) rowsZ, sideO (sideH (iblk m c 5 t) (iblk m c 1 t)) (iblk m c 2 t) (iblk m c 3 t) (iblk m c 4 t) sideZ, rowsH (iblk m c 0 t) (iblk m c 1 t), sideH (iblk m c 5 t) (iblk m c 1 t)⟩ from by
        unfold stepAt step; simp only [h0, h1, h2, if_true, if_false]; rfl]
      exact runA c (grid0.coords t) _ _ _ _ _ _ _ _ _ _ _ _ _ _ _ _ _ _ _ _ _ _ _ _ _ _ _ _ _ _ _ _ _ _ _ _ _ _ _ _ _ _ Set.univ K ((cond1_iff t).mpr h0) (fun h => h1 ((cond2_iff t).mp h)) ((cond3_iff t).mpr h2) ((cond4_iff t).mpr h0) (fun h => h1 ((cond5_iff t).mp h))
    · obtain rfl := h10 (by omega)
      obtain rfl := h12 (by omega)
      rw [show stepAt m c t s = ⟨rowsO (rowsH (iblk m c 0 t) (iblk m c 1 t)) (iblk m c 2 t) (iblk m c 3 t) (iblk m c 4 t) rowsZ, s.e, rowsH (iblk m c 0 t) (iblk m c 1 t), s.g⟩ from by
        unfold stepAt step; simp only [h0, h1, h2, if_true, if_false]; rfl]
      exact runD c (grid0.coords t) _ _ _ _ _ _ _ _ _ _ _ _ _ _ _ _ _ _ _ _ _ _ _ _ _ _ _ _ _ _ _ _ _ _ _ _ _ _ _ _ _ _ Set.univ K ((cond1_iff t).mpr h0) (fun h => h1 ((cond2_iff t).mp h)) (fun h => h2 ((cond3_iff t).mp h))
  · obtain rfl := h9 h0
    obtain rfl := h10 (by omega)
    obtain rfl := h11 (by omega)
    obtain rfl := h12 (by omega)
    by_cases h1 : t.val % 11 = 10
    · by_cases h2 : t.val < 11
      · rw [show stepAt m c t s = ⟨rowsE (iblk m c 0 t) (rowsO s.h (iblk m c 2 t) (iblk m c 3 t) (iblk m c 4 t) s.o), sideE (iblk m c 5 t) (sideO s.g (iblk m c 2 t) (iblk m c 3 t) (iblk m c 4 t) s.e), s.h, s.g⟩ from by
          unfold stepAt step; simp only [h1, h2, if_true, if_false, show ¬ (10 = 0) from by decide]]
        exact runC c (grid0.coords t) _ _ _ _ _ _ _ _ _ _ _ _ _ _ _ _ _ _ _ _ _ _ _ _ _ _ _ _ _ _ _ _ _ _ _ _ _ _ _ _ _ _ Set.univ K (fun h => h0 ((cond1_iff t).mp h)) ((cond2_iff t).mpr h1) ((cond3_iff t).mpr h2) (fun h => h0 ((cond4_iff t).mp h)) ((cond5_iff t).mpr h1)
      · rw [show stepAt m c t s = ⟨rowsE (iblk m c 0 t) (rowsO s.h (iblk m c 2 t) (iblk m c 3 t) (iblk m c 4 t) s.o), s.e, s.h, s.g⟩ from by
          unfold stepAt step; simp only [h1, h2, if_true, if_false, show ¬ (10 = 0) from by decide]]
        exact runF c (grid0.coords t) _ _ _ _ _ _ _ _ _ _ _ _ _ _ _ _ _ _ _ _ _ _ _ _ _ _ _ _ _ _ _ _ _ _ _ _ _ _ _ _ _ _ Set.univ K (fun h => h0 ((cond1_iff t).mp h)) ((cond2_iff t).mpr h1) (fun h => h2 ((cond3_iff t).mp h))
    · by_cases h2 : t.val < 11
      · rw [show stepAt m c t s = ⟨rowsO s.h (iblk m c 2 t) (iblk m c 3 t) (iblk m c 4 t) s.o, sideO s.g (iblk m c 2 t) (iblk m c 3 t) (iblk m c 4 t) s.e, s.h, s.g⟩ from by
          unfold stepAt step; simp only [h0, h1, h2, if_true, if_false]]
        exact runB c (grid0.coords t) _ _ _ _ _ _ _ _ _ _ _ _ _ _ _ _ _ _ _ _ _ _ _ _ _ _ _ _ _ _ _ _ _ _ _ _ _ _ _ _ _ _ Set.univ K (fun h => h0 ((cond1_iff t).mp h)) (fun h => h1 ((cond2_iff t).mp h)) ((cond3_iff t).mpr h2) (fun h => h0 ((cond4_iff t).mp h)) (fun h => h1 ((cond5_iff t).mp h))
      · rw [show stepAt m c t s = ⟨rowsO s.h (iblk m c 2 t) (iblk m c 3 t) (iblk m c 4 t) s.o, s.e, s.h, s.g⟩ from by
          unfold stepAt step; simp only [h0, h1, h2, if_true, if_false]]
        exact runE c (grid0.coords t) _ _ _ _ _ _ _ _ _ _ _ _ _ _ _ _ _ _ _ _ _ _ _ _ _ _ _ _ _ _ _ _ _ _ _ _ _ _ _ _ _ _ Set.univ K (fun h => h0 ((cond1_iff t).mp h)) (fun h => h1 ((cond2_iff t).mp h)) (fun h => h2 ((cond3_iff t).mp h))

/-! ## What the buffers hold between points -/

/-- The kernel's own scoped buffers, each held at some contents, with the generator's register: what it is given at the first point. -/
theorem given_eq (c : Dev nD) :
    (Pipeline.ΦA spec0 c : sProp 𝕄)
      = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

/-- What is known before point `n`: nothing at the first, afterwards that the normalised rows are the state's. -/
def keep (c : Dev nD) : (n : ℕ) → n ≤ cfg0.N → sProp 𝕄
  | 0, _ => Pipeline.ΦA spec0 c
  | n + 1, h => iprop(iprop(owns (c : Thread nD τ) scH fullShare (stAt m c n h).h ∗ owns (c : Thread nD τ) scG fullShare (stAt m c n h).g) ∗ (∃ r, prngReg c r))

theorem keep_zero (c : Dev nD) (n : ℕ) (h : n ≤ cfg0.N) (hz : n = 0) : keep m c n h = Pipeline.ΦA spec0 c := by
  subst hz; rfl

theorem keep_succ (c : Dev nD) (n : ℕ) (h : n < cfg0.N) :
    keep m c (n + 1) h = iprop(iprop(owns (c : Thread nD τ) scH fullShare (stAt m c n h).h ∗ owns (c : Thread nD τ) scG fullShare (stAt m c n h).g) ∗ (∃ r, prngReg c r)) := rfl

theorem keep_pos (c : Dev nD) (n : ℕ) (h : n ≤ cfg0.N) (hz : n ≠ 0) :
    keep m c n h = iprop(iprop(owns (c : Thread nD τ) scH fullShare (stBefore m c n h).h ∗ owns (c : Thread nD τ) scG fullShare (stBefore m c n h).g) ∗ (∃ r, prngReg c r)) := by
  cases n with
  | zero => exact absurd rfl hz
  | succ n => rfl

/-- The pipeline's proof data: what each window's buffer holds after the body at each point, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).o
    | ⟨9, _⟩ => (stAt m c t.val t.isLt).e
    | ⟨10, _⟩ => cast12 (iblk m c 6 t)
    | ⟨11, _⟩ => cast13 (iblk m c 7 t)
  Φ t := keep m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem keep_castSucc (c : Dev nD) (t : Fin cfg0.N) : (dats m 0 c).Φ t.castSucc = keep m c t.val (Nat.le_of_lt t.isLt) := by
  dsimp only [dats]; exact Pipeline.Dat.Φ_castSucc (keep m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (stAt m c t.val t.isLt).o := by dsimp only [dats]
theorem after9 (c : Dev nD) (t : Fin cfg0.N) : (dats m 0 c).after 9 t = (stAt m c t.val t.isLt).e := by dsimp only [dats]
theorem after10 (c : Dev nD) (t : Fin cfg0.N) : (dats m 0 c).after 10 t = cast12 (iblk m c 6 t) := by dsimp only [dats]
theorem after11 (c : Dev nD) (t : Fin cfg0.N) : (dats m 0 c).after 11 t = cast13 (iblk m c 7 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- Past the first block of hidden columns the prompt's result buffer still holds the sum so far. -/
theorem before8 (c : Dev nD) (t : Fin cfg0.N) (h : t.val % 11 ≠ 0) (d) :
    (dats m 0 c).before 8 t d = (stBefore m c t.val (Nat.le_of_lt t.isLt)).o := by
  have hz : t.val ≠ 0 := fun e => h (by rw [e])
  rw [(dats m 0 c).before_out_kept 8 rfl t hz (Bool.eq_false_iff.mpr fun hf => by have := (flush0_8 _).mp hf; dsimp only at this; omega) (fun _ => rfl) (fun _ _ => rfl) d,
    after8, stBefore_pos m c t.val _ hz]

/-- During the first block of the prompt's rows the sample's result buffer is stored at every point. -/
theorem live9 (t : Fin cfg0.N) (h : t.val < 11) : cfg0.idle 9 (grid0.coords t) = false := by
  have h3 := (cond3_iff t).mpr h
  show (!(k0_cond3 (grid0.coords t) == 1#1 && k0_cond4 (grid0.coords t) == 1#1) && !(k0_cond3 (grid0.coords t) == 1#1) && !(k0_cond3 (grid0.coords t) == 1#1 && k0_cond5 (grid0.coords t) == 1#1)) = false
  rw [h3]; simp

/-- Afterwards it is not stored. -/
theorem idle9 (t : Fin cfg0.N) (h : ¬ t.val < 11) : cfg0.idle 9 (grid0.coords t) = true := by
  have h3 : (k0_cond3 (grid0.coords t) == 1#1) = false := by
    rw [beq_eq_false_iff_ne]; exact fun e => h ((cond3_iff t).mp e)
  show (!(k0_cond3 (grid0.coords t) == 1#1 && k0_cond4 (grid0.coords t) == 1#1) && !(k0_cond3 (grid0.coords t) == 1#1) && !(k0_cond3 (grid0.coords t) == 1#1 && k0_cond5 (grid0.coords t) == 1#1)) = true
  rw [h3]; simp

/-- It is written back after the last point only. -/
theorem noflush9 (t : Fin cfg0.N) (h : t.val ≠ 87) : (cfg0.win 9).flush t = false := by
  have hN : t.val < 88 := lt_of_lt_of_eq t.isLt (show cfg0.N = 88 from N_0)
  exact Bool.eq_false_iff.mpr fun hf => by have := (flush0_9 t).mp hf; omega

/-- The sample's result buffer holds what the body stored there, from the second point on. -/
theorem fresh9 (n : ℕ) (h : n < cfg0.N) : cfg0.fresh 9 n = decide (n = 0) := by
  induction n with
  | zero => rfl
  | succ n ih =>
    have hN : n + 1 < 88 := lt_of_lt_of_eq h (show cfg0.N = 88 from N_0)
    rw [cfg0.fresh_succ 9 n (by omega), noflush9 ⟨n, by omega⟩ (by dsimp only; omega), ih (by omega)]
    by_cases hn : n < 11
    · rw [show cfg0.idle 9 (cfg0.grid.coords ⟨n, Nat.lt_of_succ_lt h⟩) = false from live9 ⟨n, Nat.lt_of_succ_lt h⟩ hn]; simp
    · simp; omega

/-- Where it is not stored the state says it stays as it was. -/
theorem stAt_e (c : Dev nD) (t : Fin cfg0.N) (h : ¬ t.val < 11) : (stAt m c t.val t.isLt).e = (stBefore m c t.val (Nat.le_of_lt t.isLt)).e := by
  rw [stAt_eq]; unfold stepAt step; simp only [h, if_false]

/-- From the second point on it holds the state's sample sum. -/
theorem before9 (c : Dev nD) (t : Fin cfg0.N) (h : t.val ≠ 0) (d) :
    (dats m 0 c).before 9 t d = (stBefore m c t.val (Nat.le_of_lt t.isLt)).e := by
  rw [(dats m 0 c).before_out_traj 9 rfl (fun _ _ => rfl) (fun t ht hi _ => by
      have hn : ¬ t.val < 11 := fun hl => by
        have := live9 t hl
        rw [show cfg0.idle 9 (cfg0.grid.coords t) = cfg0.idle 9 (grid0.coords t) from rfl, this] at hi
        exact Bool.false_ne_true hi
      rw [after9, after9, stAt_e m c t hn, stBefore_pos m c t.val _ ht]) t.val t rfl d,
    fresh9 t.val t.isLt, decide_eq_false h, if_neg Bool.false_ne_true, after9, stBefore_pos m c t.val _ h]

/-- What the body owes for the sample's result buffer at any point, from the buffer at the state's sample sum. -/
theorem leaves9 (c : Dev nD) (t : Fin cfg0.N) :
    (owns (c : Thread nD τ) (ms9 t) fullShare (stAt m c t.val t.isLt).e : sProp 𝕄) ⊢ (dats m 0 c).leavesExact 9 t := by
  by_cases h : t.val < 11
  · rw [show (dats m 0 c).leavesExact 9 t = owns (c : Thread nD τ) (ms9 t) fullShare ((dats m 0 c).after 9 t) from by
      unfold Dat.leavesExact; rw [show cfg0.idle 9 (cfg0.grid.coords t) = false from live9 t h], after9]
  · by_cases hf : t.val = 87
    · rw [show (dats m 0 c).leavesExact 9 t = owns (c : Thread nD τ) (ms9 t) fullShare ((dats m 0 c).after 9 t) from by
        unfold Dat.leavesExact; rw [show cfg0.idle 9 (cfg0.grid.coords t) = true from idle9 t h, (flush0_9 t).mpr (by omega)], after9]
    · rw [(dats m 0 c).leavesExact_idle 9 t (idle9 t h) (noflush9 t hf)]
      iintro H
      iexists (stAt m c t.val t.isLt).e
      rw [before9 m c t (by omega), stAt_e m c t h]
      iexact H

/-- The body's precondition at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and its postcondition. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (cfg0.grid.coords t) = false from rfl]
theorem leaves7 (c : Dev nD) (t : Fin cfg0.N) : (dats m 0 c).leavesExact 7 t = owns (c : Thread nD τ) (ms7 t) fullShare ((dats m 0 c).after 7 t) := by
  unfold Dat.leavesExact; rw [show cfg0.idle 7 (cfg0.grid.coords t) = false from rfl]
theorem leaves8 (c : Dev nD) (t : Fin cfg0.N) : (dats m 0 c).leavesExact 8 t = owns (c : Thread nD τ) (ms8 t) fullShare ((dats m 0 c).after 8 t) := by
  unfold Dat.leavesExact; rw [show cfg0.idle 8 (cfg0.grid.coords t) = false from rfl]
theorem leaves10 (c : Dev nD) (t : Fin cfg0.N) : (dats m 0 c).leavesExact 10 t = owns (c : Thread nD τ) (ms10 t) fullShare ((dats m 0 c).after 10 t) := by
  unfold Dat.leavesExact; rw [show cfg0.idle 10 (cfg0.grid.coords t) = false from rfl]
theorem leaves11 (c : Dev nD) (t : Fin cfg0.N) : (dats m 0 c).leavesExact 11 t = owns (c : Thread nD τ) (ms11 t) fullShare ((dats m 0 c).after 11 t) := by
  unfold Dat.leavesExact; rw [show cfg0.idle 11 (cfg0.grid.coords t) = false from rfl]

set_option maxHeartbeats 4800000 in
/-- The body at any point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7]
  rw [show (dats m 0 c).owesAt () t.succ = (dats m 0 c).owesAt () t.castSucc from rfl]
  rw [leaves0, leaves1, leaves2, leaves3, leaves4, leaves5, leaves6, leaves7, leaves8, leaves10, leaves11]
  rw [after0, after1, after2, after3, after4, after5, after6, after7, after8, after10, after11]
  rw [show (dats m 0 c).Φ t.succ = keep m c (t.val + 1) t.isLt from rfl, keep_succ, keep_castSucc m c t, stAt_eq m c t]
  by_cases hz : t.val = 0
  · rw [keep_zero m c _ _ hz, given_eq]
    iintro ⟨⟨⟨⟨%d11, HS0⟩, ⟨%d12, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_point m c t (stBefore m c t.val (Nat.le_of_lt t.isLt)) _ _ _ _ _ _ (fun h => before8 m c t h d8) (fun h => before9 m c t h d9) (fun h => absurd hz h) (fun h => absurd hz h) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves9 m c t); rw [stAt_eq]; iexact H9
    isplitl [H10]; · iexact H10
    iexact H11
  · rw [keep_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_point m c t (stBefore m c t.val (Nat.le_of_lt t.isLt)) _ _ _ _ _ _ (fun h => before8 m c t h d8) (fun h => before9 m c t h d9) (fun _ => rfl) (fun _ => rfl) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    iintro ⟨H0, H1, H2, H3, H4, H5, H6, H7, H8, H9, H10, H11, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves9 m c t); rw [stAt_eq]; iexact H9
    isplitl [H10]; · iexact H10
    iexact H11

theorem defs₀_row (t : Fin cfg0.N) :
    defs₀ (F := F) .tc cfg0.body (cfg0.bodyArgs t (cfg0.slots t)) = bodyAt0 t := by
  unfold defs₀; rw [Defs.onTc_tc]

/-- The body does at every point what the pipeline needs of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = keep m c 0 (Nat.zero_le _) from rfl, keep_zero m c 0 _ rfl]

theorem hout (c : Dev nD) : (dats m 0 c).Φ (Fin.last cfg0.N) ⊢ Pipeline.ΦA spec0 c := by
  have hN : cfg0.N = 88 := N_0
  rw [show (dats m 0 c).Φ (Fin.last cfg0.N) = keep m c (Fin.last cfg0.N).val (Nat.le_of_lt_succ (Fin.last cfg0.N).isLt) from rfl,
    keep_pos m c _ _ (by rw [Fin.val_last]; omega), given_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every run of the program ends with each array at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Kernel2Ideal.Hand

end
-- ==== Proof.Ffn2.Blocks.lean ====
module

public import proofs.«01_k».proof.Proof.Ffn2.Payloads
public import proofs.«01_k».proof.Proof.Ffn2.Frame
public import Idealize.ShloMosaic.Lib.Pipeline.ValueKit

/-! The blocks the feed-forward kernel's windows bring at a point of its grid, element by element, as elements of the
program's arguments. -/

@[expose] public section

set_option maxRecDepth 16384

noncomputable section

namespace Cert.Kernel2Ideal.Hand

open Cert.Kernel2Ideal Cert.Kernel2Ideal.Gen Cert.Halves Cert.Rows
open Idealize.ShloMosaic hiding ix1 ix2 ix3
open Idealize.ShloMosaic.TcCoe Idealize.ShloMosaic.ValueIdx
open Idealize.ShloMosaic.Pipeline (Dat)

variable (m : (ℓ : Loc nD τ sig) → Buf (Elt Ideal) ℓ)

/-- Row `n` of the prompt, of the two sequences laid end to end. -/
def X (c : Dev nD) (n : Fin 8192) (j : Fin 2048) : EReal := m ((c.tc : Thread nD τ).loc main_arg0) (ix3 ⟨n.val / 4096, by omega⟩ ⟨n.val % 4096, by omega⟩ j)
/-- Row `n` of the sample, of its 32 sequences laid end to end. -/
def XE (c : Dev nD) (n : Fin 256) (j : Fin 2048) : EReal := m ((c.tc : Thread nD τ).loc main_arg1) (ix3 ⟨n.val / 8, by omega⟩ ⟨n.val % 8, by omega⟩ j)
/-- The layer's gain. -/
def Gn (c : Dev nD) (j : Fin 2048) : EReal := m ((c.tc : Thread nD τ).loc main_arg2) (ix2 0 j)
/-- The layer's first matrix. -/
def WI (c : Dev nD) (i : Fin 2048) (n : Fin 11264) : EReal := m ((c.tc : Thread nD τ).loc main_arg3) (ix3 0 i n)
/-- The layer's second matrix. -/
def WO (c : Dev nD) (n : Fin 5632) (j : Fin 2048) : EReal := m ((c.tc : Thread nD τ).loc main_arg4) (ix3 0 n j)

theorem V_x_apply (c : Dev nD) (n : Fin 8192) (j : Fin 2048) : (V m c main_v0 : Vec Ideal S8192x2048 .f32) (ix2 n j) = X m c n j := by
  entry_read
  refine shapeCast_apply (s := S2x4096x2048) (t := S8192x2048) _ _ (ix2 n j) (ix3 ⟨n.val / 4096, by omega⟩ ⟨n.val % 4096, by omega⟩ j) ?_
  rw [Shape.rowMajor_val_three, Shape.rowMajor_val_two]
  show (n.val / 4096 * 4096 + n.val % 4096) * 2048 + j.val = n.val * 2048 + j.val
  omega

theorem V_xe_apply (c : Dev nD) (n : Fin 256) (j : Fin 2048) : (V m c main_v1 : Vec Ideal S256x2048 .f32) (ix2 n j) = XE m c n j := by
  entry_read
  refine shapeCast_apply (s := S32x8x2048) (t := S256x2048) _ _ (ix2 n j) (ix3 ⟨n.val / 8, by omega⟩ ⟨n.val % 8, by omega⟩ j) ?_
  rw [Shape.rowMajor_val_three, Shape.rowMajor_val_two]
  show (n.val / 8 * 8 + n.val % 8) * 2048 + j.val = n.val * 2048 + j.val
  omega

theorem V_gain_apply (c : Dev nD) (l : Fin 2) (j : Fin 2048) : (V m c main_v8 : Vec Ideal S2x1x2048 .f32) (ix3 l 0 j) = m ((c.tc : Thread nD τ).loc main_arg2) (ix2 l j) := by
  entry_read
  refine shapeCast_apply (s := S2x2048) (t := S2x1x2048) _ _ (ix3 l 0 j) (ix2 l j) ?_
  rw [Shape.rowMajor_val_three, Shape.rowMajor_val_two]
  show l.val * 2048 + j.val = (l.val * 1 + 0) * 2048 + j.val
  omega

theorem V_wi_apply (c : Dev nD) (i : Fin 2048) (n : Fin 11264) : (V m c main_v4 : Vec Ideal S2048x11264 .bf16) (ix2 i n) = WI m c i n := by
  entry_read
  rw [truncf_apply]
  refine (shapeCast_1ab_ab_apply (a := 2048) (b := 11264) _ _ i n).trans ?_
  refine extractStridedSlice_apply _ _ _ _ (ix3 0 i n) fun a => ?_
  match a with
  | ⟨0, _⟩ => rfl
  | ⟨1, _⟩ => show i.val = 0 + i.val; omega
  | ⟨2, _⟩ => show n.val = 0 + n.val; omega

theorem V_wo_apply (c : Dev nD) (n : Fin 5632) (j : Fin 2048) : (V m c main_v7 : Vec Ideal S5632x2048 .bf16) (ix2 n j) = WO m c n j := by
  entry_read
  rw [truncf_apply]
  refine (shapeCast_1ab_ab_apply (a := 5632) (b := 2048) _ _ n j).trans ?_
  refine extractStridedSlice_apply _ _ _ _ (ix3 0 n j) fun a => ?_
  match a with
  | ⟨0, _⟩ => rfl
  | ⟨1, _⟩ => show n.val = 0 + n.val; omega
  | ⟨2, _⟩ => show j.val = 0 + j.val; omega

/-- Which block each window brings at a point. -/
theorem idx_facts : ∀ t : Fin cfg0.N, win0_0.index t = ![t.val / 11, 0] ∧ win0_1.index t = ![0, 0, 0] ∧ win0_2.index t = ![0, t.val % 11]
    ∧ win0_3.index t = ![0, t.val % 11 + 11] ∧ win0_4.index t = ![t.val % 11, 0] ∧ win0_5.index t = ![0, 0] ∧ win0_8.index t = ![t.val / 11, 0] ∧ win0_9.index t = ![0, 0] :=
  (by decide +kernel : ∀ t : Fin grid0.N, _)

theorem iblk0_apply (c : Dev nD) (t : Fin cfg0.N) (r : Fin 1024) (j : Fin 2048) :
    (iblk m c 0 t : Vec Ideal S1024x2048 .f32) (ix2 r j) = X m c ⟨1024 * (t.val / 11) + r.val, by have := lt_of_lt_of_eq t.isLt (show cfg0.N = 88 from N_0); omega⟩ j := by
  rw [← V_x_apply]; unfold iblk
  refine congrArg (V m c main_v0) (Shape.idx_ext₂ ?_ ?_) <;> blk_simp [idx_facts t]
  show t.val / 11 * 1024 + r.val = 1024 * (t.val / 11) + r.val
  omega

theorem iblk1_apply (c : Dev nD) (t : Fin cfg0.N) (j : Fin 2048) :
    (iblk m c 1 t : Vec Ideal S1x1x2048 .f32) (ix3 0 0 j) = Gn m c j := by
  refine Eq.trans ?_ (V_gain_apply m c 0 j)
  unfold iblk
  refine congrArg (V m c main_v8) (funext fun a => Fin.ext ?_)
  match a with
  | ⟨0, _⟩ =>
    blk_simp [idx_facts t]
    rfl
  | ⟨1, _⟩ => blk_simp [idx_facts t]
  | ⟨2, _⟩ => blk_simp [idx_facts t]

theorem iblk2_apply (c : Dev nD) (t : Fin cfg0.N) (i : Fin 2048) (k : Fin 512) :
    (iblk m c 2 t : Vec Ideal S2048x512 .bf16) (ix2 i k) = WI m c i ⟨512 * (t.val % 11) + k.val, by omega⟩ := by
  rw [← V_wi_apply]; unfold iblk
  refine congrArg (V m c main_v4) (Shape.idx_ext₂ ?_ ?_) <;> blk_simp [idx_facts t]
  show t.val % 11 * 512 + k.val = 512 * (t.val % 11) + k.val
  omega

theorem iblk3_apply (c : Dev nD) (t : Fin cfg0.N) (i : Fin 2048) (k : Fin 512) :
    (iblk m c 3 t : Vec Ideal S2048x512 .bf16) (ix2 i k) = WI m c i ⟨512 * (t.val % 11 + 11) + k.val, by omega⟩ := by
  rw [← V_wi_apply]; unfold iblk
  refine congrArg (V m c main_v4) (Shape.idx_ext₂ ?_ ?_) <;> blk_simp [idx_facts t]
  show (t.val % 11 + 11) * 512 + k.val = 512 * (t.val % 11 + 11) + k.val
  omega

theorem iblk4_apply (c : Dev nD) (t : Fin cfg0.N) (k : Fin 512) (j : Fin 2048) :
    (iblk m c 4 t : Vec Ideal S512x2048 .bf16) (ix2 k j) = WO m c ⟨512 * (t.val % 11) + k.val, by omega⟩ j := by
  rw [← V_wo_apply]; unfold iblk
  refine congrArg (V m c main_v7) (Shape.idx_ext₂ ?_ ?_) <;> blk_simp [idx_facts t]
  show t.val % 11 * 512 + k.val = 512 * (t.val % 11) + k.val
  omega

theorem iblk5_apply (c : Dev nD) (t : Fin cfg0.N) (r : Fin 256) (j : Fin 2048) :
    (iblk m c 5 t : Vec Ideal S256x2048 .f32) (ix2 r j) = XE m c r j := by
  rw [← V_xe_apply]; unfold iblk
  refine congrArg (V m c main_v1) (Shape.idx_ext₂ ?_ ?_) <;> blk_simp [idx_facts t]

end Cert.Kernel2Ideal.Hand

end
-- ==== Proof.Ffn2.States.lean ====
module

public import proofs.«01_k».proof.Proof.Ffn2.Blocks

/-! What the feed-forward kernel holds after each point of its grid: the normalised rows, and the sum of the blocks of hidden
columns met so far, which the last block turns into the layer's rows. -/

@[expose] public section

set_option maxRecDepth 16384

noncomputable section

namespace Cert.Kernel2Ideal.Hand

open Cert.Kernel2Ideal Cert.Kernel2Ideal.Gen Cert.Halves Cert.Rows
open Idealize.ShloMosaic hiding ix1 ix2 ix3
open Idealize.ShloMosaic.TcCoe Idealize.ShloMosaic.ValueIdx
open Idealize.ShloMosaic.Pipeline (Dat)

variable (m : (ℓ : Loc nD τ sig) → Buf (Elt Ideal) ℓ)

theorem lt88 (t : Fin cfg0.N) : t.val < 88 := lt_of_lt_of_eq t.isLt (show cfg0.N = 88 from N_0)

/-- The row of the prompt that row `r` of a point's block is. -/
def row (n : ℕ) (hn : n < 88) (r : Fin 1024) : Fin 8192 := ⟨1024 * (n / 11) + r.val, by omega⟩

/-- The result for a row. -/
def outRow (c : Dev nD) (x : Fin 2048 → EReal) (j : Fin 2048) : EReal := layer x (Gn m c) (WI m c) (WO m c) j

/-- The sum of the first `f` blocks of hidden columns, for a row. -/
def upTo (c : Dev nD) (x : Fin 2048 → EReal) (j : Fin 2048) (f : ℕ) : EReal :=
  ∑ i ∈ Finset.range f, part (nrm x (Gn m c)) (WI m c) (fun k => WO m c k j) i

/-- One more block. -/
theorem upTo_succ (c : Dev nD) (x : Fin 2048 → EReal) (j : Fin 2048) (t : Fin cfg0.N) :
    upTo m c x j (t.val % 11) + block (nrm x (Gn m c)) (fun i k => (iblk m c 2 t : Vec Ideal S2048x512 .bf16) (ix2 i k))
      (fun i k => (iblk m c 3 t : Vec Ideal S2048x512 .bf16) (ix2 i k)) (fun k => (iblk m c 4 t : Vec Ideal S512x2048 .bf16) (ix2 k j)) = upTo m c x j (t.val % 11 + 1) := by
  unfold upTo
  rw [Finset.sum_range_succ]
  refine congrArg (_ + ·) ?_
  unfold part
  rw [dif_pos (by omega)]
  simp only [iblk2_apply, iblk3_apply, iblk4_apply]

theorem layer_upTo (c : Dev nD) (x : Fin 2048 → EReal) (j : Fin 2048) :
    x j + half * upTo m c x j 11 = layer x (Gn m c) (WI m c) (WO m c) j := by
  unfold layer upTo; rw [hidden_parts]

theorem sideH_apply (x : FVec Ideal S256x2048 .f32) (g : FVec Ideal S1x1x2048 .f32) (r : Fin 256) (j : Fin 2048) :
    sideH (F := Ideal) x g (ix2 r j) = nrm (fun k => x (ix2 r k)) (fun k => g (ix3 0 0 k)) j := snorm_pay_apply x g r j

theorem sideO_apply (h : FVec Ideal S256x2048 .bf16) (wg wu : FVec Ideal S2048x512 .bf16) (wo : FVec Ideal S512x2048 .bf16) (o : FVec Ideal S256x2048 .f32) (r : Fin 256) (j : Fin 2048) :
    sideO (F := Ideal) h wg wu wo o (ix2 r j) = o (ix2 r j) + block (fun i => h (ix2 r i)) (fun i k => wg (ix2 i k)) (fun i k => wu (ix2 i k)) (fun k => wo (ix2 k j)) :=
  smain_pay_apply h wg wu o wo r j

theorem sideE_apply (x : FVec Ideal S256x2048 .f32) (o : FVec Ideal S256x2048 .f32) (r : Fin 256) (j : Fin 2048) :
    sideE (F := Ideal) x o (ix2 r j) = x (ix2 r j) + half * o (ix2 r j) := sepi_pay_apply x o r j

/-- The rows the last block leaves are the layer's. -/
theorem rowsE_out (c : Dev nD) (t : Fin cfg0.N) (o : Vec Ideal S1024x2048 .f32) (ho : ∀ r j, o (ix2 r j) = upTo m c (X m c (row t.val (lt88 t) r)) j 11) (r : Fin 1024) (j : Fin 2048) :
    rowsE (F := Ideal) (iblk m c 0 t) o (ix2 r j) = outRow m c (X m c (row t.val (lt88 t) r)) j := by
  have key : ∀ (x : Vec Ideal S1024x2048 .f32), (∀ k, x (ix2 r k) = X m c (row t.val (lt88 t) r) k) →
      rowsE (F := Ideal) x o (ix2 r j) = outRow m c (X m c (row t.val (lt88 t) r)) j := by
    intro x hx
    rw [rowsE_apply]; unfold outRow
    have e : ∀ k, x (ix2 r k) + half * o (ix2 r k) = layer (X m c (row t.val (lt88 t) r)) (Gn m c) (WI m c) (WO m c) k := fun k => by
      rw [ho, ← layer_upTo, hx]
    exact e j
  exact key _ (fun k => iblk0_apply m c t r k)

/-- The sample's rows the last block leaves are the layer's. -/
theorem sideE_out (c : Dev nD) (t : Fin cfg0.N) (o : Vec Ideal S256x2048 .f32) (ho : ∀ r j, o (ix2 r j) = upTo m c (XE m c r) j 11) (r : Fin 256) (j : Fin 2048) :
    sideE (F := Ideal) (iblk m c 5 t) o (ix2 r j) = outRow m c (XE m c r) j := by
  have key : ∀ (x : Vec Ideal S256x2048 .f32), (∀ k, x (ix2 r k) = XE m c r k) →
      sideE (F := Ideal) x o (ix2 r j) = outRow m c (XE m c r) j := by
    intro x hx
    rw [sideE_apply]; unfold outRow
    have e : ∀ k, x (ix2 r k) + half * o (ix2 r k) = layer (XE m c r) (Gn m c) (WI m c) (WO m c) k := fun k => by
      rw [ho, ← layer_upTo, hx]
    exact e j
  exact key _ (fun k => iblk5_apply m c t r k)

/-- What the state is after point `n`. -/
structure Good (c : Dev nD) (n : ℕ) (hn : n < 88) (s : St Ideal) : Prop where
  h : ∀ r i, s.h (ix2 r i) = nrm (X m c (row n hn r)) (Gn m c) i
  o : n % 11 ≠ 10 → ∀ r j, s.o (ix2 r j) = upTo m c (X m c (row n hn r)) j (n % 11 + 1)
  last : n % 11 = 10 → ∀ r j, s.o (ix2 r j) = outRow m c (X m c (row n hn r)) j
  g : n < 11 → ∀ r i, s.g (ix2 r i) = nrm (XE m c r) (Gn m c) i
  e : n < 10 → ∀ r j, s.e (ix2 r j) = upTo m c (XE m c r) j (n + 1)
  elast : ¬ n < 10 → ∀ r j, s.e (ix2 r j) = outRow m c (XE m c r) j

section
variable (c : Dev nD) (t : Fin cfg0.N) (s : St Ideal)

/-- The normalised rows the point works with. -/
def hAt : Vec Ideal S1024x2048 .bf16 := if t.val % 11 = 0 then rowsH (iblk m c 0 t) (iblk m c 1 t) else s.h
/-- The sum with the point's block added. -/
def oAt : Vec Ideal S1024x2048 .f32 := rowsO (hAt m c t s) (iblk m c 2 t) (iblk m c 3 t) (iblk m c 4 t) (if t.val % 11 = 0 then rowsZ else s.o)
/-- The sample's normalised rows, during the first block of the prompt's rows. -/
def gAt : Vec Ideal S256x2048 .bf16 := if t.val % 11 = 0 then sideH (iblk m c 5 t) (iblk m c 1 t) else s.g
/-- The sample's sum with the point's block added. -/
def eAt : Vec Ideal S256x2048 .f32 := sideO (gAt m c t s) (iblk m c 2 t) (iblk m c 3 t) (iblk m c 4 t) (if t.val % 11 = 0 then sideZ else s.e)

theorem stepAt_h : (stepAt m c t s).h = hAt m c t s := rfl
theorem stepAt_o : (stepAt m c t s).o = if t.val % 11 = 10 then rowsE (iblk m c 0 t) (oAt m c t s) else oAt m c t s := rfl
theorem stepAt_g : (stepAt m c t s).g = if t.val < 11 then gAt m c t s else s.g := rfl
theorem stepAt_e (ht : t.val < 11) : (stepAt m c t s).e = if t.val % 11 = 10 then sideE (iblk m c 5 t) (eAt m c t s) else eAt m c t s := by
  unfold stepAt step
  dsimp only
  simp only [if_pos ht]
  rfl

variable (hb : t.val % 11 ≠ 0 → ∃ h : t.val - 1 < 88, Good m c (t.val - 1) h s)

include hb

theorem hAt_apply (r : Fin 1024) (i : Fin 2048) : hAt m c t s (ix2 r i) = nrm (X m c (row t.val (lt88 t) r)) (Gn m c) i := by
  unfold hAt
  by_cases hz : t.val % 11 = 0
  · rw [if_pos hz, rowsH_apply]
    simp only [iblk0_apply, iblk1_apply]; rfl
  · rw [if_neg hz]
    obtain ⟨hl, hg⟩ := hb hz
    rw [hg.h, show row (t.val - 1) hl r = row t.val (lt88 t) r from Fin.ext (by show 1024 * ((t.val - 1) / 11) + r.val = 1024 * (t.val / 11) + r.val; omega)]

theorem oAt_apply (r : Fin 1024) (j : Fin 2048) : oAt m c t s (ix2 r j) = upTo m c (X m c (row t.val (lt88 t) r)) j (t.val % 11 + 1) := by
  unfold oAt
  rw [rowsO_apply, ← upTo_succ]
  simp only [hAt_apply m c t s hb]
  refine congrArg (· + _) ?_
  by_cases hz : t.val % 11 = 0
  · rw [if_pos hz, rowsZ_apply, hz]; rfl
  · rw [if_neg hz]
    obtain ⟨hl, hg⟩ := hb hz
    rw [hg.o (by omega), show row (t.val - 1) hl r = row t.val (lt88 t) r from Fin.ext (by show 1024 * ((t.val - 1) / 11) + r.val = 1024 * (t.val / 11) + r.val; omega),
      show (t.val - 1) % 11 + 1 = t.val % 11 by omega]

theorem gAt_apply (ht : t.val < 11) (r : Fin 256) (i : Fin 2048) : gAt m c t s (ix2 r i) = nrm (XE m c r) (Gn m c) i := by
  unfold gAt
  by_cases hz : t.val % 11 = 0
  · rw [if_pos hz, sideH_apply]
    simp only [iblk5_apply, iblk1_apply]
  · rw [if_neg hz]
    obtain ⟨hl, hg⟩ := hb hz
    exact hg.g (by omega) r i

theorem eAt_apply (ht : t.val < 11) (r : Fin 256) (j : Fin 2048) : eAt m c t s (ix2 r j) = upTo m c (XE m c r) j (t.val % 11 + 1) := by
  unfold eAt
  rw [sideO_apply, ← upTo_succ]
  simp only [gAt_apply m c t s hb ht]
  refine congrArg (· + _) ?_
  by_cases hz : t.val % 11 = 0
  · rw [if_pos hz, sideZ_apply, hz]; rfl
  · rw [if_neg hz]
    obtain ⟨hl, hg⟩ := hb hz
    rw [hg.e (by omega), show t.val - 1 + 1 = t.val % 11 by omega]

end

/-- The state after each point is what it should be. -/
theorem good (c : Dev nD) : ∀ (n : ℕ) (hn : n < cfg0.N) (h88 : n < 88), Good m c n h88 (stAt m c n hn) := by
  intro n
  induction n with
  | zero =>
    intro hn h88
    exact step_good ⟨0, hn⟩ _ (fun h => absurd rfl h) (fun h => absurd (show (0 : ℕ) < 11 by decide) h)
  | succ n ih =>
    intro hn h88
    exact step_good ⟨n + 1, hn⟩ _ (fun _ => ⟨by show n < 88; omega, ih _ _⟩) (fun _ => ⟨by show n < 88; omega, ih _ _⟩)
where
  step_good (t : Fin cfg0.N) (s : St Ideal) (hb : t.val % 11 ≠ 0 → ∃ h : t.val - 1 < 88, Good m c (t.val - 1) h s) (he : ¬ t.val < 11 → ∃ h : t.val - 1 < 88, Good m c (t.val - 1) h s) :
      Good m c t.val (lt88 t) (stepAt m c t s) := {
    h := fun r i => by rw [stepAt_h]; exact hAt_apply m c t s hb r i
    o := fun hz r j => by rw [stepAt_o, if_neg hz]; exact oAt_apply m c t s hb r j
    last := fun hz r j => by
      rw [stepAt_o, if_pos hz]
      exact rowsE_out m c t _ (fun r j => by rw [oAt_apply m c t s hb, hz]) r j
    g := fun ht r i => by rw [stepAt_g, if_pos ht]; exact gAt_apply m c t s hb ht r i
    e := fun ht r j => by
      rw [stepAt_e m c t s (by omega), if_neg (by omega), eAt_apply m c t s hb (by omega), show t.val % 11 + 1 = t.val + 1 by omega]
    elast := fun ht r j => by
      by_cases h11 : t.val < 11
      · rw [stepAt_e m c t s h11, if_pos (by omega)]
        exact sideE_out m c t _ (fun r j => by rw [eAt_apply m c t s hb h11, show t.val % 11 + 1 = 11 by omega]) r j
      · obtain ⟨hl, hg⟩ := he h11
        rw [← hg.elast (by omega) r j]
        unfold stepAt step
        dsimp only
        simp only [if_neg h11] }

end Cert.Kernel2Ideal.Hand

end
-- ==== Proof.Ffn2.Ref.lean ====
module

public import proofs.«01_k».proof.Proof.Ffn3.RowMath
public import proofs.«01_k».proof.Proof.Gen.Reference2Ideal.Read

/-! The reference of the feed-forward, row by row: each result's element is the layer's formula on its row. -/

@[expose] public section

set_option maxRecDepth 16384

noncomputable section

namespace Cert.Reference2Ideal.Hand

open Cert.Reference2Ideal Cert.Reference2Ideal.Gen Cert.Reference2Ideal.Read Cert.Rows
open Idealize.ShloMosaic
open Idealize.ShloMosaic.ValueIdx

theorem one_f32 : (FloatOps.ofBits .f32 0x3F800000#32 : Ideal .f32) = (1 : EReal) := by
  show Ideal.ofBits .f32 0x3F800000#32 = 1
  simp [Ideal.ofBits, Ideal.ieee, -EReal.coe_mul]; norm_num
theorem zero_f32 : (FloatOps.ofBits .f32 0x00000000#32 : Ideal .f32) = (0 : EReal) := Ideal.ofBits_zero_f32

/-- The prompt's normalised rows. -/
theorem prompt_norm (x0 : (⟨S2x4096x2048, .f32⟩ : BufTy).Contents (Elt Ideal)) (x2 : (⟨S2x2048, .f32⟩ : BufTy).Contents (Elt Ideal)) (a : Fin 2) (b : Fin 4096) (j : Fin 2048) :
    val_main_v14 (F := Ideal) x0 x2 (ix3 a b j) = nrm (fun k => x0 (ix3 a b k)) (fun k => x2 (ix2 0 k)) j := by
  have e : ∀ k, idx_main_v3 (idx_main_v4 (idx_main_v10 (ix3 a b j))) k = ix3 a b k := fun k => funext fun i => match i with
    | ⟨0, _⟩ => rfl
    | ⟨1, _⟩ => rfl
    | ⟨2, _⟩ => rfl
  have eg : idx_main_v0 (idx_main_v1 (idx_main_v12 (idx_main_v13 (ix3 a b j)))) = ix2 0 j := funext fun i => match i with
    | ⟨0, _⟩ => rfl
    | ⟨1, _⟩ => Fin.ext (Nat.mod_eq_of_lt j.isLt)
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, e, eg, zero_f32, zero_add]
  rfl

/-- The first matrix. -/
theorem prompt_wi (x3 : (⟨S2x2048x11264, .f32⟩ : BufTy).Contents (Elt Ideal)) (i : Fin 2048) (n : Fin 11264) : val_main_v16 (F := Ideal) x3 (ix2 i n) = x3 (ix3 0 i n) := by
  rw [val_main_v16_apply, val_main_v15_apply]
  refine congrArg x3 (funext fun q => match q with
    | ⟨0, _⟩ => rfl
    | ⟨1, _⟩ => Fin.ext ?_
    | ⟨2, _⟩ => Fin.ext ?_)
  · show (i.val * 11264 + n.val) / 11264 % 2048 = i.val
    omega
  · show (i.val * 11264 + n.val) % 11264 = n.val
    omega

/-- The second matrix. -/
theorem prompt_wo (x4 : (⟨S2x5632x2048, .f32⟩ : BufTy).Contents (Elt Ideal)) (n : Fin 5632) (j : Fin 2048) : val_main_v18 (F := Ideal) x4 (ix2 n j) = x4 (ix3 0 n j) := by
  rw [val_main_v18_apply, val_main_v17_apply]
  refine congrArg x4 (funext fun q => match q with
    | ⟨0, _⟩ => rfl
    | ⟨1, _⟩ => Fin.ext ?_
    | ⟨2, _⟩ => Fin.ext ?_)
  · show (n.val * 2048 + j.val) / 2048 % 5632 = n.val
    omega
  · show (n.val * 2048 + j.val) % 2048 = j.val
    omega

/-- The first product. -/
theorem prompt_dot (x0 : (⟨S2x4096x2048, .f32⟩ : BufTy).Contents (Elt Ideal)) (x2 : (⟨S2x2048, .f32⟩ : BufTy).Contents (Elt Ideal)) (x3 : (⟨S2x2048x11264, .f32⟩ : BufTy).Contents (Elt Ideal)) (a : Fin 2) (b : Fin 4096) (n : Fin 11264) :
    val_main_v19 (F := Ideal) x0 x2 x3 (ix3 a b n) = ∑ k, nrm (fun k => x0 (ix3 a b k)) (fun k => x2 (ix2 0 k)) k * x3 (ix3 0 k n) := by
  rw [val_main_v19_apply]
  refine Finset.sum_congr rfl fun k _ => ?_
  rw [show lidx_main_v19 (ix3 a b n) k = ix3 a b k from funext fun i => match i with
    | ⟨0, _⟩ => rfl
    | ⟨1, _⟩ => rfl
    | ⟨2, _⟩ => rfl,
    show ridx_main_v19 (ix3 a b n) k = ix2 k n from funext fun i => match i with
    | ⟨0, _⟩ => rfl
    | ⟨1, _⟩ => rfl, prompt_norm, prompt_wi]

/-- The hidden units. -/
theorem prompt_hid (x0 : (⟨S2x4096x2048, .f32⟩ : BufTy).Contents (Elt Ideal)) (x2 : (⟨S2x2048, .f32⟩ : BufTy).Contents (Elt Ideal)) (x3 : (⟨S2x2048x11264, .f32⟩ : BufTy).Contents (Elt Ideal)) (a : Fin 2) (b : Fin 4096) (n : Fin 5632) :
    val_main_v23 (F := Ideal) x0 x2 x3 (ix3 a b n) = act (nrm (fun k => x0 (ix3 a b k)) (fun k => x2 (ix2 0 k))) (fun i => x3 (ix3 0 i ⟨n.val, by omega⟩)) (fun i => x3 (ix3 0 i ⟨n.val + 5632, by omega⟩)) := by
  have e20 : idx_main_v20 (ix3 a b n) = ix3 a b ⟨n.val, by omega⟩ := funext fun i => match i with
    | ⟨0, _⟩ => rfl
    | ⟨1, _⟩ => rfl
    | ⟨2, _⟩ => rfl
  have e21 : idx_main_v21 (ix3 a b n) = ix3 a b ⟨n.val + 5632, by omega⟩ := funext fun i => match i with
    | ⟨0, _⟩ => rfl
    | ⟨1, _⟩ => rfl
    | ⟨2, _⟩ => Fin.ext (Nat.add_comm 5632 n.val)
  simp only [val_main_v23_apply, val_main_v22_apply, val_main_call0_v5_apply, val_main_call0_v4_apply, val_main_call0_cst_0_apply, val_main_call0_v3_apply, val_main_call0_v2_apply, val_main_call0_cst_apply, val_main_call0_v1_apply, val_main_call0_v0_apply, val_main_v20_apply, val_main_v21_apply, e20, e21, prompt_dot, one_f32]
  rfl

/-- The layer. -/
theorem prompt_layer (x0 : (⟨S2x4096x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (a : Fin 2) (b : Fin 4096) (j : Fin 2048) :
    val_main_v27 (F := Ideal) x0 x2 x3 x4 (ix3 a b j) = layer (fun k => x0 (ix3 a b k)) (fun k => x2 (ix2 0 k)) (fun i n => x3 (ix3 0 i n)) (fun n j => x4 (ix3 0 n j)) j := by
  have e : val_main_v24 (F := Ideal) x0 x2 x3 x4 (ix3 a b j) = hidden (nrm (fun k => x0 (ix3 a b k)) (fun k => x2 (ix2 0 k))) (fun i n => x3 (ix3 0 i n)) (fun n => x4 (ix3 0 n j)) := by
    rw [val_main_v24_apply]
    refine Finset.sum_congr rfl fun k _ => ?_
    rw [show lidx_main_v24 (ix3 a b j) k = ix3 a b k from funext fun i => match i with
      | ⟨0, _⟩ => rfl
      | ⟨1, _⟩ => rfl
      | ⟨2, _⟩ => rfl,
      show ridx_main_v24 (ix3 a b j) k = ix2 k j from funext fun i => match i with
      | ⟨0, _⟩ => rfl
      | ⟨1, _⟩ => rfl, prompt_hid, prompt_wo]
  simp only [val_main_v27_apply, val_main_v26_apply, val_main_v25_apply, val_main_cst_2_apply, e]
  rfl

/-- The result for the prompt. -/
theorem prompt_result (x0 : (⟨S2x4096x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (n : Fin 8192) (j : Fin 2048) :
    val_main_v28 (F := Ideal) x0 x2 x3 x4 (ix2 n j) = layer (fun k => x0 (ix3 ⟨n.val / 4096, by omega⟩ ⟨n.val % 4096, by omega⟩ k)) (fun k => x2 (ix2 0 k)) (fun i n => x3 (ix3 0 i n)) (fun n j => x4 (ix3 0 n j)) j := by
  rw [val_main_v28_apply, show idx_main_v28 (ix2 n j) = ix3 ⟨n.val / 4096, by omega⟩ ⟨n.val % 4096, by omega⟩ j from funext fun q => match q with
    | ⟨0, _⟩ => Fin.ext (by show (n.val * 2048 + j.val) / 8388608 = n.val / 4096; omega)
    | ⟨1, _⟩ => Fin.ext (by show (n.val * 2048 + j.val) / 2048 % 4096 = n.val % 4096; omega)
    | ⟨2, _⟩ => Fin.ext (by show (n.val * 2048 + j.val) % 2048 = j.val; omega), prompt_layer]

/-- The sample's normalised rows. -/
theorem sample_norm (x1 : (⟨S32x8x2048, .f32⟩ : BufTy).Contents (Elt Ideal)) (x2 : (⟨S2x2048, .f32⟩ : BufTy).Contents (Elt Ideal)) (a : Fin 32) (b : Fin 8) (j : Fin 2048) :
    val_main_v43 (F := Ideal) x1 x2 (ix3 a b j) = nrm (fun k => x1 (ix3 a b k)) (fun k => x2 (ix2 0 k)) j := by
  have e : ∀ k, idx_main_v32 (idx_main_v33 (idx_main_v39 (ix3 a b j))) k = ix3 a b k := fun k => funext fun i => match i with
    | ⟨0, _⟩ => rfl
    | ⟨1, _⟩ => rfl
    | ⟨2, _⟩ => rfl
  have eg : idx_main_v29 (idx_main_v30 (idx_main_v41 (idx_main_v42 (ix3 a b j)))) = ix2 0 j := funext fun i => match i with
    | ⟨0, _⟩ => rfl
    | ⟨1, _⟩ => Fin.ext (Nat.mod_eq_of_lt j.isLt)
  simp only [val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_cst_2_apply, val_main_cst_3_apply, val_main_cst_4_apply, e, eg, zero_f32, zero_add]
  rfl

/-- The first matrix. -/
theorem sample_wi (x3 : (⟨S2x2048x11264, .f32⟩ : BufTy).Contents (Elt Ideal)) (i : Fin 2048) (n : Fin 11264) : val_main_v45 (F := Ideal) x3 (ix2 i n) = x3 (ix3 0 i n) := by
  rw [val_main_v45_apply, val_main_v44_apply]
  refine congrArg x3 (funext fun q => match q with
    | ⟨0, _⟩ => rfl
    | ⟨1, _⟩ => Fin.ext ?_
    | ⟨2, _⟩ => Fin.ext ?_)
  · show (i.val * 11264 + n.val) / 11264 % 2048 = i.val
    omega
  · show (i.val * 11264 + n.val) % 11264 = n.val
    omega

/-- The second matrix. -/
theorem sample_wo (x4 : (⟨S2x5632x2048, .f32⟩ : BufTy).Contents (Elt Ideal)) (n : Fin 5632) (j : Fin 2048) : val_main_v47 (F := Ideal) x4 (ix2 n j) = x4 (ix3 0 n j) := by
  rw [val_main_v47_apply, val_main_v46_apply]
  refine congrArg x4 (funext fun q => match q with
    | ⟨0, _⟩ => rfl
    | ⟨1, _⟩ => Fin.ext ?_
    | ⟨2, _⟩ => Fin.ext ?_)
  · show (n.val * 2048 + j.val) / 2048 % 5632 = n.val
    omega
  · show (n.val * 2048 + j.val) % 2048 = j.val
    omega

/-- The first product. -/
theorem sample_dot (x1 : (⟨S32x8x2048, .f32⟩ : BufTy).Contents (Elt Ideal)) (x2 : (⟨S2x2048, .f32⟩ : BufTy).Contents (Elt Ideal)) (x3 : (⟨S2x2048x11264, .f32⟩ : BufTy).Contents (Elt Ideal)) (a : Fin 32) (b : Fin 8) (n : Fin 11264) :
    val_main_v48 (F := Ideal) x1 x2 x3 (ix3 a b n) = ∑ k, nrm (fun k => x1 (ix3 a b k)) (fun k => x2 (ix2 0 k)) k * x3 (ix3 0 k n) := by
  rw [val_main_v48_apply]
  refine Finset.sum_congr rfl fun k _ => ?_
  rw [show lidx_main_v48 (ix3 a b n) k = ix3 a b k from funext fun i => match i with
    | ⟨0, _⟩ => rfl
    | ⟨1, _⟩ => rfl
    | ⟨2, _⟩ => rfl,
    show ridx_main_v48 (ix3 a b n) k = ix2 k n from funext fun i => match i with
    | ⟨0, _⟩ => rfl
    | ⟨1, _⟩ => rfl, sample_norm, sample_wi]

/-- The hidden units. -/
theorem sample_hid (x1 : (⟨S32x8x2048, .f32⟩ : BufTy).Contents (Elt Ideal)) (x2 : (⟨S2x2048, .f32⟩ : BufTy).Contents (Elt Ideal)) (x3 : (⟨S2x2048x11264, .f32⟩ : BufTy).Contents (Elt Ideal)) (a : Fin 32) (b : Fin 8) (n : Fin 5632) :
    val_main_v52 (F := Ideal) x1 x2 x3 (ix3 a b n) = act (nrm (fun k => x1 (ix3 a b k)) (fun k => x2 (ix2 0 k))) (fun i => x3 (ix3 0 i ⟨n.val, by omega⟩)) (fun i => x3 (ix3 0 i ⟨n.val + 5632, by omega⟩)) := by
  have e20 : idx_main_v49 (ix3 a b n) = ix3 a b ⟨n.val, by omega⟩ := funext fun i => match i with
    | ⟨0, _⟩ => rfl
    | ⟨1, _⟩ => rfl
    | ⟨2, _⟩ => rfl
  have e21 : idx_main_v50 (ix3 a b n) = ix3 a b ⟨n.val + 5632, by omega⟩ := funext fun i => match i with
    | ⟨0, _⟩ => rfl
    | ⟨1, _⟩ => rfl
    | ⟨2, _⟩ => Fin.ext (Nat.add_comm 5632 n.val)
  simp only [val_main_v52_apply, val_main_v51_apply, val_main_call1_v5_apply, val_main_call1_v4_apply, val_main_call1_cst_0_apply, val_main_call1_v3_apply, val_main_call1_v2_apply, val_main_call1_cst_apply, val_main_call1_v1_apply, val_main_call1_v0_apply, val_main_v49_apply, val_main_v50_apply, e20, e21, sample_dot, one_f32]
  rfl

/-- The layer. -/
theorem sample_layer (x1 : (⟨S32x8x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (a : Fin 32) (b : Fin 8) (j : Fin 2048) :
    val_main_v56 (F := Ideal) x1 x2 x3 x4 (ix3 a b j) = layer (fun k => x1 (ix3 a b k)) (fun k => x2 (ix2 0 k)) (fun i n => x3 (ix3 0 i n)) (fun n j => x4 (ix3 0 n j)) j := by
  have e : val_main_v53 (F := Ideal) x1 x2 x3 x4 (ix3 a b j) = hidden (nrm (fun k => x1 (ix3 a b k)) (fun k => x2 (ix2 0 k))) (fun i n => x3 (ix3 0 i n)) (fun n => x4 (ix3 0 n j)) := by
    rw [val_main_v53_apply]
    refine Finset.sum_congr rfl fun k _ => ?_
    rw [show lidx_main_v53 (ix3 a b j) k = ix3 a b k from funext fun i => match i with
      | ⟨0, _⟩ => rfl
      | ⟨1, _⟩ => rfl
      | ⟨2, _⟩ => rfl,
      show ridx_main_v53 (ix3 a b j) k = ix2 k j from funext fun i => match i with
      | ⟨0, _⟩ => rfl
      | ⟨1, _⟩ => rfl, sample_hid, sample_wo]
  simp only [val_main_v56_apply, val_main_v55_apply, val_main_v54_apply, val_main_cst_5_apply, e]
  rfl

/-- The result for the sample. -/
theorem sample_result (x1 : (⟨S32x8x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (n : Fin 256) (j : Fin 2048) :
    val_main_v57 (F := Ideal) x1 x2 x3 x4 (ix2 n j) = layer (fun k => x1 (ix3 ⟨n.val / 8, by omega⟩ ⟨n.val % 8, by omega⟩ k)) (fun k => x2 (ix2 0 k)) (fun i n => x3 (ix3 0 i n)) (fun n j => x4 (ix3 0 n j)) j := by
  rw [val_main_v57_apply, show idx_main_v57 (ix2 n j) = ix3 ⟨n.val / 8, by omega⟩ ⟨n.val % 8, by omega⟩ j from funext fun q => match q with
    | ⟨0, _⟩ => Fin.ext (by show (n.val * 2048 + j.val) / 16384 = n.val / 8; omega)
    | ⟨1, _⟩ => Fin.ext (by show (n.val * 2048 + j.val) / 2048 % 8 = n.val % 8; omega)
    | ⟨2, _⟩ => Fin.ext (by show (n.val * 2048 + j.val) % 2048 = j.val; omega), sample_layer]

end Cert.Reference2Ideal.Hand

end
-- ==== Proof.Ffn2.Value.lean ====
module

public import proofs.«01_k».proof.Proof.Ffn2.States
public import proofs.«01_k».proof.Proof.Ffn2.Ref
public import proofs.«01_k».proof.Defs
public import proofs.«01_k».proof.Proof.Gen.Kernel2

/-! What the feed-forward's arrays hold when the kernel ends, and that the reference's results are the same. -/

@[expose] public section

set_option maxRecDepth 16384

noncomputable section

namespace Cert.Kernel2Ideal.Hand

open Cert.Kernel2Ideal Cert.Kernel2Ideal.Gen Cert.Halves Cert.Rows
open Idealize.ShloMosaic hiding ix1 ix2 ix3
open Idealize.SL.Sem Idealize.ShloMosaic.TcCoe Idealize.ShloMosaic.ValueIdx
open Idealize.ShloMosaic.Pipeline (Dat)

variable (m : (ℓ : Loc nD τ sig) → Buf (Elt Ideal) ℓ)

/-- The prompt's result. -/
def promptOut (c : Dev nD) : Vec Ideal S8192x2048 .f32 := fun i => outRow m c (X m c (i 0)) (i 1)
/-- The sample's result. -/
def sampleOut (c : Dev nD) : Vec Ideal S256x2048 .f32 := fun i => outRow m c (XE m c (i 0)) (i 1)

theorem idx2 {a b : ℕ} (y : (⟨2, ![a, b]⟩ : Shape).Idx) : y = ix2 (y 0) (y 1) := funext fun i => match i with
  | ⟨0, _⟩ => rfl
  | ⟨1, _⟩ => rfl

/-- The prompt's array at the end. -/
theorem prompt_array (c : Dev nD) : (dats m 0 c).arrAt 8 cfg0.N = promptOut m c := by
  refine (dats m 0 c).arrAt_eq_of_covers 8 _ (by decide +kernel) fun t hf y => ?_
  have h10 : t.val % 11 = 10 := (flush0_8 t).mp hf
  blk_simp
  rw [after8]
  refine (congrArg (stAt m c t.val t.isLt).o (idx2 y)).trans (((good m c t.val t.isLt (lt88 t)).last h10 (y 0) (y 1)).trans ?_)
  unfold promptOut
  refine congrArg₂ (fun a b => outRow m c (X m c a) b) (Fin.ext ?_) (Fin.ext ?_)
  · blk_simp [idx_facts t]
    show 1024 * (t.val / 11) + (y 0).val = t.val / 11 * 1024 + (y 0).val
    omega
  · blk_simp [idx_facts t]

/-- The last point. -/
def tEnd : Fin cfg0.N := ⟨87, by rw [show cfg0.N = 88 from N_0]; decide⟩

theorem whole_end : (cfg0.win 9).WholeAt tEnd := by decide +kernel

/-- The sample's array at the end. -/
theorem sample_array (c : Dev nD) : (dats m 0 c).arrAt 9 cfg0.N = sampleOut m c := by
  refine (dats m 0 c).arrAt_eq_of_after_last 9 tEnd whole_end _ fun j => ?_
  blk_simp
  rw [after9]
  exact (congrArg (stAt m c tEnd.val tEnd.isLt).e (idx2 j)).trans ((good m c tEnd.val tEnd.isLt (lt88 tEnd)).elast (by decide) (j 0) (j 1))

/-- The next layer's first matrix. -/
def nextInOut (c : Dev nD) : Vec Ideal S2048x11264 .bf16 := fun i => m ((c.tc : Thread nD τ).loc main_arg5) (ix3 0 (i 0) (i 1))
/-- The next layer's second matrix. -/
def nextOutOut (c : Dev nD) : Vec Ideal S5632x2048 .bf16 := fun i => m ((c.tc : Thread nD τ).loc main_arg6) (ix3 0 (i 0) (i 1))

theorem cast12_apply (x : Vec Ideal S1x256x1024 .f32) (y : S256x1024.Idx) : cast12 (F := Ideal) x y = x (ix3 0 (y 0) (y 1)) := by
  rw [idx2 y]
  exact shapeCast_1ab_ab_apply (a := 256) (b := 1024) _ _ (y 0) (y 1)

theorem cast13_apply (x : Vec Ideal S1x512x256 .f32) (y : S512x256.Idx) : cast13 (F := Ideal) x y = x (ix3 0 (y 0) (y 1)) := by
  rw [idx2 y]
  exact shapeCast_1ab_ab_apply (a := 512) (b := 256) _ _ (y 0) (y 1)

/-- Which block of the next layer's matrices each point casts. -/
theorem next_facts : ∀ t : Fin cfg0.N, win0_6.index t = ![0, t.val / 11, t.val % 11] ∧ win0_7.index t = ![0, t.val % 11, t.val / 11]
    ∧ win0_10.index t = ![t.val / 11, t.val % 11] ∧ win0_11.index t = ![t.val % 11, t.val / 11] :=
  (by decide +kernel : ∀ t : Fin grid0.N, _)

theorem iblk6_apply (c : Dev nD) (t : Fin cfg0.N) (r : Fin 256) (k : Fin 1024) :
    (iblk m c 6 t : Vec Ideal S1x256x1024 .f32) (ix3 0 r k) = m ((c.tc : Thread nD τ).loc main_arg5) (ix3 0 ⟨256 * (t.val / 11) + r.val, by have := lt88 t; omega⟩ ⟨1024 * (t.val % 11) + k.val, by have := lt88 t; omega⟩) := by
  unfold iblk
  refine congrArg (m ((c.tc : Thread nD τ).loc main_arg5)) (funext fun a => ?_)
  match a with
  | ⟨0, _⟩ =>
    refine Fin.ext ?_
    blk_simp [next_facts t]
    rfl
  | ⟨1, _⟩ =>
    refine Fin.ext ?_
    blk_simp [next_facts t]
    show t.val / 11 * 256 + r.val = 256 * (t.val / 11) + r.val
    omega
  | ⟨2, _⟩ =>
    refine Fin.ext ?_
    blk_simp [next_facts t]
    show t.val % 11 * 1024 + k.val = 1024 * (t.val % 11) + k.val
    omega

/-- The array of the next layer's first matrix at the end. -/
theorem next_in_array (c : Dev nD) : (dats m 0 c).arrAt 10 cfg0.N = nextInOut m c := by
  refine (dats m 0 c).arrAt_eq_of_covers 10 _ (by decide +kernel) fun t hf y => ?_
  blk_simp
  rw [after10]
  refine (cast12_apply _ y).trans ((iblk6_apply m c t (y 0) (y 1)).trans ?_)
  unfold nextInOut
  refine congrArg₂ (fun a b => m ((c.tc : Thread nD τ).loc main_arg5) (ix3 0 a b)) (Fin.ext ?_) (Fin.ext ?_)
  · blk_simp [next_facts t]
    show 256 * (t.val / 11) + (y 0).val = t.val / 11 * 256 + (y 0).val
    omega
  · blk_simp [next_facts t]
    show 1024 * (t.val % 11) + (y 1).val = t.val % 11 * 1024 + (y 1).val
    omega

theorem iblk7_apply (c : Dev nD) (t : Fin cfg0.N) (r : Fin 512) (k : Fin 256) :
    (iblk m c 7 t : Vec Ideal S1x512x256 .f32) (ix3 0 r k) = m ((c.tc : Thread nD τ).loc main_arg6) (ix3 0 ⟨512 * (t.val % 11) + r.val, by have := lt88 t; omega⟩ ⟨256 * (t.val / 11) + k.val, by have := lt88 t; omega⟩) := by
  unfold iblk
  refine congrArg (m ((c.tc : Thread nD τ).loc main_arg6)) (funext fun a => ?_)
  match a with
  | ⟨0, _⟩ =>
    refine Fin.ext ?_
    blk_simp [next_facts t]
    rfl
  | ⟨1, _⟩ =>
    refine Fin.ext ?_
    blk_simp [next_facts t]
    show t.val % 11 * 512 + r.val = 512 * (t.val % 11) + r.val
    omega
  | ⟨2, _⟩ =>
    refine Fin.ext ?_
    blk_simp [next_facts t]
    show t.val / 11 * 256 + k.val = 256 * (t.val / 11) + k.val
    omega

/-- The array of the next layer's second matrix at the end. -/
theorem next_out_array (c : Dev nD) : (dats m 0 c).arrAt 11 cfg0.N = nextOutOut m c := by
  refine (dats m 0 c).arrAt_eq_of_covers 11 _ (by decide +kernel) fun t hf y => ?_
  blk_simp
  rw [after11]
  refine (cast13_apply _ y).trans ((iblk7_apply m c t (y 0) (y 1)).trans ?_)
  unfold nextOutOut
  refine congrArg₂ (fun a b => m ((c.tc : Thread nD τ).loc main_arg6) (ix3 0 a b)) (Fin.ext ?_) (Fin.ext ?_)
  · blk_simp [next_facts t]
    show 512 * (t.val % 11) + (y 0).val = t.val % 11 * 512 + (y 0).val
    omega
  · blk_simp [next_facts t]
    show 256 * (t.val / 11) + (y 1).val = t.val / 11 * 256 + (y 1).val
    omega

/-- The reference's cast of the next layer's first matrix. -/
theorem ref_next_in (m' : (ℓ : Loc Cert.Reference2Ideal.nD Cert.Reference2Ideal.τ Cert.Reference2Ideal.sig) → Buf (Elt Ideal) ℓ) (c : Dev nD)
    (h : m' ((c.tc : Thread Cert.Reference2Ideal.nD Cert.Reference2Ideal.τ).loc Cert.Reference2Ideal.main_arg5) = m ((c.tc : Thread nD τ).loc main_arg5)) :
    Cert.Reference2Ideal.Read.val_main_v60 (F := Ideal) (m' ((c.tc : Thread Cert.Reference2Ideal.nD Cert.Reference2Ideal.τ).loc Cert.Reference2Ideal.main_arg5)) = nextInOut m c := by
  rw [h]; funext i
  rw [Cert.Reference2Ideal.Read.val_main_v60_apply, Cert.Reference2Ideal.Read.val_main_v59_apply, Cert.Reference2Ideal.Read.val_main_v58_apply]
  have h0 : (i 0).val < 2048 := (i 0).isLt
  have h1 : (i 1).val < 11264 := (i 1).isLt
  refine congrArg (m ((c.tc : Thread nD τ).loc main_arg5)) (funext fun q => match q with
    | ⟨0, _⟩ => rfl
    | ⟨1, _⟩ => Fin.ext ?_
    | ⟨2, _⟩ => Fin.ext ?_)
  · show ((i 0).val * 11264 + (i 1).val) / 11264 % 2048 = (i 0).val
    omega
  · show ((i 0).val * 11264 + (i 1).val) % 11264 = (i 1).val
    omega

/-- The reference's cast of the next layer's second matrix. -/
theorem ref_next_out (m' : (ℓ : Loc Cert.Reference2Ideal.nD Cert.Reference2Ideal.τ Cert.Reference2Ideal.sig) → Buf (Elt Ideal) ℓ) (c : Dev nD)
    (h : m' ((c.tc : Thread Cert.Reference2Ideal.nD Cert.Reference2Ideal.τ).loc Cert.Reference2Ideal.main_arg6) = m ((c.tc : Thread nD τ).loc main_arg6)) :
    Cert.Reference2Ideal.Read.val_main_v63 (F := Ideal) (m' ((c.tc : Thread Cert.Reference2Ideal.nD Cert.Reference2Ideal.τ).loc Cert.Reference2Ideal.main_arg6)) = nextOutOut m c := by
  rw [h]; funext i
  rw [Cert.Reference2Ideal.Read.val_main_v63_apply, Cert.Reference2Ideal.Read.val_main_v62_apply, Cert.Reference2Ideal.Read.val_main_v61_apply]
  have h0 : (i 0).val < 5632 := (i 0).isLt
  have h1 : (i 1).val < 2048 := (i 1).isLt
  refine congrArg (m ((c.tc : Thread nD τ).loc main_arg6)) (funext fun q => match q with
    | ⟨0, _⟩ => rfl
    | ⟨1, _⟩ => Fin.ext ?_
    | ⟨2, _⟩ => Fin.ext ?_)
  · show ((i 0).val * 2048 + (i 1).val) / 2048 % 5632 = (i 0).val
    omega
  · show ((i 0).val * 2048 + (i 1).val) % 2048 = (i 1).val
    omega

/-- Every run of the kernel ends with the layer's rows in its results and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v9_0) = promptOut m c
      ∧ r.2.mem ((c.tc : Thread nD τ).loc main_v9_1) = sampleOut m c
      ∧ r.2.mem ((c.tc : Thread nD τ).loc main_v9_2) = nextInOut m c
      ∧ r.2.mem ((c.tc : Thread nD τ).loc main_v9_3) = nextOutOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.2.out_eq c 8).trans (prompt_array m c), (h.2.out_eq c 9).trans (sample_array m c), (h.2.out_eq c 10).trans (next_in_array m c), (h.2.out_eq c 11).trans (next_out_array m c), h.1.1 c⟩)
    (Idealize.ShloMosaic.θ_run_and (frame_all m ρ) (run_main m ρ))

/-- The reference's result for the prompt. -/
theorem ref_prompt (m' : (ℓ : Loc Cert.Reference2Ideal.nD Cert.Reference2Ideal.τ Cert.Reference2Ideal.sig) → Buf (Elt Ideal) ℓ) (c : Dev nD)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4)) :
    Cert.Reference2Ideal.Value.res_main_v28 m' c = promptOut m c := by
  rw [Cert.Reference2Ideal.Read.val_main_v28_eq, h0, h2, h3, h4]
  funext i
  refine (congrArg _ (idx2 i)).trans ((Cert.Reference2Ideal.Hand.prompt_result _ _ _ _  (i 0) (i 1)).trans ?_)
  rfl

/-- The reference's result for the sample. -/
theorem ref_sample (m' : (ℓ : Loc Cert.Reference2Ideal.nD Cert.Reference2Ideal.τ Cert.Reference2Ideal.sig) → Buf (Elt Ideal) ℓ) (c : Dev nD)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4)) :
    Cert.Reference2Ideal.Value.res_main_v57 m' c = sampleOut m c := by
  rw [Cert.Reference2Ideal.Read.val_main_v57_eq, h1, h2, h3, h4]
  funext i
  refine (congrArg _ (idx2 i)).trans ((Cert.Reference2Ideal.Hand.sample_result _ _ _ _  (i 0) (i 1)).trans ?_)
  rfl

/-- Kernel and reference end with equal results. -/
theorem algebraic_all : Cert.algebraic_Kernel2Ideal_Reference2Ideal := fun m g m' g' _ hagree =>
  ⟨promptOut m, sampleOut m, nextInOut m, nextOutOut m, run_value m g, (θ_run Cert.Reference2Ideal.defs _ _).mono (fun _ h c =>
    ⟨(h c).1.trans (ref_prompt m m' c ((hagree c).1) ((hagree c).2.1) ((hagree c).2.2.1) ((hagree c).2.2.2.1) ((hagree c).2.2.2.2.1)), (h c).2.1.trans (ref_sample m m' c ((hagree c).1) ((hagree c).2.1) ((hagree c).2.2.1) ((hagree c).2.2.2.1) ((hagree c).2.2.2.2.1)), (h c).2.2.1.trans (ref_next_in m m' c ((hagree c).2.2.2.2.2.1)), (h c).2.2.2.1.trans (ref_next_out m m' c ((hagree c).2.2.2.2.2.2)), (h c).2.2.2.2⟩) (Cert.Reference2Ideal.Value.run m' g')⟩

/-- The kernel as compiled and the kernel over exact numbers run one body. -/
theorem body_same : Cert.Kernel2.defs₀ (F := Bits) = Cert.Kernel2Ideal.defs₀ := by
  unfold Cert.Kernel2.defs₀ Cert.Kernel2Ideal.defs₀
  refine congrArg Defs.onTc (funext fun l => funext fun a => ?_)
  match l, a with
  | 0, (t, s) => rfl

theorem defs_same : Cert.Kernel2.defs (F := Bits) = Cert.Kernel2Ideal.defs := by
  unfold Cert.Kernel2.defs Cert.Kernel2Ideal.defs
  rw [body_same]
  rfl

/-- The frame of the kernel as compiled. -/
theorem frame_kernel : Cert.quiescent_Kernel2 := fun m ρ _ => by
  rw [defs_same]
  exact (θ_run Cert.Kernel2Ideal.defs _ _).mono (fun _ h => h) (frame_all (F := Bits) m ρ)

/-- The frame of the kernel over exact numbers. -/
theorem frame_kernel_ideal : Cert.quiescent_Kernel2Ideal := fun m ρ _ => frame_all (F := Ideal) m ρ

end Cert.Kernel2Ideal.Hand

end
-- ==== Proof.Ffn3.Steps.lean ====
module

public import proofs.«01_k».proof.Proof.Gen.Kernel3Ideal.Frame
public import proofs.«01_k».proof.Proof.Gen.Kernel3Ideal.Loops
public import proofs.«01_k».proof.Proof.Ffn3.Halves
public import Idealize.ShloMosaic.Lib.Pipeline.FrameBody
public import Idealize.ShloMosaic.Lib.Tactic
public import Idealize.ShloMosaic.Lib.WordCmp

/-! What one point of the feed-forward kernel's grid does to the buffers it keeps: the normalised rows, the
sum over the blocks of hidden columns, and the rows it leaves, for the prompt's block of 1024 rows (`rows…`) and for
the sample's 256 rows (`side…`); and what its two loops over halves of 512 rows store. -/

@[expose] public section

set_option maxRecDepth 16384

noncomputable section

namespace Cert.Kernel3Ideal.Hand

open Cert.Kernel3Ideal Cert.Kernel3Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The prompt's rows normalised and scaled by the gain. -/
def rowsH (x : Vec F S1024x2048 .f32) (g : Vec F S1x1x2048 .f32) : Vec F S1024x2048 .bf16 := stack (k0_pay7 (top x) g) (k0_pay7 (bot x) g)
/-- The sum at its start. -/
def rowsZ : Vec F S1024x2048 .f32 := stack (k0_pay8 (F := F)) (k0_pay8 (F := F))
/-- The sum with one block of hidden columns added. -/
def rowsO (h : Vec F S1024x2048 .bf16) (wg wu : Vec F S2048x512 .bf16) (wo : Vec F S512x2048 .bf16) (o : Vec F S1024x2048 .f32) : Vec F S1024x2048 .f32 :=
  stack (k0_pay10 (top h) wg wu (top o) wo) (k0_pay1 (k0_pay9 (bot h) wg wu) (bot o) wo)
/-- The rows the last block leaves. -/
def rowsE (x : Vec F S1024x2048 .f32) (gf : Vec F S1x1x2048 .f32) (o : Vec F S1024x2048 .f32) : Vec F S1024x2048 .f32 := stack (k0_pay2 (top x) (top o) gf) (k0_pay2 (bot x) (bot o) gf)
/-- The sample's rows normalised and scaled by the gain. -/
def sideH (x : Vec F S256x2048 .f32) (g : Vec F S1x1x2048 .f32) : Vec F S256x2048 .bf16 := k0_pay3 x g
/-- The sample's sum at its start. -/
def sideZ : Vec F S256x2048 .f32 := k0_pay4 (F := F)
/-- The sample's sum with one block of hidden columns added. -/
def sideO (h : Vec F S256x2048 .bf16) (wg wu : Vec F S2048x512 .bf16) (wo : Vec F S512x2048 .bf16) (o : Vec F S256x2048 .f32) : Vec F S256x2048 .f32 := k0_pay5 h wg wu o wo
/-- The sample's rows the last block leaves. -/
def sideE (x : Vec F S256x2048 .f32) (gf : Vec F S1x1x2048 .f32) (o : Vec F S256x2048 .f32) : Vec F S256x2048 .f32 := k0_pay6 x o gf

section
variable (arg2 : Memref sig .tc .vmem S1024x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S256x2048 .f32) (harg7 : arg7.IsWhole) (arg8 : Memref sig .tc .vmem S1x1x2048 .f32) (harg8 : arg8.IsWhole) (arg9 : Memref sig .tc .vmem S1024x2048 .f32) (harg9 : arg9.IsWhole) (arg10 : Memref sig .tc .vmem S256x2048 .f32) (harg10 : arg10.IsWhole) (arg11 : Memref sig .tc .vmem S1024x2048 .bf16) (harg11 : arg11.IsWhole) (arg12 : Memref sig .tc .vmem S256x2048 .bf16) (harg12 : arg12.IsWhole)

theorem trips1 : Scf.trips k0_t1_loop.lb k0_t1_loop.ub k0_t1_loop.st = 2 := by decide
theorem trips2 : Scf.trips k0_t2_loop.lb k0_t2_loop.ub k0_t2_loop.st = 2 := by decide
theorem off1_0 : k0_off1 ⟨0, by decide⟩ = ![0, 0] := by decide
theorem off1_1 : k0_off1 ⟨1, by decide⟩ = ![512, 0] := by decide
theorem off2_0 : k0_off2 ⟨0, by decide⟩ = ![0, 0] := by decide
theorem off2_1 : k0_off2 ⟨1, by decide⟩ = ![512, 0] := by decide

/-- What one trip of the first loop stores: a half of the sum at its start, and a half of the normalised rows. -/
theorem trip1 (c : Dev nD) (i : grid0.Coords) (hc1 : k0_cond1 i = 1#1) (X2 : BufTy.Contents (Elt F) arg2.view.ty) (X3 : BufTy.Contents (Elt F) arg3.view.ty) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 hc1 X2 X3 k
      = ([⟨(Rect.unit (s := S1024x2048) (k0_off1 k) S512x2048.size (k0_off1_inb i k hc1)), k0_pay8⟩],
         [⟨(Rect.unit (s := S1024x2048) (k0_off1 k) S512x2048.size (k0_off1_inb i k hc1)), k0_pay7 (View.readAt (Elt F) arg2.view (Rect.unit (s := S1024x2048) (k0_off1 k) S512x2048.size (k0_off1_inb i k hc1)).toLoadRect X2) (View.readAt (Elt F) arg3.view (Rect.unit (s := S1x1x2048) ![0, 0, 0] S1x1x2048.size inb_S1x1x2048_S1x1x2048_0_0_0).toLoadRect X3)⟩]) := by
  unfold tripL_k0_t1 trip_k0_t1; rfl

/-- The first loop's stores are its two trips'. -/
theorem pb1 (c : Dev nD) (i : grid0.Coords) (hc1 : k0_cond1 i = 1#1) (X2 : BufTy.Contents (Elt F) arg2.view.ty) (X3 : BufTy.Contents (Elt F) arg3.view.ty) :
    pb_k0_t1 (F := F) Variants.none c none i arg2 harg2 arg3 harg3 arg4 harg4 arg5 harg5 arg6 harg6 arg7 harg7 arg8 harg8 arg9 harg9 arg10 harg10 arg11 harg11 arg12 harg12 hc1 X2 X3 (Scf.trips k0_t1_loop.lb k0_t1_loop.ub k0_t1_loop.st)
      = ((tripL_k0_t1 (F := F) Variants.none c none i arg2 harg2 arg3 harg3 arg4 harg4 arg5 harg5 arg6 harg6 arg7 harg7 arg8 harg8 arg9 harg9 arg10 harg10 arg11 harg11 arg12 harg12 hc1 X2 X3 ⟨1, by decide⟩).1 ++ (tripL_k0_t1 (F := F) Variants.none c none i arg2 harg2 arg3 harg3 arg4 harg4 arg5 harg5 arg6 harg6 arg7 harg7 arg8 harg8 arg9 harg9 arg10 harg10 arg11 harg11 arg12 harg12 hc1 X2 X3 ⟨0, by decide⟩).1, (tripL_k0_t1 (F := F) Variants.none c none i arg2 harg2 arg3 harg3 arg4 harg4 arg5 harg5 arg6 harg6 arg7 harg7 arg8 harg8 arg9 harg9 arg10 harg10 arg11 harg11 arg12 harg12 hc1 X2 X3 ⟨1, by decide⟩).2 ++ (tripL_k0_t1 (F := F) Variants.none c none i arg2 harg2 arg3 harg3 arg4 harg4 arg5 harg5 arg6 harg6 arg7 harg7 arg8 harg8 arg9 harg9 arg10 harg10 arg11 harg11 arg12 harg12 hc1 X2 X3 ⟨0, by decide⟩).2) := by
  rw [trips1]
  have h1 := pb_k0_t1_succ (F := F) Variants.none c none i arg2 harg2 arg3 harg3 arg4 harg4 arg5 harg5 arg6 harg6 arg7 harg7 arg8 harg8 arg9 harg9 arg10 harg10 arg11 harg11 arg12 harg12 hc1 X2 X3 ⟨1, by decide⟩
  have h0 := pb_k0_t1_succ (F := F) Variants.none c none i arg2 harg2 arg3 harg3 arg4 harg4 arg5 harg5 arg6 harg6 arg7 harg7 arg8 harg8 arg9 harg9 arg10 harg10 arg11 harg11 arg12 harg12 hc1 X2 X3 ⟨0, by decide⟩
  exact h1.trans (by rw [show ((⟨1, by decide⟩ : Fin k0_t1_loop.trips)).val = (⟨0, by decide⟩ : Fin k0_t1_loop.trips).val + 1 from rfl, h0]; simp [pb_k0_t1])

/-- What the first loop leaves in the buffer of the normalised rows. -/
theorem read_pb1_h (c : Dev nD) (i : grid0.Coords) (hc1 : k0_cond1 i = 1#1) (X2 : BufTy.Contents (Elt F) arg2.view.ty) (X3 : BufTy.Contents (Elt F) arg3.view.ty) (f : BufTy.Contents (Elt F) arg11.view.ty) :
    arg11.view.read (Elt F) (arg11.view.writes (Elt F) f (pb_k0_t1 (F := F) Variants.none c none i arg2 harg2 arg3 harg3 arg4 harg4 arg5 harg5 arg6 harg6 arg7 harg7 arg8 harg8 arg9 harg9 arg10 harg10 arg11 harg11 arg12 harg12 hc1 X2 X3 (Scf.trips k0_t1_loop.lb k0_t1_loop.ub k0_t1_loop.st)).2)
      = rowsH (arg2.view.read (Elt F) X2) (arg3.view.read (Elt F) X3) := by
  rw [pb1, trip1, trip1]
  refine (read_stack _ _ _ _ _ _ _ off1_0 off1_1).trans ?_
  unfold rowsH
  rw [readAt_top _ _ _ off1_0, readAt_bot _ _ _ off1_1, View.readAt_full]

/-- What the first loop leaves in the buffer of the sum. -/
theorem read_pb1_o (c : Dev nD) (i : grid0.Coords) (hc1 : k0_cond1 i = 1#1) (X2 : BufTy.Contents (Elt F) arg2.view.ty) (X3 : BufTy.Contents (Elt F) arg3.view.ty) (f : BufTy.Contents (Elt F) arg9.view.ty) :
    arg9.view.read (Elt F) (arg9.view.writes (Elt F) f (pb_k0_t1 (F := F) Variants.none c none i arg2 harg2 arg3 harg3 arg4 harg4 arg5 harg5 arg6 harg6 arg7 harg7 arg8 harg8 arg9 harg9 arg10 harg10 arg11 harg11 arg12 harg12 hc1 X2 X3 (Scf.trips k0_t1_loop.lb k0_t1_loop.ub k0_t1_loop.st)).1) = rowsZ := by
  rw [pb1, trip1, trip1]
  exact read_stack _ _ _ _ _ _ _ off1_0 off1_1

/-- The same, the number of trips written out. -/
theorem read_pb1_h' (c : Dev nD) (i : grid0.Coords) (hc1 : k0_cond1 i = 1#1) (X2 : BufTy.Contents (Elt F) arg2.view.ty) (X3 : BufTy.Contents (Elt F) arg3.view.ty) (f : BufTy.Contents (Elt F) arg11.view.ty) (n : ℕ) (hn : n = 2) :
    arg11.view.read (Elt F) (arg11.view.writes (Elt F) f (pb_k0_t1 (F := F) Variants.none c none i arg2 harg2 arg3 harg3 arg4 harg4 arg5 harg5 arg6 harg6 arg7 harg7 arg8 harg8 arg9 harg9 arg10 harg10 arg11 harg11 arg12 harg12 hc1 X2 X3 n).2)
      = rowsH (arg2.view.read (Elt F) X2) (arg3.view.read (Elt F) X3) := by
  subst hn; exact read_pb1_h arg2 harg2 arg3 harg3 arg4 harg4 arg5 harg5 arg6 harg6 arg7 harg7 arg8 harg8 arg9 harg9 arg10 harg10 arg11 harg11 arg12 harg12 c i hc1 X2 X3 f

/-- The same, the number of trips written out. -/
theorem read_pb1_o' (c : Dev nD) (i : grid0.Coords) (hc1 : k0_cond1 i = 1#1) (X2 : BufTy.Contents (Elt F) arg2.view.ty) (X3 : BufTy.Contents (Elt F) arg3.view.ty) (f : BufTy.Contents (Elt F) arg9.view.ty) (n : ℕ) (hn : n = 2) :
    arg9.view.read (Elt F) (arg9.view.writes (Elt F) f (pb_k0_t1 (F := F) Variants.none c none i arg2 harg2 arg3 harg3 arg4 harg4 arg5 harg5 arg6 harg6 arg7 harg7 arg8 harg8 arg9 harg9 arg10 harg10 arg11 harg11 arg12 harg12 hc1 X2 X3 n).1)
      = rowsZ := by
  subst hn; exact read_pb1_o arg2 harg2 arg3 harg3 arg4 harg4 arg5 harg5 arg6 harg6 arg7 harg7 arg8 harg8 arg9 harg9 arg10 harg10 arg11 harg11 arg12 harg12 c i hc1 X2 X3 f

/-- What one trip of the second loop stores, of the contents it finds: a half of the rows left. -/
theorem trip2 (c : Dev nD) (i : grid0.Coords) (hc2 : k0_cond2 i = 1#1) (X2 : BufTy.Contents (Elt F) arg2.view.ty) (X8 : BufTy.Contents (Elt F) arg8.view.ty) (k : Fin k0_t2_loop.trips) (f : BufTy.Contents (Elt F) arg9.view.ty) :
    tripL_k0_t2 (F := F) Variants.none c none i arg2 harg2 arg3 harg3 arg4 harg4 arg5 harg5 arg6 harg6 arg7 harg7 arg8 harg8 arg9 harg9 arg10 harg10 arg11 harg11 arg12 harg12 hc2 X2 X8 k f
      = [⟨(Rect.unit (s := S1024x2048) (k0_off2 k) S512x2048.size (k0_off2_inb i k hc2)), k0_pay2 (View.readAt (Elt F) arg2.view (Rect.unit (s := S1024x2048) (k0_off2 k) S512x2048.size (k0_off2_inb i k hc2)).toLoadRect X2) (View.readAt (Elt F) arg9.view (Rect.unit (s := S1024x2048) (k0_off2 k) S512x2048.size (k0_off2_inb i k hc2)).toLoadRect f) (View.readAt (Elt F) arg8.view (Rect.unit (s := S1x1x2048) ![0, 0, 0] S1x1x2048.size inb_S1x1x2048_S1x1x2048_0_0_0).toLoadRect X8)⟩] := by
  unfold tripL_k0_t2 trip_k0_t2; rfl

/-- What the second loop leaves in the buffer of the sum it finds. -/
theorem read_pb2 (c : Dev nD) (i : grid0.Coords) (hc2 : k0_cond2 i = 1#1) (X2 : BufTy.Contents (Elt F) arg2.view.ty) (X8 : BufTy.Contents (Elt F) arg8.view.ty) (f : BufTy.Contents (Elt F) arg9.view.ty) :
    arg9.view.read (Elt F) (arg9.view.writes (Elt F) f (pb_k0_t2 (F := F) Variants.none c none i arg2 harg2 arg3 harg3 arg4 harg4 arg5 harg5 arg6 harg6 arg7 harg7 arg8 harg8 arg9 harg9 arg10 harg10 arg11 harg11 arg12 harg12 hc2 X2 X8 f (Scf.trips k0_t2_loop.lb k0_t2_loop.ub k0_t2_loop.st)))
      = rowsE (arg2.view.read (Elt F) X2) (arg8.view.read (Elt F) X8) (arg9.view.read (Elt F) f) := by
  have h1 := pb_k0_t2_succ (F := F) Variants.none c none i arg2 harg2 arg3 harg3 arg4 harg4 arg5 harg5 arg6 harg6 arg7 harg7 arg8 harg8 arg9 harg9 arg10 harg10 arg11 harg11 arg12 harg12 hc2 X2 X8 f ⟨1, by decide⟩
  have h0 := pb_k0_t2_succ (F := F) Variants.none c none i arg2 harg2 arg3 harg3 arg4 harg4 arg5 harg5 arg6 harg6 arg7 harg7 arg8 harg8 arg9 harg9 arg10 harg10 arg11 harg11 arg12 harg12 hc2 X2 X8 f ⟨0, by decide⟩
  rw [trips2, show (2 : ℕ) = (⟨1, by decide⟩ : Fin k0_t2_loop.trips).val + 1 from rfl, h1,
    show ((⟨1, by decide⟩ : Fin k0_t2_loop.trips)).val = (⟨0, by decide⟩ : Fin k0_t2_loop.trips).val + 1 from rfl, h0, trip2, trip2]
  simp only [pb_k0_t2, View.writes_nil, List.append_nil, List.singleton_append]
  refine (read_stack _ _ _ _ _ _ _ off2_0 off2_1).trans ?_
  unfold rowsE
  rw [readAt_top _ _ _ off2_0, readAt_bot _ _ _ off2_1, readAt_top _ _ _ off2_0, readAt_bot _ _ _ off2_1, bot_read_cons _ _ _ _ _ off2_0, View.writes_nil, View.readAt_full]
end

end Cert.Kernel3Ideal.Hand

end
-- ==== Proof.Ffn3.Payloads.lean ====
module

public import proofs.«01_k».proof.Proof.Ffn3.Steps
public import proofs.«01_k».proof.Proof.Ffn3.RowMath

/-! What the steps of the feed-forward kernel compute at one element, over the extended reals. -/

@[expose] public section

set_option maxRecDepth 16384

noncomputable section

namespace Cert.Kernel3Ideal.Hand

open Cert.Kernel3Ideal Cert.Kernel3Ideal.Gen Cert.Halves Cert.Rows
open Idealize.ShloMosaic Idealize.ShloMosaic.TcCoe Idealize.ShloMosaic.ValueIdx

/-- 512 rows normalised, at an element. -/
theorem norm_pay_apply (x : FVec Ideal S512x2048 .f32) (g : FVec Ideal S1x1x2048 .f32) (r : Fin 512) (j : Fin 2048) :
    k0_pay7 (F := Ideal) x g (ix2 r j) = nrm (fun k => x (ix2 r k)) (fun k => g (ix3 0 0 k)) j := by
  unfold k0_pay7; simp only [shapeCast_self]
  rw [truncf_apply]; exact norm_apply (M := 512) x g _ _ _ _ _ _ _ r j

/-- 256 rows normalised, at an element. -/
theorem snorm_pay_apply (x : FVec Ideal S256x2048 .f32) (g : FVec Ideal S1x1x2048 .f32) (r : Fin 256) (j : Fin 2048) :
    k0_pay3 (F := Ideal) x g (ix2 r j) = nrm (fun k => x (ix2 r k)) (fun k => g (ix3 0 0 k)) j := by
  unfold k0_pay3; simp only [shapeCast_self]
  rw [truncf_apply]; exact norm_apply (M := 256) x g _ _ _ _ _ _ _ r j

/-- The rows the last block leaves, 512 of them, at an element. -/
theorem epi_pay_apply (x o : FVec Ideal S512x2048 .f32) (gf : FVec Ideal S1x1x2048 .f32) (r : Fin 512) (j : Fin 2048) :
    k0_pay2 (F := Ideal) x o gf (ix2 r j) = nrm (fun k => x (ix2 r k) + half * o (ix2 r k)) (fun k => gf (ix3 0 0 k)) j := by
  unfold k0_pay2; simp only [shapeCast_self]
  refine (norm_apply (M := 512) (addf x (mulf (broadcast S512x2048 (Scalar.ofBits .f32 0x3F000000#32)) o)) gf _ _ _ _ _ _ _ r j).trans ?_
  rfl

/-- The rows the last block leaves, 256 of them, at an element. -/
theorem sepi_pay_apply (x o : FVec Ideal S256x2048 .f32) (gf : FVec Ideal S1x1x2048 .f32) (r : Fin 256) (j : Fin 2048) :
    k0_pay6 (F := Ideal) x o gf (ix2 r j) = nrm (fun k => x (ix2 r k) + half * o (ix2 r k)) (fun k => gf (ix3 0 0 k)) j := by
  unfold k0_pay6; simp only [shapeCast_self]
  refine (norm_apply (M := 256) (addf x (mulf (broadcast S256x2048 (Scalar.ofBits .f32 0x3F000000#32)) o)) gf _ _ _ _ _ _ _ r j).trans ?_
  rfl

/-- 512 rows of the sum with one block added, at an element. -/
theorem main_pay_apply (h : FVec Ideal S512x2048 .bf16) (wg wu : FVec Ideal S2048x512 .bf16) (o : FVec Ideal S512x2048 .f32) (wo : FVec Ideal S512x2048 .bf16) (r : Fin 512) (j : Fin 2048) :
    k0_pay10 (F := Ideal) h wg wu o wo (ix2 r j) = o (ix2 r j) + block (fun i => h (ix2 r i)) (fun i k => wg (ix2 i k)) (fun i k => wu (ix2 i k)) (fun k => wo (ix2 k j)) := by
  unfold k0_pay10; simp only [shapeCast_self]
  exact block_apply (M := 512) h wg wu _ wo o r j fun k => by rw [truncf_apply]; exact act_apply (M := 512) h wg wu _ _ rfl rfl r k

/-- 256 rows of the sum with one block added, at an element. -/
theorem smain_pay_apply (h : FVec Ideal S256x2048 .bf16) (wg wu : FVec Ideal S2048x512 .bf16) (o : FVec Ideal S256x2048 .f32) (wo : FVec Ideal S512x2048 .bf16) (r : Fin 256) (j : Fin 2048) :
    k0_pay5 (F := Ideal) h wg wu o wo (ix2 r j) = o (ix2 r j) + block (fun i => h (ix2 r i)) (fun i k => wg (ix2 i k)) (fun i k => wu (ix2 i k)) (fun k => wo (ix2 k j)) := by
  unfold k0_pay5; simp only [shapeCast_self]
  exact block_apply (M := 256) h wg wu _ wo o r j fun k => by rw [truncf_apply]; exact act_apply (M := 256) h wg wu _ _ rfl rfl r k

/-- The lower 512 rows of the sum with one block added, at an element. -/
theorem low_pay_apply (h : FVec Ideal S512x2048 .bf16) (wg wu : FVec Ideal S2048x512 .bf16) (o : FVec Ideal S512x2048 .f32) (wo : FVec Ideal S512x2048 .bf16) (r : Fin 512) (j : Fin 2048) :
    k0_pay1 (F := Ideal) (k0_pay9 (F := Ideal) h wg wu) o wo (ix2 r j) = o (ix2 r j) + block (fun i => h (ix2 r i)) (fun i k => wg (ix2 i k)) (fun i k => wu (ix2 i k)) (fun k => wo (ix2 k j)) := by
  unfold k0_pay1 k0_pay9; simp only [shapeCast_self]
  exact block_apply (M := 512) h wg wu _ wo o r j fun k => by rw [truncf_apply]; exact act_apply (M := 512) h wg wu _ _ rfl rfl r k

/-- The normalised rows, at an element. -/
theorem rowsH_apply (x : FVec Ideal S1024x2048 .f32) (g : FVec Ideal S1x1x2048 .f32) (r : Fin 1024) (j : Fin 2048) :
    rowsH (F := Ideal) x g (ix2 r j) = nrm (fun k => x (ix2 r k)) (fun k => g (ix3 0 0 k)) j := by
  unfold rowsH
  refine stack_apply _ _ (fun r j => nrm (fun k => x (ix2 r k)) (fun k => g (ix3 0 0 k)) j) (fun r j => ?_) (fun r j => ?_) r j
  · rw [norm_pay_apply]; simp only [top_apply]
  · rw [norm_pay_apply]; simp only [bot_apply]

/-- The sum at its start, at an element. -/
theorem rowsZ_apply (r : Fin 1024) (j : Fin 2048) : rowsZ (F := Ideal) (ix2 r j) = 0 := by
  unfold rowsZ
  exact stack_apply _ _ (fun _ _ => (0 : EReal)) (fun r j => Ideal.ofBits_zero_f32) (fun r j => Ideal.ofBits_zero_f32) r j

/-- The sum with one block added, at an element. -/
theorem rowsO_apply (h : FVec Ideal S1024x2048 .bf16) (wg wu : FVec Ideal S2048x512 .bf16) (wo : FVec Ideal S512x2048 .bf16) (o : FVec Ideal S1024x2048 .f32) (r : Fin 1024) (j : Fin 2048) :
    rowsO (F := Ideal) h wg wu wo o (ix2 r j) = o (ix2 r j) + block (fun i => h (ix2 r i)) (fun i k => wg (ix2 i k)) (fun i k => wu (ix2 i k)) (fun k => wo (ix2 k j)) := by
  unfold rowsO
  refine stack_apply _ _ (fun r j => o (ix2 r j) + block (fun i => h (ix2 r i)) (fun i k => wg (ix2 i k)) (fun i k => wu (ix2 i k)) (fun k => wo (ix2 k j))) (fun r j => ?_) (fun r j => ?_) r j
  · rw [main_pay_apply]; simp only [top_apply]
  · rw [low_pay_apply]; simp only [bot_apply]

/-- The rows the last block leaves, at an element. -/
theorem rowsE_apply (x : FVec Ideal S1024x2048 .f32) (gf : FVec Ideal S1x1x2048 .f32) (o : FVec Ideal S1024x2048 .f32) (r : Fin 1024) (j : Fin 2048) :
    rowsE (F := Ideal) x gf o (ix2 r j) = nrm (fun k => x (ix2 r k) + half * o (ix2 r k)) (fun k => gf (ix3 0 0 k)) j := by
  unfold rowsE
  refine stack_apply _ _ (fun r j => nrm (fun k => x (ix2 r k) + half * o (ix2 r k)) (fun k => gf (ix3 0 0 k)) j) (fun r j => ?_) (fun r j => ?_) r j
  · rw [epi_pay_apply]; simp only [top_apply]
  · rw [epi_pay_apply]; simp only [bot_apply]

/-- The sample's sum at its start, at an element. -/
theorem sideZ_apply (r : Fin 256) (j : Fin 2048) : sideZ (F := Ideal) (ix2 r j) = 0 := Ideal.ofBits_zero_f32

end Cert.Kernel3Ideal.Hand

end
-- ==== Proof.Ffn3.Runs.lean ====
module

public import proofs.«01_k».proof.Proof.Ffn3.Steps

/-! One point of the feed-forward kernel's grid, run, for each kind of point. -/

@[expose] public section

set_option maxRecDepth 16384

noncomputable section

namespace Cert.Kernel3Ideal.Hand

open Cert.Kernel3Ideal Cert.Kernel3Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S256x2048 .f32) (harg7 : arg7.IsWhole) (arg8 : Memref sig .tc .vmem S1x1x2048 .f32) (harg8 : arg8.IsWhole) (arg9 : Memref sig .tc .vmem S1024x2048 .f32) (harg9 : arg9.IsWhole) (arg10 : Memref sig .tc .vmem S256x2048 .f32) (harg10 : arg10.IsWhole) (arg11 : Memref sig .tc .vmem S1024x2048 .bf16) (harg11 : arg11.IsWhole) (arg12 : Memref sig .tc .vmem S256x2048 .bf16) (harg12 : arg12.IsWhole)
variable (x2 : Vec F S1024x2048 .f32) (x3 : Vec F S1x1x2048 .f32) (x4 : Vec F S2048x512 .bf16) (x5 : Vec F S2048x512 .bf16) (x6 : Vec F S512x2048 .bf16) (x7 : Vec F S256x2048 .f32) (x8 : Vec F S1x1x2048 .f32) (x9 : Vec F S1024x2048 .f32) (x10 : Vec F S256x2048 .f32) (x11 : Vec F S1024x2048 .bf16) (x12 : Vec F S256x2048 .bf16)

/-- The buffers, each at its contents. -/
def held : sProp 𝕄 := iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12)

/-- The buffers, each at its contents, and what is left besides. -/
def heldAnd (R : sProp 𝕄) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ R)

set_option maxHeartbeats 2000000 in
/-- The body at a point of this kind (first block of columns, first block of rows): every buffer's contents after it, of the contents before. -/
theorem runA (E : Set ℕ) (K : PUnit → sProp 𝕄) (hc1 : (k0_cond1 i = 1#1)) (hc2 : ¬ (k0_cond2 i = 1#1)) (hc3 : (k0_cond3 i = 1#1)) (hc4 : (k0_cond4 i = 1#1)) (hc5 : ¬ (k0_cond5 i = 1#1)) :
    heldAnd c arg2 arg3 arg4 arg5 arg6 arg7 arg8 arg9 arg10 arg11 arg12 x2 x3 x4 x5 x6 x7 x8 x9 x10 x11 x12
        iprop(held c arg2 arg3 arg4 arg5 arg6 arg7 arg8 arg9 arg10 arg11 arg12 x2 x3 x4 x5 x6 x7 x8 (rowsO (rowsH x2 x3) x4 x5 x6 rowsZ) (sideO (sideH x7 x3) x4 x5 x6 sideZ) (rowsH x2 x3) (sideH x7 x3) -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc1 | sl_exact hc2 | sl_exact hc3 | sl_exact hc4 | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    try sl_unfold_run_names
    refine (read_stack _ _ _ _ _ _ _ rfl rfl).trans ?_
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
    rw [read_pb1_h', read_pb1_o']
    all_goals first | simp only [Memref.IsWhole.read_unread] | rfl
  isplitl [H10]
  · iexists _; isplitr; swap; · iexact H10
    ipureintro
    try sl_unfold_run_names
    refine (View.read_writes_full _ _ _ _ _).trans ?_
    unfold sideO sideH sideZ
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H11]
  · iexists _; isplitr; swap; · iexact H11
    ipureintro
    try sl_unfold_run_names
    rw [read_pb1_h, Memref.IsWhole.read_unread, Memref.IsWhole.read_unread]
  iexists _; isplitr; swap; · iexact H12
  ipureintro
  try sl_unfold_run_names
  refine (View.read_writes_full _ _ _ _ _).trans ?_
  unfold sideH
  simp only [readAt_top _ _ _ rfl, readAt_bot _ _ _ rfl, bot_read_cons _ _ _ _ _ rfl, read_pb1_o, read_pb1_h, readAt_all2, readAt_all3, readCov_all2, View.writes_nil, Memref.IsWhole.read_unread]

set_option maxHeartbeats 2000000 in
/-- The body at a point of this kind (a middle block of columns, first block of rows): every buffer's contents after it, of the contents before. -/
theorem runB (E : Set ℕ) (K : PUnit → sProp 𝕄) (hc1 : ¬ (k0_cond1 i = 1#1)) (hc2 : ¬ (k0_cond2 i = 1#1)) (hc3 : (k0_cond3 i = 1#1)) (hc4 : ¬ (k0_cond4 i = 1#1)) (hc5 : ¬ (k0_cond5 i = 1#1)) :
    heldAnd c arg2 arg3 arg4 arg5 arg6 arg7 arg8 arg9 arg10 arg11 arg12 x2 x3 x4 x5 x6 x7 x8 x9 x10 x11 x12
        iprop(held c arg2 arg3 arg4 arg5 arg6 arg7 arg8 arg9 arg10 arg11 arg12 x2 x3 x4 x5 x6 x7 x8 (rowsO x11 x4 x5 x6 x9) (sideO x12 x4 x5 x6 x10) x11 x12 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc1 | sl_exact hc2 | sl_exact hc3 | sl_exact hc4 | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    try sl_unfold_run_names
    refine (read_stack _ _ _ _ _ _ _ rfl rfl).trans ?_
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H10]
  · iexists _; isplitr; swap; · iexact H10
    ipureintro
    try sl_unfold_run_names
    refine (View.read_writes_full _ _ _ _ _).trans ?_
    unfold sideO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H11]
  · iexists _; isplitr; · ipureintro; exact harg11.read_unread _
    iexact H11
  iexists _; isplitr; · ipureintro; exact harg12.read_unread _
  iexact H12

set_option maxHeartbeats 2000000 in
/-- The body at a point of this kind (last block of columns, first block of rows): every buffer's contents after it, of the contents before. -/
theorem runC (E : Set ℕ) (K : PUnit → sProp 𝕄) (hc1 : ¬ (k0_cond1 i = 1#1)) (hc2 : (k0_cond2 i = 1#1)) (hc3 : (k0_cond3 i = 1#1)) (hc4 : ¬ (k0_cond4 i = 1#1)) (hc5 : (k0_cond5 i = 1#1)) :
    heldAnd c arg2 arg3 arg4 arg5 arg6 arg7 arg8 arg9 arg10 arg11 arg12 x2 x3 x4 x5 x6 x7 x8 x9 x10 x11 x12
        iprop(held c arg2 arg3 arg4 arg5 arg6 arg7 arg8 arg9 arg10 arg11 arg12 x2 x3 x4 x5 x6 x7 x8 (rowsE x2 x8 (rowsO x11 x4 x5 x6 x9)) (sideE x7 x8 (sideO x12 x4 x5 x6 x10)) x11 x12 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc1 | sl_exact hc2 | sl_exact hc3 | sl_exact hc4 | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    try sl_unfold_run_names
    rw [View.writes_append, read_pb2, read_stack _ _ _ _ _ _ _ rfl rfl]
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H10]
  · iexists _; isplitr; swap; · iexact H10
    ipureintro
    try sl_unfold_run_names
    refine (View.read_writes_full _ _ _ _ _).trans ?_
    unfold sideO sideE
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H11]
  · iexists _; isplitr; · ipureintro; exact harg11.read_unread _
    iexact H11
  iexists _; isplitr; · ipureintro; exact harg12.read_unread _
  iexact H12

set_option maxHeartbeats 2000000 in
/-- The body at a point of this kind (first block of columns, a later block of rows): every buffer's contents after it, of the contents before. -/
theorem runD (E : Set ℕ) (K : PUnit → sProp 𝕄) (hc1 : (k0_cond1 i = 1#1)) (hc2 : ¬ (k0_cond2 i = 1#1)) (hc3 : ¬ (k0_cond3 i = 1#1)) :
    heldAnd c arg2 arg3 arg4 arg5 arg6 arg7 arg8 arg9 arg10 arg11 arg12 x2 x3 x4 x5 x6 x7 x8 x9 x10 x11 x12
        iprop(held c arg2 arg3 arg4 arg5 arg6 arg7 arg8 arg9 arg10 arg11 arg12 x2 x3 x4 x5 x6 x7 x8 (rowsO (rowsH x2 x3) x4 x5 x6 rowsZ) x10 (rowsH x2 x3) x12 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    try sl_unfold_run_names
    refine (read_stack _ _ _ _ _ _ _ rfl rfl).trans ?_
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
    rw [read_pb1_h', read_pb1_o']
    all_goals first | simp only [Memref.IsWhole.read_unread] | rfl
  isplitl [H10]
  · iexists _; isplitr; · ipureintro; exact harg10.read_unread _
    iexact H10
  isplitl [H11]
  · iexists _; isplitr; swap; · iexact H11
    ipureintro
    try sl_unfold_run_names
    rw [read_pb1_h, Memref.IsWhole.read_unread, Memref.IsWhole.read_unread]
  iexists _; isplitr; · ipureintro; exact harg12.read_unread _
  iexact H12

set_option maxHeartbeats 2000000 in
/-- The body at a point of this kind (a middle block of columns, a later block of rows): every buffer's contents after it, of the contents before. -/
theorem runE (E : Set ℕ) (K : PUnit → sProp 𝕄) (hc1 : ¬ (k0_cond1 i = 1#1)) (hc2 : ¬ (k0_cond2 i = 1#1)) (hc3 : ¬ (k0_cond3 i = 1#1)) :
    heldAnd c arg2 arg3 arg4 arg5 arg6 arg7 arg8 arg9 arg10 arg11 arg12 x2 x3 x4 x5 x6 x7 x8 x9 x10 x11 x12
        iprop(held c arg2 arg3 arg4 arg5 arg6 arg7 arg8 arg9 arg10 arg11 arg12 x2 x3 x4 x5 x6 x7 x8 (rowsO x11 x4 x5 x6 x9) x10 x11 x12 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    try sl_unfold_run_names
    refine (read_stack _ _ _ _ _ _ _ rfl rfl).trans ?_
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H10]
  · iexists _; isplitr; · ipureintro; exact harg10.read_unread _
    iexact H10
  isplitl [H11]
  · iexists _; isplitr; · ipureintro; exact harg11.read_unread _
    iexact H11
  iexists _; isplitr; · ipureintro; exact harg12.read_unread _
  iexact H12

set_option maxHeartbeats 2000000 in
/-- The body at a point of this kind (last block of columns, a later block of rows): every buffer's contents after it, of the contents before. -/
theorem runF (E : Set ℕ) (K : PUnit → sProp 𝕄) (hc1 : ¬ (k0_cond1 i = 1#1)) (hc2 : (k0_cond2 i = 1#1)) (hc3 : ¬ (k0_cond3 i = 1#1)) :
    heldAnd c arg2 arg3 arg4 arg5 arg6 arg7 arg8 arg9 arg10 arg11 arg12 x2 x3 x4 x5 x6 x7 x8 x9 x10 x11 x12
        iprop(held c arg2 arg3 arg4 arg5 arg6 arg7 arg8 arg9 arg10 arg11 arg12 x2 x3 x4 x5 x6 x7 x8 (rowsE x2 x8 (rowsO x11 x4 x5 x6 x9)) x10 x11 x12 -∗ K ⟨⟩)
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  simp only [k0_part1_eq_skeleton]
  unfold heldAnd held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    try sl_unfold_run_names
    rw [View.writes_append, read_pb2, read_stack _ _ _ _ _ _ _ rfl rfl]
    unfold rowsO
    simp only [readAt_top _ _ _ rfl, readAt_bot _ _ _ rfl, bot_read_cons _ _ _ _ _ rfl, read_pb1_o, read_pb1_h, readAt_all2, readAt_all3, readCov_all2, View.writes_nil, Memref.IsWhole.read_unread]
  isplitl [H10]
  · iexists _; isplitr; · ipureintro; exact harg10.read_unread _
    iexact H10
  isplitl [H11]
  · iexists _; isplitr; · ipureintro; exact harg11.read_unread _
    iexact H11
  iexists _; isplitr; · ipureintro; exact harg12.read_unread _
  iexact H12

end Cert.Kernel3Ideal.Hand

end
-- ==== Proof.Ffn3.Frame.lean ====
module

public import proofs.«01_k».proof.Proof.Ffn3.Runs
public import Idealize.ShloMosaic.Lib.Claim
public import Idealize.ShloMosaic.Lib.Pipeline.TableIdle

/-! What the feed-forward kernel keeps from one point of its grid to the next, its body at any point, and the run of
the whole program. -/

@[expose] public section

set_option maxRecDepth 16384

noncomputable section

namespace Cert.Kernel3Ideal.Hand

open Cert.Kernel3Ideal Cert.Kernel3Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## Which case a point is in -/

/-- Condition 1 of the body holds at the first block of hidden columns. -/
theorem cond1_iff : ∀ t : Fin grid0.N, (k0_cond1 (grid0.coords t) = 1#1) ↔ t.val % 11 = 0 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond1, e0, e1]
  word_cmp
/-- Condition 2 of the body holds at the last block of hidden columns. -/
theorem cond2_iff : ∀ t : Fin grid0.N, (k0_cond2 (grid0.coords t) = 1#1) ↔ t.val % 11 = 10 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond2, e0, e1]
  word_cmp
/-- Condition 3 of the body holds at the first block of rows. -/
theorem cond3_iff : ∀ t : Fin grid0.N, (k0_cond3 (grid0.coords t) = 1#1) ↔ t.val < 11 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond3, e0, e1]
  word_cmp
/-- Condition 4 of the body holds at the first block of hidden columns. -/
theorem cond4_iff : ∀ t : Fin grid0.N, (k0_cond4 (grid0.coords t) = 1#1) ↔ t.val % 11 = 0 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond4, e0, e1]
  word_cmp
/-- Condition 5 of the body holds at the last block of hidden columns. -/
theorem cond5_iff : ∀ t : Fin grid0.N, (k0_cond5 (grid0.coords t) = 1#1) ↔ t.val % 11 = 10 := fun t => by
  have ht : t.val < 88 := Nat.lt_of_lt_of_eq t.isLt N_0
  have e0 : (grid0.coords t 0).val = t.val / 11 % 8 := Pipeline.Grid.coords_val t 0 (by decide) rfl
  have e1 : (grid0.coords t 1).val = t.val / 1 % 11 := Pipeline.Grid.coords_val t 1 (by decide) rfl
  simp only [k0_cond5, e0, e1]
  word_cmp

/-! ## The state the kernel carries -/

/-- What the kernel keeps between points: the prompt's sum, the sample's sum, the prompt's normalised rows and the sample's. -/
structure St (F : FTy → Type) where
  o : Vec F S1024x2048 .f32
  e : Vec F S256x2048 .f32
  h : Vec F S1024x2048 .bf16
  g : Vec F S256x2048 .bf16

/-- One point: on the first block of hidden columns the rows are normalised and the sum starts at zero, the block's product is
added, and on the last block the sum becomes the result; the sample's rows likewise, during the first block of the prompt's rows only. -/
def step (n : ℕ) (x2 : Vec F S1024x2048 .f32) (x3 : Vec F S1x1x2048 .f32) (x4 x5 : Vec F S2048x512 .bf16) (x6 : Vec F S512x2048 .bf16) (x7 : Vec F S256x2048 .f32) (x8 : Vec F S1x1x2048 .f32) (s : St F) : St F :=
  let h := if n % 11 = 0 then rowsH x2 x3 else s.h
  let o := rowsO h x4 x5 x6 (if n % 11 = 0 then rowsZ else s.o)
  let g := if n < 11 then (if n % 11 = 0 then sideH x7 x3 else s.g) else s.g
  let e := if n < 11 then
      (if n % 11 = 10 then sideE x7 x8 (sideO g x4 x5 x6 (if n % 11 = 0 then sideZ else s.e)) else sideO g x4 x5 x6 (if n % 11 = 0 then sideZ else s.e))
    else s.e
  ⟨if n % 11 = 10 then rowsE x2 x8 o else o, e, h, g⟩

variable (m : (ℓ : Loc nD τ sig) → Buf (Elt F) ℓ) (ρ : Dev nD → PrngReg)

/-- One point on the blocks the windows bring there. -/
def stepAt (c : Dev nD) (t : Fin cfg0.N) (s : St F) : St F :=
  step t.val (iblk m c 0 t) (iblk m c 1 t) (iblk m c 2 t) (iblk m c 3 t) (iblk m c 4 t) (iblk m c 5 t) (iblk m c 6 t) s

/-- A state to start from; nothing of it is read. -/
def stInit (c : Dev nD) (t : Fin cfg0.N) : St F := ⟨rowsZ, sideZ, rowsH (iblk m c 0 t) (iblk m c 1 t), sideH (iblk m c 5 t) (iblk m c 1 t)⟩

/-- The state after point `n`. -/
def stAt (c : Dev nD) : (n : ℕ) → n < cfg0.N → St F
  | 0, h => stepAt m c ⟨0, h⟩ (stInit m c ⟨0, h⟩)
  | n + 1, h => stepAt m c ⟨n + 1, h⟩ (stAt c n (Nat.lt_of_succ_lt h))

/-- The state before point `n`. -/
def stBefore (c : Dev nD) : (n : ℕ) → n ≤ cfg0.N → St F
  | 0, _ => stInit m c ⟨0, by rw [show cfg0.N = 88 from N_0]; decide⟩
  | n + 1, h => stAt m c n h

theorem stAt_eq (c : Dev nD) (t : Fin cfg0.N) : stAt m c t.val t.isLt = stepAt m c t (stBefore m c t.val (Nat.le_of_lt t.isLt)) := by
  obtain ⟨n, hn⟩ := t
  cases n with
  | zero => rfl
  | succ n => rfl

theorem stBefore_pos (c : Dev nD) (n : ℕ) (h : n ≤ cfg0.N) (hn : n ≠ 0) : stBefore m c n h = stAt m c (n - 1) (by omega) := by
  cases n with
  | zero => exact absurd rfl hn
  | succ n => rfl

/-- Window 0's staging buffer at a point. -/
abbrev ms0 (t : Fin cfg0.N) : Memref sig .tc .vmem S1024x2048 .f32 := win0_0.stage (cfg0.slots t 0)
/-- Window 1's staging buffer at a point. -/
abbrev ms1 (t : Fin cfg0.N) : Memref sig .tc .vmem S1x1x2048 .f32 := win0_1.stage (cfg0.slots t 1)
/-- Window 2's staging buffer at a point. -/
abbrev ms2 (t : Fin cfg0.N) : Memref sig .tc .vmem S2048x512 .bf16 := win0_2.stage (cfg0.slots t 2)
/-- Window 3's staging buffer at a point. -/
abbrev ms3 (t : Fin cfg0.N) : Memref sig .tc .vmem S2048x512 .bf16 := win0_3.stage (cfg0.slots t 3)
/-- Window 4's staging buffer at a point. -/
abbrev ms4 (t : Fin cfg0.N) : Memref sig .tc .vmem S512x2048 .bf16 := win0_4.stage (cfg0.slots t 4)
/-- Window 5's staging buffer at a point. -/
abbrev ms5 (t : Fin cfg0.N) : Memref sig .tc .vmem S256x2048 .f32 := win0_5.stage (cfg0.slots t 5)
/-- Window 6's staging buffer at a point. -/
abbrev ms6 (t : Fin cfg0.N) : Memref sig .tc .vmem S1x1x2048 .f32 := win0_6.stage (cfg0.slots t 6)
/-- Window 7's staging buffer at a point. -/
abbrev ms7 (t : Fin cfg0.N) : Memref sig .tc .vmem S1024x2048 .f32 := win0_7.stage (cfg0.slots t 7)
/-- Window 8's staging buffer at a point. -/
abbrev ms8 (t : Fin cfg0.N) : Memref sig .tc .vmem S256x2048 .f32 := win0_8.stage (cfg0.slots t 8)
/-- The buffer of the prompt's normalised rows. -/
abbrev scH : Memref sig .tc .vmem S1024x2048 .bf16 := Memref.whole cc0_scratch0
/-- The buffer of the sample's normalised rows. -/
abbrev scG : Memref sig .tc .vmem S256x2048 .bf16 := Memref.whole cc0_scratch1

set_option maxHeartbeats 2000000 in
/-- The body at any point: it takes the kept buffers from their state before the point to their state after it. Nothing is asked of
what a buffer holds where the point does not read it. -/
theorem run_point (c : Dev nD) (t : Fin cfg0.N) (s : St F) (y9 : Vec F S1024x2048 .f32) (y10 : Vec F S256x2048 .f32) (y11 : Vec F S1024x2048 .bf16) (y12 : Vec F S256x2048 .bf16)
    (h9 : t.val % 11 ≠ 0 → y9 = s.o) (h10 : t.val ≠ 0 → y10 = s.e) (h11 : t.val ≠ 0 → y11 = s.h) (h12 : t.val ≠ 0 → y12 = s.g) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare y9 ∗ owns (c : Thread nD τ) (ms8 t) fullShare y10 ∗ owns (c : Thread nD τ) scH fullShare y11 ∗ owns (c : Thread nD τ) scG fullShare y12 ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (stepAt m c t s).o ∗ owns (c : Thread nD τ) (ms8 t) fullShare (stepAt m c t s).e ∗ owns (c : Thread nD τ) scH fullShare (stepAt m c t s).h ∗ owns (c : Thread nD τ) scG fullShare (stepAt m c t s).g) -∗ K ⟨⟩))
      ⊢ wp frame (wpE (defs₀ (F := F)) Variants.none c none) Set.univ (bodyAt0 t) K := by
  have hN : t.val < 88 := lt_of_lt_of_eq t.isLt (show cfg0.N = 88 from N_0)
  by_cases h0 : t.val % 11 = 0
  · have h1 : ¬ t.val % 11 = 10 := by omega
    by_cases h2 : t.val < 11
    · rw [show stepAt m c t s = ⟨rowsO (rowsH (iblk m c 0 t) (iblk m c 1 t)) (iblk m c 2 t) (iblk m c 3 t) (iblk m c 4 t) rowsZ, sideO (sideH (iblk m c 5 t) (iblk m c 1 t)) (iblk m c 2 t) (iblk m c 3 t) (iblk m c 4 t) sideZ, rowsH (iblk m c 0 t) (iblk m c 1 t), sideH (iblk m c 5 t) (iblk m c 1 t)⟩ from by
        unfold stepAt step; simp only [h0, h1, h2, if_true, if_false]; rfl]
      exact runA c (grid0.coords t) _ _ _ _ _ _ _ _ _ _ _ _ _ _ _ _ _ _ _ _ _ _ _ _ _ _ _ _ _ _ _ _ _ Set.univ K ((cond1_iff t).mpr h0) (fun h => h1 ((cond2_iff t).mp h)) ((cond3_iff t).mpr h2) ((cond4_iff t).mpr h0) (fun h => h1 ((cond5_iff t).mp h))
    · obtain rfl := h10 (by omega)
      obtain rfl := h12 (by omega)
      rw [show stepAt m c t s = ⟨rowsO (rowsH (iblk m c 0 t) (iblk m c 1 t)) (iblk m c 2 t) (iblk m c 3 t) (iblk m c 4 t) rowsZ, s.e, rowsH (iblk m c 0 t) (iblk m c 1 t), s.g⟩ from by
        unfold stepAt step; simp only [h0, h1, h2, if_true, if_false]; rfl]
      exact runD c (grid0.coords t) _ _ _ _ _ _ _ _ _ _ _ _ _ _ _ _ _ _ _ _ _ _ _ _ _ _ _ _ _ _ _ _ _ Set.univ K ((cond1_iff t).mpr h0) (fun h => h1 ((cond2_iff t).mp h)) (fun h => h2 ((cond3_iff t).mp h))
  · obtain rfl := h9 h0
    obtain rfl := h10 (by omega)
    obtain rfl := h11 (by omega)
    obtain rfl := h12 (by omega)
    by_cases h1 : t.val % 11 = 10
    · by_cases h2 : t.val < 11
      · rw [show stepAt m c t s = ⟨rowsE (iblk m c 0 t) (iblk m c 6 t) (rowsO s.h (iblk m c 2 t) (iblk m c 3 t) (iblk m c 4 t) s.o), sideE (iblk m c 5 t) (iblk m c 6 t) (sideO s.g (iblk m c 2 t) (iblk m c 3 t) (iblk m c 4 t) s.e), s.h, s.g⟩ from by
          unfold stepAt step; simp only [h1, h2, if_true, if_false, show ¬ (10 = 0) from by decide]]
        exact runC c (grid0.coords t) _ _ _ _ _ _ _ _ _ _ _ _ _ _ _ _ _ _ _ _ _ _ _ _ _ _ _ _ _ _ _ _ _ Set.univ K (fun h => h0 ((cond1_iff t).mp h)) ((cond2_iff t).mpr h1) ((cond3_iff t).mpr h2) (fun h => h0 ((cond4_iff t).mp h)) ((cond5_iff t).mpr h1)
      · rw [show stepAt m c t s = ⟨rowsE (iblk m c 0 t) (iblk m c 6 t) (rowsO s.h (iblk m c 2 t) (iblk m c 3 t) (iblk m c 4 t) s.o), s.e, s.h, s.g⟩ from by
          unfold stepAt step; simp only [h1, h2, if_true, if_false, show ¬ (10 = 0) from by decide]]
        exact runF c (grid0.coords t) _ _ _ _ _ _ _ _ _ _ _ _ _ _ _ _ _ _ _ _ _ _ _ _ _ _ _ _ _ _ _ _ _ Set.univ K (fun h => h0 ((cond1_iff t).mp h)) ((cond2_iff t).mpr h1) (fun h => h2 ((cond3_iff t).mp h))
    · by_cases h2 : t.val < 11
      · rw [show stepAt m c t s = ⟨rowsO s.h (iblk m c 2 t) (iblk m c 3 t) (iblk m c 4 t) s.o, sideO s.g (iblk m c 2 t) (iblk m c 3 t) (iblk m c 4 t) s.e, s.h, s.g⟩ from by
          unfold stepAt step; simp only [h0, h1, h2, if_true, if_false]]
        exact runB c (grid0.coords t) _ _ _ _ _ _ _ _ _ _ _ _ _ _ _ _ _ _ _ _ _ _ _ _ _ _ _ _ _ _ _ _ _ Set.univ K (fun h => h0 ((cond1_iff t).mp h)) (fun h => h1 ((cond2_iff t).mp h)) ((cond3_iff t).mpr h2) (fun h => h0 ((cond4_iff t).mp h)) (fun h => h1 ((cond5_iff t).mp h))
      · rw [show stepAt m c t s = ⟨rowsO s.h (iblk m c 2 t) (iblk m c 3 t) (iblk m c 4 t) s.o, s.e, s.h, s.g⟩ from by
          unfold stepAt step; simp only [h0, h1, h2, if_true, if_false]]
        exact runE c (grid0.coords t) _ _ _ _ _ _ _ _ _ _ _ _ _ _ _ _ _ _ _ _ _ _ _ _ _ _ _ _ _ _ _ _ _ Set.univ K (fun h => h0 ((cond1_iff t).mp h)) (fun h => h1 ((cond2_iff t).mp h)) (fun h => h2 ((cond3_iff t).mp h))

/-! ## What the buffers hold between points -/

/-- The kernel's own scoped buffers, each held at some contents, with the generator's register: what it is given at the first point. -/
theorem given_eq (c : Dev nD) :
    (Pipeline.ΦA spec0 c : sProp 𝕄)
      = iprop(iprop((∃ d, owns (c : Thread nD τ) scH fullShare d) ∗ (∃ d, owns (c : Thread nD τ) scG fullShare d)) ∗ (∃ r, prngReg c r)) := by
  unfold Pipeline.ΦA; rw [scopedRest0_eq]; simp only [scH, scG, owns_whole]; try rfl

/-- What is known before point `n`: nothing at the first, afterwards that the normalised rows are the state's. -/
def keep (c : Dev nD) : (n : ℕ) → n ≤ cfg0.N → sProp 𝕄
  | 0, _ => Pipeline.ΦA spec0 c
  | n + 1, h => iprop(iprop(owns (c : Thread nD τ) scH fullShare (stAt m c n h).h ∗ owns (c : Thread nD τ) scG fullShare (stAt m c n h).g) ∗ (∃ r, prngReg c r))

theorem keep_zero (c : Dev nD) (n : ℕ) (h : n ≤ cfg0.N) (hz : n = 0) : keep m c n h = Pipeline.ΦA spec0 c := by
  subst hz; rfl

theorem keep_succ (c : Dev nD) (n : ℕ) (h : n < cfg0.N) :
    keep m c (n + 1) h = iprop(iprop(owns (c : Thread nD τ) scH fullShare (stAt m c n h).h ∗ owns (c : Thread nD τ) scG fullShare (stAt m c n h).g) ∗ (∃ r, prngReg c r)) := rfl

theorem keep_pos (c : Dev nD) (n : ℕ) (h : n ≤ cfg0.N) (hz : n ≠ 0) :
    keep m c n h = iprop(iprop(owns (c : Thread nD τ) scH fullShare (stBefore m c n h).h ∗ owns (c : Thread nD τ) scG fullShare (stBefore m c n h).g) ∗ (∃ r, prngReg c r)) := by
  cases n with
  | zero => exact absurd rfl hz
  | succ n => rfl

/-- The pipeline's proof data: what each window's buffer holds after the body at each point, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stAt m c t.val t.isLt).o
    | ⟨8, _⟩ => (stAt m c t.val t.isLt).e
  Φ t := keep m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem keep_castSucc (c : Dev nD) (t : Fin cfg0.N) : (dats m 0 c).Φ t.castSucc = keep m c t.val (Nat.le_of_lt t.isLt) := by
  dsimp only [dats]; exact Pipeline.Dat.Φ_castSucc (keep m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (stAt m c t.val t.isLt).o := by dsimp only [dats]
theorem after8 (c : Dev nD) (t : Fin cfg0.N) : (dats m 0 c).after 8 t = (stAt m c t.val t.isLt).e := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Past the first block of hidden columns the prompt's result buffer still holds the sum so far. -/
theorem before7 (c : Dev nD) (t : Fin cfg0.N) (h : t.val % 11 ≠ 0) (d) :
    (dats m 0 c).before 7 t d = (stBefore m c t.val (Nat.le_of_lt t.isLt)).o := by
  have hz : t.val ≠ 0 := fun e => h (by rw [e])
  rw [(dats m 0 c).before_out_kept 7 rfl t hz (Bool.eq_false_iff.mpr fun hf => by have := (flush0_7 _).mp hf; dsimp only at this; omega) (fun _ => rfl) (fun _ _ => rfl) d,
    after7, stBefore_pos m c t.val _ hz]

/-- During the first block of the prompt's rows the sample's result buffer is stored at every point. -/
theorem live8 (t : Fin cfg0.N) (h : t.val < 11) : cfg0.idle 8 (grid0.coords t) = false := by
  have h3 := (cond3_iff t).mpr h
  show (!(k0_cond3 (grid0.coords t) == 1#1 && k0_cond4 (grid0.coords t) == 1#1) && !(k0_cond3 (grid0.coords t) == 1#1) && !(k0_cond3 (grid0.coords t) == 1#1 && k0_cond5 (grid0.coords t) == 1#1)) = false
  rw [h3]; simp

/-- Afterwards it is not stored. -/
theorem idle8 (t : Fin cfg0.N) (h : ¬ t.val < 11) : cfg0.idle 8 (grid0.coords t) = true := by
  have h3 : (k0_cond3 (grid0.coords t) == 1#1) = false := by
    rw [beq_eq_false_iff_ne]; exact fun e => h ((cond3_iff t).mp e)
  show (!(k0_cond3 (grid0.coords t) == 1#1 && k0_cond4 (grid0.coords t) == 1#1) && !(k0_cond3 (grid0.coords t) == 1#1) && !(k0_cond3 (grid0.coords t) == 1#1 && k0_cond5 (grid0.coords t) == 1#1)) = true
  rw [h3]; simp

/-- It is written back after the last point only. -/
theorem noflush8 (t : Fin cfg0.N) (h : t.val ≠ 87) : (cfg0.win 8).flush t = false := by
  have hN : t.val < 88 := lt_of_lt_of_eq t.isLt (show cfg0.N = 88 from N_0)
  exact Bool.eq_false_iff.mpr fun hf => by have := (flush0_8 t).mp hf; omega

/-- The sample's result buffer holds what the body stored there, from the second point on. -/
theorem fresh8 (n : ℕ) (h : n < cfg0.N) : cfg0.fresh 8 n = decide (n = 0) := by
  induction n with
  | zero => rfl
  | succ n ih =>
    have hN : n + 1 < 88 := lt_of_lt_of_eq h (show cfg0.N = 88 from N_0)
    rw [cfg0.fresh_succ 8 n (by omega), noflush8 ⟨n, by omega⟩ (by dsimp only; omega), ih (by omega)]
    by_cases hn : n < 11
    · rw [show cfg0.idle 8 (cfg0.grid.coords ⟨n, Nat.lt_of_succ_lt h⟩) = false from live8 ⟨n, Nat.lt_of_succ_lt h⟩ hn]; simp
    · simp; omega

/-- Where it is not stored the state says it stays as it was. -/
theorem stAt_e (c : Dev nD) (t : Fin cfg0.N) (h : ¬ t.val < 11) : (stAt m c t.val t.isLt).e = (stBefore m c t.val (Nat.le_of_lt t.isLt)).e := by
  rw [stAt_eq]; unfold stepAt step; simp only [h, if_false]

/-- From the second point on it holds the state's sample sum. -/
theorem before8 (c : Dev nD) (t : Fin cfg0.N) (h : t.val ≠ 0) (d) :
    (dats m 0 c).before 8 t d = (stBefore m c t.val (Nat.le_of_lt t.isLt)).e := by
  rw [(dats m 0 c).before_out_traj 8 rfl (fun _ _ => rfl) (fun t ht hi _ => by
      have hn : ¬ t.val < 11 := fun hl => by
        have := live8 t hl
        rw [show cfg0.idle 8 (cfg0.grid.coords t) = cfg0.idle 8 (grid0.coords t) from rfl, this] at hi
        exact Bool.false_ne_true hi
      rw [after8, after8, stAt_e m c t hn, stBefore_pos m c t.val _ ht]) t.val t rfl d,
    fresh8 t.val t.isLt, decide_eq_false h, if_neg Bool.false_ne_true, after8, stBefore_pos m c t.val _ h]

/-- What the body owes for the sample's result buffer at any point, from the buffer at the state's sample sum. -/
theorem leaves8 (c : Dev nD) (t : Fin cfg0.N) :
    (owns (c : Thread nD τ) (ms8 t) fullShare (stAt m c t.val t.isLt).e : sProp 𝕄) ⊢ (dats m 0 c).leavesExact 8 t := by
  by_cases h : t.val < 11
  · rw [show (dats m 0 c).leavesExact 8 t = owns (c : Thread nD τ) (ms8 t) fullShare ((dats m 0 c).after 8 t) from by
      unfold Dat.leavesExact; rw [show cfg0.idle 8 (cfg0.grid.coords t) = false from live8 t h], after8]
  · by_cases hf : t.val = 87
    · rw [show (dats m 0 c).leavesExact 8 t = owns (c : Thread nD τ) (ms8 t) fullShare ((dats m 0 c).after 8 t) from by
        unfold Dat.leavesExact; rw [show cfg0.idle 8 (cfg0.grid.coords t) = true from idle8 t h, (flush0_8 t).mpr (by omega)], after8]
    · rw [(dats m 0 c).leavesExact_idle 8 t (idle8 t h) (noflush8 t hf)]
      iintro H
      iexists (stAt m c t.val t.isLt).e
      rw [before8 m c t (by omega), stAt_e m c t h]
      iexact H

/-- The body's precondition at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and its postcondition. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (cfg0.grid.coords t) = false from rfl]
theorem leaves7 (c : Dev nD) (t : Fin cfg0.N) : (dats m 0 c).leavesExact 7 t = owns (c : Thread nD τ) (ms7 t) fullShare ((dats m 0 c).after 7 t) := by
  unfold Dat.leavesExact; rw [show cfg0.idle 7 (cfg0.grid.coords t) = false from rfl]

set_option maxHeartbeats 4800000 in
/-- The body at any point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6]
  rw [show (dats m 0 c).owesAt () t.succ = (dats m 0 c).owesAt () t.castSucc from rfl]
  rw [leaves0, leaves1, leaves2, leaves3, leaves4, leaves5, leaves6, leaves7]
  rw [after0, after1, after2, after3, after4, after5, after6, after7]
  rw [show (dats m 0 c).Φ t.succ = keep m c (t.val + 1) t.isLt from rfl, keep_succ, keep_castSucc m c t, stAt_eq m c t]
  by_cases hz : t.val = 0
  · rw [keep_zero m c _ _ hz, given_eq]
    iintro ⟨⟨⟨⟨%d11, HS0⟩, ⟨%d12, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_point m c t (stBefore m c t.val (Nat.le_of_lt t.isLt)) _ _ _ _ (fun h => before7 m c t h d7) (fun h => before8 m c t h d8) (fun h => absurd hz h) (fun h => absurd hz h) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves8 m c t); rw [stAt_eq]; iexact H8
  · rw [keep_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_point m c t (stBefore m c t.val (Nat.le_of_lt t.isLt)) _ _ _ _ (fun h => before7 m c t h d7) (fun h => before8 m c t h d8) (fun _ => rfl) (fun _ => rfl) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves8 m c t); rw [stAt_eq]; iexact H8

theorem defs₀_row (t : Fin cfg0.N) :
    defs₀ (F := F) .tc cfg0.body (cfg0.bodyArgs t (cfg0.slots t)) = bodyAt0 t := by
  unfold defs₀; rw [Defs.onTc_tc]

/-- The body does at every point what the pipeline needs of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = keep m c 0 (Nat.zero_le _) from rfl, keep_zero m c 0 _ rfl]

theorem hout (c : Dev nD) : (dats m 0 c).Φ (Fin.last cfg0.N) ⊢ Pipeline.ΦA spec0 c := by
  have hN : cfg0.N = 88 := N_0
  rw [show (dats m 0 c).Φ (Fin.last cfg0.N) = keep m c (Fin.last cfg0.N).val (Nat.le_of_lt_succ (Fin.last cfg0.N).isLt) from rfl,
    keep_pos m c _ _ (by rw [Fin.val_last]; omega), given_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- Every run of the program ends with each array at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.Kernel3Ideal.Hand

end
-- ==== Proof.Ffn3.Blocks.lean ====
module

public import proofs.«01_k».proof.Proof.Ffn3.Payloads
public import proofs.«01_k».proof.Proof.Ffn3.Frame
public import Idealize.ShloMosaic.Lib.Pipeline.ValueKit

/-! The blocks the feed-forward kernel's windows bring at a point of its grid, element by element, as elements of the
program's arguments. -/

@[expose] public section

set_option maxRecDepth 16384

noncomputable section

namespace Cert.Kernel3Ideal.Hand

open Cert.Kernel3Ideal Cert.Kernel3Ideal.Gen Cert.Halves Cert.Rows
open Idealize.ShloMosaic hiding ix1 ix2 ix3
open Idealize.ShloMosaic.TcCoe Idealize.ShloMosaic.ValueIdx
open Idealize.ShloMosaic.Pipeline (Dat)

variable (m : (ℓ : Loc nD τ sig) → Buf (Elt Ideal) ℓ)

/-- Row `n` of the prompt, of the two sequences laid end to end. -/
def X (c : Dev nD) (n : Fin 8192) (j : Fin 2048) : EReal := m ((c.tc : Thread nD τ).loc main_arg0) (ix3 ⟨n.val / 4096, by omega⟩ ⟨n.val % 4096, by omega⟩ j)
/-- Row `n` of the sample, of its 32 sequences laid end to end. -/
def XE (c : Dev nD) (n : Fin 256) (j : Fin 2048) : EReal := m ((c.tc : Thread nD τ).loc main_arg1) (ix3 ⟨n.val / 8, by omega⟩ ⟨n.val % 8, by omega⟩ j)
/-- The layer's gain. -/
def Gn (c : Dev nD) (j : Fin 2048) : EReal := m ((c.tc : Thread nD τ).loc main_arg2) (ix2 1 j)
/-- The layer's first matrix. -/
def WI (c : Dev nD) (i : Fin 2048) (n : Fin 11264) : EReal := m ((c.tc : Thread nD τ).loc main_arg3) (ix3 1 i n)
/-- The layer's second matrix. -/
def WO (c : Dev nD) (n : Fin 5632) (j : Fin 2048) : EReal := m ((c.tc : Thread nD τ).loc main_arg4) (ix3 1 n j)
/-- The final gain. -/
def GF (c : Dev nD) (j : Fin 2048) : EReal := m ((c.tc : Thread nD τ).loc main_arg5) (ix1 j)

theorem V_x_apply (c : Dev nD) (n : Fin 8192) (j : Fin 2048) : (V m c main_v0 : Vec Ideal S8192x2048 .f32) (ix2 n j) = X m c n j := by
  entry_read
  refine shapeCast_apply (s := S2x4096x2048) (t := S8192x2048) _ _ (ix2 n j) (ix3 ⟨n.val / 4096, by omega⟩ ⟨n.val % 4096, by omega⟩ j) ?_
  rw [Shape.rowMajor_val_three, Shape.rowMajor_val_two]
  show (n.val / 4096 * 4096 + n.val % 4096) * 2048 + j.val = n.val * 2048 + j.val
  omega

theorem V_xe_apply (c : Dev nD) (n : Fin 256) (j : Fin 2048) : (V m c main_v1 : Vec Ideal S256x2048 .f32) (ix2 n j) = XE m c n j := by
  entry_read
  refine shapeCast_apply (s := S32x8x2048) (t := S256x2048) _ _ (ix2 n j) (ix3 ⟨n.val / 8, by omega⟩ ⟨n.val % 8, by omega⟩ j) ?_
  rw [Shape.rowMajor_val_three, Shape.rowMajor_val_two]
  show (n.val / 8 * 8 + n.val % 8) * 2048 + j.val = n.val * 2048 + j.val
  omega

theorem V_gain_apply (c : Dev nD) (l : Fin 2) (j : Fin 2048) : (V m c main_v8 : Vec Ideal S2x1x2048 .f32) (ix3 l 0 j) = m ((c.tc : Thread nD τ).loc main_arg2) (ix2 l j) := by
  entry_read
  refine shapeCast_apply (s := S2x2048) (t := S2x1x2048) _ _ (ix3 l 0 j) (ix2 l j) ?_
  rw [Shape.rowMajor_val_three, Shape.rowMajor_val_two]
  show l.val * 2048 + j.val = (l.val * 1 + 0) * 2048 + j.val
  omega

theorem V_wi_apply (c : Dev nD) (i : Fin 2048) (n : Fin 11264) : (V m c main_v4 : Vec Ideal S2048x11264 .bf16) (ix2 i n) = WI m c i n := by
  entry_read
  rw [truncf_apply]
  refine (shapeCast_1ab_ab_apply (a := 2048) (b := 11264) _ _ i n).trans ?_
  refine extractStridedSlice_apply _ _ _ _ (ix3 1 i n) fun a => ?_
  match a with
  | ⟨0, _⟩ => rfl
  | ⟨1, _⟩ => show i.val = 0 + i.val; omega
  | ⟨2, _⟩ => show n.val = 0 + n.val; omega

theorem V_wo_apply (c : Dev nD) (n : Fin 5632) (j : Fin 2048) : (V m c main_v7 : Vec Ideal S5632x2048 .bf16) (ix2 n j) = WO m c n j := by
  entry_read
  rw [truncf_apply]
  refine (shapeCast_1ab_ab_apply (a := 5632) (b := 2048) _ _ n j).trans ?_
  refine extractStridedSlice_apply _ _ _ _ (ix3 1 n j) fun a => ?_
  match a with
  | ⟨0, _⟩ => rfl
  | ⟨1, _⟩ => show n.val = 0 + n.val; omega
  | ⟨2, _⟩ => show j.val = 0 + j.val; omega

theorem V_gf_apply (c : Dev nD) (j : Fin 2048) : (V m c main_v9 : Vec Ideal S1x1x2048 .f32) (ix3 0 0 j) = GF m c j := by
  entry_read
  refine shapeCast_apply (s := S2048) (t := S1x1x2048) _ _ (ix3 0 0 j) (ix1 j) ?_
  rw [Shape.rowMajor_val_three, Shape.rowMajor_val_one]
  show j.val = (0 * 1 + 0) * 2048 + j.val
  omega

/-- Which block each window brings at a point. -/
theorem idx_facts : ∀ t : Fin cfg0.N, win0_0.index t = ![t.val / 11, 0] ∧ win0_1.index t = ![1, 0, 0] ∧ win0_2.index t = ![0, t.val % 11]
    ∧ win0_3.index t = ![0, t.val % 11 + 11] ∧ win0_4.index t = ![t.val % 11, 0] ∧ win0_5.index t = ![0, 0] ∧ win0_6.index t = ![0, 0, 0]
    ∧ win0_7.index t = ![t.val / 11, 0] ∧ win0_8.index t = ![0, 0] :=
  (by decide +kernel : ∀ t : Fin grid0.N, _)

theorem iblk0_apply (c : Dev nD) (t : Fin cfg0.N) (r : Fin 1024) (j : Fin 2048) :
    (iblk m c 0 t : Vec Ideal S1024x2048 .f32) (ix2 r j) = X m c ⟨1024 * (t.val / 11) + r.val, by have := lt_of_lt_of_eq t.isLt (show cfg0.N = 88 from N_0); omega⟩ j := by
  rw [← V_x_apply]; unfold iblk
  refine congrArg (V m c main_v0) (Shape.idx_ext₂ ?_ ?_) <;> blk_simp [idx_facts t]
  show t.val / 11 * 1024 + r.val = 1024 * (t.val / 11) + r.val
  omega

theorem iblk1_apply (c : Dev nD) (t : Fin cfg0.N) (j : Fin 2048) :
    (iblk m c 1 t : Vec Ideal S1x1x2048 .f32) (ix3 0 0 j) = Gn m c j := by
  refine Eq.trans ?_ (V_gain_apply m c 1 j)
  unfold iblk
  refine congrArg (V m c main_v8) (funext fun a => Fin.ext ?_)
  match a with
  | ⟨0, _⟩ =>
    blk_simp [idx_facts t]
    rfl
  | ⟨1, _⟩ => blk_simp [idx_facts t]
  | ⟨2, _⟩ => blk_simp [idx_facts t]

theorem iblk2_apply (c : Dev nD) (t : Fin cfg0.N) (i : Fin 2048) (k : Fin 512) :
    (iblk m c 2 t : Vec Ideal S2048x512 .bf16) (ix2 i k) = WI m c i ⟨512 * (t.val % 11) + k.val, by omega⟩ := by
  rw [← V_wi_apply]; unfold iblk
  refine congrArg (V m c main_v4) (Shape.idx_ext₂ ?_ ?_) <;> blk_simp [idx_facts t]
  show t.val % 11 * 512 + k.val = 512 * (t.val % 11) + k.val
  omega

theorem iblk3_apply (c : Dev nD) (t : Fin cfg0.N) (i : Fin 2048) (k : Fin 512) :
    (iblk m c 3 t : Vec Ideal S2048x512 .bf16) (ix2 i k) = WI m c i ⟨512 * (t.val % 11 + 11) + k.val, by omega⟩ := by
  rw [← V_wi_apply]; unfold iblk
  refine congrArg (V m c main_v4) (Shape.idx_ext₂ ?_ ?_) <;> blk_simp [idx_facts t]
  show (t.val % 11 + 11) * 512 + k.val = 512 * (t.val % 11 + 11) + k.val
  omega

theorem iblk4_apply (c : Dev nD) (t : Fin cfg0.N) (k : Fin 512) (j : Fin 2048) :
    (iblk m c 4 t : Vec Ideal S512x2048 .bf16) (ix2 k j) = WO m c ⟨512 * (t.val % 11) + k.val, by omega⟩ j := by
  rw [← V_wo_apply]; unfold iblk
  refine congrArg (V m c main_v7) (Shape.idx_ext₂ ?_ ?_) <;> blk_simp [idx_facts t]
  show t.val % 11 * 512 + k.val = 512 * (t.val % 11) + k.val
  omega

theorem iblk5_apply (c : Dev nD) (t : Fin cfg0.N) (r : Fin 256) (j : Fin 2048) :
    (iblk m c 5 t : Vec Ideal S256x2048 .f32) (ix2 r j) = XE m c r j := by
  rw [← V_xe_apply]; unfold iblk
  refine congrArg (V m c main_v1) (Shape.idx_ext₂ ?_ ?_) <;> blk_simp [idx_facts t]

theorem iblk6_apply (c : Dev nD) (t : Fin cfg0.N) (j : Fin 2048) :
    (iblk m c 6 t : Vec Ideal S1x1x2048 .f32) (ix3 0 0 j) = GF m c j := by
  rw [← V_gf_apply]; unfold iblk
  refine congrArg (V m c main_v9) (funext fun a => Fin.ext ?_)
  match a with
  | ⟨0, _⟩ => blk_simp [idx_facts t]
  | ⟨1, _⟩ => blk_simp [idx_facts t]
  | ⟨2, _⟩ => blk_simp [idx_facts t]

end Cert.Kernel3Ideal.Hand

end
-- ==== Proof.Ffn3.States.lean ====
module

public import proofs.«01_k».proof.Proof.Ffn3.Blocks

/-! What the feed-forward kernel holds after each point of its grid: the normalised rows, and the sum of the blocks of hidden
columns met so far, which the last block turns into the layer's rows. -/

@[expose] public section

set_option maxRecDepth 16384

noncomputable section

namespace Cert.Kernel3Ideal.Hand

open Cert.Kernel3Ideal Cert.Kernel3Ideal.Gen Cert.Halves Cert.Rows
open Idealize.ShloMosaic hiding ix1 ix2 ix3
open Idealize.ShloMosaic.TcCoe Idealize.ShloMosaic.ValueIdx
open Idealize.ShloMosaic.Pipeline (Dat)

variable (m : (ℓ : Loc nD τ sig) → Buf (Elt Ideal) ℓ)

theorem lt88 (t : Fin cfg0.N) : t.val < 88 := lt_of_lt_of_eq t.isLt (show cfg0.N = 88 from N_0)

/-- The row of the prompt that row `r` of a point's block is. -/
def row (n : ℕ) (hn : n < 88) (r : Fin 1024) : Fin 8192 := ⟨1024 * (n / 11) + r.val, by omega⟩

/-- The result for a row. -/
def outRow (c : Dev nD) (x : Fin 2048 → EReal) (j : Fin 2048) : EReal := nrm (layer x (Gn m c) (WI m c) (WO m c)) (GF m c) j

/-- The sum of the first `f` blocks of hidden columns, for a row. -/
def upTo (c : Dev nD) (x : Fin 2048 → EReal) (j : Fin 2048) (f : ℕ) : EReal :=
  ∑ i ∈ Finset.range f, part (nrm x (Gn m c)) (WI m c) (fun k => WO m c k j) i

/-- One more block. -/
theorem upTo_succ (c : Dev nD) (x : Fin 2048 → EReal) (j : Fin 2048) (t : Fin cfg0.N) :
    upTo m c x j (t.val % 11) + block (nrm x (Gn m c)) (fun i k => (iblk m c 2 t : Vec Ideal S2048x512 .bf16) (ix2 i k))
      (fun i k => (iblk m c 3 t : Vec Ideal S2048x512 .bf16) (ix2 i k)) (fun k => (iblk m c 4 t : Vec Ideal S512x2048 .bf16) (ix2 k j)) = upTo m c x j (t.val % 11 + 1) := by
  unfold upTo
  rw [Finset.sum_range_succ]
  refine congrArg (_ + ·) ?_
  unfold part
  rw [dif_pos (by omega)]
  simp only [iblk2_apply, iblk3_apply, iblk4_apply]

theorem layer_upTo (c : Dev nD) (x : Fin 2048 → EReal) (j : Fin 2048) :
    x j + half * upTo m c x j 11 = layer x (Gn m c) (WI m c) (WO m c) j := by
  unfold layer upTo; rw [hidden_parts]

theorem sideH_apply (x : FVec Ideal S256x2048 .f32) (g : FVec Ideal S1x1x2048 .f32) (r : Fin 256) (j : Fin 2048) :
    sideH (F := Ideal) x g (ix2 r j) = nrm (fun k => x (ix2 r k)) (fun k => g (ix3 0 0 k)) j := snorm_pay_apply x g r j

theorem sideO_apply (h : FVec Ideal S256x2048 .bf16) (wg wu : FVec Ideal S2048x512 .bf16) (wo : FVec Ideal S512x2048 .bf16) (o : FVec Ideal S256x2048 .f32) (r : Fin 256) (j : Fin 2048) :
    sideO (F := Ideal) h wg wu wo o (ix2 r j) = o (ix2 r j) + block (fun i => h (ix2 r i)) (fun i k => wg (ix2 i k)) (fun i k => wu (ix2 i k)) (fun k => wo (ix2 k j)) :=
  smain_pay_apply h wg wu o wo r j

theorem sideE_apply (x : FVec Ideal S256x2048 .f32) (gf : FVec Ideal S1x1x2048 .f32) (o : FVec Ideal S256x2048 .f32) (r : Fin 256) (j : Fin 2048) :
    sideE (F := Ideal) x gf o (ix2 r j) = nrm (fun k => x (ix2 r k) + half * o (ix2 r k)) (fun k => gf (ix3 0 0 k)) j := sepi_pay_apply x o gf r j

/-- The rows the last block leaves are the layer's. -/
theorem rowsE_out (c : Dev nD) (t : Fin cfg0.N) (o : Vec Ideal S1024x2048 .f32) (ho : ∀ r j, o (ix2 r j) = upTo m c (X m c (row t.val (lt88 t) r)) j 11) (r : Fin 1024) (j : Fin 2048) :
    rowsE (F := Ideal) (iblk m c 0 t) (iblk m c 6 t) o (ix2 r j) = outRow m c (X m c (row t.val (lt88 t) r)) j := by
  have key : ∀ (x : Vec Ideal S1024x2048 .f32) (gf : Vec Ideal S1x1x2048 .f32), (∀ k, x (ix2 r k) = X m c (row t.val (lt88 t) r) k) → (∀ k, gf (ix3 0 0 k) = GF m c k) →
      rowsE (F := Ideal) x gf o (ix2 r j) = outRow m c (X m c (row t.val (lt88 t) r)) j := by
    intro x gf hx hg
    rw [rowsE_apply]; unfold outRow
    have e : ∀ k, x (ix2 r k) + half * o (ix2 r k) = layer (X m c (row t.val (lt88 t) r)) (Gn m c) (WI m c) (WO m c) k := fun k => by
      rw [ho, ← layer_upTo, hx]
    simp only [e, hg]
  exact key _ _ (fun k => iblk0_apply m c t r k) (fun k => iblk6_apply m c t k)

/-- The sample's rows the last block leaves are the layer's. -/
theorem sideE_out (c : Dev nD) (t : Fin cfg0.N) (o : Vec Ideal S256x2048 .f32) (ho : ∀ r j, o (ix2 r j) = upTo m c (XE m c r) j 11) (r : Fin 256) (j : Fin 2048) :
    sideE (F := Ideal) (iblk m c 5 t) (iblk m c 6 t) o (ix2 r j) = outRow m c (XE m c r) j := by
  have key : ∀ (x : Vec Ideal S256x2048 .f32) (gf : Vec Ideal S1x1x2048 .f32), (∀ k, x (ix2 r k) = XE m c r k) → (∀ k, gf (ix3 0 0 k) = GF m c k) →
      sideE (F := Ideal) x gf o (ix2 r j) = outRow m c (XE m c r) j := by
    intro x gf hx hg
    rw [sideE_apply]; unfold outRow
    have e : ∀ k, x (ix2 r k) + half * o (ix2 r k) = layer (XE m c r) (Gn m c) (WI m c) (WO m c) k := fun k => by
      rw [ho, ← layer_upTo, hx]
    simp only [e, hg]
  exact key _ _ (fun k => iblk5_apply m c t r k) (fun k => iblk6_apply m c t k)

/-- What the state is after point `n`. -/
structure Good (c : Dev nD) (n : ℕ) (hn : n < 88) (s : St Ideal) : Prop where
  h : ∀ r i, s.h (ix2 r i) = nrm (X m c (row n hn r)) (Gn m c) i
  o : n % 11 ≠ 10 → ∀ r j, s.o (ix2 r j) = upTo m c (X m c (row n hn r)) j (n % 11 + 1)
  last : n % 11 = 10 → ∀ r j, s.o (ix2 r j) = outRow m c (X m c (row n hn r)) j
  g : n < 11 → ∀ r i, s.g (ix2 r i) = nrm (XE m c r) (Gn m c) i
  e : n < 10 → ∀ r j, s.e (ix2 r j) = upTo m c (XE m c r) j (n + 1)
  elast : ¬ n < 10 → ∀ r j, s.e (ix2 r j) = outRow m c (XE m c r) j

section
variable (c : Dev nD) (t : Fin cfg0.N) (s : St Ideal)

/-- The normalised rows the point works with. -/
def hAt : Vec Ideal S1024x2048 .bf16 := if t.val % 11 = 0 then rowsH (iblk m c 0 t) (iblk m c 1 t) else s.h
/-- The sum with the point's block added. -/
def oAt : Vec Ideal S1024x2048 .f32 := rowsO (hAt m c t s) (iblk m c 2 t) (iblk m c 3 t) (iblk m c 4 t) (if t.val % 11 = 0 then rowsZ else s.o)
/-- The sample's normalised rows, during the first block of the prompt's rows. -/
def gAt : Vec Ideal S256x2048 .bf16 := if t.val % 11 = 0 then sideH (iblk m c 5 t) (iblk m c 1 t) else s.g
/-- The sample's sum with the point's block added. -/
def eAt : Vec Ideal S256x2048 .f32 := sideO (gAt m c t s) (iblk m c 2 t) (iblk m c 3 t) (iblk m c 4 t) (if t.val % 11 = 0 then sideZ else s.e)

theorem stepAt_h : (stepAt m c t s).h = hAt m c t s := rfl
theorem stepAt_o : (stepAt m c t s).o = if t.val % 11 = 10 then rowsE (iblk m c 0 t) (iblk m c 6 t) (oAt m c t s) else oAt m c t s := rfl
theorem stepAt_g : (stepAt m c t s).g = if t.val < 11 then gAt m c t s else s.g := rfl
theorem stepAt_e (ht : t.val < 11) : (stepAt m c t s).e = if t.val % 11 = 10 then sideE (iblk m c 5 t) (iblk m c 6 t) (eAt m c t s) else eAt m c t s := by
  unfold stepAt step
  dsimp only
  simp only [if_pos ht]
  rfl

variable (hb : t.val % 11 ≠ 0 → ∃ h : t.val - 1 < 88, Good m c (t.val - 1) h s)

include hb

theorem hAt_apply (r : Fin 1024) (i : Fin 2048) : hAt m c t s (ix2 r i) = nrm (X m c (row t.val (lt88 t) r)) (Gn m c) i := by
  unfold hAt
  by_cases hz : t.val % 11 = 0
  · rw [if_pos hz, rowsH_apply]
    simp only [iblk0_apply, iblk1_apply]; rfl
  · rw [if_neg hz]
    obtain ⟨hl, hg⟩ := hb hz
    rw [hg.h, show row (t.val - 1) hl r = row t.val (lt88 t) r from Fin.ext (by show 1024 * ((t.val - 1) / 11) + r.val = 1024 * (t.val / 11) + r.val; omega)]

theorem oAt_apply (r : Fin 1024) (j : Fin 2048) : oAt m c t s (ix2 r j) = upTo m c (X m c (row t.val (lt88 t) r)) j (t.val % 11 + 1) := by
  unfold oAt
  rw [rowsO_apply, ← upTo_succ]
  simp only [hAt_apply m c t s hb]
  refine congrArg (· + _) ?_
  by_cases hz : t.val % 11 = 0
  · rw [if_pos hz, rowsZ_apply, hz]; rfl
  · rw [if_neg hz]
    obtain ⟨hl, hg⟩ := hb hz
    rw [hg.o (by omega), show row (t.val - 1) hl r = row t.val (lt88 t) r from Fin.ext (by show 1024 * ((t.val - 1) / 11) + r.val = 1024 * (t.val / 11) + r.val; omega),
      show (t.val - 1) % 11 + 1 = t.val % 11 by omega]

theorem gAt_apply (ht : t.val < 11) (r : Fin 256) (i : Fin 2048) : gAt m c t s (ix2 r i) = nrm (XE m c r) (Gn m c) i := by
  unfold gAt
  by_cases hz : t.val % 11 = 0
  · rw [if_pos hz, sideH_apply]
    simp only [iblk5_apply, iblk1_apply]
  · rw [if_neg hz]
    obtain ⟨hl, hg⟩ := hb hz
    exact hg.g (by omega) r i

theorem eAt_apply (ht : t.val < 11) (r : Fin 256) (j : Fin 2048) : eAt m c t s (ix2 r j) = upTo m c (XE m c r) j (t.val % 11 + 1) := by
  unfold eAt
  rw [sideO_apply, ← upTo_succ]
  simp only [gAt_apply m c t s hb ht]
  refine congrArg (· + _) ?_
  by_cases hz : t.val % 11 = 0
  · rw [if_pos hz, sideZ_apply, hz]; rfl
  · rw [if_neg hz]
    obtain ⟨hl, hg⟩ := hb hz
    rw [hg.e (by omega), show t.val - 1 + 1 = t.val % 11 by omega]

end

/-- The state after each point is what it should be. -/
theorem good (c : Dev nD) : ∀ (n : ℕ) (hn : n < cfg0.N) (h88 : n < 88), Good m c n h88 (stAt m c n hn) := by
  intro n
  induction n with
  | zero =>
    intro hn h88
    exact step_good ⟨0, hn⟩ _ (fun h => absurd rfl h) (fun h => absurd (show (0 : ℕ) < 11 by decide) h)
  | succ n ih =>
    intro hn h88
    exact step_good ⟨n + 1, hn⟩ _ (fun _ => ⟨by show n < 88; omega, ih _ _⟩) (fun _ => ⟨by show n < 88; omega, ih _ _⟩)
where
  step_good (t : Fin cfg0.N) (s : St Ideal) (hb : t.val % 11 ≠ 0 → ∃ h : t.val - 1 < 88, Good m c (t.val - 1) h s) (he : ¬ t.val < 11 → ∃ h : t.val - 1 < 88, Good m c (t.val - 1) h s) :
      Good m c t.val (lt88 t) (stepAt m c t s) := {
    h := fun r i => by rw [stepAt_h]; exact hAt_apply m c t s hb r i
    o := fun hz r j => by rw [stepAt_o, if_neg hz]; exact oAt_apply m c t s hb r j
    last := fun hz r j => by
      rw [stepAt_o, if_pos hz]
      exact rowsE_out m c t _ (fun r j => by rw [oAt_apply m c t s hb, hz]) r j
    g := fun ht r i => by rw [stepAt_g, if_pos ht]; exact gAt_apply m c t s hb ht r i
    e := fun ht r j => by
      rw [stepAt_e m c t s (by omega), if_neg (by omega), eAt_apply m c t s hb (by omega), show t.val % 11 + 1 = t.val + 1 by omega]
    elast := fun ht r j => by
      by_cases h11 : t.val < 11
      · rw [stepAt_e m c t s h11, if_pos (by omega)]
        exact sideE_out m c t _ (fun r j => by rw [eAt_apply m c t s hb h11, show t.val % 11 + 1 = 11 by omega]) r j
      · obtain ⟨hl, hg⟩ := he h11
        rw [← hg.elast (by omega) r j]
        unfold stepAt step
        dsimp only
        simp only [if_neg h11] }

end Cert.Kernel3Ideal.Hand

end
-- ==== Proof.Ffn3.Ref.lean ====
module

public import proofs.«01_k».proof.Proof.Ffn3.RowMath
public import proofs.«01_k».proof.Proof.Gen.Reference3Ideal.Read

/-! The reference of the feed-forward, row by row: each result's element is the layer's formula on its row. -/

@[expose] public section

set_option maxRecDepth 16384

noncomputable section

namespace Cert.Reference3Ideal.Hand

open Cert.Reference3Ideal Cert.Reference3Ideal.Gen Cert.Reference3Ideal.Read Cert.Rows
open Idealize.ShloMosaic
open Idealize.ShloMosaic.ValueIdx

theorem one_f32 : (FloatOps.ofBits .f32 0x3F800000#32 : Ideal .f32) = (1 : EReal) := by
  show Ideal.ofBits .f32 0x3F800000#32 = 1
  simp [Ideal.ofBits, Ideal.ieee, -EReal.coe_mul]; norm_num
theorem zero_f32 : (FloatOps.ofBits .f32 0x00000000#32 : Ideal .f32) = (0 : EReal) := Ideal.ofBits_zero_f32

/-- The prompt's normalised rows. -/
theorem prompt_norm (x0 : (⟨S2x4096x2048, .f32⟩ : BufTy).Contents (Elt Ideal)) (x2 : (⟨S2x2048, .f32⟩ : BufTy).Contents (Elt Ideal)) (a : Fin 2) (b : Fin 4096) (j : Fin 2048) :
    val_main_v14 (F := Ideal) x0 x2 (ix3 a b j) = nrm (fun k => x0 (ix3 a b k)) (fun k => x2 (ix2 1 k)) j := by
  have e : ∀ k, idx_main_v3 (idx_main_v4 (idx_main_v10 (ix3 a b j))) k = ix3 a b k := fun k => funext fun i => match i with
    | ⟨0, _⟩ => rfl
    | ⟨1, _⟩ => rfl
    | ⟨2, _⟩ => rfl
  have eg : idx_main_v0 (idx_main_v1 (idx_main_v12 (idx_main_v13 (ix3 a b j)))) = ix2 1 j := funext fun i => match i with
    | ⟨0, _⟩ => rfl
    | ⟨1, _⟩ => Fin.ext (Nat.mod_eq_of_lt j.isLt)
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, e, eg, zero_f32, zero_add]
  rfl

/-- The first matrix. -/
theorem prompt_wi (x3 : (⟨S2x2048x11264, .f32⟩ : BufTy).Contents (Elt Ideal)) (i : Fin 2048) (n : Fin 11264) : val_main_v16 (F := Ideal) x3 (ix2 i n) = x3 (ix3 1 i n) := by
  rw [val_main_v16_apply, val_main_v15_apply]
  refine congrArg x3 (funext fun q => match q with
    | ⟨0, _⟩ => rfl
    | ⟨1, _⟩ => Fin.ext ?_
    | ⟨2, _⟩ => Fin.ext ?_)
  · show (i.val * 11264 + n.val) / 11264 % 2048 = i.val
    omega
  · show (i.val * 11264 + n.val) % 11264 = n.val
    omega

/-- The second matrix. -/
theorem prompt_wo (x4 : (⟨S2x5632x2048, .f32⟩ : BufTy).Contents (Elt Ideal)) (n : Fin 5632) (j : Fin 2048) : val_main_v18 (F := Ideal) x4 (ix2 n j) = x4 (ix3 1 n j) := by
  rw [val_main_v18_apply, val_main_v17_apply]
  refine congrArg x4 (funext fun q => match q with
    | ⟨0, _⟩ => rfl
    | ⟨1, _⟩ => Fin.ext ?_
    | ⟨2, _⟩ => Fin.ext ?_)
  · show (n.val * 2048 + j.val) / 2048 % 5632 = n.val
    omega
  · show (n.val * 2048 + j.val) % 2048 = j.val
    omega

/-- The first product. -/
theorem prompt_dot (x0 : (⟨S2x4096x2048, .f32⟩ : BufTy).Contents (Elt Ideal)) (x2 : (⟨S2x2048, .f32⟩ : BufTy).Contents (Elt Ideal)) (x3 : (⟨S2x2048x11264, .f32⟩ : BufTy).Contents (Elt Ideal)) (a : Fin 2) (b : Fin 4096) (n : Fin 11264) :
    val_main_v19 (F := Ideal) x0 x2 x3 (ix3 a b n) = ∑ k, nrm (fun k => x0 (ix3 a b k)) (fun k => x2 (ix2 1 k)) k * x3 (ix3 1 k n) := by
  rw [val_main_v19_apply]
  refine Finset.sum_congr rfl fun k _ => ?_
  rw [show lidx_main_v19 (ix3 a b n) k = ix3 a b k from funext fun i => match i with
    | ⟨0, _⟩ => rfl
    | ⟨1, _⟩ => rfl
    | ⟨2, _⟩ => rfl,
    show ridx_main_v19 (ix3 a b n) k = ix2 k n from funext fun i => match i with
    | ⟨0, _⟩ => rfl
    | ⟨1, _⟩ => rfl, prompt_norm, prompt_wi]

/-- The hidden units. -/
theorem prompt_hid (x0 : (⟨S2x4096x2048, .f32⟩ : BufTy).Contents (Elt Ideal)) (x2 : (⟨S2x2048, .f32⟩ : BufTy).Contents (Elt Ideal)) (x3 : (⟨S2x2048x11264, .f32⟩ : BufTy).Contents (Elt Ideal)) (a : Fin 2) (b : Fin 4096) (n : Fin 5632) :
    val_main_v23 (F := Ideal) x0 x2 x3 (ix3 a b n) = act (nrm (fun k => x0 (ix3 a b k)) (fun k => x2 (ix2 1 k))) (fun i => x3 (ix3 1 i ⟨n.val, by omega⟩)) (fun i => x3 (ix3 1 i ⟨n.val + 5632, by omega⟩)) := by
  have e20 : idx_main_v20 (ix3 a b n) = ix3 a b ⟨n.val, by omega⟩ := funext fun i => match i with
    | ⟨0, _⟩ => rfl
    | ⟨1, _⟩ => rfl
    | ⟨2, _⟩ => rfl
  have e21 : idx_main_v21 (ix3 a b n) = ix3 a b ⟨n.val + 5632, by omega⟩ := funext fun i => match i with
    | ⟨0, _⟩ => rfl
    | ⟨1, _⟩ => rfl
    | ⟨2, _⟩ => Fin.ext (Nat.add_comm 5632 n.val)
  simp only [val_main_v23_apply, val_main_v22_apply, val_main_call0_v5_apply, val_main_call0_v4_apply, val_main_call0_cst_0_apply, val_main_call0_v3_apply, val_main_call0_v2_apply, val_main_call0_cst_apply, val_main_call0_v1_apply, val_main_call0_v0_apply, val_main_v20_apply, val_main_v21_apply, e20, e21, prompt_dot, one_f32]
  rfl

/-- The layer. -/
theorem prompt_layer (x0 : (⟨S2x4096x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (a : Fin 2) (b : Fin 4096) (j : Fin 2048) :
    val_main_v27 (F := Ideal) x0 x2 x3 x4 (ix3 a b j) = layer (fun k => x0 (ix3 a b k)) (fun k => x2 (ix2 1 k)) (fun i n => x3 (ix3 1 i n)) (fun n j => x4 (ix3 1 n j)) j := by
  have e : val_main_v24 (F := Ideal) x0 x2 x3 x4 (ix3 a b j) = hidden (nrm (fun k => x0 (ix3 a b k)) (fun k => x2 (ix2 1 k))) (fun i n => x3 (ix3 1 i n)) (fun n => x4 (ix3 1 n j)) := by
    rw [val_main_v24_apply]
    refine Finset.sum_congr rfl fun k _ => ?_
    rw [show lidx_main_v24 (ix3 a b j) k = ix3 a b k from funext fun i => match i with
      | ⟨0, _⟩ => rfl
      | ⟨1, _⟩ => rfl
      | ⟨2, _⟩ => rfl,
      show ridx_main_v24 (ix3 a b j) k = ix2 k j from funext fun i => match i with
      | ⟨0, _⟩ => rfl
      | ⟨1, _⟩ => rfl, prompt_hid, prompt_wo]
  simp only [val_main_v27_apply, val_main_v26_apply, val_main_v25_apply, val_main_cst_2_apply, e]
  rfl

/-- The layer's rows normalised once more. -/
theorem prompt_final (x0 : (⟨S2x4096x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (x5 : (⟨S2048, .f32⟩ : BufTy).Contents (Elt Ideal)) (a : Fin 2) (b : Fin 4096) (j : Fin 2048) :
    val_main_v40 (F := Ideal) x0 x2 x3 x4 x5 (ix3 a b j) = nrm (layer (fun k => x0 (ix3 a b k)) (fun k => x2 (ix2 1 k)) (fun i n => x3 (ix3 1 i n)) (fun n j => x4 (ix3 1 n j))) (fun k => x5 (ix1 k)) j := by
  have e : ∀ k, idx_main_v29 (idx_main_v30 (idx_main_v36 (ix3 a b j))) k = ix3 a b k := fun k => funext fun i => match i with
    | ⟨0, _⟩ => rfl
    | ⟨1, _⟩ => rfl
    | ⟨2, _⟩ => rfl
  have eg : idx_main_v38 (idx_main_v39 (ix3 a b j)) = ix1 j := funext fun i => match i with
    | ⟨0, _⟩ => rfl
  simp only [val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_cst_3_apply, val_main_cst_4_apply, val_main_cst_5_apply, e, eg, zero_f32, zero_add, prompt_layer]
  rfl

/-- The result for the prompt. -/
theorem prompt_result (x0 : (⟨S2x4096x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (x5 : (⟨S2048, .f32⟩ : BufTy).Contents (Elt Ideal)) (n : Fin 8192) (j : Fin 2048) :
    val_main_v41 (F := Ideal) x0 x2 x3 x4 x5 (ix2 n j) = nrm (layer (fun k => x0 (ix3 ⟨n.val / 4096, by omega⟩ ⟨n.val % 4096, by omega⟩ k)) (fun k => x2 (ix2 1 k)) (fun i n => x3 (ix3 1 i n)) (fun n j => x4 (ix3 1 n j))) (fun k => x5 (ix1 k)) j := by
  rw [val_main_v41_apply, show idx_main_v41 (ix2 n j) = ix3 ⟨n.val / 4096, by omega⟩ ⟨n.val % 4096, by omega⟩ j from funext fun q => match q with
    | ⟨0, _⟩ => Fin.ext (by show (n.val * 2048 + j.val) / 8388608 = n.val / 4096; omega)
    | ⟨1, _⟩ => Fin.ext (by show (n.val * 2048 + j.val) / 2048 % 4096 = n.val % 4096; omega)
    | ⟨2, _⟩ => Fin.ext (by show (n.val * 2048 + j.val) % 2048 = j.val; omega), prompt_final]

/-- The sample's normalised rows. -/
theorem sample_norm (x1 : (⟨S32x8x2048, .f32⟩ : BufTy).Contents (Elt Ideal)) (x2 : (⟨S2x2048, .f32⟩ : BufTy).Contents (Elt Ideal)) (a : Fin 32) (b : Fin 8) (j : Fin 2048) :
    val_main_v56 (F := Ideal) x1 x2 (ix3 a b j) = nrm (fun k => x1 (ix3 a b k)) (fun k => x2 (ix2 1 k)) j := by
  have e : ∀ k, idx_main_v45 (idx_main_v46 (idx_main_v52 (ix3 a b j))) k = ix3 a b k := fun k => funext fun i => match i with
    | ⟨0, _⟩ => rfl
    | ⟨1, _⟩ => rfl
    | ⟨2, _⟩ => rfl
  have eg : idx_main_v42 (idx_main_v43 (idx_main_v54 (idx_main_v55 (ix3 a b j)))) = ix2 1 j := funext fun i => match i with
    | ⟨0, _⟩ => rfl
    | ⟨1, _⟩ => Fin.ext (Nat.mod_eq_of_lt j.isLt)
  simp only [val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_cst_5_apply, val_main_cst_6_apply, val_main_cst_7_apply, e, eg, zero_f32, zero_add]
  rfl

/-- The first matrix. -/
theorem sample_wi (x3 : (⟨S2x2048x11264, .f32⟩ : BufTy).Contents (Elt Ideal)) (i : Fin 2048) (n : Fin 11264) : val_main_v58 (F := Ideal) x3 (ix2 i n) = x3 (ix3 1 i n) := by
  rw [val_main_v58_apply, val_main_v57_apply]
  refine congrArg x3 (funext fun q => match q with
    | ⟨0, _⟩ => rfl
    | ⟨1, _⟩ => Fin.ext ?_
    | ⟨2, _⟩ => Fin.ext ?_)
  · show (i.val * 11264 + n.val) / 11264 % 2048 = i.val
    omega
  · show (i.val * 11264 + n.val) % 11264 = n.val
    omega

/-- The second matrix. -/
theorem sample_wo (x4 : (⟨S2x5632x2048, .f32⟩ : BufTy).Contents (Elt Ideal)) (n : Fin 5632) (j : Fin 2048) : val_main_v60 (F := Ideal) x4 (ix2 n j) = x4 (ix3 1 n j) := by
  rw [val_main_v60_apply, val_main_v59_apply]
  refine congrArg x4 (funext fun q => match q with
    | ⟨0, _⟩ => rfl
    | ⟨1, _⟩ => Fin.ext ?_
    | ⟨2, _⟩ => Fin.ext ?_)
  · show (n.val * 2048 + j.val) / 2048 % 5632 = n.val
    omega
  · show (n.val * 2048 + j.val) % 2048 = j.val
    omega

/-- The first product. -/
theorem sample_dot (x1 : (⟨S32x8x2048, .f32⟩ : BufTy).Contents (Elt Ideal)) (x2 : (⟨S2x2048, .f32⟩ : BufTy).Contents (Elt Ideal)) (x3 : (⟨S2x2048x11264, .f32⟩ : BufTy).Contents (Elt Ideal)) (a : Fin 32) (b : Fin 8) (n : Fin 11264) :
    val_main_v61 (F := Ideal) x1 x2 x3 (ix3 a b n) = ∑ k, nrm (fun k => x1 (ix3 a b k)) (fun k => x2 (ix2 1 k)) k * x3 (ix3 1 k n) := by
  rw [val_main_v61_apply]
  refine Finset.sum_congr rfl fun k _ => ?_
  rw [show lidx_main_v61 (ix3 a b n) k = ix3 a b k from funext fun i => match i with
    | ⟨0, _⟩ => rfl
    | ⟨1, _⟩ => rfl
    | ⟨2, _⟩ => rfl,
    show ridx_main_v61 (ix3 a b n) k = ix2 k n from funext fun i => match i with
    | ⟨0, _⟩ => rfl
    | ⟨1, _⟩ => rfl, sample_norm, sample_wi]

/-- The hidden units. -/
theorem sample_hid (x1 : (⟨S32x8x2048, .f32⟩ : BufTy).Contents (Elt Ideal)) (x2 : (⟨S2x2048, .f32⟩ : BufTy).Contents (Elt Ideal)) (x3 : (⟨S2x2048x11264, .f32⟩ : BufTy).Contents (Elt Ideal)) (a : Fin 32) (b : Fin 8) (n : Fin 5632) :
    val_main_v65 (F := Ideal) x1 x2 x3 (ix3 a b n) = act (nrm (fun k => x1 (ix3 a b k)) (fun k => x2 (ix2 1 k))) (fun i => x3 (ix3 1 i ⟨n.val, by omega⟩)) (fun i => x3 (ix3 1 i ⟨n.val + 5632, by omega⟩)) := by
  have e20 : idx_main_v62 (ix3 a b n) = ix3 a b ⟨n.val, by omega⟩ := funext fun i => match i with
    | ⟨0, _⟩ => rfl
    | ⟨1, _⟩ => rfl
    | ⟨2, _⟩ => rfl
  have e21 : idx_main_v63 (ix3 a b n) = ix3 a b ⟨n.val + 5632, by omega⟩ := funext fun i => match i with
    | ⟨0, _⟩ => rfl
    | ⟨1, _⟩ => rfl
    | ⟨2, _⟩ => Fin.ext (Nat.add_comm 5632 n.val)
  simp only [val_main_v65_apply, val_main_v64_apply, val_main_call1_v5_apply, val_main_call1_v4_apply, val_main_call1_cst_0_apply, val_main_call1_v3_apply, val_main_call1_v2_apply, val_main_call1_cst_apply, val_main_call1_v1_apply, val_main_call1_v0_apply, val_main_v62_apply, val_main_v63_apply, e20, e21, sample_dot, one_f32]
  rfl

/-- The layer. -/
theorem sample_layer (x1 : (⟨S32x8x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (a : Fin 32) (b : Fin 8) (j : Fin 2048) :
    val_main_v69 (F := Ideal) x1 x2 x3 x4 (ix3 a b j) = layer (fun k => x1 (ix3 a b k)) (fun k => x2 (ix2 1 k)) (fun i n => x3 (ix3 1 i n)) (fun n j => x4 (ix3 1 n j)) j := by
  have e : val_main_v66 (F := Ideal) x1 x2 x3 x4 (ix3 a b j) = hidden (nrm (fun k => x1 (ix3 a b k)) (fun k => x2 (ix2 1 k))) (fun i n => x3 (ix3 1 i n)) (fun n => x4 (ix3 1 n j)) := by
    rw [val_main_v66_apply]
    refine Finset.sum_congr rfl fun k _ => ?_
    rw [show lidx_main_v66 (ix3 a b j) k = ix3 a b k from funext fun i => match i with
      | ⟨0, _⟩ => rfl
      | ⟨1, _⟩ => rfl
      | ⟨2, _⟩ => rfl,
      show ridx_main_v66 (ix3 a b j) k = ix2 k j from funext fun i => match i with
      | ⟨0, _⟩ => rfl
      | ⟨1, _⟩ => rfl, sample_hid, sample_wo]
  simp only [val_main_v69_apply, val_main_v68_apply, val_main_v67_apply, val_main_cst_8_apply, e]
  rfl

/-- The layer's rows normalised once more. -/
theorem sample_final (x1 : (⟨S32x8x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (x5 : (⟨S2048, .f32⟩ : BufTy).Contents (Elt Ideal)) (a : Fin 32) (b : Fin 8) (j : Fin 2048) :
    val_main_v82 (F := Ideal) x1 x2 x3 x4 x5 (ix3 a b j) = nrm (layer (fun k => x1 (ix3 a b k)) (fun k => x2 (ix2 1 k)) (fun i n => x3 (ix3 1 i n)) (fun n j => x4 (ix3 1 n j))) (fun k => x5 (ix1 k)) j := by
  have e : ∀ k, idx_main_v71 (idx_main_v72 (idx_main_v78 (ix3 a b j))) k = ix3 a b k := fun k => funext fun i => match i with
    | ⟨0, _⟩ => rfl
    | ⟨1, _⟩ => rfl
    | ⟨2, _⟩ => rfl
  have eg : idx_main_v80 (idx_main_v81 (ix3 a b j)) = ix1 j := funext fun i => match i with
    | ⟨0, _⟩ => rfl
  simp only [val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_cst_9_apply, val_main_cst_10_apply, val_main_cst_11_apply, e, eg, zero_f32, zero_add, sample_layer]
  rfl

/-- The result for the sample. -/
theorem sample_result (x1 : (⟨S32x8x2048, .f32⟩ : BufTy).Contents (Elt Ideal)) (x2 : (⟨S2x2048, .f32⟩ : BufTy).Contents (Elt Ideal)) (x3 : (⟨S2x2048x11264, .f32⟩ : BufTy).Contents (Elt Ideal)) (x4 : (⟨S2x5632x2048, .f32⟩ : BufTy).Contents (Elt Ideal)) (x5 : (⟨S2048, .f32⟩ : BufTy).Contents (Elt Ideal)) (n : Fin 256) (j : Fin 2048) :
    val_main_v83 (F := Ideal) x1 x2 x3 x4 x5 (ix2 n j) = nrm (layer (fun k => x1 (ix3 ⟨n.val / 8, by omega⟩ ⟨n.val % 8, by omega⟩ k)) (fun k => x2 (ix2 1 k)) (fun i n => x3 (ix3 1 i n)) (fun n j => x4 (ix3 1 n j))) (fun k => x5 (ix1 k)) j := by
  rw [val_main_v83_apply, show idx_main_v83 (ix2 n j) = ix3 ⟨n.val / 8, by omega⟩ ⟨n.val % 8, by omega⟩ j from funext fun q => match q with
    | ⟨0, _⟩ => Fin.ext (by show (n.val * 2048 + j.val) / 16384 = n.val / 8; omega)
    | ⟨1, _⟩ => Fin.ext (by show (n.val * 2048 + j.val) / 2048 % 8 = n.val % 8; omega)
    | ⟨2, _⟩ => Fin.ext (by show (n.val * 2048 + j.val) % 2048 = j.val; omega), sample_final]

end Cert.Reference3Ideal.Hand

end
-- ==== Proof.Ffn3.Value.lean ====
module

public import proofs.«01_k».proof.Proof.Ffn3.States
public import proofs.«01_k».proof.Proof.Ffn3.Ref
public import proofs.«01_k».proof.Defs
public import proofs.«01_k».proof.Proof.Gen.Kernel3

/-! What the feed-forward's arrays hold when the kernel ends, and that the reference's results are the same. -/

@[expose] public section

set_option maxRecDepth 16384

noncomputable section

namespace Cert.Kernel3Ideal.Hand

open Cert.Kernel3Ideal Cert.Kernel3Ideal.Gen Cert.Halves Cert.Rows
open Idealize.ShloMosaic hiding ix1 ix2 ix3
open Idealize.SL.Sem Idealize.ShloMosaic.TcCoe Idealize.ShloMosaic.ValueIdx
open Idealize.ShloMosaic.Pipeline (Dat)

variable (m : (ℓ : Loc nD τ sig) → Buf (Elt Ideal) ℓ)

/-- The prompt's result. -/
def promptOut (c : Dev nD) : Vec Ideal S8192x2048 .f32 := fun i => outRow m c (X m c (i 0)) (i 1)
/-- The sample's result. -/
def sampleOut (c : Dev nD) : Vec Ideal S256x2048 .f32 := fun i => outRow m c (XE m c (i 0)) (i 1)

theorem idx2 {a b : ℕ} (y : (⟨2, ![a, b]⟩ : Shape).Idx) : y = ix2 (y 0) (y 1) := funext fun i => match i with
  | ⟨0, _⟩ => rfl
  | ⟨1, _⟩ => rfl

/-- The prompt's array at the end. -/
theorem prompt_array (c : Dev nD) : (dats m 0 c).arrAt 7 cfg0.N = promptOut m c := by
  refine (dats m 0 c).arrAt_eq_of_covers 7 _ (by decide +kernel) fun t hf y => ?_
  have h10 : t.val % 11 = 10 := (flush0_7 t).mp hf
  blk_simp
  rw [after7]
  refine (congrArg (stAt m c t.val t.isLt).o (idx2 y)).trans (((good m c t.val t.isLt (lt88 t)).last h10 (y 0) (y 1)).trans ?_)
  unfold promptOut
  refine congrArg₂ (fun a b => outRow m c (X m c a) b) (Fin.ext ?_) (Fin.ext ?_)
  · blk_simp [idx_facts t]
    show 1024 * (t.val / 11) + (y 0).val = t.val / 11 * 1024 + (y 0).val
    omega
  · blk_simp [idx_facts t]

/-- The last point. -/
def tEnd : Fin cfg0.N := ⟨87, by rw [show cfg0.N = 88 from N_0]; decide⟩

theorem whole_end : (cfg0.win 8).WholeAt tEnd := by decide +kernel

/-- The sample's array at the end. -/
theorem sample_array (c : Dev nD) : (dats m 0 c).arrAt 8 cfg0.N = sampleOut m c := by
  refine (dats m 0 c).arrAt_eq_of_after_last 8 tEnd whole_end _ fun j => ?_
  blk_simp
  rw [after8]
  exact (congrArg (stAt m c tEnd.val tEnd.isLt).e (idx2 j)).trans ((good m c tEnd.val tEnd.isLt (lt88 tEnd)).elast (by decide) (j 0) (j 1))

/-- Every run of the kernel ends with the layer's rows in its results and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v10_0) = promptOut m c
      ∧ r.2.mem ((c.tc : Thread nD τ).loc main_v10_1) = sampleOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.2.out_eq c 7).trans (prompt_array m c), (h.2.out_eq c 8).trans (sample_array m c),  h.1.1 c⟩)
    (Idealize.ShloMosaic.θ_run_and (frame_all m ρ) (run_main m ρ))

/-- The reference's result for the prompt. -/
theorem ref_prompt (m' : (ℓ : Loc Cert.Reference3Ideal.nD Cert.Reference3Ideal.τ Cert.Reference3Ideal.sig) → Buf (Elt Ideal) ℓ) (c : Dev nD)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3))
    (h4 : m' ((c.tc : Thread Cert.Reference3Ideal.nD Cert.Reference3Ideal.τ).loc Cert.Reference3Ideal.main_arg4) = m ((c.tc : Thread nD τ).loc main_arg4))
    (h5 : m' ((c.tc : Thread Cert.Reference3Ideal.nD Cert.Reference3Ideal.τ).loc Cert.Reference3Ideal.main_arg5) = m ((c.tc : Thread nD τ).loc main_arg5)) :
    Cert.Reference3Ideal.Value.res_main_v41 m' c = promptOut m c := by
  rw [Cert.Reference3Ideal.Read.val_main_v41_eq, h0, h2, h3, h4, h5]
  funext i
  refine (congrArg _ (idx2 i)).trans ((Cert.Reference3Ideal.Hand.prompt_result _ _ _ _ _ (i 0) (i 1)).trans ?_)
  rfl

/-- The reference's result for the sample. -/
theorem ref_sample (m' : (ℓ : Loc Cert.Reference3Ideal.nD Cert.Reference3Ideal.τ Cert.Reference3Ideal.sig) → Buf (Elt Ideal) ℓ) (c : Dev nD)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3))
    (h4 : m' ((c.tc : Thread Cert.Reference3Ideal.nD Cert.Reference3Ideal.τ).loc Cert.Reference3Ideal.main_arg4) = m ((c.tc : Thread nD τ).loc main_arg4))
    (h5 : m' ((c.tc : Thread Cert.Reference3Ideal.nD Cert.Reference3Ideal.τ).loc Cert.Reference3Ideal.main_arg5) = m ((c.tc : Thread nD τ).loc main_arg5)) :
    Cert.Reference3Ideal.Value.res_main_v83 m' c = sampleOut m c := by
  rw [Cert.Reference3Ideal.Read.val_main_v83_eq, h1, h2, h3, h4, h5]
  funext i
  refine (congrArg _ (idx2 i)).trans ((Cert.Reference3Ideal.Hand.sample_result _ _ _ _ _ (i 0) (i 1)).trans ?_)
  rfl

/-- Kernel and reference end with equal results. -/
theorem algebraic_all : Cert.algebraic_Kernel3Ideal_Reference3Ideal := fun m g m' g' _ hagree =>
  ⟨promptOut m, sampleOut m,  run_value m g, (θ_run Cert.Reference3Ideal.defs _ _).mono (fun _ h c =>
    ⟨(h c).1.trans (ref_prompt m m' c ((hagree c).1) ((hagree c).2.1) ((hagree c).2.2.1) ((hagree c).2.2.2.1) ((hagree c).2.2.2.2.1) ((hagree c).2.2.2.2.2)), (h c).2.1.trans (ref_sample m m' c ((hagree c).1) ((hagree c).2.1) ((hagree c).2.2.1) ((hagree c).2.2.2.1) ((hagree c).2.2.2.2.1) ((hagree c).2.2.2.2.2)),  (h c).2.2⟩) (Cert.Reference3Ideal.Value.run m' g')⟩

/-- The kernel as compiled and the kernel over exact numbers run one body. -/
theorem body_same : Cert.Kernel3.defs₀ (F := Bits) = Cert.Kernel3Ideal.defs₀ := by
  unfold Cert.Kernel3.defs₀ Cert.Kernel3Ideal.defs₀
  refine congrArg Defs.onTc (funext fun l => funext fun a => ?_)
  match l, a with
  | 0, (t, s) => rfl

theorem defs_same : Cert.Kernel3.defs (F := Bits) = Cert.Kernel3Ideal.defs := by
  unfold Cert.Kernel3.defs Cert.Kernel3Ideal.defs
  rw [body_same]
  rfl

/-- The frame of the kernel as compiled. -/
theorem frame_kernel : Cert.quiescent_Kernel3 := fun m ρ _ => by
  rw [defs_same]
  exact (θ_run Cert.Kernel3Ideal.defs _ _).mono (fun _ h => h) (frame_all (F := Bits) m ρ)

/-- The frame of the kernel over exact numbers. -/
theorem frame_kernel_ideal : Cert.quiescent_Kernel3Ideal := fun m ρ _ => frame_all (F := Ideal) m ρ

end Cert.Kernel3Ideal.Hand

end
-- ==== Proof.Mem.Value.lean ====
module

public import proofs.«01_k».proof.Proof.Ffn3.RowMath
public import proofs.«01_k».proof.Proof.Gen.Kernel4
public import proofs.«01_k».proof.Proof.Gen.Kernel4Ideal.Value
public import proofs.«01_k».proof.Proof.Gen.Reference4Ideal.Read
public import proofs.«01_k».proof.Defs
public import Idealize.ShloMosaic.Lib.Pipeline.ValueKit

/-! The keys and values of the memory: a row's norm and its product with the matrix. What the kernel's array holds, and that
the reference's result is the same. -/

@[expose] public section

set_option maxRecDepth 16384

noncomputable section

namespace Cert.Kernel4Ideal.Hand

open Cert.Kernel4Ideal Cert.Kernel4Ideal.Gen Cert.Rows
open Idealize.ShloMosaic hiding ix1 ix2 ix3
open Idealize.SL.Sem Idealize.ShloMosaic.TcCoe Idealize.ShloMosaic.ValueIdx
open Idealize.ShloMosaic.Pipeline (Dat)

/-! ## The payloads at an element -/

/-- A normalised row times a column. -/
def proj (x γ w : Fin 2048 → EReal) : EReal := ∑ k, nrm x γ k * w k

/-- The normalised rows. -/
theorem norm_pay (x : FVec Ideal S512x2048 .f32) (g : FVec Ideal S1x1x2048 .f32) (r : Fin 512) (j : Fin 2048) :
    k0_pay1 (F := Ideal) x g (ix2 r j) = nrm (fun k => x (ix2 r k)) (fun k => g (ix3 0 0 k)) j := by
  unfold k0_pay1; simp only [shapeCast_self]
  rw [truncf_apply]; exact norm_apply (M := 512) x g _ _ _ _ _ _ _ r j

/-- The product. -/
theorem prod_pay (h : FVec Ideal S512x2048 .bf16) (w : FVec Ideal S1x2048x512 .bf16) (r j : Fin 512) :
    k0_pay2 (F := Ideal) h w (ix2 r j) = ∑ k : Fin 2048, h (ix2 r k) * w (ix3 0 k j) := by
  unfold k0_pay2
  refine (dot_apply (M := 512) (K := 2048) (N := 512) h _ r j).trans (Finset.sum_congr rfl fun k _ => ?_)
  rw [shapeCast_1ab_ab_apply]

/-! ## What a point leaves -/

theorem hz2 : (![0, 0] : Fin 2 → Nat) = fun _ => 0 := funext fun a => by fin_cases a <;> rfl
theorem hz3 : (![0, 0, 0] : Fin 3 → Nat) = fun _ => 0 := funext fun a => by fin_cases a <;> rfl

/-- The first point's block. -/
theorem outA_eq (c : Dev nD) (i : grid0.Coords) (arg2 : Memref sig .tc .vmem S512x2048 .f32) (harg2 : arg2.IsWhole) (arg3 : Memref sig .tc .vmem S1x1x2048 .f32) (harg3 : arg3.IsWhole)
    (arg4 : Memref sig .tc .vmem S1x2048x512 .bf16) (harg4 : arg4.IsWhole) (arg5 : Memref sig .tc .vmem S512x512 .f32) (harg5 : arg5.IsWhole)
    (arg6 : Memref sig .tc .vmem S512x2048 .bf16) (harg6 : arg6.IsWhole) (hc0 : cond0_0 i)
    (x0 : Vec Ideal S512x2048 .f32) (x1 : Vec Ideal S1x1x2048 .f32) (x2 : Vec Ideal S1x2048x512 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz2, View.readCov_unit_zero (S := S512x2048) _ hz2]
  simp only [View.readAt_eq_ld, harg2.read_unread, harg3.read_unread, harg4.read_unread, View.ld_unit_zero (S := S512x2048) hz2, View.ld_unit_zero (S := S1x1x2048) hz3, View.ld_unit_zero (S := S1x2048x512) hz3]

/-- The normalised rows the first point keeps. -/
theorem soutA_eq (c : Dev nD) (i : grid0.Coords) (arg2 : Memref sig .tc .vmem S512x2048 .f32) (harg2 : arg2.IsWhole) (arg3 : Memref sig .tc .vmem S1x1x2048 .f32) (harg3 : arg3.IsWhole)
    (arg4 : Memref sig .tc .vmem S1x2048x512 .bf16) (harg4 : arg4.IsWhole) (arg5 : Memref sig .tc .vmem S512x512 .f32) (harg5 : arg5.IsWhole)
    (arg6 : Memref sig .tc .vmem S512x2048 .bf16) (harg6 : arg6.IsWhole) (hc0 : cond0_0 i)
    (x0 : Vec Ideal S512x2048 .f32) (x1 : Vec Ideal S1x1x2048 .f32) (x2 : Vec Ideal S1x2048x512 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg3.read_unread, View.ld_unit_zero (S := S512x2048) hz2, View.ld_unit_zero (S := S1x1x2048) hz3]

/-- The second point's block: the kept rows are read as they were left. -/
theorem outB_eq (c : Dev nD) (i : grid0.Coords) (arg2 : Memref sig .tc .vmem S512x2048 .f32) (harg2 : arg2.IsWhole) (arg3 : Memref sig .tc .vmem S1x1x2048 .f32) (harg3 : arg3.IsWhole)
    (arg4 : Memref sig .tc .vmem S1x2048x512 .bf16) (harg4 : arg4.IsWhole) (arg5 : Memref sig .tc .vmem S512x512 .f32) (harg5 : arg5.IsWhole)
    (arg6 : Memref sig .tc .vmem S512x2048 .bf16) (harg6 : arg6.IsWhole) (hc0 : ¬cond0_0 i)
    (x0 : Vec Ideal S512x2048 .f32) (x1 : Vec Ideal S1x1x2048 .f32) (x2 : Vec Ideal S1x2048x512 .bf16) (xs0 : Vec Ideal S512x2048 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero hz2]
  simp only [View.readAt_eq_ld, harg4.read_unread, harg6.read_unread, View.ld_unit_zero (S := S512x2048) hz2, View.ld_unit_zero (S := S1x2048x512) hz3]

/-! ## The blocks a point reads -/

variable (m : (ℓ : Loc nD τ sig) → Buf (Elt Ideal) ℓ)

/-- Row `n` of the two memories laid end to end. -/
def X (c : Dev nD) (n : Fin 512) (j : Fin 2048) : EReal := m ((c.tc : Thread nD τ).loc main_arg0) (ix3 ⟨n.val / 256, by omega⟩ ⟨n.val % 256, by omega⟩ j)
/-- The gain. -/
def Gn (c : Dev nD) (j : Fin 2048) : EReal := m ((c.tc : Thread nD τ).loc main_arg1) (ix2 0 j)
/-- The matrix. -/
def W (c : Dev nD) (i : Fin 2048) (n : Fin 1024) : EReal := m ((c.tc : Thread nD τ).loc main_arg2) (ix3 0 i n)

theorem V_x (c : Dev nD) (n : Fin 512) (j : Fin 2048) : (V m c main_v0 : Vec Ideal S512x2048 .f32) (ix2 n j) = X m c n j := by
  entry_read
  refine shapeCast_apply (s := S2x256x2048) (t := S512x2048) _ _ (ix2 n j) (ix3 ⟨n.val / 256, by omega⟩ ⟨n.val % 256, by omega⟩ j) ?_
  rw [Shape.rowMajor_val_three, Shape.rowMajor_val_two]
  show (n.val / 256 * 256 + n.val % 256) * 2048 + j.val = n.val * 2048 + j.val
  omega

theorem V_gain (c : Dev nD) (l : Fin 2) (j : Fin 2048) : (V m c main_v2 : Vec Ideal S2x1x2048 .f32) (ix3 l 0 j) = m ((c.tc : Thread nD τ).loc main_arg1) (ix2 l j) := by
  entry_read
  refine shapeCast_apply (s := S2x2048) (t := S2x1x2048) _ _ (ix3 l 0 j) (ix2 l j) ?_
  rw [Shape.rowMajor_val_three, Shape.rowMajor_val_two]
  show l.val * 2048 + j.val = (l.val * 1 + 0) * 2048 + j.val
  omega

theorem V_w (c : Dev nD) (i : Fin 2048) (n : Fin 1024) : (V m c main_v1 : Vec Ideal S2x2048x1024 .bf16) (ix3 0 i n) = W m c i n := by
  entry_read
  rw [truncf_apply]
  rfl

/-- Which block each window brings at a point. -/
theorem idx_facts : ∀ t : Fin cfg0.N, win0_0.index t = ![0, 0] ∧ win0_1.index t = ![0, 0, 0] ∧ win0_2.index t = ![0, 0, t.val] ∧ win0_3.index t = ![0, t.val] :=
  (by decide +kernel : ∀ t : Fin grid0.N, _)

theorem lt2 (t : Fin cfg0.N) : t.val < 2 := lt_of_lt_of_eq t.isLt (show cfg0.N = 2 from N_0)

theorem iblk0 (c : Dev nD) (t : Fin cfg0.N) (r : Fin 512) (j : Fin 2048) : (iblk m c 0 t : Vec Ideal S512x2048 .f32) (ix2 r j) = X m c r j := by
  rw [← V_x]; unfold iblk
  refine congrArg (V m c main_v0) (Shape.idx_ext₂ ?_ ?_) <;> blk_simp [idx_facts t]

theorem iblk1 (c : Dev nD) (t : Fin cfg0.N) (j : Fin 2048) : (iblk m c 1 t : Vec Ideal S1x1x2048 .f32) (ix3 0 0 j) = Gn m c j := by
  refine Eq.trans ?_ (V_gain m c 0 j)
  unfold iblk
  refine congrArg (V m c main_v2) (funext fun a => Fin.ext ?_)
  match a with
  | ⟨0, _⟩ =>
    blk_simp [idx_facts t]
    rfl
  | ⟨1, _⟩ => blk_simp [idx_facts t]
  | ⟨2, _⟩ => blk_simp [idx_facts t]

theorem iblk2 (c : Dev nD) (t : Fin cfg0.N) (i : Fin 2048) (j : Fin 512) :
    (iblk m c 2 t : Vec Ideal S1x2048x512 .bf16) (ix3 0 i j) = W m c i ⟨512 * t.val + j.val, by have := lt2 t; omega⟩ := by
  rw [← V_w]; unfold iblk
  refine congrArg (V m c main_v1) (funext fun a => Fin.ext ?_)
  match a with
  | ⟨0, _⟩ =>
    blk_simp [idx_facts t]
    rfl
  | ⟨1, _⟩ => blk_simp [idx_facts t]
  | ⟨2, _⟩ =>
    blk_simp [idx_facts t]
    show t.val * 512 + j.val = 512 * t.val + j.val
    omega

theorem idx2 {a b : ℕ} (y : (⟨2, ![a, b]⟩ : Shape).Idx) : y = ix2 (y 0) (y 1) := funext fun i => match i with
  | ⟨0, _⟩ => rfl
  | ⟨1, _⟩ => rfl

/-! ## From point to point -/

/-- The rows a point normalises. -/
theorem norm_block (c : Dev nD) (t : Fin cfg0.N) (r : Fin 512) (k : Fin 2048) :
    k0_pay1 (F := Ideal) (iblk m c 0 t) (iblk m c 1 t) (ix2 r k) = nrm (X m c r) (Gn m c) k :=
  (norm_pay _ _ r k).trans (congrArg₂ (fun a b => nrm a b k) (funext fun k => iblk0 m c t r k) (funext fun k => iblk1 m c t k))

/-- After every point the scratch holds the normalised rows. -/
theorem scratch_eq (c : Dev nD) : ∀ (n : ℕ) (hn : n < cfg0.N), (outsAt0 m c n hn).2 = (fun y => nrm (X m c (y 0)) (Gn m c) (y 1) : Vec Ideal S512x2048 .bf16)
  | 0, hn => by
    rw [outsAt0_A m c ⟨0, hn⟩ (Nat.zero_mod _)]
    dsimp only
    rw [soutA_eq]
    funext y
    exact (congrArg (k0_pay1 (F := Ideal) _ _) (idx2 y)).trans (norm_block m c _ (y 0) (y 1))
  | n + 1, hn => by
    have h2 := lt2 ⟨n + 1, hn⟩
    rw [outsAt0_B m c ⟨n + 1, hn⟩ (by show ¬(n + 1) % 2 = 0; dsimp only at h2; omega)]
    exact scratch_eq c n (Nat.lt_of_succ_lt hn)

/-- What a point leaves in its block. -/
theorem block_eq (c : Dev nD) (t : Fin cfg0.N) (r j : Fin 512) :
    (outsAt0 m c t.val t.isLt).1 (ix2 r j) = proj (X m c r) (Gn m c) (fun k => W m c k ⟨512 * t.val + j.val, by have := lt2 t; omega⟩) := by
  by_cases h0 : t.val % 2 = 0
  · rw [outsAt0_A m c t h0]
    dsimp only
    rw [outA_eq, prod_pay]
    exact Finset.sum_congr rfl fun k _ => congrArg₂ (· * ·) (norm_block m c t r k) (iblk2 m c t k j)
  · rw [outsAt0_B m c t h0]
    dsimp only
    rw [outB_eq, prod_pay, scratch_eq]
    exact Finset.sum_congr rfl fun k _ => congrArg₂ (· * ·) rfl (iblk2 m c t k j)

/-! ## The array at the end -/

/-- The result. -/
def kvOut (c : Dev nD) : Vec Ideal S512x1024 .f32 := fun i => proj (X m c (i 0)) (Gn m c) (fun k => W m c k (i 1))

theorem kv_array (c : Dev nD) : (dats m 0 c).arrAt 3 cfg0.N = kvOut m c := by
  refine (dats m 0 c).arrAt_eq_of_covers 3 _ (by decide +kernel) fun t hf y => ?_
  blk_simp
  rw [after0_3]
  refine (congrArg (outsAt0 m c t.val t.isLt).1 (idx2 y)).trans ((block_eq m c t (y 0) (y 1)).trans ?_)
  unfold kvOut
  refine congrArg₂ (fun (a : Fin 512) (b : Fin 1024) => proj (X m c a) (Gn m c) (fun k => W m c k b)) (Fin.ext ?_) (Fin.ext ?_)
  · blk_simp [idx_facts t]
  · blk_simp [idx_facts t]
    show 512 * t.val + (y 1).val = t.val * 512 + (y 1).val
    omega

/-- Every run of the kernel ends with the keys and values in its result and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v3) = kvOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (kv_array m c), (h c).2⟩)
    (Cert.Kernel4Ideal.Value.run_blocks m ρ)

end Cert.Kernel4Ideal.Hand

namespace Cert.Reference4Ideal.Hand

open Cert.Reference4Ideal Cert.Reference4Ideal.Gen Cert.Reference4Ideal.Read Cert.Rows Cert.Kernel4Ideal.Hand
open Idealize.ShloMosaic hiding ix1 ix2 ix3
open Idealize.ShloMosaic.ValueIdx

/-! ## The reference at an element -/

/-- The normalised rows. -/
theorem ref_norm (x0 : (⟨S2x256x2048, .f32⟩ : BufTy).Contents (Elt Ideal)) (x1 : (⟨S2x2048, .f32⟩ : BufTy).Contents (Elt Ideal)) (a : Fin 2) (b : Fin 256) (j : Fin 2048) :
    val_main_v14 (F := Ideal) x0 x1 (ix3 a b j) = nrm (fun k => x0 (ix3 a b k)) (fun k => x1 (ix2 0 k)) j := by
  have e : ∀ k, idx_main_v3 (idx_main_v4 (idx_main_v10 (ix3 a b j))) k = ix3 a b k := fun k => funext fun i => match i with
    | ⟨0, _⟩ => rfl
    | ⟨1, _⟩ => rfl
    | ⟨2, _⟩ => rfl
  have eg : idx_main_v0 (idx_main_v1 (idx_main_v12 (idx_main_v13 (ix3 a b j)))) = ix2 0 j := funext fun i => match i with
    | ⟨0, _⟩ => rfl
    | ⟨1, _⟩ => Fin.ext (Nat.mod_eq_of_lt j.isLt)
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, e, eg, show (FloatOps.ofBits .f32 0x00000000#32 : Ideal .f32) = (0 : EReal) from Ideal.ofBits_zero_f32, zero_add]
  rfl

variable (x0 : (⟨S2x256x2048, .f32⟩ : BufTy).Contents (Elt Ideal)) (x1 : (⟨S2x2048, .f32⟩ : BufTy).Contents (Elt Ideal)) (x2 : (⟨S2x2048x1024, .f32⟩ : BufTy).Contents (Elt Ideal))

/-- The matrix. -/
theorem ref_w (i : Fin 2048) (n : Fin 1024) : val_main_v16 (F := Ideal) x2 (ix2 i n) = x2 (ix3 0 i n) := by
  rw [val_main_v16_apply, val_main_v15_apply]
  refine congrArg x2 (funext fun q => match q with
    | ⟨0, _⟩ => rfl
    | ⟨1, _⟩ => Fin.ext ?_
    | ⟨2, _⟩ => Fin.ext ?_)
  · show (i.val * 1024 + n.val) / 1024 % 2048 = i.val
    omega
  · show (i.val * 1024 + n.val) % 1024 = n.val
    omega

/-- The product, its rows laid end to end. -/
theorem ref_proj (n : Fin 512) (j : Fin 1024) :
    val_main_v18 (F := Ideal) x0 x1 x2 (ix2 n j) = proj (fun k => x0 (ix3 ⟨n.val / 256, by omega⟩ ⟨n.val % 256, by omega⟩ k)) (fun k => x1 (ix2 0 k)) (fun k => x2 (ix3 0 k j)) := by
  have e : idx_main_v18 (ix2 n j) = ix3 ⟨n.val / 256, by omega⟩ ⟨n.val % 256, by omega⟩ j := funext fun q => match q with
    | ⟨0, _⟩ => Fin.ext (by show (n.val * 1024 + j.val) / 262144 = n.val / 256; omega)
    | ⟨1, _⟩ => Fin.ext (by show (n.val * 1024 + j.val) / 1024 % 256 = n.val % 256; omega)
    | ⟨2, _⟩ => Fin.ext (by show (n.val * 1024 + j.val) % 1024 = j.val; omega)
  rw [val_main_v18_apply, e, val_main_v17_apply]
  unfold proj
  refine Finset.sum_congr rfl fun k _ => ?_
  refine (congrArg₂ (fun p q => val_main_v14 (F := Ideal) x0 x1 p * val_main_v16 (F := Ideal) x2 q) (x' := ix3 ⟨n.val / 256, by omega⟩ ⟨n.val % 256, by omega⟩ k) (y' := ix2 k j) ?_ ?_).trans (congrArg₂ _ (ref_norm x0 x1 _ _ k) (ref_w x2 k j))
  · exact funext fun i => match i with
    | ⟨0, _⟩ => rfl
    | ⟨1, _⟩ => rfl
    | ⟨2, _⟩ => rfl
  · exact funext fun i => match i with
    | ⟨0, _⟩ => rfl
    | ⟨1, _⟩ => rfl

end Cert.Reference4Ideal.Hand

namespace Cert.Kernel4Ideal.Hand

open Cert.Kernel4Ideal Cert.Kernel4Ideal.Gen
open Idealize.ShloMosaic hiding ix1 ix2 ix3
open Idealize.SL.Sem Idealize.ShloMosaic.TcCoe Idealize.ShloMosaic.ValueIdx

/-! ## The claims -/

/-- Kernel and reference end with equal results. -/
theorem algebraic_all : Cert.algebraic_Kernel4Ideal_Reference4Ideal := fun m g m' g' _ hagree =>
  ⟨kvOut m, run_value m g, (θ_run Cert.Reference4Ideal.defs _ _).mono (fun _ h c => by
    obtain ⟨h18, hargs⟩ := h c
    obtain ⟨a0, a1, a2⟩ := hagree c
    refine ⟨h18.trans ?_, hargs⟩
    rw [Cert.Reference4Ideal.Read.val_main_v18_eq, a0, a1, a2]
    funext i
    exact (congrArg _ (idx2 i)).trans (Cert.Reference4Ideal.Hand.ref_proj _ _ _ (i 0) (i 1)))
    (Cert.Reference4Ideal.Value.run m' g')⟩

/-- The kernel as compiled and the kernel over exact numbers run one body. -/
theorem body_same : Cert.Kernel4.defs₀ (F := Bits) = Cert.Kernel4Ideal.defs₀ := by
  unfold Cert.Kernel4.defs₀ Cert.Kernel4Ideal.defs₀
  refine congrArg Defs.onTc (funext fun l => funext fun a => ?_)
  match l, a with
  | 0, (t, s) => rfl

/-- So they have one table of bodies. -/
theorem defs_same : Cert.Kernel4.defs (F := Bits) = Cert.Kernel4Ideal.defs := by
  unfold Cert.Kernel4.defs Cert.Kernel4Ideal.defs
  rw [body_same]
  rfl

/-- The frame of the kernel as compiled. -/
theorem frame_kernel : Cert.quiescent_Kernel4 := fun m ρ _ => by
  rw [defs_same]
  exact (θ_run Cert.Kernel4Ideal.defs _ _).mono (fun _ h => h) (frame (F := Bits) m ρ)

/-- The frame of the kernel over exact numbers. -/
theorem frame_kernel_ideal : Cert.quiescent_Kernel4Ideal := fun m ρ _ => frame (F := Ideal) m ρ

end Cert.Kernel4Ideal.Hand

end
-- ==== Proof.LruIn.Value.lean ====
module

public import proofs.«01_k».proof.Proof.Ffn3.RowMath
public import proofs.«01_k».proof.Proof.Gen.Kernel5
public import proofs.«01_k».proof.Proof.Gen.Kernel5Ideal.Value
public import proofs.«01_k».proof.Proof.Gen.Reference5Ideal.Read
public import proofs.«01_k».proof.Defs
public import Idealize.ShloMosaic.Lib.Pipeline.ValueKit

/-! The projection into the recurrent block: a row's norm, its product with the branch's columns, and the gelu of its
product with the gate's columns. What the kernel's two arrays hold, and that the reference's results are the same. -/

@[expose] public section

set_option maxRecDepth 16384

noncomputable section

namespace Cert.Kernel5Ideal.Hand

open Cert.Kernel5Ideal Cert.Kernel5Ideal.Gen Cert.Rows
open Idealize.ShloMosaic hiding ix1 ix2 ix3
open Idealize.SL.Sem Idealize.ShloMosaic.TcCoe Idealize.ShloMosaic.ValueIdx
open Idealize.ShloMosaic.Pipeline (Dat)

/-! ## The mathematics of one element -/

/-- The gelu in its tanh form. -/
def gelu (y : EReal) : EReal :=
  y * (half * (Ideal.ofBits .f32 0x3F800000#32 + Ideal.tanh (Ideal.ofBits .f32 0x3F4C422A#32 * (y + Ideal.ofBits .f32 0x3D372713#32 * (y * y * y)))))

/-- A normalised row times a column. -/
def proj (x γ w : Fin 2048 → EReal) : EReal := ∑ k, nrm x γ k * w k

/-! ## The payloads at an element -/

/-- The normalised rows. -/
theorem norm_pay (x : FVec Ideal S512x2048 .f32) (g : FVec Ideal S1x1x2048 .f32) (r : Fin 512) (j : Fin 2048) :
    k0_pay1 (F := Ideal) x g (ix2 r j) = nrm (fun k => x (ix2 r k)) (fun k => g (ix3 0 0 k)) j := by
  unfold k0_pay1; simp only [shapeCast_self]
  rw [truncf_apply]; exact norm_apply (M := 512) x g _ _ _ _ _ _ _ r j

/-- The branch. -/
theorem branch_pay (h : FVec Ideal S512x2048 .bf16) (w : FVec Ideal S1x2048x2048 .bf16) (r : Fin 512) (j : Fin 2048) :
    k0_pay3 (F := Ideal) h w (ix2 r j) = ∑ k : Fin 2048, h (ix2 r k) * w (ix3 0 k j) := by
  unfold k0_pay3
  refine (dot_apply (M := 512) (K := 2048) (N := 2048) h _ r j).trans (Finset.sum_congr rfl fun k _ => ?_)
  rw [shapeCast_1ab_ab_apply]

/-- The vector form of the gelu at an element. -/
theorem gelu_vec {s : Shape} (v : FVec Ideal s .f32) (i : s.Idx) :
    mulf (mulf (broadcast s (Scalar.ofBits .f32 0x3F000000#32)) v) (addf (broadcast s (Scalar.ofBits .f32 0x3F800000#32))
      (tanh (mulf (broadcast s (Scalar.ofBits .f32 0x3F4C422A#32)) (addf v (mulf (broadcast s (Scalar.ofBits .f32 0x3D372713#32)) (mulf (mulf v v) v))))))
      i = gelu (v i) := by
  show half * v i * (Ideal.ofBits .f32 0x3F800000#32 + Ideal.tanh _) = _
  unfold gelu
  rw [mul_comm half, mul_assoc]
  rfl

/-- The gate. -/
theorem gate_pay (h : FVec Ideal S512x2048 .bf16) (w : FVec Ideal S1x2048x2048 .bf16) (r : Fin 512) (j : Fin 2048) :
    k0_pay2 (F := Ideal) h w (ix2 r j) = gelu (∑ k : Fin 2048, h (ix2 r k) * w (ix3 0 k j)) :=
  (gelu_vec (k0_pay3 (F := Ideal) h w) (ix2 r j)).trans (congrArg gelu (branch_pay h w r j))

/-! ## What a point leaves -/

theorem hz2 : (![0, 0] : Fin 2 → Nat) = fun _ => 0 := funext fun a => by fin_cases a <;> rfl
theorem hz3 : (![0, 0, 0] : Fin 3 → Nat) = fun _ => 0 := funext fun a => by fin_cases a <;> rfl

section Outs

variable (c : Dev nD) (i : grid0.Coords) (arg2 : Memref sig .tc .vmem S512x2048 .f32) (harg2 : arg2.IsWhole) (arg3 : Memref sig .tc .vmem S1x1x2048 .f32) (harg3 : arg3.IsWhole)
  (arg4 : Memref sig .tc .vmem S1x2048x2048 .bf16) (harg4 : arg4.IsWhole) (arg5 : Memref sig .tc .vmem S1x2048x2048 .bf16) (harg5 : arg5.IsWhole)
  (arg6 : Memref sig .tc .vmem S512x2048 .f32) (harg6 : arg6.IsWhole) (arg7 : Memref sig .tc .vmem S512x2048 .f32) (harg7 : arg7.IsWhole)
  (arg8 : Memref sig .tc .vmem S512x2048 .bf16) (harg8 : arg8.IsWhole) (hc0 : cond0_0 i)
  (x0 : Vec Ideal S512x2048 .f32) (x1 : Vec Ideal S1x1x2048 .f32) (x2 x3 : Vec Ideal S1x2048x2048 .bf16)

/-- The branch's block: the payload of the point's input blocks. -/
theorem out4_eq :
    out0_A_4 c i arg2 harg2 arg3 harg3 arg4 harg4 arg5 harg5 arg6 harg6 arg7 harg7 arg8 harg8 hc0 x0 x1 x2 x3 = k0_pay3 (k0_pay1 x0 x1) x2 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz2, View.readCov_unit_zero (S := S512x2048) _ hz2]
  simp only [View.readAt_eq_ld, harg2.read_unread, harg3.read_unread, harg4.read_unread, View.ld_unit_zero (S := S512x2048) hz2, View.ld_unit_zero (S := S1x1x2048) hz3, View.ld_unit_zero (S := S1x2048x2048) hz3]

/-- The gate's block: the payload of the point's input blocks. -/
theorem out5_eq :
    out0_A_5 c i arg2 harg2 arg3 harg3 arg4 harg4 arg5 harg5 arg6 harg6 arg7 harg7 arg8 harg8 hc0 x0 x1 x2 x3 = k0_pay2 (k0_pay1 x0 x1) x3 := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_unit_zero hz2, View.readCov_unit_zero (S := S512x2048) _ hz2]
  simp only [View.readAt_eq_ld, harg2.read_unread, harg3.read_unread, harg5.read_unread, View.ld_unit_zero (S := S512x2048) hz2, View.ld_unit_zero (S := S1x1x2048) hz3, View.ld_unit_zero (S := S1x2048x2048) hz3]

end Outs

/-! ## The blocks a point reads -/

variable (m : (ℓ : Loc nD τ sig) → Buf (Elt Ideal) ℓ)

/-- Row `n` of the two sequences laid end to end. -/
def X (c : Dev nD) (n : Fin 8192) (j : Fin 2048) : EReal := m ((c.tc : Thread nD τ).loc main_arg0) (ix3 ⟨n.val / 4096, by omega⟩ ⟨n.val % 4096, by omega⟩ j)
/-- The gain. -/
def Gn (c : Dev nD) (j : Fin 2048) : EReal := m ((c.tc : Thread nD τ).loc main_arg1) (ix2 1 j)
/-- The matrix. -/
def W (c : Dev nD) (i : Fin 2048) (n : Fin 4096) : EReal := m ((c.tc : Thread nD τ).loc main_arg2) (ix3 0 i n)

theorem V_x (c : Dev nD) (n : Fin 8192) (j : Fin 2048) : (V m c main_v0 : Vec Ideal S8192x2048 .f32) (ix2 n j) = X m c n j := by
  entry_read
  refine shapeCast_apply (s := S2x4096x2048) (t := S8192x2048) _ _ (ix2 n j) (ix3 ⟨n.val / 4096, by omega⟩ ⟨n.val % 4096, by omega⟩ j) ?_
  rw [Shape.rowMajor_val_three, Shape.rowMajor_val_two]
  show (n.val / 4096 * 4096 + n.val % 4096) * 2048 + j.val = n.val * 2048 + j.val
  omega

theorem V_gain (c : Dev nD) (l : Fin 2) (j : Fin 2048) : (V m c main_v2 : Vec Ideal S2x1x2048 .f32) (ix3 l 0 j) = m ((c.tc : Thread nD τ).loc main_arg1) (ix2 l j) := by
  entry_read
  refine shapeCast_apply (s := S2x2048) (t := S2x1x2048) _ _ (ix3 l 0 j) (ix2 l j) ?_
  rw [Shape.rowMajor_val_three, Shape.rowMajor_val_two]
  show l.val * 2048 + j.val = (l.val * 1 + 0) * 2048 + j.val
  omega

theorem V_w (c : Dev nD) (i : Fin 2048) (n : Fin 4096) : (V m c main_v1 : Vec Ideal S1x2048x4096 .bf16) (ix3 0 i n) = W m c i n := by
  entry_read
  rw [truncf_apply]
  rfl

/-- Which block each window brings at a point. -/
theorem idx_facts : ∀ t : Fin cfg0.N, win0_0.index t = ![t.val, 0] ∧ win0_1.index t = ![1, 0, 0] ∧ win0_2.index t = ![0, 0, 0]
    ∧ win0_3.index t = ![0, 0, 1] ∧ win0_4.index t = ![t.val, 0] ∧ win0_5.index t = ![t.val, 0] :=
  (by decide +kernel : ∀ t : Fin grid0.N, _)

theorem lt16 (t : Fin cfg0.N) : t.val < 16 := lt_of_lt_of_eq t.isLt (show cfg0.N = 16 from N_0)

theorem iblk0 (c : Dev nD) (t : Fin cfg0.N) (r : Fin 512) (j : Fin 2048) :
    (iblk m c 0 t : Vec Ideal S512x2048 .f32) (ix2 r j) = X m c ⟨512 * t.val + r.val, by have := lt16 t; omega⟩ j := by
  rw [← V_x]; unfold iblk
  refine congrArg (V m c main_v0) (Shape.idx_ext₂ ?_ ?_) <;> blk_simp [idx_facts t]
  show t.val * 512 + r.val = 512 * t.val + r.val
  omega

theorem iblk1 (c : Dev nD) (t : Fin cfg0.N) (j : Fin 2048) : (iblk m c 1 t : Vec Ideal S1x1x2048 .f32) (ix3 0 0 j) = Gn m c j := by
  refine Eq.trans ?_ (V_gain m c 1 j)
  unfold iblk
  refine congrArg (V m c main_v2) (funext fun a => Fin.ext ?_)
  match a with
  | ⟨0, _⟩ =>
    blk_simp [idx_facts t]
    rfl
  | ⟨1, _⟩ => blk_simp [idx_facts t]
  | ⟨2, _⟩ => blk_simp [idx_facts t]

theorem iblk2 (c : Dev nD) (t : Fin cfg0.N) (i j : Fin 2048) : (iblk m c 2 t : Vec Ideal S1x2048x2048 .bf16) (ix3 0 i j) = W m c i ⟨j.val, by omega⟩ := by
  rw [← V_w]; unfold iblk
  refine congrArg (V m c main_v1) (funext fun a => Fin.ext ?_)
  match a with
  | ⟨0, _⟩ => blk_simp [idx_facts t]
  | ⟨1, _⟩ => blk_simp [idx_facts t]
  | ⟨2, _⟩ => blk_simp [idx_facts t]

theorem iblk3 (c : Dev nD) (t : Fin cfg0.N) (i j : Fin 2048) : (iblk m c 3 t : Vec Ideal S1x2048x2048 .bf16) (ix3 0 i j) = W m c i ⟨2048 + j.val, by omega⟩ := by
  rw [← V_w]; unfold iblk
  refine congrArg (V m c main_v1) (funext fun a => Fin.ext ?_)
  match a with
  | ⟨0, _⟩ => blk_simp [idx_facts t]
  | ⟨1, _⟩ => blk_simp [idx_facts t]
  | ⟨2, _⟩ =>
    blk_simp [idx_facts t]

/-! ## The arrays at the end -/

/-- The branch. -/
def branchOut (c : Dev nD) : Vec Ideal S8192x2048 .f32 := fun i => proj (X m c (i 0)) (Gn m c) (fun k => W m c k ⟨(i 1).val, Nat.lt_of_lt_of_le (i 1).isLt (by decide)⟩)
/-- The gate. -/
def gateOut (c : Dev nD) : Vec Ideal S8192x2048 .f32 := fun i => gelu (proj (X m c (i 0)) (Gn m c) (fun k => W m c k ⟨2048 + (i 1).val, Nat.add_lt_add_left (i 1).isLt 2048⟩))

theorem idx2 {a b : ℕ} (y : (⟨2, ![a, b]⟩ : Shape).Idx) : y = ix2 (y 0) (y 1) := funext fun i => match i with
  | ⟨0, _⟩ => rfl
  | ⟨1, _⟩ => rfl

/-- The branch's array at the end. -/
theorem branch_array (c : Dev nD) : (dats m 0 c).arrAt 4 cfg0.N = branchOut m c := by
  refine (dats m 0 c).arrAt_eq_of_covers 4 _ (by decide +kernel) fun t hf y => ?_
  blk_simp
  rw [after0_4]
  unfold outsAt0; dsimp only
  rw [out4_eq]
  refine (congrArg (k0_pay3 (F := Ideal) _ _) (idx2 y)).trans ((branch_pay _ _ (y 0) (y 1)).trans ?_)
  unfold branchOut proj
  refine Finset.sum_congr rfl fun k _ => ?_
  refine congrArg₂ _ ((norm_pay _ _ (y 0) k).trans (congrArg₂ (fun a b => nrm a b k) (funext fun k => ?_) (funext fun k => iblk1 m c t k))) ?_
  · refine (iblk0 m c t (y 0) k).trans (congrArg (X m c · k) (Fin.ext ?_))
    blk_simp [idx_facts t]
    show 512 * t.val + (y 0).val = t.val * 512 + (y 0).val
    omega
  · refine (iblk2 m c t k (y 1)).trans (congrArg (W m c k) (Fin.ext ?_))
    blk_simp [idx_facts t]

/-- The gate's array at the end. -/
theorem gate_array (c : Dev nD) : (dats m 0 c).arrAt 5 cfg0.N = gateOut m c := by
  refine (dats m 0 c).arrAt_eq_of_covers 5 _ (by decide +kernel) fun t hf y => ?_
  blk_simp
  rw [after0_5]
  unfold outsAt0; dsimp only
  rw [out5_eq]
  refine (congrArg (k0_pay2 (F := Ideal) _ _) (idx2 y)).trans ((gate_pay _ _ (y 0) (y 1)).trans ?_)
  unfold gateOut proj
  refine congrArg gelu (Finset.sum_congr rfl fun k _ => ?_)
  refine congrArg₂ _ ((norm_pay _ _ (y 0) k).trans (congrArg₂ (fun a b => nrm a b k) (funext fun k => ?_) (funext fun k => iblk1 m c t k))) ?_
  · refine (iblk0 m c t (y 0) k).trans (congrArg (X m c · k) (Fin.ext ?_))
    blk_simp [idx_facts t]
    show 512 * t.val + (y 0).val = t.val * 512 + (y 0).val
    omega
  · refine (iblk3 m c t k (y 1)).trans (congrArg (W m c k) (Fin.ext ?_))
    blk_simp [idx_facts t]

/-- Every run of the kernel ends with the branch and the gate in its results and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v3_0) = branchOut m c
      ∧ r.2.mem ((c.tc : Thread nD τ).loc main_v3_1) = gateOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (branch_array m c), (h c).2.1.trans (gate_array m c), (h c).2.2⟩)
    (Cert.Kernel5Ideal.Value.run_blocks m ρ)

end Cert.Kernel5Ideal.Hand

namespace Cert.Reference5Ideal.Hand

open Cert.Reference5Ideal Cert.Reference5Ideal.Gen Cert.Reference5Ideal.Read Cert.Rows Cert.Kernel5Ideal.Hand
open Idealize.ShloMosaic hiding ix1 ix2 ix3
open Idealize.ShloMosaic.ValueIdx

/-! ## The reference at an element -/

/-- The normalised rows. -/
theorem ref_norm (x0 : (⟨S2x4096x2048, .f32⟩ : BufTy).Contents (Elt Ideal)) (x1 : (⟨S2x2048, .f32⟩ : BufTy).Contents (Elt Ideal)) (a : Fin 2) (b : Fin 4096) (j : Fin 2048) :
    val_main_v14 (F := Ideal) x0 x1 (ix3 a b j) = nrm (fun k => x0 (ix3 a b k)) (fun k => x1 (ix2 1 k)) j := by
  have e : ∀ k, idx_main_v3 (idx_main_v4 (idx_main_v10 (ix3 a b j))) k = ix3 a b k := fun k => funext fun i => match i with
    | ⟨0, _⟩ => rfl
    | ⟨1, _⟩ => rfl
    | ⟨2, _⟩ => rfl
  have eg : idx_main_v0 (idx_main_v1 (idx_main_v12 (idx_main_v13 (ix3 a b j)))) = ix2 1 j := funext fun i => match i with
    | ⟨0, _⟩ => rfl
    | ⟨1, _⟩ => Fin.ext (Nat.mod_eq_of_lt j.isLt)
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, e, eg, show (FloatOps.ofBits .f32 0x00000000#32 : Ideal .f32) = (0 : EReal) from Ideal.ofBits_zero_f32, zero_add]
  rfl

variable (x0 : (⟨S2x4096x2048, .f32⟩ : BufTy).Contents (Elt Ideal)) (x1 : (⟨S2x2048, .f32⟩ : BufTy).Contents (Elt Ideal)) (x2 : (⟨S1x2048x4096, .f32⟩ : BufTy).Contents (Elt Ideal))

/-- The matrix. -/
theorem ref_w (i : Fin 2048) (n : Fin 4096) : val_main_v15 (F := Ideal) x2 (ix2 i n) = x2 (ix3 0 i n) := by
  rw [val_main_v15_apply]
  refine congrArg x2 (funext fun q => match q with
    | ⟨0, _⟩ => rfl
    | ⟨1, _⟩ => Fin.ext ?_
    | ⟨2, _⟩ => Fin.ext ?_)
  · show (i.val * 4096 + n.val) / 4096 % 2048 = i.val
    omega
  · show (i.val * 4096 + n.val) % 4096 = n.val
    omega

/-- The product, its rows laid end to end. -/
theorem ref_proj (n : Fin 8192) (j : Fin 4096) :
    val_main_v17 (F := Ideal) x0 x1 x2 (ix2 n j) = proj (fun k => x0 (ix3 ⟨n.val / 4096, by omega⟩ ⟨n.val % 4096, by omega⟩ k)) (fun k => x1 (ix2 1 k)) (fun k => x2 (ix3 0 k j)) := by
  have e : idx_main_v17 (ix2 n j) = ix3 ⟨n.val / 4096, by omega⟩ ⟨n.val % 4096, by omega⟩ j := funext fun q => match q with
    | ⟨0, _⟩ => Fin.ext (by show (n.val * 4096 + j.val) / 16777216 = n.val / 4096; omega)
    | ⟨1, _⟩ => Fin.ext (by show (n.val * 4096 + j.val) / 4096 % 4096 = n.val % 4096; omega)
    | ⟨2, _⟩ => Fin.ext (by show (n.val * 4096 + j.val) % 4096 = j.val; omega)
  rw [val_main_v17_apply, e, val_main_v16_apply]
  unfold proj
  refine Finset.sum_congr rfl fun k _ => ?_
  refine (congrArg₂ (fun p q => val_main_v14 (F := Ideal) x0 x1 p * val_main_v15 (F := Ideal) x2 q) (x' := ix3 ⟨n.val / 4096, by omega⟩ ⟨n.val % 4096, by omega⟩ k) (y' := ix2 k j) ?_ ?_).trans (congrArg₂ _ (ref_norm x0 x1 _ _ k) (ref_w x2 k j))
  · exact funext fun i => match i with
    | ⟨0, _⟩ => rfl
    | ⟨1, _⟩ => rfl
    | ⟨2, _⟩ => rfl
  · exact funext fun i => match i with
    | ⟨0, _⟩ => rfl
    | ⟨1, _⟩ => rfl

/-- The branch. -/
theorem ref_branch (n : Fin 8192) (j : Fin 2048) :
    val_main_v18 (F := Ideal) x0 x1 x2 (ix2 n j) = proj (fun k => x0 (ix3 ⟨n.val / 4096, by omega⟩ ⟨n.val % 4096, by omega⟩ k)) (fun k => x1 (ix2 1 k)) (fun k => x2 (ix3 0 k ⟨j.val, by omega⟩)) := by
  rw [val_main_v18_apply, ← ref_proj]
  refine congrArg _ (funext fun i => match i with
    | ⟨0, _⟩ => Fin.ext ?_
    | ⟨1, _⟩ => Fin.ext ?_)
  · rfl
  · rfl

/-- The gate before its gelu. -/
theorem ref_gate_in (n : Fin 8192) (j : Fin 2048) :
    val_main_v19 (F := Ideal) x0 x1 x2 (ix2 n j) = proj (fun k => x0 (ix3 ⟨n.val / 4096, by omega⟩ ⟨n.val % 4096, by omega⟩ k)) (fun k => x1 (ix2 1 k)) (fun k => x2 (ix3 0 k ⟨2048 + j.val, by omega⟩)) := by
  rw [val_main_v19_apply, ← ref_proj]
  refine congrArg _ (funext fun i => match i with
    | ⟨0, _⟩ => Fin.ext ?_
    | ⟨1, _⟩ => Fin.ext ?_)
  · rfl
  · rfl

/-- The gate. -/
theorem ref_gate (i : S8192x2048.Idx) : val_main_v32 (F := Ideal) x0 x1 x2 i = gelu (val_main_v19 (F := Ideal) x0 x1 x2 i) := by
  simp only [val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_cst_2_apply, val_main_cst_3_apply, val_main_cst_4_apply, val_main_cst_5_apply]
  generalize val_main_v19 (F := Ideal) x0 x1 x2 i = y
  rfl

end Cert.Reference5Ideal.Hand

namespace Cert.Kernel5Ideal.Hand

open Cert.Kernel5Ideal Cert.Kernel5Ideal.Gen Cert.Rows
open Idealize.ShloMosaic hiding ix1 ix2 ix3
open Idealize.SL.Sem Idealize.ShloMosaic.TcCoe Idealize.ShloMosaic.ValueIdx

/-! ## The claims -/

/-- Kernel and reference end with equal results. -/
theorem algebraic_all : Cert.algebraic_Kernel5Ideal_Reference5Ideal := fun m g m' g' _ hagree =>
  ⟨branchOut m, gateOut m, run_value m g, (θ_run Cert.Reference5Ideal.defs _ _).mono (fun _ h c => by
    obtain ⟨h18, h32, hargs⟩ := h c
    obtain ⟨a0, a1, a2⟩ := hagree c
    refine ⟨h18.trans ?_, h32.trans ?_, hargs⟩
    · rw [Cert.Reference5Ideal.Read.val_main_v18_eq, a0, a1, a2]
      funext i
      exact (congrArg _ (idx2 i)).trans (Cert.Reference5Ideal.Hand.ref_branch _ _ _ (i 0) (i 1))
    · rw [Cert.Reference5Ideal.Read.val_main_v32_eq, a0, a1, a2]
      funext i
      refine (Cert.Reference5Ideal.Hand.ref_gate _ _ _ i).trans (congrArg gelu ?_)
      exact (congrArg _ (idx2 i)).trans (Cert.Reference5Ideal.Hand.ref_gate_in _ _ _ (i 0) (i 1)))
    (Cert.Reference5Ideal.Value.run m' g')⟩

/-- The kernel as compiled and the kernel over exact numbers run one body. -/
theorem body_same : Cert.Kernel5.defs₀ (F := Bits) = Cert.Kernel5Ideal.defs₀ := by
  unfold Cert.Kernel5.defs₀ Cert.Kernel5Ideal.defs₀
  refine congrArg Defs.onTc (funext fun l => funext fun a => ?_)
  match l, a with
  | 0, (t, s) => rfl

theorem defs_same : Cert.Kernel5.defs (F := Bits) = Cert.Kernel5Ideal.defs := by
  unfold Cert.Kernel5.defs Cert.Kernel5Ideal.defs
  rw [body_same]
  rfl

/-- The frame of the kernel as compiled. -/
theorem frame_kernel : Cert.quiescent_Kernel5 := fun m ρ _ => by
  rw [defs_same]
  exact (θ_run Cert.Kernel5Ideal.defs _ _).mono (fun _ h => h) (frame (F := Bits) m ρ)

/-- The frame of the kernel over exact numbers. -/
theorem frame_kernel_ideal : Cert.quiescent_Kernel5Ideal := fun m ρ _ => frame (F := Ideal) m ρ

end Cert.Kernel5Ideal.Hand

end
-- ==== Proof.Linear.Value.lean ====
module

public import proofs.«01_k».proof.Proof.Ffn3.RowMath
public import proofs.«01_k».proof.Proof.Gen.Kernel6
public import proofs.«01_k».proof.Proof.Gen.Kernel6Ideal.Value
public import proofs.«01_k».proof.Proof.Gen.Reference6Ideal.Read
public import proofs.«01_k».proof.Defs
public import Idealize.ShloMosaic.Lib.Pipeline.ValueKit

/-! The output projection with the residual: each row of the attention's output times the matrix, added to the row of the
stream. What the kernel's array holds, and that the reference's result is the same. -/

@[expose] public section

set_option maxRecDepth 16384

noncomputable section

namespace Cert.Kernel6Ideal.Hand

open Cert.Kernel6Ideal Cert.Kernel6Ideal.Gen Cert.Rows
open Idealize.ShloMosaic hiding ix1 ix2 ix3
open Idealize.SL.Sem Idealize.ShloMosaic.TcCoe Idealize.ShloMosaic.ValueIdx
open Idealize.ShloMosaic.Pipeline (Dat)

/-! ## The payloads at an element -/

/-- The copied matrix. -/
theorem copy_pay (w : FVec Ideal S1x2048x2048 .f32) (i j : Fin 2048) : k0_pay1 (F := Ideal) w (ix2 i j) = w (ix3 0 i j) := by
  unfold k0_pay1; simp only [shapeCast_self]
  rw [truncf_apply, shapeCast_1ab_ab_apply]

/-- A row of the stream plus a row's product with the matrix. -/
theorem sum_pay (x : FVec Ideal S512x2048 .f32) (o : FVec Ideal S512x2048 .bf16) (w : FVec Ideal S2048x2048 .bf16) (r : Fin 512) (j : Fin 2048) :
    k0_pay2 (F := Ideal) x o w (ix2 r j) = x (ix2 r j) + ∑ k : Fin 2048, o (ix2 r k) * w (ix2 k j) := by
  unfold k0_pay2; simp only [shapeCast_self]
  exact congrArg (x (ix2 r j) + ·) (dot_apply (M := 512) (K := 2048) (N := 2048) o w r j)

/-! ## What a point leaves -/

theorem hz2 : (![0, 0] : Fin 2 → Nat) = fun _ => 0 := funext fun a => by fin_cases a <;> rfl
theorem hz3 : (![0, 0, 0] : Fin 3 → Nat) = fun _ => 0 := funext fun a => by fin_cases a <;> rfl

/-- The first point's block. -/
theorem outA_eq (c : Dev nD) (i : grid0.Coords) (arg1 : Memref sig .tc .vmem S512x2048 .bf16) (harg1 : arg1.IsWhole) (arg2 : Memref sig .tc .vmem S1x2048x2048 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S2048x2048 .bf16) (harg5 : arg5.IsWhole) (hc0 : cond0_0 i)
    (x0 : Vec Ideal S512x2048 .bf16) (x1 : Vec Ideal S1x2048x2048 .f32) (x2 : Vec Ideal S512x2048 .f32) :
    out0_A_3 c i arg1 harg1 arg2 harg2 arg3 harg3 arg4 harg4 arg5 harg5 hc0 x0 x1 x2 = k0_pay2 x2 x0 (k0_pay1 x1) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero hz2, View.readCov_unit_zero (S := S2048x2048) _ hz2]
  simp only [View.readAt_eq_ld, harg1.read_unread, harg2.read_unread, harg3.read_unread, View.ld_unit_zero (S := S512x2048) hz2, View.ld_unit_zero (S := S1x2048x2048) hz3]

/-- The first point's copy of the matrix. -/
theorem soutA_eq (c : Dev nD) (i : grid0.Coords) (arg1 : Memref sig .tc .vmem S512x2048 .bf16) (harg1 : arg1.IsWhole) (arg2 : Memref sig .tc .vmem S1x2048x2048 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S2048x2048 .bf16) (harg5 : arg5.IsWhole) (hc0 : cond0_0 i)
    (x0 : Vec Ideal S512x2048 .bf16) (x1 : Vec Ideal S1x2048x2048 .f32) (x2 : Vec Ideal S512x2048 .f32) :
    sout0_A_0 c i arg1 harg1 arg2 harg2 arg3 harg3 arg4 harg4 arg5 harg5 hc0 x0 x1 x2 = k0_pay1 x1 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_unit_zero hz2]
  simp only [View.readAt_eq_ld, harg2.read_unread, View.ld_unit_zero (S := S1x2048x2048) hz3]

/-- A later point's block: the copy is read as it was left. -/
theorem outB_eq (c : Dev nD) (i : grid0.Coords) (arg1 : Memref sig .tc .vmem S512x2048 .bf16) (harg1 : arg1.IsWhole) (arg2 : Memref sig .tc .vmem S1x2048x2048 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S2048x2048 .bf16) (harg5 : arg5.IsWhole) (hc0 : ¬cond0_0 i)
    (x0 : Vec Ideal S512x2048 .bf16) (x1 : Vec Ideal S1x2048x2048 .f32) (x2 : Vec Ideal S512x2048 .f32) (xs0 : Vec Ideal S2048x2048 .bf16) :
    out0_B_3 c i arg1 harg1 arg2 harg2 arg3 harg3 arg4 harg4 arg5 harg5 hc0 x0 x1 x2 xs0 = k0_pay2 x2 x0 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  sl_unfold_words
  rw [View.canon_unit_zero hz2]
  simp only [View.readAt_eq_ld, harg1.read_unread, harg3.read_unread, harg5.read_unread, View.ld_unit_zero (S := S512x2048) hz2, View.ld_unit_zero (S := S2048x2048) hz2]

/-! ## The blocks a point reads -/

variable (m : (ℓ : Loc nD τ sig) → Buf (Elt Ideal) ℓ)

/-- Row `n` of the attention's output. -/
def O (c : Dev nD) (n : Fin 8192) (j : Fin 2048) : EReal := m ((c.tc : Thread nD τ).loc main_arg0) (ix2 n j)
/-- The matrix. -/
def W (c : Dev nD) (i j : Fin 2048) : EReal := m ((c.tc : Thread nD τ).loc main_arg1) (ix3 0 i j)
/-- Row `n` of the two sequences laid end to end. -/
def X (c : Dev nD) (n : Fin 8192) (j : Fin 2048) : EReal := m ((c.tc : Thread nD τ).loc main_arg2) (ix3 ⟨n.val / 4096, by omega⟩ ⟨n.val % 4096, by omega⟩ j)

theorem V_o (c : Dev nD) (n : Fin 8192) (j : Fin 2048) : (V m c main_arg0 : Vec Ideal S8192x2048 .bf16) (ix2 n j) = O m c n j := by
  rw [V_main_arg0]
  rfl

theorem V_w (c : Dev nD) (i j : Fin 2048) : (V m c main_arg1 : Vec Ideal S1x2048x2048 .f32) (ix3 0 i j) = W m c i j := by
  rw [V_main_arg1]
  rfl

theorem V_x (c : Dev nD) (n : Fin 8192) (j : Fin 2048) : (V m c main_v0 : Vec Ideal S8192x2048 .f32) (ix2 n j) = X m c n j := by
  entry_read
  refine shapeCast_apply (s := S2x4096x2048) (t := S8192x2048) _ _ (ix2 n j) (ix3 ⟨n.val / 4096, by omega⟩ ⟨n.val % 4096, by omega⟩ j) ?_
  rw [Shape.rowMajor_val_three, Shape.rowMajor_val_two]
  show (n.val / 4096 * 4096 + n.val % 4096) * 2048 + j.val = n.val * 2048 + j.val
  omega

/-- Which block each window brings at a point. -/
theorem idx_facts : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

theorem lt16 (t : Fin cfg0.N) : t.val < 16 := lt_of_lt_of_eq t.isLt (show cfg0.N = 16 from N_0)

theorem iblk0 (c : Dev nD) (t : Fin cfg0.N) (r : Fin 512) (j : Fin 2048) :
    (iblk m c 0 t : Vec Ideal S512x2048 .bf16) (ix2 r j) = O m c ⟨512 * t.val + r.val, by have := lt16 t; omega⟩ j := by
  rw [← V_o]; unfold iblk
  refine congrArg (V m c main_arg0) (Shape.idx_ext₂ ?_ ?_) <;> blk_simp [idx_facts t]
  show t.val * 512 + r.val = 512 * t.val + r.val
  omega

theorem iblk1 (c : Dev nD) (t : Fin cfg0.N) (i j : Fin 2048) : (iblk m c 1 t : Vec Ideal S1x2048x2048 .f32) (ix3 0 i j) = W m c i j := by
  rw [← V_w]; unfold iblk
  refine congrArg (V m c main_arg1) (funext fun a => Fin.ext ?_)
  match a with
  | ⟨0, _⟩ => blk_simp [idx_facts t]
  | ⟨1, _⟩ => blk_simp [idx_facts t]
  | ⟨2, _⟩ => blk_simp [idx_facts t]

theorem iblk2 (c : Dev nD) (t : Fin cfg0.N) (r : Fin 512) (j : Fin 2048) :
    (iblk m c 2 t : Vec Ideal S512x2048 .f32) (ix2 r j) = X m c ⟨512 * t.val + r.val, by have := lt16 t; omega⟩ j := by
  rw [← V_x]; unfold iblk
  refine congrArg (V m c main_v0) (Shape.idx_ext₂ ?_ ?_) <;> blk_simp [idx_facts t]
  show t.val * 512 + r.val = 512 * t.val + r.val
  omega

theorem idx2 {a b : ℕ} (y : (⟨2, ![a, b]⟩ : Shape).Idx) : y = ix2 (y 0) (y 1) := funext fun i => match i with
  | ⟨0, _⟩ => rfl
  | ⟨1, _⟩ => rfl

/-! ## From point to point -/

/-- After every point the scratch holds the matrix. -/
theorem scratch_eq (c : Dev nD) : ∀ (n : ℕ) (hn : n < cfg0.N), (outsAt0 m c n hn).2 = (fun y => W m c (y 0) (y 1) : Vec Ideal S2048x2048 .bf16)
  | 0, hn => by
    rw [outsAt0_A m c ⟨0, hn⟩ (Nat.zero_mod _)]
    dsimp only
    rw [soutA_eq]
    funext y
    exact (congrArg (k0_pay1 (F := Ideal) _) (idx2 y)).trans ((copy_pay _ (y 0) (y 1)).trans (iblk1 m c _ (y 0) (y 1)))
  | n + 1, hn => by
    have h16 := lt16 ⟨n + 1, hn⟩
    rw [outsAt0_B m c ⟨n + 1, hn⟩ (by show ¬(n + 1) % 16 = 0; dsimp only at h16; omega)]
    exact scratch_eq c n (Nat.lt_of_succ_lt hn)

/-- What a point leaves in its block. -/
theorem block_eq (c : Dev nD) (t : Fin cfg0.N) (r : Fin 512) (j : Fin 2048) :
    (outsAt0 m c t.val t.isLt).1 (ix2 r j) = X m c ⟨512 * t.val + r.val, by have := lt16 t; omega⟩ j
      + ∑ k, O m c ⟨512 * t.val + r.val, by have := lt16 t; omega⟩ k * W m c k j := by
  by_cases h0 : t.val % 16 = 0
  · rw [outsAt0_A m c t h0]
    dsimp only
    rw [outA_eq, sum_pay]
    exact congrArg₂ (· + ·) (iblk2 m c t r j) (Finset.sum_congr rfl fun k _ => congrArg₂ (· * ·) (iblk0 m c t r k) ((copy_pay _ k j).trans (iblk1 m c t k j)))
  · rw [outsAt0_B m c t h0]
    dsimp only
    rw [outB_eq, sum_pay, scratch_eq]
    exact congrArg₂ (· + ·) (iblk2 m c t r j) (Finset.sum_congr rfl fun k _ => congrArg₂ (· * ·) (iblk0 m c t r k) rfl)

/-! ## The array at the end -/

/-- The result. -/
def sumOut (c : Dev nD) : Vec Ideal S8192x2048 .f32 := fun i => X m c (i 0) (i 1) + ∑ k, O m c (i 0) k * W m c k (i 1)

theorem sum_array (c : Dev nD) : (dats m 0 c).arrAt 3 cfg0.N = sumOut m c := by
  refine (dats m 0 c).arrAt_eq_of_covers 3 _ (by decide +kernel) fun t hf y => ?_
  blk_simp
  rw [after0_3]
  refine (congrArg (outsAt0 m c t.val t.isLt).1 (idx2 y)).trans ((block_eq m c t (y 0) (y 1)).trans ?_)
  unfold sumOut
  refine congrArg₂ (fun (a : Fin 8192) (b : Fin 2048) => X m c a b + ∑ k, O m c a k * W m c k b) (Fin.ext ?_) (Fin.ext ?_)
  · blk_simp [idx_facts t]
    show 512 * t.val + (y 0).val = t.val * 512 + (y 0).val
    omega
  · blk_simp [idx_facts t]

/-- Every run of the kernel ends with the sum in its result and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v1) = sumOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (sum_array m c), (h c).2⟩)
    (Cert.Kernel6Ideal.Value.run_blocks m ρ)

end Cert.Kernel6Ideal.Hand

namespace Cert.Reference6Ideal.Hand

open Cert.Reference6Ideal Cert.Reference6Ideal.Gen Cert.Reference6Ideal.Read
open Idealize.ShloMosaic hiding ix1 ix2 ix3
open Idealize.ShloMosaic.ValueIdx

variable (x0 : (⟨S8192x2048, .bf16⟩ : BufTy).Contents (Elt Ideal)) (x1 : (⟨S1x2048x2048, .f32⟩ : BufTy).Contents (Elt Ideal)) (x2 : (⟨S2x4096x2048, .f32⟩ : BufTy).Contents (Elt Ideal))

/-- The reference at an element. -/
theorem ref_sum (n : Fin 8192) (j : Fin 2048) :
    val_main_v4 (F := Ideal) x0 x1 x2 (ix2 n j) = (show EReal from x2 (ix3 ⟨n.val / 4096, by omega⟩ ⟨n.val % 4096, by omega⟩ j)) + ∑ k : Fin 2048, (show EReal from x0 (ix2 n k)) * (show EReal from x1 (ix3 0 k j)) := by
  have e : idx_main_v0 (ix2 n j) = ix3 ⟨n.val / 4096, by omega⟩ ⟨n.val % 4096, by omega⟩ j := funext fun q => match q with
    | ⟨0, _⟩ => Fin.ext (by show (n.val * 2048 + j.val) / 8388608 = n.val / 4096; omega)
    | ⟨1, _⟩ => Fin.ext (by show (n.val * 2048 + j.val) / 2048 % 4096 = n.val % 4096; omega)
    | ⟨2, _⟩ => Fin.ext (by show (n.val * 2048 + j.val) % 2048 = j.val; omega)
  have el : ∀ k, lidx_main_v3 (ix2 n j) k = ix2 n k := fun k => funext fun q => match q with
    | ⟨0, _⟩ => rfl
    | ⟨1, _⟩ => rfl
  have er : ∀ k, idx_main_v2 (ridx_main_v3 (ix2 n j) k) = ix3 0 k j := fun k => funext fun q => match q with
    | ⟨0, _⟩ => rfl
    | ⟨1, _⟩ => Fin.ext (by show (k.val * 2048 + j.val) / 2048 % 2048 = k.val; omega)
    | ⟨2, _⟩ => Fin.ext (by show (k.val * 2048 + j.val) % 2048 = j.val; omega)
  rw [val_main_v4_apply, val_main_v0_apply, val_main_v3_apply, e]
  simp only [val_main_v2_apply, val_main_v1_apply, el, er]
  rfl

end Cert.Reference6Ideal.Hand

namespace Cert.Kernel6Ideal.Hand

open Cert.Kernel6Ideal Cert.Kernel6Ideal.Gen
open Idealize.ShloMosaic hiding ix1 ix2 ix3
open Idealize.SL.Sem Idealize.ShloMosaic.TcCoe Idealize.ShloMosaic.ValueIdx

/-! ## The claims -/

/-- Kernel and reference end with equal results. -/
theorem algebraic_all : Cert.algebraic_Kernel6Ideal_Reference6Ideal := fun m g m' g' _ hagree =>
  ⟨sumOut m, run_value m g, (θ_run Cert.Reference6Ideal.defs _ _).mono (fun _ h c => by
    obtain ⟨h4, hargs⟩ := h c
    obtain ⟨a0, a1, a2⟩ := hagree c
    refine ⟨h4.trans ?_, hargs⟩
    rw [Cert.Reference6Ideal.Read.val_main_v4_eq, a0, a1, a2]
    funext i
    exact (congrArg _ (idx2 i)).trans (Cert.Reference6Ideal.Hand.ref_sum _ _ _ (i 0) (i 1)))
    (Cert.Reference6Ideal.Value.run m' g')⟩

/-- The kernel as compiled and the kernel over exact numbers run one body. -/
theorem body_same : Cert.Kernel6.defs₀ (F := Bits) = Cert.Kernel6Ideal.defs₀ := by
  unfold Cert.Kernel6.defs₀ Cert.Kernel6Ideal.defs₀
  refine congrArg Defs.onTc (funext fun l => funext fun a => ?_)
  match l, a with
  | 0, (t, s) => rfl

/-- So they have one table of bodies. -/
theorem defs_same : Cert.Kernel6.defs (F := Bits) = Cert.Kernel6Ideal.defs := by
  unfold Cert.Kernel6.defs Cert.Kernel6Ideal.defs
  rw [body_same]
  rfl

/-- The frame of the kernel as compiled. -/
theorem frame_kernel : Cert.quiescent_Kernel6 := fun m ρ _ => by
  rw [defs_same]
  exact (θ_run Cert.Kernel6Ideal.defs _ _).mono (fun _ h => h) (frame (F := Bits) m ρ)

/-- The frame of the kernel over exact numbers. -/
theorem frame_kernel_ideal : Cert.quiescent_Kernel6Ideal := fun m ρ _ => frame (F := Ideal) m ρ

end Cert.Kernel6Ideal.Hand

end
-- ==== Proof.LruInSample.Value.lean ====
module

public import proofs.«01_k».proof.Proof.LruIn.Value
public import proofs.«01_k».proof.Proof.Gen.Kernel7
public import proofs.«01_k».proof.Proof.Gen.Kernel7Ideal.Value
public import proofs.«01_k».proof.Proof.Gen.Reference7Ideal.Read
public import proofs.«01_k».proof.Defs
public import Idealize.ShloMosaic.Lib.Pipeline.ValueKit

/-! The projection into the recurrent block over the sample's rows: what the kernel's two arrays hold, and that the
reference's results are the same. -/

@[expose] public section

set_option maxRecDepth 16384

noncomputable section

namespace Cert.Kernel7Ideal.Hand

open Cert.Kernel7Ideal Cert.Kernel7Ideal.Gen Cert.Rows
open Cert.Kernel5Ideal.Hand (gelu proj gelu_vec hz2 hz3 idx2)
open Idealize.ShloMosaic hiding ix1 ix2 ix3
open Idealize.SL.Sem Idealize.ShloMosaic.TcCoe Idealize.ShloMosaic.ValueIdx
open Idealize.ShloMosaic.Pipeline (Dat)

/-! ## The payloads at an element -/

/-- The normalised rows. -/
theorem norm_pay (x : FVec Ideal S256x2048 .f32) (g : FVec Ideal S1x1x2048 .f32) (r : Fin 256) (j : Fin 2048) :
    k0_pay1 (F := Ideal) x g (ix2 r j) = nrm (fun k => x (ix2 r k)) (fun k => g (ix3 0 0 k)) j := by
  unfold k0_pay1; simp only [shapeCast_self]
  rw [truncf_apply]; exact norm_apply (M := 256) x g _ _ _ _ _ _ _ r j

/-- The branch. -/
theorem branch_pay (h : FVec Ideal S256x2048 .bf16) (w : FVec Ideal S1x2048x2048 .bf16) (r : Fin 256) (j : Fin 2048) :
    k0_pay3 (F := Ideal) h w (ix2 r j) = ∑ k : Fin 2048, h (ix2 r k) * w (ix3 0 k j) := by
  unfold k0_pay3
  refine (dot_apply (M := 256) (K := 2048) (N := 2048) h _ r j).trans (Finset.sum_congr rfl fun k _ => ?_)
  rw [shapeCast_1ab_ab_apply]

/-- The gate. -/
theorem gate_pay (h : FVec Ideal S256x2048 .bf16) (w : FVec Ideal S1x2048x2048 .bf16) (r : Fin 256) (j : Fin 2048) :
    k0_pay2 (F := Ideal) h w (ix2 r j) = gelu (∑ k : Fin 2048, h (ix2 r k) * w (ix3 0 k j)) :=
  (gelu_vec (k0_pay3 (F := Ideal) h w) (ix2 r j)).trans (congrArg gelu (branch_pay h w r j))

/-! ## What a point leaves -/

section Outs

variable (c : Dev nD) (i : grid0.Coords) (arg2 : Memref sig .tc .vmem S256x2048 .f32) (harg2 : arg2.IsWhole) (arg3 : Memref sig .tc .vmem S1x1x2048 .f32) (harg3 : arg3.IsWhole)
  (arg4 : Memref sig .tc .vmem S1x2048x2048 .bf16) (harg4 : arg4.IsWhole) (arg5 : Memref sig .tc .vmem S1x2048x2048 .bf16) (harg5 : arg5.IsWhole)
  (arg6 : Memref sig .tc .vmem S256x2048 .f32) (harg6 : arg6.IsWhole) (arg7 : Memref sig .tc .vmem S256x2048 .f32) (harg7 : arg7.IsWhole)
  (arg8 : Memref sig .tc .vmem S256x2048 .bf16) (harg8 : arg8.IsWhole) (hc0 : cond0_0 i)
  (x0 : Vec Ideal S256x2048 .f32) (x1 : Vec Ideal S1x1x2048 .f32) (x2 x3 : Vec Ideal S1x2048x2048 .bf16)

/-- The branch's block: the payload of the point's input blocks. -/
theorem out4_eq :
    out0_A_4 c i arg2 harg2 arg3 harg3 arg4 harg4 arg5 harg5 arg6 harg6 arg7 harg7 arg8 harg8 hc0 x0 x1 x2 x3 = k0_pay3 (k0_pay1 x0 x1) x2 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz2, View.readCov_unit_zero (S := S256x2048) _ hz2]
  simp only [View.readAt_eq_ld, harg2.read_unread, harg3.read_unread, harg4.read_unread, View.ld_unit_zero (S := S256x2048) hz2, View.ld_unit_zero (S := S1x1x2048) hz3, View.ld_unit_zero (S := S1x2048x2048) hz3]

/-- The gate's block: the payload of the point's input blocks. -/
theorem out5_eq :
    out0_A_5 c i arg2 harg2 arg3 harg3 arg4 harg4 arg5 harg5 arg6 harg6 arg7 harg7 arg8 harg8 hc0 x0 x1 x2 x3 = k0_pay2 (k0_pay1 x0 x1) x3 := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_unit_zero hz2, View.readCov_unit_zero (S := S256x2048) _ hz2]
  simp only [View.readAt_eq_ld, harg2.read_unread, harg3.read_unread, harg5.read_unread, View.ld_unit_zero (S := S256x2048) hz2, View.ld_unit_zero (S := S1x1x2048) hz3, View.ld_unit_zero (S := S1x2048x2048) hz3]

end Outs

/-! ## The blocks a point reads -/

variable (m : (ℓ : Loc nD τ sig) → Buf (Elt Ideal) ℓ)

/-- Row `n` of the two sequences laid end to end. -/
def X (c : Dev nD) (n : Fin 256) (j : Fin 2048) : EReal := m ((c.tc : Thread nD τ).loc main_arg0) (ix3 ⟨n.val / 8, by omega⟩ ⟨n.val % 8, by omega⟩ j)
/-- The gain. -/
def Gn (c : Dev nD) (j : Fin 2048) : EReal := m ((c.tc : Thread nD τ).loc main_arg1) (ix2 1 j)
/-- The matrix. -/
def W (c : Dev nD) (i : Fin 2048) (n : Fin 4096) : EReal := m ((c.tc : Thread nD τ).loc main_arg2) (ix3 0 i n)

theorem V_x (c : Dev nD) (n : Fin 256) (j : Fin 2048) : (V m c main_v0 : Vec Ideal S256x2048 .f32) (ix2 n j) = X m c n j := by
  entry_read
  refine shapeCast_apply (s := S32x8x2048) (t := S256x2048) _ _ (ix2 n j) (ix3 ⟨n.val / 8, by omega⟩ ⟨n.val % 8, by omega⟩ j) ?_
  rw [Shape.rowMajor_val_three, Shape.rowMajor_val_two]
  show (n.val / 8 * 8 + n.val % 8) * 2048 + j.val = n.val * 2048 + j.val
  omega

theorem V_gain (c : Dev nD) (l : Fin 2) (j : Fin 2048) : (V m c main_v2 : Vec Ideal S2x1x2048 .f32) (ix3 l 0 j) = m ((c.tc : Thread nD τ).loc main_arg1) (ix2 l j) := by
  entry_read
  refine shapeCast_apply (s := S2x2048) (t := S2x1x2048) _ _ (ix3 l 0 j) (ix2 l j) ?_
  rw [Shape.rowMajor_val_three, Shape.rowMajor_val_two]
  show l.val * 2048 + j.val = (l.val * 1 + 0) * 2048 + j.val
  omega

theorem V_w (c : Dev nD) (i : Fin 2048) (n : Fin 4096) : (V m c main_v1 : Vec Ideal S1x2048x4096 .bf16) (ix3 0 i n) = W m c i n := by
  entry_read
  rw [truncf_apply]
  rfl

/-- Which block each window brings at a point. -/
theorem idx_facts : ∀ t : Fin cfg0.N, win0_0.index t = ![t.val, 0] ∧ win0_1.index t = ![1, 0, 0] ∧ win0_2.index t = ![0, 0, 0]
    ∧ win0_3.index t = ![0, 0, 1] ∧ win0_4.index t = ![t.val, 0] ∧ win0_5.index t = ![t.val, 0] :=
  (by decide +kernel : ∀ t : Fin grid0.N, _)

theorem lt1 (t : Fin cfg0.N) : t.val < 1 := lt_of_lt_of_eq t.isLt (show cfg0.N = 1 from N_0)

theorem iblk0 (c : Dev nD) (t : Fin cfg0.N) (r : Fin 256) (j : Fin 2048) :
    (iblk m c 0 t : Vec Ideal S256x2048 .f32) (ix2 r j) = X m c ⟨256 * t.val + r.val, by have := lt1 t; omega⟩ j := by
  rw [← V_x]; unfold iblk
  refine congrArg (V m c main_v0) (Shape.idx_ext₂ ?_ ?_) <;> blk_simp [idx_facts t]
  show r.val = 256 * 0 + r.val
  omega

theorem iblk1 (c : Dev nD) (t : Fin cfg0.N) (j : Fin 2048) : (iblk m c 1 t : Vec Ideal S1x1x2048 .f32) (ix3 0 0 j) = Gn m c j := by
  refine Eq.trans ?_ (V_gain m c 1 j)
  unfold iblk
  refine congrArg (V m c main_v2) (funext fun a => Fin.ext ?_)
  match a with
  | ⟨0, _⟩ =>
    blk_simp [idx_facts t]
    rfl
  | ⟨1, _⟩ => blk_simp [idx_facts t]
  | ⟨2, _⟩ => blk_simp [idx_facts t]

theorem iblk2 (c : Dev nD) (t : Fin cfg0.N) (i j : Fin 2048) : (iblk m c 2 t : Vec Ideal S1x2048x2048 .bf16) (ix3 0 i j) = W m c i ⟨j.val, by omega⟩ := by
  rw [← V_w]; unfold iblk
  refine congrArg (V m c main_v1) (funext fun a => Fin.ext ?_)
  match a with
  | ⟨0, _⟩ => blk_simp [idx_facts t]
  | ⟨1, _⟩ => blk_simp [idx_facts t]
  | ⟨2, _⟩ => blk_simp [idx_facts t]

theorem iblk3 (c : Dev nD) (t : Fin cfg0.N) (i j : Fin 2048) : (iblk m c 3 t : Vec Ideal S1x2048x2048 .bf16) (ix3 0 i j) = W m c i ⟨2048 + j.val, by omega⟩ := by
  rw [← V_w]; unfold iblk
  refine congrArg (V m c main_v1) (funext fun a => Fin.ext ?_)
  match a with
  | ⟨0, _⟩ => blk_simp [idx_facts t]
  | ⟨1, _⟩ => blk_simp [idx_facts t]
  | ⟨2, _⟩ =>
    blk_simp [idx_facts t]

/-! ## The arrays at the end -/

/-- The branch. -/
def branchOut (c : Dev nD) : Vec Ideal S256x2048 .f32 := fun i => proj (X m c (i 0)) (Gn m c) (fun k => W m c k ⟨(i 1).val, Nat.lt_of_lt_of_le (i 1).isLt (by decide)⟩)
/-- The gate. -/
def gateOut (c : Dev nD) : Vec Ideal S256x2048 .f32 := fun i => gelu (proj (X m c (i 0)) (Gn m c) (fun k => W m c k ⟨2048 + (i 1).val, Nat.add_lt_add_left (i 1).isLt 2048⟩))

/-- The branch's array at the end. -/
theorem branch_array (c : Dev nD) : (dats m 0 c).arrAt 4 cfg0.N = branchOut m c := by
  refine (dats m 0 c).arrAt_eq_of_covers 4 _ (by decide +kernel) fun t hf y => ?_
  blk_simp
  rw [after0_4]
  unfold outsAt0; dsimp only
  rw [out4_eq]
  refine (congrArg (k0_pay3 (F := Ideal) _ _) (idx2 y)).trans ((branch_pay _ _ (y 0) (y 1)).trans ?_)
  unfold branchOut proj
  refine Finset.sum_congr rfl fun k _ => ?_
  refine congrArg₂ _ ((norm_pay _ _ (y 0) k).trans (congrArg₂ (fun a b => nrm a b k) (funext fun k => ?_) (funext fun k => iblk1 m c t k))) ?_
  · refine (iblk0 m c t (y 0) k).trans (congrArg (X m c · k) (Fin.ext ?_))
    blk_simp [idx_facts t]
    show 256 * 0 + (y 0).val = (y 0).val
    omega
  · refine (iblk2 m c t k (y 1)).trans (congrArg (W m c k) (Fin.ext ?_))
    blk_simp [idx_facts t]

/-- The gate's array at the end. -/
theorem gate_array (c : Dev nD) : (dats m 0 c).arrAt 5 cfg0.N = gateOut m c := by
  refine (dats m 0 c).arrAt_eq_of_covers 5 _ (by decide +kernel) fun t hf y => ?_
  blk_simp
  rw [after0_5]
  unfold outsAt0; dsimp only
  rw [out5_eq]
  refine (congrArg (k0_pay2 (F := Ideal) _ _) (idx2 y)).trans ((gate_pay _ _ (y 0) (y 1)).trans ?_)
  unfold gateOut proj
  refine congrArg gelu (Finset.sum_congr rfl fun k _ => ?_)
  refine congrArg₂ _ ((norm_pay _ _ (y 0) k).trans (congrArg₂ (fun a b => nrm a b k) (funext fun k => ?_) (funext fun k => iblk1 m c t k))) ?_
  · refine (iblk0 m c t (y 0) k).trans (congrArg (X m c · k) (Fin.ext ?_))
    blk_simp [idx_facts t]
    show 256 * 0 + (y 0).val = (y 0).val
    omega
  · refine (iblk3 m c t k (y 1)).trans (congrArg (W m c k) (Fin.ext ?_))
    blk_simp [idx_facts t]

/-- Every run of the kernel ends with the branch and the gate in its results and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v3_0) = branchOut m c
      ∧ r.2.mem ((c.tc : Thread nD τ).loc main_v3_1) = gateOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (branch_array m c), (h c).2.1.trans (gate_array m c), (h c).2.2⟩)
    (Cert.Kernel7Ideal.Value.run_blocks m ρ)

end Cert.Kernel7Ideal.Hand

namespace Cert.Reference7Ideal.Hand

open Cert.Reference7Ideal Cert.Reference7Ideal.Gen Cert.Reference7Ideal.Read Cert.Rows Cert.Kernel7Ideal.Hand
open Cert.Kernel5Ideal.Hand (gelu proj gelu_vec hz2 hz3 idx2)
open Idealize.ShloMosaic hiding ix1 ix2 ix3
open Idealize.ShloMosaic.ValueIdx

/-! ## The reference at an element -/

/-- The normalised rows. -/
theorem ref_norm (x0 : (⟨S32x8x2048, .f32⟩ : BufTy).Contents (Elt Ideal)) (x1 : (⟨S2x2048, .f32⟩ : BufTy).Contents (Elt Ideal)) (a : Fin 32) (b : Fin 8) (j : Fin 2048) :
    val_main_v14 (F := Ideal) x0 x1 (ix3 a b j) = nrm (fun k => x0 (ix3 a b k)) (fun k => x1 (ix2 1 k)) j := by
  have e : ∀ k, idx_main_v3 (idx_main_v4 (idx_main_v10 (ix3 a b j))) k = ix3 a b k := fun k => funext fun i => match i with
    | ⟨0, _⟩ => rfl
    | ⟨1, _⟩ => rfl
    | ⟨2, _⟩ => rfl
  have eg : idx_main_v0 (idx_main_v1 (idx_main_v12 (idx_main_v13 (ix3 a b j)))) = ix2 1 j := funext fun i => match i with
    | ⟨0, _⟩ => rfl
    | ⟨1, _⟩ => Fin.ext (Nat.mod_eq_of_lt j.isLt)
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, e, eg, show (FloatOps.ofBits .f32 0x00000000#32 : Ideal .f32) = (0 : EReal) from Ideal.ofBits_zero_f32, zero_add]
  rfl

variable (x0 : (⟨S32x8x2048, .f32⟩ : BufTy).Contents (Elt Ideal)) (x1 : (⟨S2x2048, .f32⟩ : BufTy).Contents (Elt Ideal)) (x2 : (⟨S1x2048x4096, .f32⟩ : BufTy).Contents (Elt Ideal))

/-- The matrix. -/
theorem ref_w (i : Fin 2048) (n : Fin 4096) : val_main_v15 (F := Ideal) x2 (ix2 i n) = x2 (ix3 0 i n) := by
  rw [val_main_v15_apply]
  refine congrArg x2 (funext fun q => match q with
    | ⟨0, _⟩ => rfl
    | ⟨1, _⟩ => Fin.ext ?_
    | ⟨2, _⟩ => Fin.ext ?_)
  · show (i.val * 4096 + n.val) / 4096 % 2048 = i.val
    omega
  · show (i.val * 4096 + n.val) % 4096 = n.val
    omega

/-- The product, its rows laid end to end. -/
theorem ref_proj (n : Fin 256) (j : Fin 4096) :
    val_main_v17 (F := Ideal) x0 x1 x2 (ix2 n j) = proj (fun k => x0 (ix3 ⟨n.val / 8, by omega⟩ ⟨n.val % 8, by omega⟩ k)) (fun k => x1 (ix2 1 k)) (fun k => x2 (ix3 0 k j)) := by
  have e : idx_main_v17 (ix2 n j) = ix3 ⟨n.val / 8, by omega⟩ ⟨n.val % 8, by omega⟩ j := funext fun q => match q with
    | ⟨0, _⟩ => Fin.ext (by show (n.val * 4096 + j.val) / 32768 = n.val / 8; omega)
    | ⟨1, _⟩ => Fin.ext (by show (n.val * 4096 + j.val) / 4096 % 8 = n.val % 8; omega)
    | ⟨2, _⟩ => Fin.ext (by show (n.val * 4096 + j.val) % 4096 = j.val; omega)
  rw [val_main_v17_apply, e, val_main_v16_apply]
  unfold proj
  refine Finset.sum_congr rfl fun k _ => ?_
  refine (congrArg₂ (fun p q => val_main_v14 (F := Ideal) x0 x1 p * val_main_v15 (F := Ideal) x2 q) (x' := ix3 ⟨n.val / 8, by omega⟩ ⟨n.val % 8, by omega⟩ k) (y' := ix2 k j) ?_ ?_).trans (congrArg₂ _ (ref_norm x0 x1 _ _ k) (ref_w x2 k j))
  · exact funext fun i => match i with
    | ⟨0, _⟩ => rfl
    | ⟨1, _⟩ => rfl
    | ⟨2, _⟩ => rfl
  · exact funext fun i => match i with
    | ⟨0, _⟩ => rfl
    | ⟨1, _⟩ => rfl

/-- The branch. -/
theorem ref_branch (n : Fin 256) (j : Fin 2048) :
    val_main_v18 (F := Ideal) x0 x1 x2 (ix2 n j) = proj (fun k => x0 (ix3 ⟨n.val / 8, by omega⟩ ⟨n.val % 8, by omega⟩ k)) (fun k => x1 (ix2 1 k)) (fun k => x2 (ix3 0 k ⟨j.val, by omega⟩)) := by
  rw [val_main_v18_apply, ← ref_proj]
  refine congrArg _ (funext fun i => match i with
    | ⟨0, _⟩ => Fin.ext ?_
    | ⟨1, _⟩ => Fin.ext ?_)
  · rfl
  · rfl

/-- The gate before its gelu. -/
theorem ref_gate_in (n : Fin 256) (j : Fin 2048) :
    val_main_v19 (F := Ideal) x0 x1 x2 (ix2 n j) = proj (fun k => x0 (ix3 ⟨n.val / 8, by omega⟩ ⟨n.val % 8, by omega⟩ k)) (fun k => x1 (ix2 1 k)) (fun k => x2 (ix3 0 k ⟨2048 + j.val, by omega⟩)) := by
  rw [val_main_v19_apply, ← ref_proj]
  refine congrArg _ (funext fun i => match i with
    | ⟨0, _⟩ => Fin.ext ?_
    | ⟨1, _⟩ => Fin.ext ?_)
  · rfl
  · rfl

/-- The gate. -/
theorem ref_gate (i : S256x2048.Idx) : val_main_v32 (F := Ideal) x0 x1 x2 i = gelu (val_main_v19 (F := Ideal) x0 x1 x2 i) := by
  simp only [val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_cst_2_apply, val_main_cst_3_apply, val_main_cst_4_apply, val_main_cst_5_apply]
  generalize val_main_v19 (F := Ideal) x0 x1 x2 i = y
  rfl

end Cert.Reference7Ideal.Hand

namespace Cert.Kernel7Ideal.Hand

open Cert.Kernel7Ideal Cert.Kernel7Ideal.Gen Cert.Rows
open Cert.Kernel5Ideal.Hand (gelu proj gelu_vec hz2 hz3 idx2)
open Idealize.ShloMosaic hiding ix1 ix2 ix3
open Idealize.SL.Sem Idealize.ShloMosaic.TcCoe Idealize.ShloMosaic.ValueIdx

/-! ## The claims -/

/-- Kernel and reference end with equal results. -/
theorem algebraic_all : Cert.algebraic_Kernel7Ideal_Reference7Ideal := fun m g m' g' _ hagree =>
  ⟨branchOut m, gateOut m, run_value m g, (θ_run Cert.Reference7Ideal.defs _ _).mono (fun _ h c => by
    obtain ⟨h18, h32, hargs⟩ := h c
    obtain ⟨a0, a1, a2⟩ := hagree c
    refine ⟨h18.trans ?_, h32.trans ?_, hargs⟩
    · rw [Cert.Reference7Ideal.Read.val_main_v18_eq, a0, a1, a2]
      funext i
      exact (congrArg _ (idx2 i)).trans (Cert.Reference7Ideal.Hand.ref_branch _ _ _ (i 0) (i 1))
    · rw [Cert.Reference7Ideal.Read.val_main_v32_eq, a0, a1, a2]
      funext i
      refine (Cert.Reference7Ideal.Hand.ref_gate _ _ _ i).trans (congrArg gelu ?_)
      exact (congrArg _ (idx2 i)).trans (Cert.Reference7Ideal.Hand.ref_gate_in _ _ _ (i 0) (i 1)))
    (Cert.Reference7Ideal.Value.run m' g')⟩

/-- The kernel as compiled and the kernel over exact numbers run one body. -/
theorem body_same : Cert.Kernel7.defs₀ (F := Bits) = Cert.Kernel7Ideal.defs₀ := by
  unfold Cert.Kernel7.defs₀ Cert.Kernel7Ideal.defs₀
  refine congrArg Defs.onTc (funext fun l => funext fun a => ?_)
  match l, a with
  | 0, (t, s) => rfl

theorem defs_same : Cert.Kernel7.defs (F := Bits) = Cert.Kernel7Ideal.defs := by
  unfold Cert.Kernel7.defs Cert.Kernel7Ideal.defs
  rw [body_same]
  rfl

/-- The frame of the kernel as compiled. -/
theorem frame_kernel : Cert.quiescent_Kernel7 := fun m ρ _ => by
  rw [defs_same]
  exact (θ_run Cert.Kernel7Ideal.defs _ _).mono (fun _ h => h) (frame (F := Bits) m ρ)

/-- The frame of the kernel over exact numbers. -/
theorem frame_kernel_ideal : Cert.quiescent_Kernel7Ideal := fun m ρ _ => frame (F := Ideal) m ρ

end Cert.Kernel7Ideal.Hand

end
-- ==== Proof.Qkv.Payloads.lean ====
module

public import proofs.«01_k».proof.Proof.LruIn.Value
public import proofs.«01_k».proof.Proof.Gen.Kernel8
public import proofs.«01_k».proof.Proof.Gen.Kernel8Ideal.Value
public import Idealize.ShloMosaic.Lib.KernelVsHost
public import Idealize.ShloMosaic.Lib.Pipeline.ValueKit

/-! The projections to queries, keys and values with their rotary embedding: what the body stores at a point of the
grid, element by element, from the blocks that it reads. -/

@[expose] public section

set_option maxRecDepth 16384

noncomputable section

namespace Cert.Kernel8Ideal.Hand

open Cert.Kernel8Ideal Cert.Kernel8Ideal.Gen Cert.Rows
open Cert.Kernel5Ideal.Hand (hz2 hz3)
open Idealize.ShloMosaic hiding ix1 ix2 ix3
open Idealize.SL.Sem Idealize.ShloMosaic.TcCoe Idealize.ShloMosaic.ValueIdx

/-! ## Lanes -/

/-- The column of the same head that a rotation pairs with column `n`. -/
def pt (n : ℕ) : ℕ := if n % 64 < 32 then n + 32 else n - 32

/-- The partner of a column lies in the same heads. -/
theorem pt_lt {n N : ℕ} (h : n < 64 * N) : pt n < 64 * N := by
  unfold pt
  split <;> omega

/-- Whole heads in front do not matter to the partner. -/
theorem pt_add {o n : ℕ} (ho : o % 64 = 0) : o + pt n = pt (o + n) := by
  unfold pt
  split <;> split <;> omega

/-- The lanes in the first half of their head. -/
theorem first_half (r : Fin 1024) (l : Fin 128) : k0_pay10 (ix2 r l) = if l.val % 64 < 32 then 1#1 else 0#1 := by
  have h : ∀ l : Fin 128, k0_pay10 (ix2 (0 : Fin 1024) l) = if l.val % 64 < 32 then 1#1 else 0#1 := by decide +kernel
  exact (show k0_pay10 (ix2 r l) = k0_pay10 (ix2 0 l) from rfl).trans (h l)

/-- The lanes of the lower head. -/
theorem low_half (r : Fin 1024) (l : Fin 128) : k0_pay11 (ix2 r l) = if l.val < 64 then 1#1 else 0#1 := by
  have h : ∀ l : Fin 128, k0_pay11 (ix2 (0 : Fin 1024) l) = if l.val < 64 then 1#1 else 0#1 := by decide +kernel
  exact (show k0_pay11 (ix2 r l) = k0_pay11 (ix2 0 l) from rfl).trans (h l)

/-- A rotation of the lanes by `sb`. -/
theorem rot_apply {α : Type} (sb : BitVec 32) (x : S1024x128.Idx → α) (h : S1024x128.Rotates 1 none) (r : Fin 1024) (l l' : Fin 128)
    (e : l'.val = (l.val + 128 - sb.toNat % 128) % 128) : dynamicRotate 1 sb none x h (ix2 r l) = x (ix2 r l') :=
  dynamicRotate_apply 1 sb x h (ix2 r l) (ix2 r l') fun b => match b with
    | ⟨0, _⟩ => rfl
    | ⟨1, _⟩ => e

/-- The rotated block: each lane times its cosine, and the lane that it is paired with times its sine. -/
theorem rope_vec {N : ℕ} (o : ℕ) (Y : FVec Ideal ⟨2, ![1024, N]⟩ .f32) (h : (⟨2, ![1024, N]⟩ : Shape).Slices ![0, o] S1024x128) (hr : S1024x128.Rotates 1 none)
    (c s : FVec Ideal S1024x128 .f32) (r : Fin 1024) (l : Fin 128) (ho : o + 128 ≤ N) :
    addf (mulf (extractStridedSlice S1024x128 ![0, o] Y h) c)
      (mulf (select k0_pay10 (dynamicRotate 1 96#32 none (extractStridedSlice S1024x128 ![0, o] Y h) hr) (dynamicRotate 1 32#32 none (extractStridedSlice S1024x128 ![0, o] Y h) hr)) s) (ix2 r l)
      = Y (ix2 r ⟨o + l.val, by omega⟩) * c (ix2 r l) + Y (ix2 r ⟨o + pt l.val, by have := pt_lt (n := l.val) (N := 2) l.isLt; omega⟩) * s (ix2 r l) := by
  have hs : ∀ l : Fin 128, extractStridedSlice S1024x128 ![0, o] Y h (ix2 r l) = Y (ix2 r ⟨o + l.val, by omega⟩) := fun l =>
    extractStridedSlice_apply _ _ _ _ _ fun a => match a with
      | ⟨0, _⟩ => by simp [ix2]
      | ⟨1, _⟩ => rfl
  show extractStridedSlice S1024x128 ![0, o] Y h (ix2 r l) * c (ix2 r l) + (if k0_pay10 (ix2 r l) = 1#1 then _ else _) * s (ix2 r l) = _
  rw [hs, first_half]
  have hp : pt l.val < 128 := pt_lt (N := 2) l.isLt
  by_cases hl : l.val % 64 < 32
  · rw [if_pos hl, if_pos rfl, rot_apply 96#32 _ hr r l ⟨pt l.val, hp⟩ (by show pt l.val = (l.val + 128 - 96 % 128) % 128; unfold pt; rw [if_pos hl]; omega), hs]
  · rw [if_neg hl, if_neg (by decide), rot_apply 32#32 _ hr r l ⟨pt l.val, hp⟩ (by show pt l.val = (l.val + 128 - 32 % 128) % 128; unfold pt; rw [if_neg hl]; omega), hs]

/-! ## The projections -/

/-- The normalised rows. -/
theorem norm_pay (x : FVec Ideal S1024x2048 .f32) (g : FVec Ideal S1x1x2048 .f32) (r : Fin 1024) (j : Fin 2048) :
    k0_pay12 (F := Ideal) x g (ix2 r j) = nrm (fun k => x (ix2 r k)) (fun k => g (ix3 0 0 k)) j := by
  unfold k0_pay12; simp only [shapeCast_self]
  rw [ValueIdx.truncf_apply]; exact norm_apply (M := 1024) x g _ _ _ _ _ _ _ r j

/-- The product with the query weights. -/
theorem q_pay (h : FVec Ideal S1024x2048 .bf16) (w : FVec Ideal S1x2048x1024 .bf16) (r : Fin 1024) (j : Fin 1024) :
    k0_pay13 (F := Ideal) h w (ix2 r j) = ∑ k : Fin 2048, h (ix2 r k) * w (ix3 0 k j) := by
  unfold k0_pay13
  refine (dot_apply (M := 1024) (K := 2048) (N := 1024) h _ r j).trans (Finset.sum_congr rfl fun k _ => ?_)
  rw [shapeCast_1ab_ab_apply]

/-- The product with the key or value weights. -/
theorem kv_pay (h : FVec Ideal S1024x2048 .bf16) (w : FVec Ideal S1x2048x512 .bf16) (r : Fin 1024) (j : Fin 512) :
    k0_pay27 (F := Ideal) h w (ix2 r j) = ∑ k : Fin 2048, h (ix2 r k) * w (ix3 0 k j) := by
  unfold k0_pay27
  refine (dot_apply (M := 1024) (K := 2048) (N := 512) h _ r j).trans (Finset.sum_congr rfl fun k _ => ?_)
  rw [shapeCast_1ab_ab_apply]

/-! ## What a point leaves -/

/-- An element of the rotated row: `y` the row's projection, `n` the column. -/
def rotd {N : ℕ} (y : Fin (64 * N) → EReal) (c s : Fin 128 → EReal) (n : Fin (64 * N)) : EReal :=
  y n * c ⟨n.val % 128, Nat.mod_lt _ (by decide)⟩ + y ⟨pt n.val, pt_lt n.isLt⟩ * s ⟨n.val % 128, Nat.mod_lt _ (by decide)⟩

variable (x0 : Vec Ideal S1024x2048 .f32) (x1 : Vec Ideal S1x1x2048 .f32) (x2 : Vec Ideal S1x2048x1024 .bf16) (x3 : Vec Ideal S1x2048x512 .bf16)
  (x4 x5 x6 x7 : Vec Ideal S1x1024x128 .f32)

/-- A row's projection by a block of columns. -/
def blockProj {N : ℕ} (w : FVec Ideal ⟨3, ![1, 2048, N]⟩ .bf16) (r : Fin 1024) (n : Fin N) : EReal :=
  ∑ k : Fin 2048, nrm (fun k => x0 (ix2 r k)) (fun k => x1 (ix3 0 0 k)) k * w (ix3 0 k n)

/-- The query product of a block. -/
theorem q_eq (r : Fin 1024) (n : Fin 1024) : k0_pay13 (F := Ideal) (k0_pay12 x0 x1) x2 (ix2 r n) = blockProj x0 x1 x2 r n :=
  (q_pay _ _ r n).trans (Finset.sum_congr rfl fun k _ => congrArg (· * _) (norm_pay x0 x1 r k))

/-- The key or value product of a block. -/
theorem kv_eq (r : Fin 1024) (n : Fin 512) : k0_pay27 (F := Ideal) (k0_pay12 x0 x1) x3 (ix2 r n) = blockProj x0 x1 x3 r n :=
  (kv_pay _ _ r n).trans (Finset.sum_congr rfl fun k _ => congrArg (· * _) (norm_pay x0 x1 r k))

/-- The rotated block of a projection. -/
theorem rope_eq {N : ℕ} (o : ℕ) (Y : FVec Ideal ⟨2, ![1024, 64 * N]⟩ .f32) (h : (⟨2, ![1024, 64 * N]⟩ : Shape).Slices ![0, o] S1024x128) (hr : S1024x128.Rotates 1 none)
    (c s : Vec Ideal S1x1024x128 .f32) (hc : S1x1024x128.ShapeCasts S1024x128) (r : Fin 1024) (l : Fin 128) (n : Fin (64 * N)) (ho : o % 128 = 0) (hn : n.val = o + l.val) (hb : o + 128 ≤ 64 * N) :
    addf (mulf (extractStridedSlice S1024x128 ![0, o] Y h) (shapeCast S1024x128 c hc))
      (mulf (select k0_pay10 (dynamicRotate 1 96#32 none (extractStridedSlice S1024x128 ![0, o] Y h) hr) (dynamicRotate 1 32#32 none (extractStridedSlice S1024x128 ![0, o] Y h) hr)) (shapeCast S1024x128 s hc)) (ix2 r l)
      = rotd (fun n => Y (ix2 r n)) (fun l => c (ix3 0 r l)) (fun l => s (ix3 0 r l)) n := by
  have e1 : (⟨o + l.val, by omega⟩ : Fin (64 * N)) = n := Fin.ext hn.symm
  have e2 : (⟨o + pt l.val, by have := pt_lt (n := l.val) (N := 2) l.isLt; omega⟩ : Fin (64 * N)) = ⟨pt n.val, pt_lt n.isLt⟩ :=
    Fin.ext (by show o + pt l.val = pt n.val; rw [hn]; exact pt_add (by omega))
  have e3 : l = ⟨n.val % 128, Nat.mod_lt _ (by decide)⟩ := Fin.ext (by show l.val = n.val % 128; omega)
  refine (rope_vec o Y h hr _ _ r l hb).trans ?_
  rw [e1, e2, shapeCast_1ab_ab_apply, shapeCast_1ab_ab_apply]
  unfold rotd
  rw [← e3]

/-- The lane of the head that a pair repeats: the even heads' pairs take the lower half of a block of lanes. -/
theorem pair_low (v : FVec Ideal S1024x128 .f32) (hr : S1024x128.Rotates 1 none) (hb) (r : Fin 1024) (l : Fin 128) :
    truncf (F := Ideal) (φ := .f32) .bf16 (select k0_pay11 v (dynamicRotate 1 64#32 none v hr)) hb (ix2 r l) = v (ix2 r ⟨l.val % 64, by omega⟩) := by
  rw [ValueIdx.truncf_apply]
  show (if k0_pay11 (ix2 r l) = 1#1 then _ else _) = _
  rw [low_half]
  by_cases h : l.val < 64
  · rw [if_pos h, if_pos rfl]
    exact congrArg (fun l => v (ix2 r l)) (Fin.ext (by show l.val = l.val % 64; omega))
  · rw [if_neg h, if_neg (by decide)]
    exact rot_apply 64#32 v hr r l ⟨l.val % 64, by omega⟩ (by show l.val % 64 = (l.val + 128 - 64 % 128) % 128; omega)

/-- The odd heads' pairs take the upper half. -/
theorem pair_high (v : FVec Ideal S1024x128 .f32) (hr : S1024x128.Rotates 1 none) (hb) (r : Fin 1024) (l : Fin 128) :
    truncf (F := Ideal) (φ := .f32) .bf16 (select k0_pay11 (dynamicRotate 1 64#32 none v hr) v) hb (ix2 r l) = v (ix2 r ⟨64 + l.val % 64, by omega⟩) := by
  rw [ValueIdx.truncf_apply]
  show (if k0_pay11 (ix2 r l) = 1#1 then _ else _) = _
  rw [low_half]
  by_cases h : l.val < 64
  · rw [if_pos h, if_pos rfl]
    exact rot_apply 64#32 v hr r l ⟨64 + l.val % 64, by omega⟩ (by show 64 + l.val % 64 = (l.val + 128 - 64 % 128) % 128; omega)
  · rw [if_neg h, if_neg (by decide)]
    exact congrArg (fun l => v (ix2 r l)) (Fin.ext (by show l.val = 64 + l.val % 64; omega))

/-- A row of queries. -/
def qBlock (r : Fin 1024) (n : Fin 1024) : EReal :=
  rotd (N := 16) (blockProj x0 x1 x2 r) (fun l => x4 (ix3 0 r l)) (fun l => x5 (ix3 0 r l)) n * (FloatOps.ofBits .f32 0x3E000000#32 : Ideal .f32)
/-- A row of keys, or of values. -/
def kvBlock (r : Fin 1024) (n : Fin 512) : EReal :=
  rotd (N := 8) (blockProj x0 x1 x3 r) (fun l => x6 (ix3 0 r l)) (fun l => x7 (ix3 0 r l)) n

/-- Two heads of the rotated queries. -/
theorem q_piece (o : ℕ) (h : S1024x1024.Slices ![0, o] S1024x128) (hr : S1024x128.Rotates 1 none) (hc : S1x1024x128.ShapeCasts S1024x128) (hb) (r : Fin 1024) (l : Fin 128) (n : Fin 1024)
    (ho : o % 128 = 0) (hn : n.val = o + l.val) (ho' : o + 128 ≤ 1024) :
    truncf (F := Ideal) (φ := .f32) .bf16 (mulf (addf (mulf (extractStridedSlice S1024x128 ![0, o] (k0_pay13 (F := Ideal) (k0_pay12 x0 x1) x2) h) (shapeCast S1024x128 x4 hc))
      (mulf (select k0_pay10 (dynamicRotate 1 96#32 none (extractStridedSlice S1024x128 ![0, o] (k0_pay13 (F := Ideal) (k0_pay12 x0 x1) x2) h) hr) (dynamicRotate 1 32#32 none (extractStridedSlice S1024x128 ![0, o] (k0_pay13 (F := Ideal) (k0_pay12 x0 x1) x2) h) hr)) (shapeCast S1024x128 x5 hc)))
      (broadcast S1024x128 (FloatOps.ofBits .f32 0x3E000000#32))) hb (ix2 r l) = qBlock x0 x1 x2 x4 x5 r n := by
  rw [ValueIdx.truncf_apply]
  refine congrArg (· * (FloatOps.ofBits .f32 0x3E000000#32 : Ideal .f32)) ((rope_eq (N := 16) o _ h hr x4 x5 hc r l n ho hn ho').trans ?_)
  exact congrArg (fun y => rotd (N := 16) y _ _ n) (funext fun n => q_eq x0 x1 x2 r n)

/-- Two heads of the rotated keys or values. -/
theorem kv_piece (o : ℕ) (h : S1024x512.Slices ![0, o] S1024x128) (hr : S1024x128.Rotates 1 none) (hc : S1x1024x128.ShapeCasts S1024x128) (r : Fin 1024) (l : Fin 128) (n : Fin 512)
    (ho : o % 128 = 0) (hn : n.val = o + l.val) (ho' : o + 128 ≤ 512) :
    addf (mulf (extractStridedSlice S1024x128 ![0, o] (k0_pay27 (F := Ideal) (k0_pay12 x0 x1) x3) h) (shapeCast S1024x128 x6 hc))
      (mulf (select k0_pay10 (dynamicRotate 1 96#32 none (extractStridedSlice S1024x128 ![0, o] (k0_pay27 (F := Ideal) (k0_pay12 x0 x1) x3) h) hr) (dynamicRotate 1 32#32 none (extractStridedSlice S1024x128 ![0, o] (k0_pay27 (F := Ideal) (k0_pay12 x0 x1) x3) h) hr)) (shapeCast S1024x128 x7 hc)) (ix2 r l) = kvBlock x0 x1 x3 x6 x7 r n :=
  (rope_eq (N := 8) o _ h hr x6 x7 hc r l n ho hn ho').trans (congrArg (fun y => rotd (N := 8) y _ _ n) (funext fun n => kv_eq x0 x1 x3 r n))

/-- An index of a matrix by its two coordinates. -/
theorem ex2 {M N : ℕ} (x : (⟨2, ![M, N]⟩ : Shape).Idx) : ∃ r l, x = ix2 r l := ⟨x 0, x 1, Cert.Kernel5Ideal.Hand.idx2 x⟩

/-- The queries' block. -/
theorem out8_at (r n : Fin 1024) : out0_8 x0 x1 x2 x3 x4 x5 x6 x7 (ix2 r n) = qBlock x0 x1 x2 x4 x5 r n := by
  have e0 : View.ld x0 r0_0 = x0 := View.ld_unit_zero (S := S1024x2048) hz2 _ x0
  have e1 : View.ld x1 r0_1 = x1 := View.ld_unit_zero (S := S1x1x2048) hz3 _ x1
  have e2 : View.ld x2 r0_2 = x2 := View.ld_unit_zero (S := S1x2048x1024) hz3 _ x2
  have e4 : View.ld x4 r0_3 = x4 := View.ld_unit_zero (S := S1x1024x128) hz3 _ x4
  have e5 : View.ld x5 r0_3 = x5 := View.ld_unit_zero (S := S1x1024x128) hz3 _ x5
  canon_tiles x h
  all_goals
    obtain ⟨r', l, rfl⟩ := ex2 x
    obtain rfl : r = r' := Fin.ext h0
    simp only [k0_pay41, k0_pay43, k0_pay44, k0_pay45, k0_pay46, e0, e1, e2, e4, e5]
  · exact q_piece x0 x1 x2 x4 x5 896 _ _ _ _ r l n (by decide) h1 (by decide)
  · exact q_piece x0 x1 x2 x4 x5 768 slices_S1024x1024_o0_768_S1024x128 rotates_S1024x128_d1 _ _ r l n (by decide) h1 (by decide)
  · exact q_piece x0 x1 x2 x4 x5 640 _ _ _ _ r l n (by decide) h1 (by decide)
  · exact q_piece x0 x1 x2 x4 x5 512 _ _ _ _ r l n (by decide) h1 (by decide)
  · exact q_piece x0 x1 x2 x4 x5 384 _ _ _ _ r l n (by decide) h1 (by decide)
  · exact q_piece x0 x1 x2 x4 x5 256 _ _ _ _ r l n (by decide) h1 (by decide)
  · exact q_piece x0 x1 x2 x4 x5 128 _ _ _ _ r l n (by decide) h1 (by decide)
  · exact q_piece x0 x1 x2 x4 x5 0 _ _ _ _ r l n (by decide) (h1.trans (Nat.zero_add _).symm) (by decide)

/-- The keys' and values' block that stays. -/
theorem out9_at (r : Fin 1024) (n : Fin 512) : out0_9 x0 x1 x2 x3 x4 x5 x6 x7 (ix3 0 r n) = kvBlock x0 x1 x3 x6 x7 r n := by
  have e0 : View.ld x0 r0_0 = x0 := View.ld_unit_zero (S := S1024x2048) hz2 _ x0
  have e1 : View.ld x1 r0_1 = x1 := View.ld_unit_zero (S := S1x1x2048) hz3 _ x1
  have e3 : View.ld x3 r0_12 = x3 := View.ld_unit_zero (S := S1x2048x512) hz3 _ x3
  have e6 : View.ld x6 r0_3 = x6 := View.ld_unit_zero (S := S1x1024x128) hz3 _ x6
  have e7 : View.ld x7 r0_3 = x7 := View.ld_unit_zero (S := S1x1024x128) hz3 _ x7
  have cast : ∀ (v : FVec Ideal S1024x128 .f32) (h : S1024x128.ShapeCasts S1x1024x128) (r : Fin 1024) (l : Fin 128), shapeCast S1x1024x128 v h (ix3 0 r l) = v (ix2 r l) := fun v h r l =>
    shapeCast_apply (s := S1024x128) (t := S1x1024x128) _ _ (ix3 0 r l) (ix2 r l) (by
      rw [Shape.rowMajor_val_three, Shape.rowMajor_val_two]
      show r.val * 128 + l.val = (0 * 1024 + r.val) * 128 + l.val
      omega)
  canon_tiles x h
  all_goals
    obtain ⟨r', l, rfl⟩ : ∃ r l, x = ix3 0 r l := ⟨x 1, x 2, funext fun a => match a with
      | ⟨0, _⟩ => Subsingleton.elim (α := Fin 1) _ _
      | ⟨1, _⟩ => rfl
      | ⟨2, _⟩ => rfl⟩
    obtain rfl : r = r' := Fin.ext h1
    simp only [k0_pay1, k0_pay6, k0_pay31, k0_pay36, k0_pay41, k0_pay43, k0_pay47, k0_pay48, k0_pay49, k0_pay50, k0_pay51, e0, e1, e3, e6, e7]
    refine (cast _ _ r l).trans ?_
  · exact kv_piece x0 x1 x3 x6 x7 384 _ _ _ r l n (by decide) h2 (by decide)
  · exact kv_piece x0 x1 x3 x6 x7 256 _ _ _ r l n (by decide) h2 (by decide)
  · exact kv_piece x0 x1 x3 x6 x7 128 _ _ _ r l n (by decide) h2 (by decide)
  · exact kv_piece x0 x1 x3 x6 x7 0 _ _ _ r l n (by decide) (h2.trans (Nat.zero_add _).symm) (by decide)

/-- The block of pairs: each head of the keys or values twice. -/
theorem out10_at (r n : Fin 1024) :
    out0_10 x0 x1 x2 x3 x4 x5 x6 x7 (ix2 r n) = kvBlock x0 x1 x3 x6 x7 r ⟨n.val / 128 * 64 + n.val % 64, by omega⟩ := by
  have e0 : View.ld x0 r0_0 = x0 := View.ld_unit_zero (S := S1024x2048) hz2 _ x0
  have e1 : View.ld x1 r0_1 = x1 := View.ld_unit_zero (S := S1x1x2048) hz3 _ x1
  have e3 : View.ld x3 r0_12 = x3 := View.ld_unit_zero (S := S1x2048x512) hz3 _ x3
  have e6 : View.ld x6 r0_3 = x6 := View.ld_unit_zero (S := S1x1024x128) hz3 _ x6
  have e7 : View.ld x7 r0_3 = x7 := View.ld_unit_zero (S := S1x1024x128) hz3 _ x7
  canon_tiles x h
  all_goals
    obtain ⟨r', l, rfl⟩ := ex2 x
    obtain rfl : r = r' := Fin.ext h0
    have hn : (ix2 r n 1).val = n.val := rfl
    have hl' : (ix2 r l 1).val = l.val := rfl
    simp only [k0_pay41, k0_pay42, k0_pay43, k0_pay47, k0_pay48, k0_pay49, k0_pay50, k0_pay51, e0, e1, e3, e6, e7]
    have hl := l.isLt
  · exact (pair_high _ rotates_S1024x128_d1 _ r l).trans (kv_piece x0 x1 x3 x6 x7 384 _ _ _ r _ _ (by decide) (by show n.val / 128 * 64 + n.val % 64 = 384 + (64 + l.val % 64); omega) (by decide))
  · exact (pair_low _ rotates_S1024x128_d1 _ r l).trans (kv_piece x0 x1 x3 x6 x7 384 _ _ _ r _ _ (by decide) (by show n.val / 128 * 64 + n.val % 64 = 384 + l.val % 64; omega) (by decide))
  · exact (pair_high _ rotates_S1024x128_d1 _ r l).trans (kv_piece x0 x1 x3 x6 x7 256 _ _ _ r _ _ (by decide) (by show n.val / 128 * 64 + n.val % 64 = 256 + (64 + l.val % 64); omega) (by decide))
  · exact (pair_low _ rotates_S1024x128_d1 _ r l).trans (kv_piece x0 x1 x3 x6 x7 256 _ _ _ r _ _ (by decide) (by show n.val / 128 * 64 + n.val % 64 = 256 + l.val % 64; omega) (by decide))
  · exact (pair_high _ rotates_S1024x128_d1 _ r l).trans (kv_piece x0 x1 x3 x6 x7 128 _ _ _ r _ _ (by decide) (by show n.val / 128 * 64 + n.val % 64 = 128 + (64 + l.val % 64); omega) (by decide))
  · exact (pair_low _ rotates_S1024x128_d1 _ r l).trans (kv_piece x0 x1 x3 x6 x7 128 _ _ _ r _ _ (by decide) (by show n.val / 128 * 64 + n.val % 64 = 128 + l.val % 64; omega) (by decide))
  · exact (pair_high _ rotates_S1024x128_d1 _ r l).trans (kv_piece x0 x1 x3 x6 x7 0 _ _ _ r _ _ (by decide) (by show n.val / 128 * 64 + n.val % 64 = 0 + (64 + l.val % 64); omega) (by decide))
  · exact (pair_low _ rotates_S1024x128_d1 _ r l).trans (kv_piece x0 x1 x3 x6 x7 0 _ _ _ r _ _ (by decide) (by show n.val / 128 * 64 + n.val % 64 = 0 + l.val % 64; omega) (by decide))

end Cert.Kernel8Ideal.Hand
-- ==== Proof.Qkv.Value.lean ====
module

public import proofs.«01_k».proof.Proof.Qkv.Payloads
public import proofs.«01_k».proof.Proof.Gen.Reference8Ideal.Read
public import proofs.«01_k».proof.Defs

/-! The projections to queries, keys and values: what the kernel's three arrays hold. -/

@[expose] public section

set_option maxRecDepth 16384

noncomputable section

namespace Cert.Kernel8Ideal.Hand

open Cert.Kernel8Ideal Cert.Kernel8Ideal.Gen Cert.Rows
open Cert.Kernel5Ideal.Hand (proj idx2)
open Idealize.ShloMosaic hiding ix1 ix2 ix3 ix4
open Idealize.SL.Sem Idealize.ShloMosaic.TcCoe Idealize.ShloMosaic.ValueIdx
open Idealize.ShloMosaic.Pipeline (Dat)

/-! ## The rotary embedding of a row -/

/-- The angle by which position `t` turns frequency `f`. -/
def ang (t : Fin 4096) (f : Fin 32) : EReal :=
  (FloatOps.sitofp .f32 (BitVec.ofNat 32 t.val) : Ideal .f32) * FloatOps.hostPowf (F := Ideal) (FloatOps.ofBits .f32 0x461C4000#32)
    (FloatOps.mulf (FloatOps.hostNegf (FloatOps.sitofp .f32 (BitVec.ofNat 32 f.val))) (FloatOps.ofBits .f32 0x3D000000#32))
/-- The frequency of column `n`. -/
def fr (n : ℕ) : Fin 32 := ⟨n % 32, Nat.mod_lt _ (by decide)⟩
/-- The cosine at column `n`. -/
def cosA (t : Fin 4096) (n : ℕ) : EReal := FloatOps.hostUnary (F := Ideal) (φ := .f32) .cos (ang t (fr n))
/-- The sine at column `n`, negated in the first half of a head. -/
def sinA (t : Fin 4096) (n : ℕ) : EReal :=
  if n % 64 < 32 then -(FloatOps.hostUnary (F := Ideal) (φ := .f32) .sin (ang t (fr n)) : EReal) else FloatOps.hostUnary (F := Ideal) (φ := .f32) .sin (ang t (fr n))
/-- Column `n` of a row `y` rotated for position `t`. -/
def rope (t : Fin 4096) (y : ℕ → EReal) (n : ℕ) : EReal := y n * cosA t n + y (pt n) * sinA t n

/-- Row `ρ` of the sequences laid end to end. -/
def row (x : S2x4096x2048.Idx → EReal) (ρ : ℕ) (k : Fin 2048) : EReal := x (ix3 ⟨ρ / 4096 % 2, Nat.mod_lt _ (by decide)⟩ ⟨ρ % 4096, Nat.mod_lt _ (by decide)⟩ k)
/-- The position of row `ρ` in its sequence. -/
def pos (ρ : ℕ) : Fin 4096 := ⟨ρ % 4096, Nat.mod_lt _ (by decide)⟩
/-- Column `n` of the projection of row `ρ`. -/
def Pr (x : S2x4096x2048.Idx → EReal) (g : S2x2048.Idx → EReal) (w : S1x2048x3072.Idx → EReal) (ρ n : ℕ) : EReal :=
  proj (row x ρ) (fun k => g (ix2 0 k)) fun k => w (ix3 0 k ⟨n % 3072, Nat.mod_lt _ (by decide)⟩)
/-- The query's element. -/
def qAt (x : S2x4096x2048.Idx → EReal) (g : S2x2048.Idx → EReal) (w : S1x2048x3072.Idx → EReal) (ρ n : ℕ) : EReal :=
  rope (pos ρ) (Pr x g w ρ) n * (FloatOps.ofBits .f32 0x3E000000#32 : Ideal .f32)
/-- The key's element, and past column 512 the value's. -/
def kvAt (x : S2x4096x2048.Idx → EReal) (g : S2x2048.Idx → EReal) (w : S1x2048x3072.Idx → EReal) (ρ n : ℕ) : EReal :=
  if n < 512 then rope (pos ρ) (fun n => Pr x g w ρ (2048 + n)) n else Pr x g w ρ (2048 + n)

/-- A block's rotated row is the row's. -/
theorem rotd_rope {N : ℕ} (y : Fin (64 * N) → EReal) (c s : Fin 128 → EReal) (t : Fin 4096) (Y : ℕ → EReal) (b : ℕ) (hb : b % 128 = 0) (hy : ∀ n : Fin (64 * N), y n = Y (b + n.val))
    (hc : ∀ l : Fin 128, c l = cosA t l.val) (hs : ∀ l : Fin 128, s l = sinA t l.val) (n : Fin (64 * N)) : rotd y c s n = rope t Y (b + n.val) := by
  unfold rotd rope
  rw [hy, hy, hc, hs, ← pt_add (show b % 64 = 0 by omega)]
  unfold cosA sinA fr
  simp only [show n.val % 128 % 32 = (b + n.val) % 32 by omega, show n.val % 128 % 64 = (b + n.val) % 64 by omega]

variable (m : (ℓ : Loc nD τ sig) → Buf (Elt Ideal) ℓ)

/-! ## The tables -/

/-- The angles. -/
def angs : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32)) (mulf (Host.negf (sitofp .f32 (iotaInDim S32 32 0))) (broadcastInDim S32 ![] bcast_S_S32 (constant S_ .f32 0x3D000000#32))))))

/-- An entry of the array of angles. -/
theorem angs_apply (t : Fin 4096) (f : Fin 32) : angs (ix2 t f) = ang t f := rfl

/-- A table: each head's two halves `a` and `b`, two heads to a row; then a constant plane. -/
def table (a b : FVec Ideal S4096x32 .f32) (z : BitVec 32) : FVec Ideal S2x4096x128 .f32 :=
  concatenate S2x4096x128 0
    [⟨S1x4096x128, broadcastInDim S1x4096x128 ![1, 2] bcast_S4096x128_S1x4096x128_1_2 (shapeCast S4096x128 (broadcastInDim S1x4096x2x64 ![0, 1, 2, 3] bcast_S1x4096x1x64_S1x4096x2x64_0_1_2_3
      (shapeCast S1x4096x1x64 (concatenate S4096x64 1 [⟨S4096x32, a⟩, ⟨S4096x32, b⟩] concatenates_S4096x32_S4096x32_S4096x64_d1) shapeCasts_S4096x64_S1x4096x1x64)) shapeCasts_S1x4096x2x64_S4096x128)⟩,
     ⟨S1x4096x128, broadcastInDim S1x4096x128 ![1, 2] bcast_S4096x128_S1x4096x128_1_2 (broadcastInDim S4096x128 ![] bcast_S_S4096x128 (constant S_ .f32 z))⟩]
    concatenates_S1x4096x128_S1x4096x128_S2x4096x128_d0

/-- The table of cosines as the host leaves it. -/
theorem V_cos (c : Dev nD) : (V m c main_v27 : Vec Ideal S2x4096x128 .f32) = table (Host.cos angs) (Host.cos angs) 0x3F800000#32 := by
  unfold_abbrev_sides
  simp only [StableHlo.after_cons, StableHlo.after_nil]
  after_results_simp
  rfl

/-- The table of signed sines as the host leaves it. -/
theorem V_sin (c : Dev nD) : (V m c main_v31 : Vec Ideal S2x4096x128 .f32) = table (Host.negf (Host.sin angs)) (Host.sin angs) 0x00000000#32 := by
  unfold_abbrev_sides
  simp only [StableHlo.after_cons, StableHlo.after_nil]
  after_results_simp
  rfl

/-- The second plane of a table is constant. -/
theorem table_one (a b : FVec Ideal S4096x32 .f32) (z : BitVec 32) (t : Fin 4096) (l : Fin 128) : table a b z (ix3 1 t l) = (FloatOps.ofBits .f32 z : Ideal .f32) := by
  unfold table
  exact (concatenate_pair_apply_right (t := S2x4096x128) (s₁ := S1x4096x128) (s₂ := S1x4096x128) 0 _ _ _ (ix3 1 t l) rfl rfl (ix3 (0 : Fin 1) t l) (fun b hb => match b with
    | ⟨0, _⟩ => absurd rfl hb
    | ⟨1, _⟩ => rfl
    | ⟨2, _⟩ => rfl) rfl).trans rfl

/-- The first plane of a table: its two halves by column. -/
theorem table_zero (a b : FVec Ideal S4096x32 .f32) (z : BitVec 32) (t : Fin 4096) (l : Fin 128) :
    table a b z (ix3 0 t l) = if l.val % 64 < 32 then a (ix2 t (fr l.val)) else b (ix2 t (fr l.val)) := by
  unfold table
  refine (concatenate_pair_apply_left (t := S2x4096x128) (s₁ := S1x4096x128) (s₂ := S1x4096x128) 0 _ _ _ (ix3 0 t l) rfl (ix3 (0 : Fin 1) t l) fun a => match a with
    | ⟨0, _⟩ => rfl
    | ⟨1, _⟩ => rfl
    | ⟨2, _⟩ => rfl).trans ?_
  refine (broadcastInDim_apply _ _ _ (ix3 (0 : Fin 1) t l) (ix2 t l) fun a => match a with
    | ⟨0, _⟩ => rfl
    | ⟨1, _⟩ => rfl).trans ?_
  refine (shapeCast_apply (s := S1x4096x2x64) (t := S4096x128) _ _ (ix2 t l) (ix4 (0 : Fin 1) t (⟨l.val / 64, by omega⟩ : Fin 2) (⟨l.val % 64, by omega⟩ : Fin 64)) ?_).trans ?_
  · rw [Shape.rowMajor_val_four, Shape.rowMajor_val_two]
    show ((0 * 4096 + t.val) * 2 + l.val / 64) * 64 + l.val % 64 = t.val * 128 + l.val
    omega
  refine (broadcastInDim_apply _ _ _ (ix4 (0 : Fin 1) t (⟨l.val / 64, by omega⟩ : Fin 2) (⟨l.val % 64, by omega⟩ : Fin 64)) (ix4 (0 : Fin 1) t (0 : Fin 1) (⟨l.val % 64, by omega⟩ : Fin 64)) fun a => match a with
    | ⟨0, _⟩ => rfl
    | ⟨1, _⟩ => rfl
    | ⟨2, _⟩ => rfl
    | ⟨3, _⟩ => rfl).trans ?_
  refine (shapeCast_apply (s := S4096x64) (t := S1x4096x1x64) _ _ (ix4 (0 : Fin 1) t (0 : Fin 1) (⟨l.val % 64, by omega⟩ : Fin 64)) (ix2 t (⟨l.val % 64, by omega⟩ : Fin 64)) ?_).trans ?_
  · rw [Shape.rowMajor_val_four, Shape.rowMajor_val_two]
    show t.val * 64 + l.val % 64 = ((0 * 4096 + t.val) * 1 + 0) * 64 + l.val % 64
    omega
  by_cases h : l.val % 64 < 32
  · rw [if_pos h]
    exact concatenate_pair_apply_left (t := S4096x64) 1 a b _ (ix2 t (⟨l.val % 64, by omega⟩ : Fin 64)) rfl (ix2 t (fr l.val)) fun q => match q with
      | ⟨0, _⟩ => rfl
      | ⟨1, _⟩ => show l.val % 32 = l.val % 64 by omega
  · rw [if_neg h]
    exact concatenate_pair_apply_right (t := S4096x64) 1 a b _ (ix2 t (⟨l.val % 64, by omega⟩ : Fin 64)) rfl rfl (ix2 t (fr l.val)) (fun q hq => match q with
      | ⟨0, _⟩ => rfl
      | ⟨1, _⟩ => absurd rfl hq) (show l.val % 32 + 32 = l.val % 64 by omega)

/-! ## The blocks a point reads -/

/-- The rows, laid end to end. -/
theorem V_x (c : Dev nD) (n : Fin 8192) (j : Fin 2048) : (V m c main_v32 : Vec Ideal S8192x2048 .f32) (ix2 n j) = row (m ((c.tc : Thread nD τ).loc main_arg0)) n.val j := by
  entry_read
  refine shapeCast_apply (s := S2x4096x2048) (t := S8192x2048) _ _ (ix2 n j) (ix3 ⟨n.val / 4096 % 2, by omega⟩ ⟨n.val % 4096, by omega⟩ j) ?_
  rw [Shape.rowMajor_val_three, Shape.rowMajor_val_two]
  show (n.val / 4096 % 2 * 4096 + n.val % 4096) * 2048 + j.val = n.val * 2048 + j.val
  omega

/-- The gains, one row per layer. -/
theorem V_gain (c : Dev nD) (l : Fin 2) (j : Fin 2048) : (V m c main_v34 : Vec Ideal S2x1x2048 .f32) (ix3 l 0 j) = m ((c.tc : Thread nD τ).loc main_arg1) (ix2 l j) := by
  entry_read
  refine shapeCast_apply (s := S2x2048) (t := S2x1x2048) _ _ (ix3 l 0 j) (ix2 l j) ?_
  rw [Shape.rowMajor_val_three, Shape.rowMajor_val_two]
  show l.val * 2048 + j.val = (l.val * 1 + 0) * 2048 + j.val
  omega

/-- The weights: the cast changes nothing. -/
theorem V_w (c : Dev nD) (i : Fin 2048) (n : Fin 3072) : (V m c main_v33 : Vec Ideal S1x2048x3072 .bf16) (ix3 0 i n) = m ((c.tc : Thread nD τ).loc main_arg2) (ix3 0 i ⟨n.val % 3072, Nat.mod_lt _ (by decide)⟩) := by
  entry_read
  rw [ValueIdx.truncf_apply]
  exact congrArg (fun n => m ((c.tc : Thread nD τ).loc main_arg2) (ix3 0 i n)) (Fin.ext (Nat.mod_eq_of_lt n.isLt).symm)

/-- Which block each window brings at a point. -/
theorem idx_facts : ∀ t : Fin cfg0.N, win0_0.index t = ![t.val % 8, 0] ∧ win0_1.index t = ![0, 0, 0] ∧ win0_2.index t = ![0, 0, t.val / 8]
    ∧ win0_3.index t = ![0, 0, 4 + t.val / 8] ∧ win0_4.index t = ![0, t.val % 4, 0] ∧ win0_5.index t = ![0, t.val % 4, 0] ∧ win0_6.index t = ![t.val / 8, t.val % 4, 0]
    ∧ win0_7.index t = ![t.val / 8, t.val % 4, 0] ∧ win0_8.index t = ![t.val % 8, t.val / 8] ∧ win0_9.index t = ![t.val % 8 / 4, 0, t.val / 8] ∧ win0_10.index t = ![t.val % 8, t.val / 8] :=
  (by decide +kernel : ∀ t : Fin grid0.N, _)

/-- A point is less than 16. -/
theorem lt16 (t : Fin cfg0.N) : t.val < 16 := lt_of_lt_of_eq t.isLt (show cfg0.N = 16 from N_0)

/-- The rows of a point. -/
theorem iblk0 (c : Dev nD) (t : Fin cfg0.N) (r : Fin 1024) (j : Fin 2048) :
    (iblk m c 0 t : Vec Ideal S1024x2048 .f32) (ix2 r j) = row (m ((c.tc : Thread nD τ).loc main_arg0)) (1024 * (t.val % 8) + r.val) j := by
  refine Eq.trans ?_ (V_x m c ⟨1024 * (t.val % 8) + r.val, by omega⟩ j)
  unfold iblk
  refine congrArg (V m c main_v32) (Shape.idx_ext₂ ?_ ?_) <;> blk_simp [idx_facts t]
  show t.val % 8 * 1024 + r.val = 1024 * (t.val % 8) + r.val
  omega

/-- The gain of a point. -/
theorem iblk1 (c : Dev nD) (t : Fin cfg0.N) (j : Fin 2048) : (iblk m c 1 t : Vec Ideal S1x1x2048 .f32) (ix3 0 0 j) = m ((c.tc : Thread nD τ).loc main_arg1) (ix2 0 j) := by
  refine Eq.trans ?_ (V_gain m c 0 j)
  unfold iblk
  refine congrArg (V m c main_v34) (funext fun a => Fin.ext ?_)
  match a with
  | ⟨0, _⟩ =>
    blk_simp [idx_facts t]
    rfl
  | ⟨1, _⟩ => blk_simp [idx_facts t]
  | ⟨2, _⟩ => blk_simp [idx_facts t]

/-- The query weights of a point. -/
theorem iblk2 (c : Dev nD) (t : Fin cfg0.N) (i : Fin 2048) (n : Fin 1024) :
    (iblk m c 2 t : Vec Ideal S1x2048x1024 .bf16) (ix3 0 i n) = m ((c.tc : Thread nD τ).loc main_arg2) (ix3 0 i ⟨(1024 * (t.val / 8) + n.val) % 3072, Nat.mod_lt _ (by decide)⟩) := by
  have := lt16 t
  refine Eq.trans ?_ (V_w m c i ⟨1024 * (t.val / 8) + n.val, by omega⟩)
  unfold iblk
  refine congrArg (V m c main_v33) (funext fun a => Fin.ext ?_)
  match a with
  | ⟨0, _⟩ => blk_simp [idx_facts t]
  | ⟨1, _⟩ => blk_simp [idx_facts t]
  | ⟨2, _⟩ =>
    blk_simp [idx_facts t]
    show t.val / 8 * 1024 + n.val = 1024 * (t.val / 8) + n.val
    omega

/-- The key or value weights of a point. -/
theorem iblk3 (c : Dev nD) (t : Fin cfg0.N) (i : Fin 2048) (n : Fin 512) :
    (iblk m c 3 t : Vec Ideal S1x2048x512 .bf16) (ix3 0 i n) = m ((c.tc : Thread nD τ).loc main_arg2) (ix3 0 i ⟨(2048 + (512 * (t.val / 8) + n.val)) % 3072, Nat.mod_lt _ (by decide)⟩) := by
  have := lt16 t
  refine Eq.trans ?_ (V_w m c i ⟨2048 + (512 * (t.val / 8) + n.val), by omega⟩)
  unfold iblk
  refine congrArg (V m c main_v33) (funext fun a => Fin.ext ?_)
  match a with
  | ⟨0, _⟩ => blk_simp [idx_facts t]
  | ⟨1, _⟩ => blk_simp [idx_facts t]
  | ⟨2, _⟩ =>
    blk_simp [idx_facts t]
    show (4 + t.val / 8) * 512 + n.val = 2048 + (512 * (t.val / 8) + n.val)
    omega

/-- The cosines for a point's queries. -/
theorem iblk4 (c : Dev nD) (t : Fin cfg0.N) (r : Fin 1024) (l : Fin 128) :
    (iblk m c 4 t : Vec Ideal S1x1024x128 .f32) (ix3 0 r l) = (V m c main_v27 : Vec Ideal S2x4096x128 .f32) (ix3 0 ⟨1024 * (t.val % 4) + r.val, by omega⟩ l) := by
  unfold iblk
  refine congrArg (V m c main_v27) (funext fun a => Fin.ext ?_)
  match a with
  | ⟨0, _⟩ =>
    blk_simp [idx_facts t]
    rfl
  | ⟨1, _⟩ =>
    blk_simp [idx_facts t]
    show t.val % 4 * 1024 + r.val = 1024 * (t.val % 4) + r.val
    omega
  | ⟨2, _⟩ => blk_simp [idx_facts t]

/-- The sines for a point's queries. -/
theorem iblk5 (c : Dev nD) (t : Fin cfg0.N) (r : Fin 1024) (l : Fin 128) :
    (iblk m c 5 t : Vec Ideal S1x1024x128 .f32) (ix3 0 r l) = (V m c main_v31 : Vec Ideal S2x4096x128 .f32) (ix3 0 ⟨1024 * (t.val % 4) + r.val, by omega⟩ l) := by
  unfold iblk
  refine congrArg (V m c main_v31) (funext fun a => Fin.ext ?_)
  match a with
  | ⟨0, _⟩ =>
    blk_simp [idx_facts t]
    rfl
  | ⟨1, _⟩ =>
    blk_simp [idx_facts t]
    show t.val % 4 * 1024 + r.val = 1024 * (t.val % 4) + r.val
    omega
  | ⟨2, _⟩ => blk_simp [idx_facts t]

/-- The table a point's keys or values are multiplied by. -/
theorem iblk6 (c : Dev nD) (t : Fin cfg0.N) (r : Fin 1024) (l : Fin 128) :
    (iblk m c 6 t : Vec Ideal S1x1024x128 .f32) (ix3 0 r l) = (V m c main_v27 : Vec Ideal S2x4096x128 .f32) (ix3 ⟨t.val / 8, by have := lt16 t; omega⟩ ⟨1024 * (t.val % 4) + r.val, by omega⟩ l) := by
  unfold iblk
  refine congrArg (V m c main_v27) (funext fun a => Fin.ext ?_)
  match a with
  | ⟨0, _⟩ => blk_simp [idx_facts t]
  | ⟨1, _⟩ =>
    blk_simp [idx_facts t]
    show t.val % 4 * 1024 + r.val = 1024 * (t.val % 4) + r.val
    omega
  | ⟨2, _⟩ => blk_simp [idx_facts t]

/-- The table the exchanged halves of a point's keys or values are multiplied by. -/
theorem iblk7 (c : Dev nD) (t : Fin cfg0.N) (r : Fin 1024) (l : Fin 128) :
    (iblk m c 7 t : Vec Ideal S1x1024x128 .f32) (ix3 0 r l) = (V m c main_v31 : Vec Ideal S2x4096x128 .f32) (ix3 ⟨t.val / 8, by have := lt16 t; omega⟩ ⟨1024 * (t.val % 4) + r.val, by omega⟩ l) := by
  unfold iblk
  refine congrArg (V m c main_v31) (funext fun a => Fin.ext ?_)
  match a with
  | ⟨0, _⟩ => blk_simp [idx_facts t]
  | ⟨1, _⟩ =>
    blk_simp [idx_facts t]
    show t.val % 4 * 1024 + r.val = 1024 * (t.val % 4) + r.val
    omega
  | ⟨2, _⟩ => blk_simp [idx_facts t]

/-- An entry of the first plane of cosines. -/
theorem cos_at (c : Dev nD) (t : Fin 4096) (l : Fin 128) : (V m c main_v27 : Vec Ideal S2x4096x128 .f32) (ix3 0 t l) = cosA t l.val := by
  rw [V_cos, table_zero, ite_self]
  rfl

/-- An entry of the first plane of sines. -/
theorem sin_at (c : Dev nD) (t : Fin 4096) (l : Fin 128) : (V m c main_v31 : Vec Ideal S2x4096x128 .f32) (ix3 0 t l) = sinA t l.val := by
  rw [V_sin, table_zero]
  rfl

/-! ## The arrays at the end -/

/-- The queries. -/
def qOut (c : Dev nD) : Vec Ideal S8192x2048 .bf16 := fun i => qAt (m ((c.tc : Thread nD τ).loc main_arg0)) (m ((c.tc : Thread nD τ).loc main_arg1)) (m ((c.tc : Thread nD τ).loc main_arg2)) (i 0).val (i 1).val
/-- The keys and values of each sequence's last window. -/
def lastOut (c : Dev nD) : Vec Ideal S2x1024x1024 .f32 := fun i => kvAt (m ((c.tc : Thread nD τ).loc main_arg0)) (m ((c.tc : Thread nD τ).loc main_arg1)) (m ((c.tc : Thread nD τ).loc main_arg2)) (4096 * (i 0).val + 3072 + (i 1).val) (i 2).val
/-- The keys and values, each head twice. -/
def pairOut (c : Dev nD) : Vec Ideal S8192x2048 .bf16 := fun i => kvAt (m ((c.tc : Thread nD τ).loc main_arg0)) (m ((c.tc : Thread nD τ).loc main_arg1)) (m ((c.tc : Thread nD τ).loc main_arg2)) (i 0).val ((i 1).val / 128 * 64 + (i 1).val % 64)

/-- The queries of a point. -/
theorem q_blk (c : Dev nD) (t : Fin cfg0.N) (r n : Fin 1024) : qBlock (iblk m c 0 t) (iblk m c 1 t) (iblk m c 2 t) (iblk m c 4 t) (iblk m c 5 t) r n
    = qAt (m ((c.tc : Thread nD τ).loc main_arg0)) (m ((c.tc : Thread nD τ).loc main_arg1)) (m ((c.tc : Thread nD τ).loc main_arg2)) (1024 * (t.val % 8) + r.val) (1024 * (t.val / 8) + n.val) := by
  have ht : (⟨1024 * (t.val % 4) + r.val, by omega⟩ : Fin 4096) = pos (1024 * (t.val % 8) + r.val) := Fin.ext (by show 1024 * (t.val % 4) + r.val = (1024 * (t.val % 8) + r.val) % 4096; omega)
  unfold qBlock qAt
  refine congrArg (· * (FloatOps.ofBits .f32 0x3E000000#32 : Ideal .f32)) (rotd_rope (N := 16) _ _ _ _ _ _ (by omega) (fun n => ?_) (fun l => ?_) (fun l => ?_) n)
  · unfold blockProj Pr proj
    exact Finset.sum_congr rfl fun k _ => congrArg₂ _ (congrArg₂ (fun a b => nrm a b k) (funext fun k => iblk0 m c t r k) (funext fun k => iblk1 m c t k)) (iblk2 m c t k n)
  · exact (iblk4 m c t r l).trans ((cos_at m c _ l).trans (by rw [ht]))
  · exact (iblk5 m c t r l).trans ((sin_at m c _ l).trans (by rw [ht]))

/-- The keys or values of a point. -/
theorem kv_blk (c : Dev nD) (t : Fin cfg0.N) (r : Fin 1024) (n : Fin 512) : kvBlock (iblk m c 0 t) (iblk m c 1 t) (iblk m c 3 t) (iblk m c 6 t) (iblk m c 7 t) r n
    = kvAt (m ((c.tc : Thread nD τ).loc main_arg0)) (m ((c.tc : Thread nD τ).loc main_arg1)) (m ((c.tc : Thread nD τ).loc main_arg2)) (1024 * (t.val % 8) + r.val) (512 * (t.val / 8) + n.val) := by
  have ht : (⟨1024 * (t.val % 4) + r.val, by omega⟩ : Fin 4096) = pos (1024 * (t.val % 8) + r.val) := Fin.ext (by show 1024 * (t.val % 4) + r.val = (1024 * (t.val % 8) + r.val) % 4096; omega)
  have h16 := lt16 t
  have hy : ∀ n : Fin 512, blockProj (iblk m c 0 t) (iblk m c 1 t) (iblk m c 3 t) r n = Pr (m ((c.tc : Thread nD τ).loc main_arg0)) (m ((c.tc : Thread nD τ).loc main_arg1)) (m ((c.tc : Thread nD τ).loc main_arg2)) (1024 * (t.val % 8) + r.val) (2048 + (512 * (t.val / 8) + n.val)) := fun n => by
    unfold blockProj Pr proj
    exact Finset.sum_congr rfl fun k _ => congrArg₂ _ (congrArg₂ (fun a b => nrm a b k) (funext fun k => iblk0 m c t r k) (funext fun k => iblk1 m c t k)) (iblk3 m c t k n)
  unfold kvBlock kvAt
  by_cases h : t.val < 8
  · have h0 : (⟨t.val / 8, by omega⟩ : Fin 2) = 0 := Fin.ext (by show t.val / 8 = 0; omega)
    rw [if_pos (by omega)]
    refine rotd_rope (N := 8) _ _ _ _ (fun n => Pr _ _ _ _ (2048 + n)) _ (by omega) hy (fun l => ?_) (fun l => ?_) n
    · rw [iblk6, h0, cos_at, ht]
    · rw [iblk7, h0, sin_at, ht]
  · have h1 : (⟨t.val / 8, by omega⟩ : Fin 2) = 1 := Fin.ext (by show t.val / 8 = 1; omega)
    rw [if_neg (by omega)]
    unfold rotd
    dsimp only
    rw [iblk6, iblk7, h1, V_cos, V_sin, table_one, table_one, hy]
    show _ * Ideal.ofBits .f32 0x3F800000#32 + _ * Ideal.ofBits .f32 0x00000000#32 = _
    rw [Ideal.ofBits_one_f32, Ideal.ofBits_zero_f32, mul_one, mul_zero, add_zero]

/-- The array of queries at the end. -/
theorem q_array (c : Dev nD) : (dats m 0 c).arrAt 8 cfg0.N = qOut m c := by
  refine (dats m 0 c).arrAt_eq_of_covers 8 _ (by decide +kernel) fun t hf y => ?_
  blk_simp
  rw [after0_8]
  refine (congrArg (out0_8 _ _ _ _ _ _ _ _) (idx2 y)).trans ((out8_at _ _ _ _ _ _ _ _ (y 0) (y 1)).trans ((q_blk m c t (y 0) (y 1)).trans ?_))
  unfold qOut
  refine congrArg₂ _ ?_ ?_ <;> blk_simp [idx_facts t] <;> omega

/-- The array of doubled keys and values at the end. -/
theorem pair_array (c : Dev nD) : (dats m 0 c).arrAt 10 cfg0.N = pairOut m c := by
  refine (dats m 0 c).arrAt_eq_of_covers 10 _ (by decide +kernel) fun t hf y => ?_
  blk_simp
  rw [after0_10]
  refine (congrArg (out0_10 _ _ _ _ _ _ _ _) (idx2 y)).trans ((out10_at _ _ _ _ _ _ _ _ (y 0) (y 1)).trans ((kv_blk m c t (y 0) _).trans ?_))
  unfold pairOut
  refine congrArg₂ _ ?_ ?_ <;> blk_simp [idx_facts t] <;> dsimp only <;> omega

/-- The points after which a window's block goes back: the last of each sequence. -/
theorem flush9 : ∀ t : Fin cfg0.N, (cfg0.win 9).flush t = true → t.val % 4 = 3 := (by decide +kernel : ∀ t : Fin grid0.N, _)

/-- The array of each sequence's last rows at the end. -/
theorem last_array (c : Dev nD) : (dats m 0 c).arrAt 9 cfg0.N = lastOut m c := by
  refine (dats m 0 c).arrAt_eq_of_covers 9 _ (by decide +kernel) fun t hf y => ?_
  have h3 := flush9 t hf
  blk_simp
  rw [after0_9]
  refine (congrArg (out0_9 _ _ _ _ _ _ _ _) (?_ : y = ix3 0 (y 1) (y 2))).trans ((out9_at _ _ _ _ _ _ _ _ (y 1) (y 2)).trans ((kv_blk m c t (y 1) (y 2)).trans ?_))
  · exact funext fun a => match a with
      | ⟨0, _⟩ => Subsingleton.elim (α := Fin 1) _ _
      | ⟨1, _⟩ => rfl
      | ⟨2, _⟩ => rfl
  unfold lastOut
  refine congrArg₂ _ ?_ ?_ <;> blk_simp [idx_facts t] <;> omega

/-- Every run of the kernel ends with these arrays in its results and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v35_0) = qOut m c
      ∧ r.2.mem ((c.tc : Thread nD τ).loc main_v35_1) = lastOut m c
      ∧ r.2.mem ((c.tc : Thread nD τ).loc main_v35_2) = pairOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (q_array m c), (h c).2.1.trans (last_array m c), (h c).2.2.1.trans (pair_array m c), (h c).2.2.2⟩)
    (Cert.Kernel8Ideal.Value.run_blocks m ρ)

end Cert.Kernel8Ideal.Hand
-- ==== Proof.Qkv.Ref.lean ====
module

public import proofs.«01_k».proof.Proof.Qkv.Value

/-! The projections to queries, keys and values: the reference's results at an element, and the claims. -/

@[expose] public section

set_option maxRecDepth 16384

noncomputable section

namespace Cert.Reference8Ideal.Hand

open Cert.Reference8Ideal Cert.Reference8Ideal.Gen Cert.Reference8Ideal.Read Cert.Rows Cert.Kernel8Ideal.Hand
open Cert.Kernel5Ideal.Hand (proj)
open Idealize.ShloMosaic hiding ix1 ix2 ix3 ix4
open Idealize.ShloMosaic.ValueIdx

variable (x0 : (⟨S2x4096x2048, .f32⟩ : BufTy).Contents (Elt Ideal)) (x1 : (⟨S2x2048, .f32⟩ : BufTy).Contents (Elt Ideal)) (x2 : (⟨S1x2048x3072, .f32⟩ : BufTy).Contents (Elt Ideal))

/-- A row of the argument, by its place among the rows laid end to end. -/
theorem row_eq (a : Fin 2) (b : Fin 4096) (k : Fin 2048) : row x0 (4096 * a.val + b.val) k = x0 (ix3 a b k) :=
  congrArg₂ (fun a b => x0 (ix3 a b k)) (Fin.ext (by show (4096 * a.val + b.val) / 4096 % 2 = a.val; omega)) (Fin.ext (by show (4096 * a.val + b.val) % 4096 = b.val; omega))

/-- A row's place in its sequence. -/
theorem pos_eq (a : Fin 2) (b : Fin 4096) : pos (4096 * a.val + b.val) = b := Fin.ext (by show (4096 * a.val + b.val) % 4096 = b.val; omega)

/-- The normalised rows. -/
theorem v14_at (a : Fin 2) (b : Fin 4096) (j : Fin 2048) : val_main_v14 (F := Ideal) x0 x1 (ix3 a b j) = nrm (row x0 (4096 * a.val + b.val)) (fun k => x1 (ix2 0 k)) j := by
  have e : ∀ k, idx_main_v3 (idx_main_v4 (idx_main_v10 (ix3 a b j))) k = ix3 a b k := fun k => funext fun i => match i with
    | ⟨0, _⟩ => rfl
    | ⟨1, _⟩ => rfl
    | ⟨2, _⟩ => rfl
  have eg : idx_main_v0 (idx_main_v1 (idx_main_v12 (idx_main_v13 (ix3 a b j)))) = ix2 0 j := funext fun i => match i with
    | ⟨0, _⟩ => rfl
    | ⟨1, _⟩ => Fin.ext (Nat.mod_eq_of_lt j.isLt)
  rw [show row x0 (4096 * a.val + b.val) = fun k => x0 (ix3 a b k) from funext (row_eq x0 a b)]
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, e, eg, show (FloatOps.ofBits .f32 0x00000000#32 : Ideal .f32) = (0 : EReal) from Ideal.ofBits_zero_f32, zero_add]
  rfl

/-- The product. -/
theorem v16_at (i : S2x4096x3072.Idx) : val_main_v16 (F := Ideal) x0 x1 x2 i = Pr x0 x1 x2 (4096 * (i 0).val + (i 1).val) (i 2).val := by
  rw [val_main_v16_apply]
  unfold Pr proj
  refine Finset.sum_congr rfl fun k _ => congrArg₂ _ ((congrArg _ (?_ : _ = ix3 (i 0) (i 1) k)).trans (v14_at x0 x1 (i 0) (i 1) k)) ?_
  · exact funext fun q => match q with
    | ⟨0, _⟩ => rfl
    | ⟨1, _⟩ => rfl
    | ⟨2, _⟩ => rfl
  · have hn : (i 2).val < 3072 := (i 2).isLt
    rw [val_main_v15_apply]
    exact congrArg x2 (funext fun q => match q with
      | ⟨0, _⟩ => rfl
      | ⟨1, _⟩ => Fin.ext (by show (k.val * 3072 + (i 2).val) / 3072 % 2048 = k.val; omega)
      | ⟨2, _⟩ => Fin.ext (by show (k.val * 3072 + (i 2).val) % 3072 = (i 2).val % 3072; omega))

/-! ## The rotation -/

/-- The rotation on the first half of a head. -/
theorem rope_first (t : Fin 4096) (y : ℕ → EReal) (h : ℕ) (d : Fin 32) : rope t y (64 * h + d.val)
    = y (64 * h + d.val) * FloatOps.hostUnary (F := Ideal) (φ := .f32) .cos (ang t d) - y (64 * h + (32 + d.val)) * FloatOps.hostUnary (F := Ideal) (φ := .f32) .sin (ang t d) := by
  unfold rope cosA sinA
  rw [show fr (64 * h + d.val) = d from Fin.ext (by show (64 * h + d.val) % 32 = d.val; omega), if_pos (by omega),
    show pt (64 * h + d.val) = 64 * h + (32 + d.val) by unfold pt; rw [if_pos (by omega)]; omega, mul_neg, ← sub_eq_add_neg]

/-- The rotation on the second half of a head. -/
theorem rope_second (t : Fin 4096) (y : ℕ → EReal) (h : ℕ) (d : Fin 32) : rope t y (64 * h + (32 + d.val))
    = y (64 * h + (32 + d.val)) * FloatOps.hostUnary (F := Ideal) (φ := .f32) .cos (ang t d) + y (64 * h + d.val) * FloatOps.hostUnary (F := Ideal) (φ := .f32) .sin (ang t d) := by
  unfold rope cosA sinA
  rw [show fr (64 * h + (32 + d.val)) = d from Fin.ext (by show (64 * h + (32 + d.val)) % 32 = d.val; omega), if_neg (by omega),
    show pt (64 * h + (32 + d.val)) = 64 * h + d.val by unfold pt; rw [if_neg (by omega)]; omega]

/-- Two halves of each head side by side. -/
theorem halves {H : ℕ} (a b : (⟨4, ![2, 4096, H, 32]⟩ : Shape).Idx → EReal) (hc) (P : Fin 2 → Fin 4096 → Fin H → ℕ → EReal) (ha : ∀ p q h d, a (ix4 p q h d) = P p q h (64 * h.val + d.val))
    (hb : ∀ p q h d, b (ix4 p q h d) = P p q h (64 * h.val + (32 + d.val))) (p : Fin 2) (q : Fin 4096) (h : Fin H) (d : Fin 64) :
    concatenate ⟨4, ![2, 4096, H, 64]⟩ 3 [⟨⟨4, ![2, 4096, H, 32]⟩, a⟩, ⟨⟨4, ![2, 4096, H, 32]⟩, b⟩] hc (ix4 p q h d) = P p q h (64 * h.val + d.val) := by
  by_cases hd : d.val < 32
  · exact (concatenate_pair_apply_left (t := ⟨4, ![2, 4096, H, 64]⟩) 3 a b hc (ix4 p q h d) rfl (ix4 p q h ⟨d.val, hd⟩) fun i => match i with
      | ⟨0, _⟩ => rfl
      | ⟨1, _⟩ => rfl
      | ⟨2, _⟩ => rfl
      | ⟨3, _⟩ => rfl).trans (ha p q h _)
  · refine (concatenate_pair_apply_right (t := ⟨4, ![2, 4096, H, 64]⟩) 3 a b hc (ix4 p q h d) rfl rfl (ix4 p q h ⟨d.val - 32, by omega⟩) (fun i hi => match i with
      | ⟨0, _⟩ => rfl
      | ⟨1, _⟩ => rfl
      | ⟨2, _⟩ => rfl
      | ⟨3, _⟩ => absurd rfl hi) (show d.val - 32 + 32 = d.val by omega)).trans ((hb p q h _).trans (congrArg (P p q h) ?_))
    show 64 * h.val + (32 + (d.val - 32)) = 64 * h.val + d.val
    omega

/-! ## The queries -/

/-- The queries before the rotation, by head. -/
theorem v19_at (a : Fin 2) (b : Fin 4096) (h : Fin 32) (d : Fin 64) : val_main_v19 (F := Ideal) x0 x1 x2 (ix4 a b h d) = (Pr x0 x1 x2 (4096 * a.val + b.val)) (64 * h.val + d.val) := by
  rw [val_main_v19_apply, val_main_v18_apply, v16_at]
  refine congrArg₂ (Pr x0 x1 x2) ?_ ?_
  · show 4096 * ((((a.val * 4096 + b.val) * 32 + h.val) * 64 + d.val) / 8388608) + (((a.val * 4096 + b.val) * 32 + h.val) * 64 + d.val) / 2048 % 4096 = 4096 * a.val + b.val
    omega
  · show (((a.val * 4096 + b.val) * 32 + h.val) * 64 + d.val) % 2048 = (64 * h.val + d.val)
    omega

/-- The angles. -/
theorem v31_at (t : Fin 4096) (f : Fin 32) : val_main_v31 (F := Ideal) (ix2 t f) = ang t f := by
  simp only [val_main_v31_apply, val_main_v29_apply, val_main_v27_apply, val_main_v26_apply, val_main_v17_apply, val_main_v30_apply, val_main_v28_apply, val_main_v25_apply, val_main_v24_apply, val_main_v23_apply, val_main_v21_apply, val_main_v22_apply, val_main_cst_2_apply, val_main_cst_3_apply]
  rfl

/-- The rotated queries. -/
theorem v52_at (a : Fin 2) (b : Fin 4096) (h : Fin 32) (d : Fin 64) : val_main_v52 (F := Ideal) x0 x1 x2 (ix4 a b h d) = rope b (Pr x0 x1 x2 (4096 * a.val + b.val)) (64 * h.val + d.val) := by
  have e1 : ∀ a b h d, val_main_v36 (F := Ideal) x0 x1 x2 (ix4 a b h d) = (Pr x0 x1 x2 (4096 * a.val + b.val)) (64 * h.val + d.val) := fun a b h d => by
    rw [val_main_v36_apply]
    exact (congrArg _ (funext fun i => match i with
      | ⟨0, _⟩ => rfl
      | ⟨1, _⟩ => rfl
      | ⟨2, _⟩ => rfl
      | ⟨3, _⟩ => rfl)).trans (v19_at x0 x1 x2 a b h ⟨d.val, by omega⟩)
  have e2 : ∀ a b h d, val_main_v37 (F := Ideal) x0 x1 x2 (ix4 a b h d) = (Pr x0 x1 x2 (4096 * a.val + b.val)) (64 * h.val + (32 + d.val)) := fun a b h d => by
    rw [val_main_v37_apply]
    exact (congrArg _ (funext fun i => match i with
      | ⟨0, _⟩ => rfl
      | ⟨1, _⟩ => rfl
      | ⟨2, _⟩ => rfl
      | ⟨3, _⟩ => rfl)).trans (v19_at x0 x1 x2 a b h ⟨32 + d.val, by omega⟩)
  have ang_ix : ∀ (b : Fin 4096) (d : Fin 32) (i : S4096x32.Idx), i 0 = b → i 1 = d → val_main_v31 (F := Ideal) i = ang b d := fun b d i h0 h1 => by
    rw [← v31_at b d]
    exact congrArg _ (funext fun q => match q with
      | ⟨0, _⟩ => h0
      | ⟨1, _⟩ => h1)
  unfold val_main_v52
  refine halves _ _ _ (fun a b h n => rope b (Pr x0 x1 x2 (4096 * a.val + b.val)) n) (fun a b h d => ?_) (fun a b h d => ?_) a b h d
  · rw [rope_first, val_main_v44_apply, val_main_v40_apply, val_main_v43_apply, e1, e2, val_main_v39_apply, val_main_v38_apply, val_main_v33_apply, val_main_v32_apply, val_main_v42_apply, val_main_v41_apply, val_main_v35_apply, val_main_v34_apply, ang_ix b d _ rfl rfl]
    rfl
  · rw [rope_second, val_main_v51_apply, val_main_v47_apply, val_main_v50_apply, e1, e2, val_main_v46_apply, val_main_v45_apply, val_main_v33_apply, val_main_v32_apply, val_main_v49_apply, val_main_v48_apply, val_main_v35_apply, val_main_v34_apply, ang_ix b d _ rfl rfl]
    rfl

/-! ## The keys -/

/-- The keys before the rotation, by head. -/
theorem v54_at (a : Fin 2) (b : Fin 4096) (h : Fin 8) (d : Fin 64) : val_main_v54 (F := Ideal) x0 x1 x2 (ix4 a b h d) = (fun n => Pr x0 x1 x2 (4096 * a.val + b.val) (2048 + n)) (64 * h.val + d.val) := by
  rw [val_main_v54_apply, val_main_v53_apply, v16_at]
  refine congrArg₂ (Pr x0 x1 x2) ?_ ?_
  · show 4096 * ((((a.val * 4096 + b.val) * 8 + h.val) * 64 + d.val) / 2097152) + (((a.val * 4096 + b.val) * 8 + h.val) * 64 + d.val) / 512 % 4096 = 4096 * a.val + b.val
    omega
  · show 2048 + (((a.val * 4096 + b.val) * 8 + h.val) * 64 + d.val) % 512 = 2048 + (64 * h.val + d.val)
    omega

/-- The angles once more. -/
theorem v66_at (t : Fin 4096) (f : Fin 32) : val_main_v66 (F := Ideal) (ix2 t f) = ang t f := by
  simp only [val_main_v66_apply, val_main_v64_apply, val_main_v62_apply, val_main_v61_apply, val_main_v17_apply, val_main_v65_apply, val_main_v63_apply, val_main_v60_apply, val_main_v59_apply, val_main_v58_apply, val_main_v56_apply, val_main_v57_apply, val_main_cst_4_apply, val_main_cst_5_apply]
  rfl

/-- The rotated keys. -/
theorem v87_at (a : Fin 2) (b : Fin 4096) (h : Fin 8) (d : Fin 64) : val_main_v87 (F := Ideal) x0 x1 x2 (ix4 a b h d) = rope b (fun n => Pr x0 x1 x2 (4096 * a.val + b.val) (2048 + n)) (64 * h.val + d.val) := by
  have e1 : ∀ a b h d, val_main_v71 (F := Ideal) x0 x1 x2 (ix4 a b h d) = (fun n => Pr x0 x1 x2 (4096 * a.val + b.val) (2048 + n)) (64 * h.val + d.val) := fun a b h d => by
    rw [val_main_v71_apply]
    exact (congrArg _ (funext fun i => match i with
      | ⟨0, _⟩ => rfl
      | ⟨1, _⟩ => rfl
      | ⟨2, _⟩ => rfl
      | ⟨3, _⟩ => rfl)).trans (v54_at x0 x1 x2 a b h ⟨d.val, by omega⟩)
  have e2 : ∀ a b h d, val_main_v72 (F := Ideal) x0 x1 x2 (ix4 a b h d) = (fun n => Pr x0 x1 x2 (4096 * a.val + b.val) (2048 + n)) (64 * h.val + (32 + d.val)) := fun a b h d => by
    rw [val_main_v72_apply]
    exact (congrArg _ (funext fun i => match i with
      | ⟨0, _⟩ => rfl
      | ⟨1, _⟩ => rfl
      | ⟨2, _⟩ => rfl
      | ⟨3, _⟩ => rfl)).trans (v54_at x0 x1 x2 a b h ⟨32 + d.val, by omega⟩)
  have ang_ix : ∀ (b : Fin 4096) (d : Fin 32) (i : S4096x32.Idx), i 0 = b → i 1 = d → val_main_v66 (F := Ideal) i = ang b d := fun b d i h0 h1 => by
    rw [← v66_at b d]
    exact congrArg _ (funext fun q => match q with
      | ⟨0, _⟩ => h0
      | ⟨1, _⟩ => h1)
  unfold val_main_v87
  refine halves _ _ _ (fun a b h n => rope b (fun n => Pr x0 x1 x2 (4096 * a.val + b.val) (2048 + n)) n) (fun a b h d => ?_) (fun a b h d => ?_) a b h d
  · rw [rope_first, val_main_v79_apply, val_main_v75_apply, val_main_v78_apply, e1, e2, val_main_v74_apply, val_main_v73_apply, val_main_v68_apply, val_main_v67_apply, val_main_v77_apply, val_main_v76_apply, val_main_v70_apply, val_main_v69_apply, ang_ix b d _ rfl rfl]
    rfl
  · rw [rope_second, val_main_v86_apply, val_main_v82_apply, val_main_v85_apply, e1, e2, val_main_v81_apply, val_main_v80_apply, val_main_v68_apply, val_main_v67_apply, val_main_v84_apply, val_main_v83_apply, val_main_v70_apply, val_main_v69_apply, ang_ix b d _ rfl rfl]
    rfl

/-! ## The values -/

/-- The values, by head. -/
theorem v89_at (a : Fin 2) (b : Fin 4096) (h : Fin 8) (d : Fin 64) : val_main_v89 (F := Ideal) x0 x1 x2 (ix4 a b h d) = (fun n => Pr x0 x1 x2 (4096 * a.val + b.val) (2560 + n)) (64 * h.val + d.val) := by
  rw [val_main_v89_apply, val_main_v88_apply, v16_at]
  refine congrArg₂ (Pr x0 x1 x2) ?_ ?_
  · show 4096 * ((((a.val * 4096 + b.val) * 8 + h.val) * 64 + d.val) / 2097152) + (((a.val * 4096 + b.val) * 8 + h.val) * 64 + d.val) / 512 % 4096 = 4096 * a.val + b.val
    omega
  · show 2560 + (((a.val * 4096 + b.val) * 8 + h.val) * 64 + d.val) % 512 = 2560 + (64 * h.val + d.val)
    omega

/-- The keys, then the values. -/
theorem v90_at (a : Fin 2) (b : Fin 4096) (h : Fin 16) (d : Fin 64) : val_main_v90 (F := Ideal) x0 x1 x2 (ix4 a b h d) = kvAt x0 x1 x2 (4096 * a.val + b.val) (64 * h.val + d.val) := by
  unfold val_main_v90 kvAt
  by_cases hh : h.val < 8
  · rw [if_pos (by omega), pos_eq]
    exact (concatenate_pair_apply_left (t := S2x4096x16x64) (s₁ := S2x4096x8x64) (s₂ := S2x4096x8x64) 2 _ _ _ (ix4 a b h d) rfl (ix4 a b (⟨h.val, hh⟩ : Fin 8) d) fun i => match i with
      | ⟨0, _⟩ => rfl
      | ⟨1, _⟩ => rfl
      | ⟨2, _⟩ => rfl
      | ⟨3, _⟩ => rfl).trans (v87_at x0 x1 x2 a b _ d)
  · rw [if_neg (by omega)]
    refine (concatenate_pair_apply_right (t := S2x4096x16x64) (s₁ := S2x4096x8x64) (s₂ := S2x4096x8x64) 2 _ _ _ (ix4 a b h d) rfl rfl (ix4 a b (⟨h.val - 8, by omega⟩ : Fin 8) d) (fun i hi => match i with
      | ⟨0, _⟩ => rfl
      | ⟨1, _⟩ => rfl
      | ⟨2, _⟩ => absurd rfl hi
      | ⟨3, _⟩ => rfl) (show h.val - 8 + 8 = h.val by omega)).trans ((v89_at x0 x1 x2 a b _ d).trans (congrArg (Pr x0 x1 x2 _) ?_))
    show 2560 + (64 * (h.val - 8) + d.val) = 2048 + (64 * h.val + d.val)
    omega

/-- The queries, rows laid end to end. -/
theorem v98_at (n : Fin 8192) (j : Fin 2048) : val_main_v98 (F := Ideal) x0 x1 x2 (ix2 n j) = qAt x0 x1 x2 n.val j.val := by
  rw [val_main_v98_apply, val_main_v97_apply, val_main_v96_apply, val_main_v95_apply, val_main_cst_6_apply]
  have e : idx_main_v97 (ix2 n j) = ix4 (⟨n.val / 4096, by omega⟩ : Fin 2) (⟨n.val % 4096, by omega⟩ : Fin 4096) (⟨j.val / 64, by omega⟩ : Fin 32) (⟨j.val % 64, by omega⟩ : Fin 64) := funext fun q => match q with
    | ⟨0, _⟩ => Fin.ext (by show (n.val * 2048 + j.val) / 8388608 = n.val / 4096; omega)
    | ⟨1, _⟩ => Fin.ext (by show (n.val * 2048 + j.val) / 2048 % 4096 = n.val % 4096; omega)
    | ⟨2, _⟩ => Fin.ext (by show (n.val * 2048 + j.val) / 64 % 32 = j.val / 64; omega)
    | ⟨3, _⟩ => Fin.ext (by show (n.val * 2048 + j.val) % 64 = j.val % 64; omega)
  rw [e, v52_at]
  unfold qAt
  rw [show 4096 * (n.val / 4096) + n.val % 4096 = n.val by omega, show 64 * (j.val / 64) + j.val % 64 = j.val by omega]
  rfl

/-- The keys and values of each sequence's last window. -/
theorem v92_at (a : Fin 2) (r j : Fin 1024) : val_main_v92 (F := Ideal) x0 x1 x2 (ix3 a r j) = kvAt x0 x1 x2 (4096 * a.val + 3072 + r.val) j.val := by
  rw [val_main_v92_apply, val_main_v91_apply]
  have e : idx_main_v91 (idx_main_v92 (ix3 a r j)) = ix4 a (⟨3072 + r.val, by omega⟩ : Fin 4096) (⟨j.val / 64, by omega⟩ : Fin 16) (⟨j.val % 64, by omega⟩ : Fin 64) := funext fun q => match q with
    | ⟨0, _⟩ => Fin.ext (by show ((a.val * 1024 + r.val) * 1024 + j.val) / 1048576 = a.val; omega)
    | ⟨1, _⟩ => Fin.ext (by show 3072 + ((a.val * 1024 + r.val) * 1024 + j.val) / 1024 % 1024 = 3072 + r.val; omega)
    | ⟨2, _⟩ => Fin.ext (by show ((a.val * 1024 + r.val) * 1024 + j.val) / 64 % 16 = j.val / 64; omega)
    | ⟨3, _⟩ => Fin.ext (by show ((a.val * 1024 + r.val) * 1024 + j.val) % 64 = j.val % 64; omega)
  rw [e, v90_at]
  exact congrArg₂ (kvAt x0 x1 x2) (by show 4096 * a.val + (3072 + r.val) = _; omega) (by show 64 * (j.val / 64) + j.val % 64 = _; omega)

/-- The keys and values, each head twice. -/
theorem v99_at (n : Fin 8192) (j : Fin 2048) : val_main_v99 (F := Ideal) x0 x1 x2 (ix2 n j) = kvAt x0 x1 x2 n.val (j.val / 128 * 64 + j.val % 64) := by
  rw [val_main_v99_apply, val_main_v94_apply]
  have e : idx_main_v94 (ix2 n j) = ix4 (⟨n.val / 4096, by omega⟩ : Fin 2) (⟨n.val % 4096, by omega⟩ : Fin 4096) (⟨j.val / 128, by omega⟩ : Fin 16) (⟨j.val % 128, by omega⟩ : Fin 128) := funext fun q => match q with
    | ⟨0, _⟩ => Fin.ext (by show (n.val * 2048 + j.val) / 8388608 = n.val / 4096; omega)
    | ⟨1, _⟩ => Fin.ext (by show (n.val * 2048 + j.val) / 2048 % 4096 = n.val % 4096; omega)
    | ⟨2, _⟩ => Fin.ext (by show (n.val * 2048 + j.val) / 128 % 16 = j.val / 128; omega)
    | ⟨3, _⟩ => Fin.ext (by show (n.val * 2048 + j.val) % 128 = j.val % 128; omega)
  have key : ∀ (a : Fin 2) (b : Fin 4096) (h : Fin 16) (d : Fin 128), val_main_v93 (F := Ideal) x0 x1 x2 (ix4 a b h d) = kvAt x0 x1 x2 (4096 * a.val + b.val) (64 * h.val + d.val % 64) := fun a b h d => by
    unfold val_main_v93
    by_cases hd : d.val < 64
    · exact (concatenate_pair_apply_left (t := S2x4096x16x128) (s₁ := S2x4096x16x64) (s₂ := S2x4096x16x64) 3 _ _ _ (ix4 a b h d) rfl (ix4 a b h (⟨d.val % 64, by omega⟩ : Fin 64)) fun i => match i with
        | ⟨0, _⟩ => rfl
        | ⟨1, _⟩ => rfl
        | ⟨2, _⟩ => rfl
        | ⟨3, _⟩ => Nat.mod_eq_of_lt hd).trans (v90_at x0 x1 x2 a b h _)
    · exact (concatenate_pair_apply_right (t := S2x4096x16x128) (s₁ := S2x4096x16x64) (s₂ := S2x4096x16x64) 3 _ _ _ (ix4 a b h d) rfl rfl (ix4 a b h (⟨d.val % 64, by omega⟩ : Fin 64)) (fun i hi => match i with
        | ⟨0, _⟩ => rfl
        | ⟨1, _⟩ => rfl
        | ⟨2, _⟩ => rfl
        | ⟨3, _⟩ => absurd rfl hi) (show d.val % 64 + 64 = d.val by omega)).trans (v90_at x0 x1 x2 a b h _)
  rw [e, key]
  exact congrArg₂ (kvAt x0 x1 x2) (by show 4096 * (n.val / 4096) + n.val % 4096 = _; omega) (by show 64 * (j.val / 128) + j.val % 128 % 64 = _; omega)

end Cert.Reference8Ideal.Hand

namespace Cert.Kernel8Ideal.Hand

open Cert.Kernel8Ideal Cert.Kernel8Ideal.Gen Cert.Reference8Ideal.Hand
open Cert.Kernel5Ideal.Hand (idx2)
open Idealize.ShloMosaic hiding ix1 ix2 ix3 ix4
open Idealize.SL.Sem Idealize.ShloMosaic.TcCoe Idealize.ShloMosaic.ValueIdx

/-! ## The claims -/

/-- Kernel and reference end with equal results. -/
theorem algebraic_all : Cert.algebraic_Kernel8Ideal_Reference8Ideal := fun m g m' g' _ hagree =>
  ⟨qOut m, lastOut m, pairOut m, run_value m g, (θ_run Cert.Reference8Ideal.defs _ _).mono (fun _ h c => by
    obtain ⟨h98, h92, h99, hargs⟩ := h c
    obtain ⟨a0, a1, a2⟩ := hagree c
    refine ⟨h98.trans ?_, h92.trans ?_, h99.trans ?_, hargs⟩
    · rw [Cert.Reference8Ideal.Read.val_main_v98_eq, a0, a1, a2]
      exact funext fun i => (congrArg (Cert.Reference8Ideal.Read.val_main_v98 (F := Ideal) _ _ _) (idx2 i)).trans (v98_at _ _ _ (i 0) (i 1))
    · rw [Cert.Reference8Ideal.Read.val_main_v92_eq, a0, a1, a2]
      exact funext fun i => (congrArg (Cert.Reference8Ideal.Read.val_main_v92 (F := Ideal) _ _ _) (funext fun a => match a with
        | ⟨0, _⟩ => rfl
        | ⟨1, _⟩ => rfl
        | ⟨2, _⟩ => rfl : i = ix3 (i 0) (i 1) (i 2))).trans (v92_at _ _ _ (i 0) (i 1) (i 2))
    · rw [Cert.Reference8Ideal.Read.val_main_v99_eq, a0, a1, a2]
      exact funext fun i => (congrArg (Cert.Reference8Ideal.Read.val_main_v99 (F := Ideal) _ _ _) (idx2 i)).trans (v99_at _ _ _ (i 0) (i 1)))
    (Cert.Reference8Ideal.Value.run m' g')⟩

/-- The kernel as compiled and the kernel over exact numbers run one body. -/
theorem body_same : Cert.Kernel8.defs₀ (F := Bits) = Cert.Kernel8Ideal.defs₀ := by
  unfold Cert.Kernel8.defs₀ Cert.Kernel8Ideal.defs₀
  refine congrArg Defs.onTc (funext fun l => funext fun a => ?_)
  match l, a with
  | 0, (t, s) => rfl

/-- The two programs have the same regions. -/
theorem defs_same : Cert.Kernel8.defs (F := Bits) = Cert.Kernel8Ideal.defs := by
  unfold Cert.Kernel8.defs Cert.Kernel8Ideal.defs
  rw [body_same]
  rfl

set_option maxHeartbeats 8000000 in
/-- The two programs run one host program. -/
theorem main_same : Cert.Kernel8.main (F := Bits) = Cert.Kernel8Ideal.main := rfl

/-- The frame of the kernel as compiled. -/
theorem frame_kernel : Cert.quiescent_Kernel8 := fun m ρ _ => by
  rw [defs_same, main_same]
  exact (θ_run Cert.Kernel8Ideal.defs _ _).mono (fun _ h => h) (frame (F := Bits) m ρ)

/-- The frame of the kernel over exact numbers. -/
theorem frame_kernel_ideal : Cert.quiescent_Kernel8Ideal := fun m ρ _ => frame (F := Ideal) m ρ

end Cert.Kernel8Ideal.Hand

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel3
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Lru.Value
public import proofs.«01_k».proof.Proof.Ffn2.Value
public import proofs.«01_k».proof.Proof.Ffn3.Value
public import proofs.«01_k».proof.Proof.Mem.Value
public import proofs.«01_k».proof.Proof.LruIn.Value
public import proofs.«01_k».proof.Proof.Linear.Value
public import proofs.«01_k».proof.Proof.LruInSample.Value
public import proofs.«01_k».proof.Proof.Qkv.Ref
public import Idealize.ShloMosaic.Adequacy
public import Idealize.ShloMosaic.Init

@[expose] public section

noncomputable section

namespace Cert.Proof

open Idealize.ShloMosaic Idealize.SL.Sem

/-- The reference of the recurrence over the prompt ends and leaves its arguments as they were. -/
theorem frame_reference : Cert.quiescent_ReferenceIdeal := fun m g _ =>
  (θ_run Cert.ReferenceIdeal.defs _ _).mono (fun r h => ⟨fun c => (h c).2.2, sem_eq_zero_of_no_sems rfl r.2⟩) (Cert.ReferenceIdeal.Hand.run_ref m g)

/-- The reference of the first feed-forward call ends and leaves its arguments as they were. -/
theorem frame_reference2 : Cert.quiescent_Reference2Ideal := fun m g _ =>
  (θ_run Cert.Reference2Ideal.defs _ _).mono (fun r h => ⟨fun c => (h c).2.2.2.2, sem_eq_zero_of_no_sems rfl r.2⟩) (Cert.Reference2Ideal.Value.run m g)

/-- The reference of the last feed-forward call ends and leaves its arguments as they were. -/
theorem frame_reference3 : Cert.quiescent_Reference3Ideal := fun m g _ =>
  (θ_run Cert.Reference3Ideal.defs _ _).mono (fun r h => ⟨fun c => (h c).2.2, sem_eq_zero_of_no_sems rfl r.2⟩) (Cert.Reference3Ideal.Value.run m g)

/-- The reference of the memory's keys and values ends and leaves its arguments as they were. -/
theorem frame_reference4 : Cert.quiescent_Reference4Ideal := fun m g _ =>
  (θ_run Cert.Reference4Ideal.defs _ _).mono (fun r h => ⟨fun c => (h c).2, sem_eq_zero_of_no_sems rfl r.2⟩) (Cert.Reference4Ideal.Value.run m g)

/-- The reference of the projection into the recurrent block ends and leaves its arguments as they were. -/
theorem frame_reference5 : Cert.quiescent_Reference5Ideal := fun m g _ =>
  (θ_run Cert.Reference5Ideal.defs _ _).mono (fun r h => ⟨fun c => (h c).2.2, sem_eq_zero_of_no_sems rfl r.2⟩) (Cert.Reference5Ideal.Value.run m g)

/-- The reference of the output projection ends and leaves its arguments as they were. -/
theorem frame_reference6 : Cert.quiescent_Reference6Ideal := fun m g _ =>
  (θ_run Cert.Reference6Ideal.defs _ _).mono (fun r h => ⟨fun c => (h c).2, sem_eq_zero_of_no_sems rfl r.2⟩) (Cert.Reference6Ideal.Value.run m g)

/-- The reference of the projection into the recurrent block over the sample rows ends and leaves its arguments as they were. -/
theorem frame_reference7 : Cert.quiescent_Reference7Ideal := fun m g _ =>
  (θ_run Cert.Reference7Ideal.defs _ _).mono (fun r h => ⟨fun c => (h c).2.2, sem_eq_zero_of_no_sems rfl r.2⟩) (Cert.Reference7Ideal.Value.run m g)

/-- The reference of the projections to queries, keys and values ends and leaves its arguments as they were. -/
theorem frame_reference8 : Cert.quiescent_Reference8Ideal := fun m g _ =>
  (θ_run Cert.Reference8Ideal.defs _ _).mono (fun r h => ⟨fun c => (h c).2.2.2, sem_eq_zero_of_no_sems rfl r.2⟩) (Cert.Reference8Ideal.Value.run m g)

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.KernelIdeal.Hand.frame_kernel, Cert.KernelIdeal.Hand.frame_kernel_ideal, frame_reference,
    Cert.Kernel2Ideal.Hand.frame_kernel, Cert.Kernel2Ideal.Hand.frame_kernel_ideal, frame_reference2,
    Cert.Kernel3Ideal.Hand.frame_kernel, Cert.Kernel3Ideal.Hand.frame_kernel_ideal, frame_reference3,
    Cert.Kernel4Ideal.Hand.frame_kernel, Cert.Kernel4Ideal.Hand.frame_kernel_ideal, frame_reference4,
    Cert.Kernel5Ideal.Hand.frame_kernel, Cert.Kernel5Ideal.Hand.frame_kernel_ideal, frame_reference5,
    Cert.Kernel6Ideal.Hand.frame_kernel, Cert.Kernel6Ideal.Hand.frame_kernel_ideal, frame_reference6,
    Cert.Kernel7Ideal.Hand.frame_kernel, Cert.Kernel7Ideal.Hand.frame_kernel_ideal, frame_reference7,
    Cert.Kernel8Ideal.Hand.frame_kernel, Cert.Kernel8Ideal.Hand.frame_kernel_ideal, frame_reference8,
    trivial, Cert.KernelIdeal.Hand.algebraic_all,
    trivial, Cert.Kernel2Ideal.Hand.algebraic_all, trivial, Cert.Kernel3Ideal.Hand.algebraic_all,
    trivial, Cert.Kernel4Ideal.Hand.algebraic_all, trivial, Cert.Kernel5Ideal.Hand.algebraic_all, trivial, Cert.Kernel6Ideal.Hand.algebraic_all,
    trivial, Cert.Kernel7Ideal.Hand.algebraic_all, trivial, Cert.Kernel8Ideal.Hand.algebraic_all⟩

end Cert.Proof

end
